-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def preserves_Kernel_KernelIdeal : Prop :=
  True

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)) (v2 : (c : Dev Cert.KernelIdeal.nD) → Buf (Elt Ideal) ((c.tc : Thread Cert.KernelIdeal.nD Cert.KernelIdeal.τ).loc Cert.KernelIdeal.main_v51_2)) (v3 : (c : Dev Cert.KernelIdeal.nD) → Buf (Elt Ideal) ((c.tc : Thread Cert.KernelIdeal.nD Cert.KernelIdeal.τ).loc Cert.KernelIdeal.main_v51_3)) (v4 : (c : Dev Cert.KernelIdeal.nD) → Buf (Elt Ideal) ((c.tc : Thread Cert.KernelIdeal.nD Cert.KernelIdeal.τ).loc Cert.KernelIdeal.main_v51_4)) (v5 : (c : Dev Cert.KernelIdeal.nD) → Buf (Elt Ideal) ((c.tc : Thread Cert.KernelIdeal.nD Cert.KernelIdeal.τ).loc Cert.KernelIdeal.main_v51_5)) (v6 : (c : Dev Cert.KernelIdeal.nD) → Buf (Elt Ideal) ((c.tc : Thread Cert.KernelIdeal.nD Cert.KernelIdeal.τ).loc Cert.KernelIdeal.main_v51_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![3, 4096, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v51_0) i = v0 c i)
          ∧ (∀ i : (⟨2, ![4096, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v51_1) i = v1 c i)
          ∧ (∀ i : (⟨2, ![4096, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v51_2) i = v2 c i)
          ∧ (∀ i : (⟨2, ![4096, 6656]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.KernelIdeal.nD Cert.KernelIdeal.τ).loc Cert.KernelIdeal.main_v51_3) i = v3 c i)
          ∧ (∀ i : (⟨2, ![4096, 4096]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 i = 1#1 → r.2.mem ((c.tc : Thread Cert.KernelIdeal.nD Cert.KernelIdeal.τ).loc Cert.KernelIdeal.main_v51_4) i = v4 c i)
          ∧ (∀ i : (⟨4, ![8, 4, 512, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 i = 1#1 → r.2.mem ((c.tc : Thread Cert.KernelIdeal.nD Cert.KernelIdeal.τ).loc Cert.KernelIdeal.main_v51_5) i = v5 c i)
          ∧ (∀ i : (⟨2, ![1024, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 i = 1#1 → r.2.mem ((c.tc : Thread Cert.KernelIdeal.nD Cert.KernelIdeal.τ).loc Cert.KernelIdeal.main_v51_6) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![3, 4096, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v99) i = v0 c i)
          ∧ (∀ i : (⟨2, ![4096, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v100) i = v1 c i)
          ∧ (∀ i : (⟨2, ![4096, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.ReferenceIdeal.nD Cert.ReferenceIdeal.τ).loc Cert.ReferenceIdeal.main_v101) i = v2 c i)
          ∧ (∀ i : (⟨2, ![4096, 6656]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.ReferenceIdeal.nD Cert.ReferenceIdeal.τ).loc Cert.ReferenceIdeal.main_v102) i = v3 c i)
          ∧ (∀ i : (⟨2, ![4096, 4096]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 i = 1#1 → r.2.mem ((c.tc : Thread Cert.ReferenceIdeal.nD Cert.ReferenceIdeal.τ).loc Cert.ReferenceIdeal.main_v103) i = v4 c i)
          ∧ (∀ i : (⟨4, ![8, 4, 512, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 i = 1#1 → r.2.mem ((c.tc : Thread Cert.ReferenceIdeal.nD Cert.ReferenceIdeal.τ).loc Cert.ReferenceIdeal.main_v106) i = v5 c i)
          ∧ (∀ i : (⟨2, ![1024, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 i = 1#1 → r.2.mem ((c.tc : Thread Cert.ReferenceIdeal.nD Cert.ReferenceIdeal.τ).loc Cert.ReferenceIdeal.main_v107) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_on_branch_rows [hKernel3Ideal : Cert.Kernel3Ideal.Facts] [hReference3Ideal : Cert.Reference3Ideal.Facts] [hOn_branch_rows : Cert.On_branch_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![10752, 1024]⟩ : Shape).Idx, (Cert.On_branch_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) i = 1#1 → r.2.mem ((c.tc : Thread Cert.Kernel3Ideal.nD Cert.Kernel3Ideal.τ).loc Cert.Kernel3Ideal.main_v3) i = v0 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![10752, 1024]⟩ : Shape).Idx, (Cert.On_branch_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) i = 1#1 → r.2.mem ((c.tc : Thread Cert.Reference3Ideal.nD Cert.Reference3Ideal.τ).loc Cert.Reference3Ideal.main_v5) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_v18) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_on_filled_pre_finite6 [hKernel6Ideal : Cert.Kernel6Ideal.Facts] [hReference6Ideal : Cert.Reference6Ideal.Facts] [hPre_finite6 : Cert.Pre_finite6.Facts] [hOn_filled : Cert.On_filled.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)) (v3 : (c : Dev Cert.Kernel6Ideal.nD) → Buf (Elt Ideal) ((c.tc : Thread Cert.Kernel6Ideal.nD Cert.Kernel6Ideal.τ).loc Cert.Kernel6Ideal.main_v9_3)) (v4 : (c : Dev Cert.Kernel6Ideal.nD) → Buf (Elt Ideal) ((c.tc : Thread Cert.Kernel6Ideal.nD Cert.Kernel6Ideal.τ).loc Cert.Kernel6Ideal.main_v9_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨2, ![4096, 1024]⟩ : Shape).Idx, (Cert.On_filled.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).1 i = 1#1 → r.2.mem ((c.tc : Thread Cert.Kernel6Ideal.nD Cert.Kernel6Ideal.τ).loc Cert.Kernel6Ideal.main_v9_0) i = v0 c i)
          ∧ (∀ i : (⟨3, ![4, 4096, 512]⟩ : Shape).Idx, (Cert.On_filled.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).2.1 i = 1#1 → r.2.mem ((c.tc : Thread Cert.Kernel6Ideal.nD Cert.Kernel6Ideal.τ).loc Cert.Kernel6Ideal.main_v9_1) i = v1 c i)
          ∧ (∀ i : (⟨2, ![4096, 512]⟩ : Shape).Idx, (Cert.On_filled.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).2.2.1 i = 1#1 → r.2.mem ((c.tc : Thread Cert.Kernel6Ideal.nD Cert.Kernel6Ideal.τ).loc Cert.Kernel6Ideal.main_v9_2) i = v2 c i)
          ∧ (∀ i : (⟨2, ![4096, 128]⟩ : Shape).Idx, (Cert.On_filled.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).2.2.2.1 i = 1#1 → r.2.mem ((c.tc : Thread Cert.Kernel6Ideal.nD Cert.Kernel6Ideal.τ).loc Cert.Kernel6Ideal.main_v9_3) i = v3 c i)
          ∧ (∀ i : (⟨2, ![4096, 1024]⟩ : Shape).Idx, (Cert.On_filled.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).2.2.2.2 i = 1#1 → r.2.mem ((c.tc : Thread Cert.Kernel6Ideal.nD Cert.Kernel6Ideal.τ).loc Cert.Kernel6Ideal.main_v9_4) i = v4 c i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨2, ![4096, 1024]⟩ : Shape).Idx, (Cert.On_filled.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).1 i = 1#1 → r.2.mem ((c.tc : Thread Cert.Reference6Ideal.nD Cert.Reference6Ideal.τ).loc Cert.Reference6Ideal.main_v73) i = v0 c i)
          ∧ (∀ i : (⟨3, ![4, 4096, 512]⟩ : Shape).Idx, (Cert.On_filled.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).2.1 i = 1#1 → r.2.mem ((c.tc : Thread Cert.Reference6Ideal.nD Cert.Reference6Ideal.τ).loc Cert.Reference6Ideal.main_v77) i = v1 c i)
          ∧ (∀ i : (⟨2, ![4096, 512]⟩ : Shape).Idx, (Cert.On_filled.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).2.2.1 i = 1#1 → r.2.mem ((c.tc : Thread Cert.Reference6Ideal.nD Cert.Reference6Ideal.τ).loc Cert.Reference6Ideal.main_v78) i = v2 c i)
          ∧ (∀ i : (⟨2, ![4096, 128]⟩ : Shape).Idx, (Cert.On_filled.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).2.2.2.1 i = 1#1 → r.2.mem ((c.tc : Thread Cert.Reference6Ideal.nD Cert.Reference6Ideal.τ).loc Cert.Reference6Ideal.main_v80) i = v3 c i)
          ∧ (∀ i : (⟨2, ![4096, 1024]⟩ : Shape).Idx, (Cert.On_filled.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11))).2.2.2.2 i = 1#1 → r.2.mem ((c.tc : Thread Cert.Reference6Ideal.nD Cert.Reference6Ideal.τ).loc Cert.Reference6Ideal.main_v81) i = v4 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite6 : Cert.Pre_finite6.Facts) (hOn_written : Cert.On_written.Facts) (hOn_branch_rows : Cert.On_branch_rows.Facts) (hOn_filled : Cert.On_filled.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_branch_rows (hKernel3Ideal := hKernel3Ideal) (hReference3Ideal := hReference3Ideal) (hOn_branch_rows := hOn_branch_rows)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_on_filled_pre_finite6 (hKernel6Ideal := hKernel6Ideal) (hReference6Ideal := hReference6Ideal) (hPre_finite6 := hPre_finite6) (hOn_filled := hOn_filled)
-- ==== On_branch_rows.lean ====
abbrev S4096x1024 : Shape := ⟨2, ![4096, 1024]⟩
abbrev S4096x10752 : Shape := ⟨2, ![4096, 10752]⟩
abbrev S10752 : Shape := ⟨1, ![10752]⟩
abbrev S10752x1 : Shape := ⟨2, ![10752, 1]⟩
abbrev S_ : Shape := ⟨0, ![]⟩
abbrev S1x1024 : Shape := ⟨2, ![1, 1024]⟩
abbrev S10752x1024 : Shape := ⟨2, ![10752, 1024]⟩

class Facts : Prop where
  shapeCasts_S10752_S10752x1 : S10752.ShapeCasts S10752x1
  bcast_S_S1x1024 : S_.BroadcastsInDim S1x1024 (![] : Fin 0 → Fin S1x1024.rank)
  bcast_S10752x1_S10752x1024_0_1 : S10752x1.BroadcastsInDim S10752x1024 (![0, 1] : Fin 2 → Fin S10752x1024.rank)
  bcast_S1x1024_S10752x1024_0_1 : S1x1024.BroadcastsInDim S10752x1024 (![0, 1] : Fin 2 → Fin S10752x1024.rank)
  bcast_S_S10752x1024 : S_.BroadcastsInDim S10752x1024 (![] : Fin 0 → Fin S10752x1024.rank)

variable [Facts]

def fn {F : FTy → Type} [FloatOps F] (main_arg0 : FVec F S4096x1024 .f32) (main_arg1 : FVec F S4096x10752 .f32) : IVec S10752x1024 1 :=
  let main_v0 : IVec S10752 32 := iotaInDim S10752 32 0
  let main_v1 : IVec S10752x1 32 := shapeCast S10752x1 main_v0 shapeCasts_S10752_S10752x1
  let main_c : IVec S_ 32 := constantI S_ 32 0#32
  let main_v2 : IVec S1x1024 32 := broadcastInDim S1x1024 ![] bcast_S_S1x1024 main_c
  let main_v3 : IVec S10752x1024 32 := broadcastInDim S10752x1024 ![0, 1] bcast_S10752x1_S10752x1024_0_1 main_v1
  let main_v4 : IVec S10752x1024 32 := broadcastInDim S10752x1024 ![0, 1] bcast_S1x1024_S10752x1024_0_1 main_v2
  let main_v5 : IVec S10752x1024 32 := addi main_v3 main_v4
  let main_c_0 : IVec S_ 32 := constantI S_ 32 6656#32
  let main_v6 : IVec S10752x1024 32 := broadcastInDim S10752x1024 ![] bcast_S_S10752x1024 main_c_0
  let main_v7 : IVec S10752x1024 1 := cmpi .slt main_v5 main_v6
  main_v7
-- ==== On_filled.lean ====
abbrev S4096x1024 : Shape := ⟨2, ![4096, 1024]⟩
abbrev S4x4096x512 : Shape := ⟨3, ![4, 4096, 512]⟩
abbrev S4096x512 : Shape := ⟨2, ![4096, 512]⟩
abbrev S4096x128 : Shape := ⟨2, ![4096, 128]⟩
abbrev S4096x6656 : Shape := ⟨2, ![4096, 6656]⟩
abbrev S4096x4096 : Shape := ⟨2, ![4096, 4096]⟩
abbrev S4x512x1024 : Shape := ⟨3, ![4, 512, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S4x4096x512 : S_.BroadcastsInDim S4x4096x512 (![] : Fin 0 → Fin S4x4096x512.rank)
  bcast_S_S4096x512 : S_.BroadcastsInDim S4096x512 (![] : Fin 0 → Fin S4096x512.rank)
  bcast_S_S4096x128 : S_.BroadcastsInDim S4096x128 (![] : Fin 0 → Fin S4096x128.rank)

variable [Facts]

def fn {F : FTy → Type} [FloatOps F] (main_arg0 : FVec F S4096x1024 .f32) (main_arg1 : FVec F S4x4096x512 .bf16) (main_arg2 : FVec F S4096x512 .f32) (main_arg3 : FVec F S4096x512 .f32) (main_arg4 : FVec F S4096x512 .f32) (main_arg5 : FVec F S4096x128 .f32) (main_arg6 : FVec F S4096x128 .f32) (main_arg7 : FVec F S4096x128 .f32) (main_arg8 : FVec F S4096x6656 .f32) (main_arg9 : FVec F S4096x4096 .f32) (main_arg10 : FVec F S4x512x1024 .f32) (main_arg11 : FVec F S1024x1024 .f32) : IVec S4096x1024 1 × IVec S4x4096x512 1 × IVec S4096x512 1 × IVec S4096x128 1 × IVec S4096x1024 1 :=
  let main_v0 : IVec S4x4096x512 32 := iotaInDim S4x4096x512 32 0
  let main_v1 : IVec S4096x1024 32 := iotaInDim S4096x1024 32 0
  let main_c : IVec S_ 32 := constantI S_ 32 0#32
  let main_v2 : IVec S4096x1024 32 := broadcastInDim S4096x1024 ![] bcast_S_S4096x1024 main_c
  let main_v3 : IVec S4096x1024 1 := cmpi .sge main_v1 main_v2
  let main_c_0 : IVec S_ 32 := constantI S_ 32 3#32
  let main_v4 : IVec S4x4096x512 32 := broadcastInDim S4x4096x512 ![] bcast_S_S4x4096x512 main_c_0
  let main_v5 : IVec S4x4096x512 1 := cmpi .eq main_v0 main_v4
  let main_v6 : IVec S4096x512 32 := iotaInDim S4096x512 32 0
  let main_c_1 : IVec S_ 32 := constantI S_ 32 0#32
  let main_v7 : IVec S4096x512 32 := broadcastInDim S4096x512 ![] bcast_S_S4096x512 main_c_1
  let main_v8 : IVec S4096x512 1 := cmpi .sge main_v6 main_v7
  let main_v9 : IVec S4096x128 32 := iotaInDim S4096x128 32 0
  let main_c_2 : IVec S_ 32 := constantI S_ 32 0#32
  let main_v10 : IVec S4096x128 32 := broadcastInDim S4096x128 ![] bcast_S_S4096x128 main_c_2
  let main_v11 : IVec S4096x128 1 := cmpi .sge main_v9 main_v10
  let main_v12 : IVec S4096x1024 32 := iotaInDim S4096x1024 32 0
  let main_c_3 : IVec S_ 32 := constantI S_ 32 0#32
  let main_v13 : IVec S4096x1024 32 := broadcastInDim S4096x1024 ![] bcast_S_S4096x1024 main_c_3
  let main_v14 : IVec S4096x1024 1 := cmpi .sge main_v12 main_v13
  (main_v3, main_v5, main_v8, main_v11, main_v14)
-- ==== On_written.lean ====
abbrev S4096x1024 : Shape := ⟨2, ![4096, 1024]⟩
abbrev S4096x512 : Shape := ⟨2, ![4096, 512]⟩
abbrev S4096x6656 : Shape := ⟨2, ![4096, 6656]⟩
abbrev S4096x4096 : Shape := ⟨2, ![4096, 4096]⟩
abbrev S4x512x1024 : Shape := ⟨3, ![4, 512, 1024]⟩
abbrev S1024x1024 : Shape := ⟨2, ![1024, 1024]⟩
abbrev S3x4096x512 : Shape := ⟨3, ![3, 4096, 512]⟩
abbrev S_ : Shape := ⟨0, ![]⟩
abbrev S4096x128 : Shape := ⟨2, ![4096, 128]⟩
abbrev S8x4x512x128 : Shape := ⟨4, ![8, 4, 512, 128]⟩

class Facts : Prop where
  bcast_S_S3x4096x512 : S_.BroadcastsInDim S3x4096x512 (![] : Fin 0 → Fin S3x4096x512.rank)
  bcast_S_S4096x512 : S_.BroadcastsInDim S4096x512 (![] : Fin 0 → Fin S4096x512.rank)
  bcast_S_S4096x128 : S_.BroadcastsInDim S4096x128 (![] : Fin 0 → Fin S4096x128.rank)
  bcast_S_S4096x6656 : S_.BroadcastsInDim S4096x6656 (![] : Fin 0 → Fin S4096x6656.rank)
  bcast_S_S4096x4096 : S_.BroadcastsInDim S4096x4096 (![] : Fin 0 → Fin S4096x4096.rank)
  bcast_S_S8x4x512x128 : S_.BroadcastsInDim S8x4x512x128 (![] : Fin 0 → Fin S8x4x512x128.rank)
  bcast_S_S1024x1024 : S_.BroadcastsInDim S1024x1024 (![] : Fin 0 → Fin S1024x1024.rank)

variable [Facts]

def fn_part1 {F : FTy → Type} [FloatOps F] (main_v3 : IVec S3x4096x512 1) (main_v6 : IVec S4096x512 1) (main_v9 : IVec S4096x128 1) (main_v14 : IVec S4096x6656 1) (main_v17 : IVec S4096x4096 1) : IVec S3x4096x512 1 × IVec S4096x512 1 × IVec S4096x128 1 × IVec S4096x6656 1 × IVec S4096x4096 1 × IVec S8x4x512x128 1 × IVec S1024x1024 1 :=
  let main_v18 : IVec S8x4x512x128 32 := iotaInDim S8x4x512x128 32 0
  let main_c_5 : IVec S_ 32 := constantI S_ 32 0#32
  let main_v19 : IVec S8x4x512x128 32 := broadcastInDim S8x4x512x128 ![] bcast_S_S8x4x512x128 main_c_5
  let main_v20 : IVec S8x4x512x128 1 := cmpi .sge main_v18 main_v19
  let main_v21 : IVec S1024x1024 32 := iotaInDim S1024x1024 32 0
  let main_c_6 : IVec S_ 32 := constantI S_ 32 0#32
  let main_v22 : IVec S1024x1024 32 := broadcastInDim S1024x1024 ![] bcast_S_S1024x1024 main_c_6
  let main_v23 : IVec S1024x1024 1 := cmpi .sge main_v21 main_v22
  (main_v3, main_v6, main_v9, main_v14, main_v17, main_v20, main_v23)

def fn {F : FTy → Type} [FloatOps F] (main_arg0 : FVec F S4096x1024 .f32) (main_arg1 : FVec F S4096x512 .f32) (main_arg2 : FVec F S4096x512 .f32) (main_arg3 : FVec F S4096x512 .f32) (main_arg4 : FVec F S4096x512 .f32) (main_arg5 : FVec F S4096x6656 .f32) (main_arg6 : FVec F S4096x4096 .f32) (main_arg7 : FVec F S4x512x1024 .f32) (main_arg8 : FVec F S1024x1024 .f32) : IVec S3x4096x512 1 × IVec S4096x512 1 × IVec S4096x128 1 × IVec S4096x6656 1 × IVec S4096x4096 1 × IVec S8x4x512x128 1 × IVec S1024x1024 1 :=
  let main_v0 : IVec S4096x6656 32 := iotaInDim S4096x6656 32 1
  let main_v1 : IVec S3x4096x512 32 := iotaInDim S3x4096x512 32 0
  let main_c : IVec S_ 32 := constantI S_ 32 0#32
  let main_v2 : IVec S3x4096x512 32 := broadcastInDim S3x4096x512 ![] bcast_S_S3x4096x512 main_c
  let main_v3 : IVec S3x4096x512 1 := cmpi .sge main_v1 main_v2
  let main_v4 : IVec S4096x512 32 := iotaInDim S4096x512 32 0
  let main_c_0 : IVec S_ 32 := constantI S_ 32 0#32
  let main_v5 : IVec S4096x512 32 := broadcastInDim S4096x512 ![] bcast_S_S4096x512 main_c_0
  let main_v6 : IVec S4096x512 1 := cmpi .sge main_v4 main_v5
  let main_v7 : IVec S4096x128 32 := iotaInDim S4096x128 32 0
  let main_c_1 : IVec S_ 32 := constantI S_ 32 0#32
  let main_v8 : IVec S4096x128 32 := broadcastInDim S4096x128 ![] bcast_S_S4096x128 main_c_1
  let main_v9 : IVec S4096x128 1 := cmpi .sge main_v7 main_v8
  let main_c_2 : IVec S_ 32 := constantI S_ 32 5120#32
  let main_v10 : IVec S4096x6656 32 := broadcastInDim S4096x6656 ![] bcast_S_S4096x6656 main_c_2
  let main_v11 : IVec S4096x6656 1 := cmpi .sge main_v0 main_v10
  let main_c_3 : IVec S_ 32 := constantI S_ 32 5632#32
  let main_v12 : IVec S4096x6656 32 := broadcastInDim S4096x6656 ![] bcast_S_S4096x6656 main_c_3
  let main_v13 : IVec S4096x6656 1 := cmpi .slt main_v0 main_v12
  let main_v14 : IVec S4096x6656 1 := andi main_v11 main_v13
  let main_v15 : IVec S4096x4096 32 := iotaInDim S4096x4096 32 0
  let main_c_4 : IVec S_ 32 := constantI S_ 32 0#32
  let main_v16 : IVec S4096x4096 32 := broadcastInDim S4096x4096 ![] bcast_S_S4096x4096 main_c_4
  let main_v17 : IVec S4096x4096 1 := cmpi .sge main_v15 main_v16
  fn_part1 (F := F) main_v3 main_v6 main_v9 main_v14 main_v17
-- ==== Pre_finite.lean ====
abbrev S4096x1024 : Shape := ⟨2, ![4096, 1024]⟩
abbrev S4096x512 : Shape := ⟨2, ![4096, 512]⟩
abbrev S4096x6656 : Shape := ⟨2, ![4096, 6656]⟩
abbrev S4096x4096 : Shape := ⟨2, ![4096, 4096]⟩
abbrev S4x512x1024 : Shape := ⟨3, ![4, 512, 1024]⟩
abbrev S1024x1024 : Shape := ⟨2, ![1024, 1024]⟩
abbrev S_ : Shape := ⟨0, ![]⟩
abbrev S1x512x1024 : Shape := ⟨3, ![1, 512, 1024]⟩
abbrev S512x1024 : Shape := ⟨2, ![512, 1024]⟩

class Facts : Prop where
  bcast_S_S4096x1024 : S_.BroadcastsInDim S4096x1024 (![] : Fin 0 → Fin S4096x1024.rank)
  bcast_S_S1024x1024 : S_.BroadcastsInDim S1024x1024 (![] : Fin 0 → Fin S1024x1024.rank)
  slices_S4x512x1024_S1x512x1024_2_0_0 : S4x512x1024.Slices ![2, 0, 0] S1x512x1024
  shapeCasts_S1x512x1024_S512x1024 : S1x512x1024.ShapeCasts S512x1024
  bcast_S_S512x1024 : S_.BroadcastsInDim S512x1024 (![] : Fin 0 → Fin S512x1024.rank)
  bcast_S_S4096x512 : S_.BroadcastsInDim S4096x512 (![] : Fin 0 → Fin S4096x512.rank)

variable [Facts]

def fn {F : FTy → Type} [FloatOps F] (main_arg0 : FVec F S4096x1024 .f32) (main_arg1 : FVec F S4096x512 .f32) (main_arg2 : FVec F S4096x512 .f32) (main_arg3 : FVec F S4096x512 .f32) (main_arg4 : FVec F S4096x512 .f32) (main_arg5 : FVec F S4096x6656 .f32) (main_arg6 : FVec F S4096x4096 .f32) (main_arg7 : FVec F S4x512x1024 .f32) (main_arg8 : FVec F S1024x1024 .f32) : IVec S4096x1024 1 × IVec S1024x1024 1 × IVec S512x1024 1 × IVec S4096x512 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x1024 .f32 := Host.absf main_arg8
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x512x1024 .f32 := (extractStridedSlice S1x512x1024 ![2, 0, 0] · slices_S4x512x1024_S1x512x1024_2_0_0) main_arg7
  let main_v7 : FVec F S512x1024 .f32 := shapeCast S512x1024 main_v6 shapeCasts_S1x512x1024_S512x1024
  let main_v8 : FVec F S512x1024 .f32 := Host.absf main_v7
  let main_cst_1 : FVec F S_ .f32 := constant S_ .f32 0x7F800000#32
  let main_v9 : FVec F S512x1024 .f32 := broadcastInDim S512x1024 ![] bcast_S_S512x1024 main_cst_1
  let main_v10 : IVec S512x1024 1 := cmpf .olt main_v8 main_v9
  let main_v11 : FVec F S4096x512 .f32 := Host.absf main_arg4
  let main_cst_2 : FVec F S_ .f32 := constant S_ .f32 0x7F800000#32
  let main_v12 : FVec F S4096x512 .f32 := broadcastInDim S4096x512 ![] bcast_S_S4096x512 main_cst_2
  let main_v13 : IVec S4096x512 1 := cmpf .olt main_v11 main_v12
  (main_v2, main_v5, main_v10, main_v13)
-- ==== Pre_finite6.lean ====
abbrev S4096x1024 : Shape := ⟨2, ![4096, 1024]⟩
abbrev S4x4096x512 : Shape := ⟨3, ![4, 4096, 512]⟩
abbrev S4096x512 : Shape := ⟨2, ![4096, 512]⟩
abbrev S4096x128 : Shape := ⟨2, ![4096, 128]⟩
abbrev S4096x6656 : Shape := ⟨2, ![4096, 6656]⟩
abbrev S4096x4096 : Shape := ⟨2, ![4096, 4096]⟩
abbrev S4x512x1024 : Shape := ⟨3, ![4, 512, 1024]⟩
abbrev S1024x1024 : Shape := ⟨2, ![1024, 1024]⟩
abbrev S4096x4 : Shape := ⟨2, ![4096, 4]⟩
abbrev S_ : Shape := ⟨0, ![]⟩

class Facts : Prop where
  slices_S4096x128_S4096x4_0_0 : S4096x128.Slices ![0, 0] S4096x4
  bcast_S_S4096x4 : S_.BroadcastsInDim S4096x4 (![] : Fin 0 → Fin S4096x4.rank)

variable [Facts]

def fn {F : FTy → Type} [FloatOps F] (main_arg0 : FVec F S4096x1024 .f32) (main_arg1 : FVec F S4x4096x512 .bf16) (main_arg2 : FVec F S4096x512 .f32) (main_arg3 : FVec F S4096x512 .f32) (main_arg4 : FVec F S4096x512 .f32) (main_arg5 : FVec F S4096x128 .f32) (main_arg6 : FVec F S4096x128 .f32) (main_arg7 : FVec F S4096x128 .f32) (main_arg8 : FVec F S4096x6656 .f32) (main_arg9 : FVec F S4096x4096 .f32) (main_arg10 : FVec F S4x512x1024 .f32) (main_arg11 : FVec F S1024x1024 .f32) : IVec S4096x4 1 × IVec S4096x4 1 × IVec S4096x4 1 :=
  let main_v0 : FVec F S4096x4 .f32 := (extractStridedSlice S4096x4 ![0, 0] · slices_S4096x128_S4096x4_0_0) main_arg5
  let main_v1 : FVec F S4096x4 .f32 := Host.absf main_v0
  let main_cst : FVec F S_ .f32 := constant S_ .f32 0x7F800000#32
  let main_v2 : FVec F S4096x4 .f32 := broadcastInDim S4096x4 ![] bcast_S_S4096x4 main_cst
  let main_v3 : IVec S4096x4 1 := cmpf .olt main_v1 main_v2
  let main_v4 : FVec F S4096x4 .f32 := (extractStridedSlice S4096x4 ![0, 0] · slices_S4096x128_S4096x4_0_0) main_arg6
  let main_v5 : FVec F S4096x4 .f32 := Host.absf main_v4
  let main_cst_0 : FVec F S_ .f32 := constant S_ .f32 0x7F800000#32
  let main_v6 : FVec F S4096x4 .f32 := broadcastInDim S4096x4 ![] bcast_S_S4096x4 main_cst_0
  let main_v7 : IVec S4096x4 1 := cmpf .olt main_v5 main_v6
  let main_v8 : FVec F S4096x4 .f32 := (extractStridedSlice S4096x4 ![0, 0] · slices_S4096x128_S4096x4_0_0) main_arg7
  let main_v9 : FVec F S4096x4 .f32 := Host.absf main_v8
  let main_cst_1 : FVec F S_ .f32 := constant S_ .f32 0x7F800000#32
  let main_v10 : FVec F S4096x4 .f32 := broadcastInDim S4096x4 ![] bcast_S_S4096x4 main_cst_1
  let main_v11 : IVec S4096x4 1 := cmpf .olt main_v9 main_v10
  (main_v3, main_v7, main_v11)
-- ==== Kernel.lean ====
abbrev S4096x1024 : Shape := ⟨2, ![4096, 1024]⟩
abbrev S4096x512 : Shape := ⟨2, ![4096, 512]⟩
abbrev S4096x6656 : Shape := ⟨2, ![4096, 6656]⟩
abbrev S4096x4096 : Shape := ⟨2, ![4096, 4096]⟩
abbrev S4x512x1024 : Shape := ⟨3, ![4, 512, 1024]⟩
abbrev S1024x1024 : Shape := ⟨2, ![1024, 1024]⟩
abbrev S_ : Shape := ⟨0, ![]⟩
abbrev S4096x4x1024 : Shape := ⟨3, ![4096, 4, 1024]⟩
abbrev S4096x1x1024 : Shape := ⟨3, ![4096, 1, 1024]⟩
abbrev S1x512x1024 : Shape := ⟨3, ![1, 512, 1024]⟩
abbrev S512x1024 : Shape := ⟨2, ![512, 1024]⟩
abbrev S1x4096x512 : Shape := ⟨3, ![1, 4096, 512]⟩
abbrev S4x4096x512 : Shape := ⟨3, ![4, 4096, 512]⟩
abbrev S2048x8x128 : Shape := ⟨3, ![2048, 8, 128]⟩
abbrev S8x2048x128 : Shape := ⟨3, ![8, 2048, 128]⟩
abbrev S3x4096x512 : Shape := ⟨3, ![3, 4096, 512]⟩
abbrev S4096x128 : Shape := ⟨2, ![4096, 128]⟩
abbrev S8x4x512x128 : Shape := ⟨4, ![8, 4, 512, 128]⟩
abbrev S256x1024 : Shape := ⟨2, ![256, 1024]⟩
abbrev S4x256x512 : Shape := ⟨3, ![4, 256, 512]⟩
abbrev S256x512 : Shape := ⟨2, ![256, 512]⟩
abbrev S3x256x512 : Shape := ⟨3, ![3, 256, 512]⟩
abbrev S256x128 : Shape := ⟨2, ![256, 128]⟩
abbrev S256x4096 : Shape := ⟨2, ![256, 4096]⟩
abbrev S1x512x128 : Shape := ⟨3, ![1, 512, 128]⟩
abbrev S512x128 : Shape := ⟨2, ![512, 128]⟩
abbrev S1x256x512 : Shape := ⟨3, ![1, 256, 512]⟩
abbrev S256 : Shape := ⟨1, ![256]⟩
abbrev S256x1 : Shape := ⟨2, ![256, 1]⟩
abbrev S4x512x128 : Shape := ⟨3, ![4, 512, 128]⟩
abbrev S1x4x512x128 : Shape := ⟨4, ![1, 4, 512, 128]⟩

abbrev nBuf : Space → Nat
  | .hbm => 77
  | .vmem => 35
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x6656, .f32⟩
  | .hbm, ⟨6, _⟩ => ⟨S4096x4096, .f32⟩
  | .hbm, ⟨7, _⟩ => ⟨S4x512x1024, .f32⟩
  | .hbm, ⟨8, _⟩ => ⟨S1024x1024, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x4x1024, .f32⟩
  | .hbm, ⟨21, _⟩ => ⟨S4096x4x1024, .f32⟩
  | .hbm, ⟨22, _⟩ => ⟨S4096x4x1024, .f32⟩
  | .hbm, ⟨23, _⟩ => ⟨S_, .f32⟩
  | .hbm, ⟨24, _⟩ => ⟨S4096x4x1024, .f32⟩
  | .hbm, ⟨25, _⟩ => ⟨S4096x4x1024, .f32⟩
  | .hbm, ⟨26, _⟩ => ⟨S_, .f32⟩
  | .hbm, ⟨27, _⟩ => ⟨S4096x4x1024, .f32⟩
  | .hbm, ⟨28, _⟩ => ⟨S4096x4x1024, .f32⟩
  | .hbm, ⟨29, _⟩ => ⟨S4096x1x1024, .f32⟩
  | .hbm, ⟨30, _⟩ => ⟨S4096x1024, .f32⟩
  | .hbm, ⟨31, _⟩ => ⟨S1x512x1024, .f32⟩
  | .hbm, ⟨32, _⟩ => ⟨S512x1024, .f32⟩
  | .hbm, ⟨33, _⟩ => ⟨S4096x1024, .f32⟩
  | .hbm, ⟨34, _⟩ => ⟨S4096x1024, .f32⟩
  | .hbm, ⟨35, _⟩ => ⟨S4096x1x1024, .f32⟩
  | .hbm, ⟨36, _⟩ => ⟨S4096x1024, .f32⟩
  | .hbm, ⟨37, _⟩ => ⟨S1x512x1024, .f32⟩
  | .hbm, ⟨38, _⟩ => ⟨S512x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1x1024, .f32⟩
  | .hbm, ⟨43, _⟩ => ⟨S4096x1024, .f32⟩
  | .hbm, ⟨44, _⟩ => ⟨S1x512x1024, .f32⟩
  | .hbm, ⟨45, _⟩ => ⟨S512x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1x1024, .f32⟩
  | .hbm, ⟨50, _⟩ => ⟨S4096x1024, .f32⟩
  | .hbm, ⟨51, _⟩ => ⟨S1x512x1024, .f32⟩
  | .hbm, ⟨52, _⟩ => ⟨S512x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x4096x512, .f32⟩
  | .hbm, ⟨57, _⟩ => ⟨S1x4096x512, .f32⟩
  | .hbm, ⟨58, _⟩ => ⟨S1x4096x512, .f32⟩
  | .hbm, ⟨59, _⟩ => ⟨S1x4096x512, .f32⟩
  | .hbm, ⟨60, _⟩ => ⟨S4x4096x512, .f32⟩
  | .hbm, ⟨61, _⟩ => ⟨S4x4096x512, .bf16⟩
  | .hbm, ⟨62, _⟩ => ⟨S2048x8x128, .f32⟩
  | .hbm, ⟨63, _⟩ => ⟨S8x2048x128, .f32⟩
  | .hbm, ⟨64, _⟩ => ⟨S8x2048x128, .bf16⟩
  | .hbm, ⟨65, _⟩ => ⟨S4096x512, .bf16⟩
  | .hbm, ⟨66, _⟩ => ⟨S4096x1024, .bf16⟩
  | .hbm, ⟨67, _⟩ => ⟨S4096x6656, .bf16⟩
  | .hbm, ⟨68, _⟩ => ⟨S4096x4096, .bf16⟩
  | .hbm, ⟨69, _⟩ => ⟨S1024x1024, .bf16⟩
  | .hbm, ⟨70, _⟩ => ⟨S3x4096x512, .bf16⟩
  | .hbm, ⟨71, _⟩ => ⟨S4096x512, .bf16⟩
  | .hbm, ⟨72, _⟩ => ⟨S4096x128, .f32⟩
  | .hbm, ⟨73, _⟩ => ⟨S4096x6656, .bf16⟩
  | .hbm, ⟨74, _⟩ => ⟨S4096x4096, .bf16⟩
  | .hbm, ⟨75, _⟩ => ⟨S8x4x512x128, .bf16⟩
  | .hbm, ⟨76, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S4x256x512, .bf16⟩
  | .local _ .vmem, ⟨3, _⟩ => ⟨S4x256x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S8x2048x128, .bf16⟩
  | .local _ .vmem, ⟨19, _⟩ => ⟨S1024x1024, .bf16⟩
  | .local _ .vmem, ⟨20, _⟩ => ⟨S3x256x512, .bf16⟩
  | .local _ .vmem, ⟨21, _⟩ => ⟨S3x256x512, .bf16⟩
  | .local _ .vmem, ⟨22, _⟩ => ⟨S256x512, .bf16⟩
  | .local _ .vmem, ⟨23, _⟩ => ⟨S256x512, .bf16⟩
  | .local _ .vmem, ⟨24, _⟩ => ⟨S256x128, .f32⟩
  | .local _ .vmem, ⟨25, _⟩ => ⟨S256x128, .f32⟩
  | .local _ .vmem, ⟨26, _⟩ => ⟨S256x512, .bf16⟩
  | .local _ .vmem, ⟨27, _⟩ => ⟨S256x512, .bf16⟩
  | .local _ .vmem, ⟨28, _⟩ => ⟨S256x4096, .bf16⟩
  | .local _ .vmem, ⟨29, _⟩ => ⟨S256x4096, .bf16⟩
  | .local _ .vmem, ⟨30, _⟩ => ⟨S8x4x512x128, .bf16⟩
  | .local _ .vmem, ⟨31, _⟩ => ⟨S1024x1024, .bf16⟩
  | .local _ .vmem, ⟨32, _⟩ => ⟨S4x512x1024, .f32⟩
  | .local _ .vmem, ⟨33, _⟩ => ⟨S1024x1024, .f32⟩
  | .local _ .vmem, ⟨34, _⟩ => ⟨S4x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51_0 : Ref sig .tc := ⟨.hbm, 70, rfl⟩
abbrev main_v51_1 : Ref sig .tc := ⟨.hbm, 71, rfl⟩
abbrev main_v51_2 : Ref sig .tc := ⟨.hbm, 72, rfl⟩
abbrev main_v51_3 : Ref sig .tc := ⟨.hbm, 73, rfl⟩
abbrev main_v51_4 : Ref sig .tc := ⟨.hbm, 74, rfl⟩
abbrev main_v51_5 : Ref sig .tc := ⟨.hbm, 75, rfl⟩
abbrev main_v51_6 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg17_0 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem17_0 : DmaSem sig := 31

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v227 : BitVec 1 := Scalar.cmpi .eq arg0 c15_i32
  let v228 : BitVec 32 := Scalar.extui v227
  let c0_i32_139 : BitVec 32 := 0#32
  let v229 : BitVec 1 := Scalar.cmpi .ne v228 c0_i32_139
  v229

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S3x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x4x512x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S4096x1024 : Shape := ⟨2, ![4096, 1024]⟩
abbrev S4096x512 : Shape := ⟨2, ![4096, 512]⟩
abbrev S4096x6656 : Shape := ⟨2, ![4096, 6656]⟩
abbrev S4096x4096 : Shape := ⟨2, ![4096, 4096]⟩
abbrev S4x512x1024 : Shape := ⟨3, ![4, 512, 1024]⟩
abbrev S1024x1024 : Shape := ⟨2, ![1024, 1024]⟩
abbrev S_ : Shape := ⟨0, ![]⟩
abbrev S4096x4x1024 : Shape := ⟨3, ![4096, 4, 1024]⟩
abbrev S4096x1x1024 : Shape := ⟨3, ![4096, 1, 1024]⟩
abbrev S1x512x1024 : Shape := ⟨3, ![1, 512, 1024]⟩
abbrev S512x1024 : Shape := ⟨2, ![512, 1024]⟩
abbrev S1024x512 : Shape := ⟨2, ![1024, 512]⟩
abbrev S4096x4x128 : Shape := ⟨3, ![4096, 4, 128]⟩
abbrev S4096x4 : Shape := ⟨2, ![4096, 4]⟩
abbrev S1x4096x512 : Shape := ⟨3, ![1, 4096, 512]⟩
abbrev S3x4096x512 : Shape := ⟨3, ![3, 4096, 512]⟩
abbrev S4096x128 : Shape := ⟨2, ![4096, 128]⟩
abbrev S4x512x8x128 : Shape := ⟨4, ![4, 512, 8, 128]⟩
abbrev S8x4x512x128 : Shape := ⟨4, ![8, 4, 512, 128]⟩

abbrev nBuf : Space → Nat
  | .hbm => 147
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S4096x512, .f32⟩
  | 4 => ⟨S4096x512, .f32⟩
  | 5 => ⟨S4096x6656, .f32⟩
  | 6 => ⟨S4096x4096, .f32⟩
  | 7 => ⟨S4x512x1024, .f32⟩
  | 8 => ⟨S1024x1024, .f32⟩
  | 9 => ⟨S4096x512, .f32⟩
  | 10 => ⟨S4096x512, .f32⟩
  | 11 => ⟨S4096x512, .f32⟩
  | 12 => ⟨S_, .f32⟩
  | 13 => ⟨S4096x512, .f32⟩
  | 14 => ⟨S4096x512, .f32⟩
  | 15 => ⟨S_, .f32⟩
  | 16 => ⟨S4096x512, .f32⟩
  | 17 => ⟨S4096x512, .f32⟩
  | 18 => ⟨S_, .f32⟩
  | 19 => ⟨S4096x512, .f32⟩
  | 20 => ⟨S4096x512, .f32⟩
  | 21 => ⟨S4096x512, .f32⟩
  | 22 => ⟨S4096x512, .f32⟩
  | 23 => ⟨S4096x512, .f32⟩
  | 24 => ⟨S4096x4x1024, .f32⟩
  | 25 => ⟨S4096x4x1024, .f32⟩
  | 26 => ⟨S4096x4x1024, .f32⟩
  | 27 => ⟨S_, .f32⟩
  | 28 => ⟨S4096x4x1024, .f32⟩
  | 29 => ⟨S4096x4x1024, .f32⟩
  | 30 => ⟨S_, .f32⟩
  | 31 => ⟨S4096x4x1024, .f32⟩
  | 32 => ⟨S4096x4x1024, .f32⟩
  | 33 => ⟨S_, .f32⟩
  | 34 => ⟨S4096x4x1024, .f32⟩
  | 35 => ⟨S4096x4x1024, .f32⟩
  | 36 => ⟨S4096x4x1024, .f32⟩
  | 37 => ⟨S4096x1x1024, .f32⟩
  | 38 => ⟨S4096x1024, .f32⟩
  | 39 => ⟨S1x512x1024, .f32⟩
  | 40 => ⟨S512x1024, .f32⟩
  | 41 => ⟨S4096x1024, .f32⟩
  | 42 => ⟨S4096x1024, .f32⟩
  | 43 => ⟨S4096x1x1024, .f32⟩
  | 44 => ⟨S4096x1024, .f32⟩
  | 45 => ⟨S1x512x1024, .f32⟩
  | 46 => ⟨S512x1024, .f32⟩
  | 47 => ⟨S4096x1024, .f32⟩
  | 48 => ⟨S4096x1024, .f32⟩
  | 49 => ⟨S4096x1024, .f32⟩
  | 50 => ⟨S4096x1x1024, .f32⟩
  | 51 => ⟨S4096x1024, .f32⟩
  | 52 => ⟨S1x512x1024, .f32⟩
  | 53 => ⟨S512x1024, .f32⟩
  | 54 => ⟨S4096x1024, .f32⟩
  | 55 => ⟨S4096x1024, .f32⟩
  | 56 => ⟨S4096x1024, .f32⟩
  | 57 => ⟨S4096x1x1024, .f32⟩
  | 58 => ⟨S4096x1024, .f32⟩
  | 59 => ⟨S1x512x1024, .f32⟩
  | 60 => ⟨S512x1024, .f32⟩
  | 61 => ⟨S4096x1024, .f32⟩
  | 62 => ⟨S4096x1024, .f32⟩
  | 63 => ⟨S4096x1024, .f32⟩
  | 64 => ⟨S4096x1024, .f32⟩
  | 65 => ⟨S1024x1024, .f32⟩
  | 66 => ⟨S1024x1024, .f32⟩
  | 67 => ⟨S4096x1024, .f32⟩
  | 68 => ⟨S4096x1024, .f32⟩
  | 69 => ⟨S4096x1024, .f32⟩
  | 70 => ⟨S1024x512, .f32⟩
  | 71 => ⟨S512x1024, .f32⟩
  | 72 => ⟨S4096x512, .f32⟩
  | 73 => ⟨S1x512x1024, .f32⟩
  | 74 => ⟨S_, .f32⟩
  | 75 => ⟨S4x512x1024, .f32⟩
  | 76 => ⟨S4096x1x1024, .f32⟩
  | 77 => ⟨S_, .f32⟩
  | 78 => ⟨S4096x4x1024, .f32⟩
  | 79 => ⟨S4096x1024, .f32⟩
  | 80 => ⟨S4096x1024, .f32⟩
  | 81 => ⟨S1024x512, .f32⟩
  | 82 => ⟨S512x1024, .f32⟩
  | 83 => ⟨S4096x512, .f32⟩
  | 84 => ⟨S1x512x1024, .f32⟩
  | 85 => ⟨S_, .f32⟩
  | 86 => ⟨S4x512x1024, .f32⟩
  | 87 => ⟨S4x512x1024, .f32⟩
  | 88 => ⟨S4096x1x1024, .f32⟩
  | 89 => ⟨S_, .f32⟩
  | 90 => ⟨S4096x4x1024, .f32⟩
  | 91 => ⟨S4096x4x1024, .f32⟩
  | 92 => ⟨S4096x1024, .f32⟩
  | 93 => ⟨S4096x1024, .f32⟩
  | 94 => ⟨S1024x512, .f32⟩
  | 95 => ⟨S512x1024, .f32⟩
  | 96 => ⟨S4096x512, .f32⟩
  | 97 => ⟨S1x512x1024, .f32⟩
  | 98 => ⟨S_, .f32⟩
  | 99 => ⟨S4x512x1024, .f32⟩
  | 100 => ⟨S4x512x1024, .f32⟩
  | 101 => ⟨S4096x1x1024, .f32⟩
  | 102 => ⟨S_, .f32⟩
  | 103 => ⟨S4096x4x1024, .f32⟩
  | 104 => ⟨S4096x4x1024, .f32⟩
  | 105 => ⟨S4096x1024, .f32⟩
  | 106 => ⟨S4096x1024, .f32⟩
  | 107 => ⟨S1024x512, .f32⟩
  | 108 => ⟨S512x1024, .f32⟩
  | 109 => ⟨S4096x512, .f32⟩
  | 110 => ⟨S1x512x1024, .f32⟩
  | 111 => ⟨S_, .f32⟩
  | 112 => ⟨S4x512x1024, .f32⟩
  | 113 => ⟨S4x512x1024, .f32⟩
  | 114 => ⟨S4096x1x1024, .f32⟩
  | 115 => ⟨S_, .f32⟩
  | 116 => ⟨S4096x4x1024, .f32⟩
  | 117 => ⟨S4096x4x1024, .f32⟩
  | 118 => ⟨S4096x4x1024, .f32⟩
  | 119 => ⟨S4096x4096, .f32⟩
  | 120 => ⟨S4096x512, .f32⟩
  | 121 => ⟨S4096x512, .f32⟩
  | 122 => ⟨S4096x512, .f32⟩
  | 123 => ⟨S4096x512, .f32⟩
  | 124 => ⟨S4096x512, .f32⟩
  | 125 => ⟨S4096x512, .f32⟩
  | 126 => ⟨S_, .f32⟩
  | 127 => ⟨S4096x6656, .f32⟩
  | _ => ⟨S4096x1024, .f32⟩

abbrev hbmTy0_1 (i : Nat) : BufTy := match i % 128 with
  | 0 => ⟨S4096x512, .f32⟩
  | 1 => ⟨S4096x4x128, .f32⟩
  | 2 => ⟨S_, .f32⟩
  | 3 => ⟨S4096x4, .f32⟩
  | 4 => ⟨S1x4096x512, .f32⟩
  | 5 => ⟨S1x4096x512, .f32⟩
  | 6 => ⟨S1x4096x512, .f32⟩
  | 7 => ⟨S3x4096x512, .f32⟩
  | 8 => ⟨S3x4096x512, .bf16⟩
  | 9 => ⟨S4096x512, .bf16⟩
  | 10 => ⟨S_, .i32⟩
  | 11 => ⟨S_, .f32⟩
  | 12 => ⟨S4096x128, .f32⟩
  | 13 => ⟨S4096x6656, .bf16⟩
  | 14 => ⟨S4096x4096, .bf16⟩
  | 15 => ⟨S4x512x8x128, .f32⟩
  | 16 => ⟨S8x4x512x128, .f32⟩
  | 17 => ⟨S8x4x512x128, .bf16⟩
  | 18 => ⟨S1024x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v1_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v1_1 : Ref sig .tc := ⟨.hbm, 21, rfl⟩
abbrev main_v1_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst : Ref sig .tc := ⟨.hbm, 27, rfl⟩
abbrev main_v6 : Ref sig .tc := ⟨.hbm, 28, rfl⟩
abbrev main_v7 : Ref sig .tc := ⟨.hbm, 29, rfl⟩
abbrev main_cst_0 : Ref sig .tc := ⟨.hbm, 30, rfl⟩
abbrev main_v8 : Ref sig .tc := ⟨.hbm, 31, rfl⟩
abbrev main_v9 : Ref sig .tc := ⟨.hbm, 32, rfl⟩
abbrev main_cst_1 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_2 : Ref sig .tc := ⟨.hbm, 74, rfl⟩
abbrev main_v50 : Ref sig .tc := ⟨.hbm, 75, rfl⟩
abbrev main_v51 : Ref sig .tc := ⟨.hbm, 76, rfl⟩
abbrev main_cst_3 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_4 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_5 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_6 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_7 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_8 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_9 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_v90 : Ref sig .tc := ⟨.hbm, 125, rfl⟩
abbrev main_cst_10 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_11 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_c : Ref sig .tc := ⟨.hbm, 138, rfl⟩
abbrev main_call2_v0 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩

abbrev nD : Nat := 1
abbrev τ : Topo := Topo.v7x

variable {F : FTy → Type} [FloatOps F]
-- ==== Kernel2.lean ====
abbrev S4096x10752 : Shape := ⟨2, ![4096, 10752]⟩
abbrev S1024x10752 : Shape := ⟨2, ![1024, 10752]⟩
abbrev S4096x1024 : Shape := ⟨2, ![4096, 1024]⟩
abbrev S1024 : Shape := ⟨1, ![1024]⟩
abbrev S4096x6656 : Shape := ⟨2, ![4096, 6656]⟩
abbrev S4096x4096 : Shape := ⟨2, ![4096, 4096]⟩
abbrev S10752x1024 : Shape := ⟨2, ![10752, 1024]⟩
abbrev S1x1024 : Shape := ⟨2, ![1, 1024]⟩
abbrev S1024x1664 : Shape := ⟨2, ![1024, 1664]⟩
abbrev S1664x1024 : Shape := ⟨2, ![1664, 1024]⟩
abbrev S1024x1024 : Shape := ⟨2, ![1024, 1024]⟩
abbrev S512x1024 : Shape := ⟨2, ![512, 1024]⟩
abbrev S1024x512 : Shape := ⟨2, ![1024, 512]⟩
abbrev S1024x1 : Shape := ⟨2, ![1024, 1]⟩

abbrev nBuf : Space → Nat
  | .hbm => 14
  | .vmem => 19
  | .smem => 0
  | _ => 0

abbrev bufTy : (tb : Table) → Fin (tcTables nBuf tb) → BufTy
  | .hbm, ⟨0, _⟩ => ⟨S4096x10752, .f32⟩
  | .hbm, ⟨1, _⟩ => ⟨S1024x10752, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x6656, .f32⟩
  | .hbm, ⟨6, _⟩ => ⟨S4096x6656, .bf16⟩
  | .hbm, ⟨7, _⟩ => ⟨S4096x4096, .f32⟩
  | .hbm, ⟨8, _⟩ => ⟨S4096x4096, .bf16⟩
  | .hbm, ⟨9, _⟩ => ⟨S10752x1024, .f32⟩
  | .hbm, ⟨10, _⟩ => ⟨S10752x1024, .bf16⟩
  | .hbm, ⟨11, _⟩ => ⟨S1x1024, .f32⟩
  | .hbm, ⟨12, _⟩ => ⟨S4096x1024, .f32⟩
  | .hbm, ⟨13, _⟩ => ⟨S1x1024, .f32⟩
  | .local _ .vmem, ⟨0, _⟩ => ⟨S1024x1664, .bf16⟩
  | .local _ .vmem, ⟨1, _⟩ => ⟨S1024x1664, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1x1024, .f32⟩
  | .local _ .vmem, ⟨18, _⟩ => ⟨S1024x1024, .f32⟩
  | _, _ => ⟨S4096x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![4, 8], ![false, false]⟩

def k0_cond5 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_7 : BitVec 32 := 0#32
  let v16 : BitVec 1 := Scalar.cmpi .ne v15 c0_i32_7
  v16

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c2_i32 : BitVec 32 := 2#32
  let v2 : BitVec 32 := Scalar.muli c2_i32 v1
  let c13_i32 : BitVec 32 := 13#32
  let v3 : BitVec 32 := Scalar.addi c13_i32 v2
  let c0_i32_0 : BitVec 32 := 0#32
  let v4 : BitVec 32 := Scalar.addi v3 c0_i32_0
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c2_i32 : BitVec 32 := 2#32
  let v2 : BitVec 32 := Scalar.muli c2_i32 v1
  let c13_i32 : BitVec 32 := 13#32
  let v3 : BitVec 32 := Scalar.addi c13_i32 v2
  let c1_i32 : BitVec 32 := 1#32
  let v4 : BitVec 32 := Scalar.addi v3 c1_i32
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference2Ideal.lean ====
abbrev S4096x10752 : Shape := ⟨2, ![4096, 10752]⟩
abbrev S1024x10752 : Shape := ⟨2, ![1024, 10752]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x10752, .f32⟩
  | .hbm, ⟨1, _⟩ => ⟨S1024x10752, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x10752, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel3.lean ====
abbrev S4096x1024 : Shape := ⟨2, ![4096, 1024]⟩
abbrev S4096x10752 : Shape := ⟨2, ![4096, 10752]⟩
abbrev S4096x6656 : Shape := ⟨2, ![4096, 6656]⟩
abbrev S10752x1024 : Shape := ⟨2, ![10752, 1024]⟩
abbrev S2048x1664 : Shape := ⟨2, ![2048, 1664]⟩
abbrev S2048x1024 : Shape := ⟨2, ![2048, 1024]⟩
abbrev S1664x1024 : Shape := ⟨2, ![1664, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x10752, .f32⟩
  | .hbm, ⟨2, _⟩ => ⟨S4096x1024, .bf16⟩
  | .hbm, ⟨3, _⟩ => ⟨S4096x6656, .f32⟩
  | .hbm, ⟨4, _⟩ => ⟨S4096x6656, .bf16⟩
  | .hbm, ⟨5, _⟩ => ⟨S10752x1024, .bf16⟩
  | .local _ .vmem, ⟨0, _⟩ => ⟨S2048x1664, .bf16⟩
  | .local _ .vmem, ⟨1, _⟩ => ⟨S2048x1664, .bf16⟩
  | .local _ .vmem, ⟨2, _⟩ => ⟨S2048x1024, .bf16⟩
  | .local _ .vmem, ⟨3, _⟩ => ⟨S2048x1024, .bf16⟩
  | .local _ .vmem, ⟨4, _⟩ => ⟨S1664x1024, .bf16⟩
  | .local _ .vmem, ⟨5, _⟩ => ⟨S1664x1024, .bf16⟩
  | .local _ .vmem, ⟨6, _⟩ => ⟨S1664x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x1024 : Shape := ⟨2, ![4096, 1024]⟩
abbrev S4096x10752 : Shape := ⟨2, ![4096, 10752]⟩
abbrev S_ : Shape := ⟨0, ![]⟩
abbrev S1024x10752 : Shape := ⟨2, ![1024, 10752]⟩
abbrev S10752x1024 : Shape := ⟨2, ![10752, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x10752, .f32⟩
  | .hbm, ⟨2, _⟩ => ⟨S_, .f32⟩
  | .hbm, ⟨3, _⟩ => ⟨S1024x10752, .f32⟩
  | .hbm, ⟨4, _⟩ => ⟨S4096x10752, .f32⟩
  | .hbm, ⟨5, _⟩ => ⟨S10752x1024, .f32⟩
  | .hbm, ⟨6, _⟩ => ⟨S1024x10752, .f32⟩
  | .hbm, ⟨7, _⟩ => ⟨S10752x1024, .f32⟩
  | .hbm, ⟨8, _⟩ => ⟨S10752x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x1024 : Shape := ⟨2, ![4096, 1024]⟩
abbrev S4096x10752 : Shape := ⟨2, ![4096, 10752]⟩
abbrev S10752x1024 : Shape := ⟨2, ![10752, 1024]⟩
abbrev S4096x4096 : Shape := ⟨2, ![4096, 4096]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x10752, .f32⟩
  | .hbm, ⟨2, _⟩ => ⟨S10752x1024, .bf16⟩
  | .hbm, ⟨3, _⟩ => ⟨S4096x1024, .bf16⟩
  | .hbm, ⟨4, _⟩ => ⟨S4096x4096, .f32⟩
  | .hbm, ⟨5, _⟩ => ⟨S4096x4096, .bf16⟩
  | .hbm, ⟨6, _⟩ => ⟨S10752x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  let c0_i32_0 : BitVec 32 := 0#32
  ![v0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4096x1024 : Shape := ⟨2, ![4096, 1024]⟩
abbrev S4096x10752 : Shape := ⟨2, ![4096, 10752]⟩
abbrev S10752x1024 : Shape := ⟨2, ![10752, 1024]⟩
abbrev S_ : Shape := ⟨0, ![]⟩
abbrev S1024x10752 : Shape := ⟨2, ![1024, 10752]⟩
abbrev S6656x1024 : Shape := ⟨2, ![6656, 1024]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x10752, .f32⟩
  | .hbm, ⟨2, _⟩ => ⟨S10752x1024, .bf16⟩
  | .hbm, ⟨3, _⟩ => ⟨S_, .f32⟩
  | .hbm, ⟨4, _⟩ => ⟨S1024x10752, .f32⟩
  | .hbm, ⟨5, _⟩ => ⟨S4096x10752, .f32⟩
  | .hbm, ⟨6, _⟩ => ⟨S10752x1024, .f32⟩
  | .hbm, ⟨7, _⟩ => ⟨S1024x10752, .f32⟩
  | .hbm, ⟨8, _⟩ => ⟨S6656x1024, .bf16⟩
  | .hbm, ⟨9, _⟩ => ⟨S1024x4096, .f32⟩
  | .hbm, ⟨10, _⟩ => ⟨S4096x1024, .f32⟩
  | .hbm, ⟨11, _⟩ => ⟨S4096x1024, .bf16⟩
  | .hbm, ⟨12, _⟩ => ⟨S10752x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x10752 : Shape := ⟨2, ![1024, 10752]⟩
abbrev S1x1024 : Shape := ⟨2, ![1, 1024]⟩
abbrev S10752x1024 : Shape := ⟨2, ![10752, 1024]⟩
abbrev S4096x6656 : Shape := ⟨2, ![4096, 6656]⟩
abbrev S4096x4096 : Shape := ⟨2, ![4096, 4096]⟩
abbrev S1024x1024 : Shape := ⟨2, ![1024, 1024]⟩
abbrev S1664x1024 : Shape := ⟨2, ![1664, 1024]⟩
abbrev S512x1024 : Shape := ⟨2, ![512, 1024]⟩
abbrev S1024x1664 : Shape := ⟨2, ![1024, 1664]⟩
abbrev S1024x1 : Shape := ⟨2, ![1024, 1]⟩
abbrev S1024x512 : Shape := ⟨2, ![1024, 512]⟩

abbrev nBuf : Space → Nat
  | .hbm => 9
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x10752, .f32⟩
  | .hbm, ⟨3, _⟩ => ⟨S1x1024, .f32⟩
  | .hbm, ⟨4, _⟩ => ⟨S10752x1024, .f32⟩
  | .hbm, ⟨5, _⟩ => ⟨S10752x1024, .bf16⟩
  | .hbm, ⟨6, _⟩ => ⟨S4096x6656, .bf16⟩
  | .hbm, ⟨7, _⟩ => ⟨S4096x4096, .bf16⟩
  | .hbm, ⟨8, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1664x1024, .bf16⟩
  | .local _ .vmem, ⟨4, _⟩ => ⟨S1664x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1024x1664, .bf16⟩
  | .local _ .vmem, ⟨10, _⟩ => ⟨S1024x1664, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .sge arg1 c4_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c2_i32 : BitVec 32 := 2#32
  let v2 : BitVec 32 := Scalar.muli c2_i32 v1
  let c13_i32 : BitVec 32 := 13#32
  let v3 : BitVec 32 := Scalar.addi c13_i32 v2
  let c0_i32_0 : BitVec 32 := 0#32
  let v4 : BitVec 32 := Scalar.addi v3 c0_i32_0
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c2_i32 : BitVec 32 := 2#32
  let v2 : BitVec 32 := Scalar.muli c2_i32 v1
  let c13_i32 : BitVec 32 := 13#32
  let v3 : BitVec 32 := Scalar.addi c13_i32 v2
  let c1_i32 : BitVec 32 := 1#32
  let v4 : BitVec 32 := Scalar.addi v3 c1_i32
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1664 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference5Ideal.lean ====
abbrev S4096x1024 : Shape := ⟨2, ![4096, 1024]⟩
abbrev S1024 : Shape := ⟨1, ![1024]⟩
abbrev S1024x10752 : Shape := ⟨2, ![1024, 10752]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x10752 : Shape := ⟨2, ![4096, 10752]⟩
abbrev S4096x6656 : Shape := ⟨2, ![4096, 6656]⟩
abbrev S4096x4096 : Shape := ⟨2, ![4096, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x10752, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x10752, .f32⟩
  | .hbm, ⟨20, _⟩ => ⟨S4096x6656, .f32⟩
  | .hbm, ⟨21, _⟩ => ⟨S4096x6656, .bf16⟩
  | .hbm, ⟨22, _⟩ => ⟨S4096x4096, .f32⟩
  | .hbm, ⟨23, _⟩ => ⟨S4096x4096, .bf16⟩
  | .hbm, ⟨24, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel6.lean ====
abbrev S4096x1024 : Shape := ⟨2, ![4096, 1024]⟩
abbrev S4x4096x512 : Shape := ⟨3, ![4, 4096, 512]⟩
abbrev S4096x512 : Shape := ⟨2, ![4096, 512]⟩
abbrev S4096x128 : Shape := ⟨2, ![4096, 128]⟩
abbrev S4096x6656 : Shape := ⟨2, ![4096, 6656]⟩
abbrev S4096x4096 : Shape := ⟨2, ![4096, 4096]⟩
abbrev S4x512x1024 : Shape := ⟨3, ![4, 512, 1024]⟩
abbrev S1024x1024 : Shape := ⟨2, ![1024, 1024]⟩
abbrev S2048x8x128 : Shape := ⟨3, ![2048, 8, 128]⟩
abbrev S8x2048x128 : Shape := ⟨3, ![8, 2048, 128]⟩
abbrev S512x1024 : Shape := ⟨2, ![512, 1024]⟩
abbrev S3x512x512 : Shape := ⟨3, ![3, 512, 512]⟩
abbrev S512x512 : Shape := ⟨2, ![512, 512]⟩
abbrev S512x128 : Shape := ⟨2, ![512, 128]⟩
abbrev S1x512x512 : Shape := ⟨3, ![1, 512, 512]⟩
abbrev S1x512x128 : Shape := ⟨3, ![1, 512, 128]⟩
abbrev S512 : Shape := ⟨1, ![512]⟩
abbrev S512x1 : Shape := ⟨2, ![512, 1]⟩
abbrev S1x512x1024 : Shape := ⟨3, ![1, 512, 1024]⟩

abbrev nBuf : Space → Nat
  | .hbm => 26
  | .vmem => 40
  | .smem => 0
  | _ => 0

abbrev bufTy : (tb : Table) → Fin (tcTables nBuf tb) → BufTy
  | .hbm, ⟨0, _⟩ => ⟨S4096x1024, .f32⟩
  | .hbm, ⟨1, _⟩ => ⟨S4x4096x512, .bf16⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x128, .f32⟩
  | .hbm, ⟨6, _⟩ => ⟨S4096x128, .f32⟩
  | .hbm, ⟨7, _⟩ => ⟨S4096x128, .f32⟩
  | .hbm, ⟨8, _⟩ => ⟨S4096x6656, .f32⟩
  | .hbm, ⟨9, _⟩ => ⟨S4096x4096, .f32⟩
  | .hbm, ⟨10, _⟩ => ⟨S4x512x1024, .f32⟩
  | .hbm, ⟨11, _⟩ => ⟨S1024x1024, .f32⟩
  | .hbm, ⟨12, _⟩ => ⟨S2048x8x128, .f32⟩
  | .hbm, ⟨13, _⟩ => ⟨S8x2048x128, .f32⟩
  | .hbm, ⟨14, _⟩ => ⟨S8x2048x128, .bf16⟩
  | .hbm, ⟨15, _⟩ => ⟨S4096x512, .bf16⟩
  | .hbm, ⟨16, _⟩ => ⟨S4096x512, .bf16⟩
  | .hbm, ⟨17, _⟩ => ⟨S4096x512, .bf16⟩
  | .hbm, ⟨18, _⟩ => ⟨S4096x6656, .bf16⟩
  | .hbm, ⟨19, _⟩ => ⟨S4096x4096, .bf16⟩
  | .hbm, ⟨20, _⟩ => ⟨S1024x1024, .bf16⟩
  | .hbm, ⟨21, _⟩ => ⟨S4096x1024, .f32⟩
  | .hbm, ⟨22, _⟩ => ⟨S4x4096x512, .bf16⟩
  | .hbm, ⟨23, _⟩ => ⟨S4096x512, .bf16⟩
  | .hbm, ⟨24, _⟩ => ⟨S4096x128, .f32⟩
  | .hbm, ⟨25, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S3x512x512, .bf16⟩
  | .local _ .vmem, ⟨3, _⟩ => ⟨S3x512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x512, .bf16⟩
  | .local _ .vmem, ⟨17, _⟩ => ⟨S512x512, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S8x2048x128, .bf16⟩
  | .local _ .vmem, ⟨27, _⟩ => ⟨S1024x1024, .bf16⟩
  | .local _ .vmem, ⟨28, _⟩ => ⟨S512x1024, .f32⟩
  | .local _ .vmem, ⟨29, _⟩ => ⟨S512x1024, .f32⟩
  | .local _ .vmem, ⟨30, _⟩ => ⟨S1x512x512, .bf16⟩
  | .local _ .vmem, ⟨31, _⟩ => ⟨S1x512x512, .bf16⟩
  | .local _ .vmem, ⟨32, _⟩ => ⟨S512x512, .bf16⟩
  | .local _ .vmem, ⟨33, _⟩ => ⟨S512x512, .bf16⟩
  | .local _ .vmem, ⟨34, _⟩ => ⟨S512x128, .f32⟩
  | .local _ .vmem, ⟨35, _⟩ => ⟨S512x128, .f32⟩
  | .local _ .vmem, ⟨36, _⟩ => ⟨S512x1024, .bf16⟩
  | .local _ .vmem, ⟨37, _⟩ => ⟨S512x1024, .bf16⟩
  | .local _ .vmem, ⟨38, _⟩ => ⟨S512x512, .f32⟩
  | .local _ .vmem, ⟨39, _⟩ => ⟨S4x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_scratch0 : Ref sig .tc := ⟨.vmem, 38, rfl⟩
abbrev cc0_scratch1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_11 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_12 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x2048x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference6Ideal.lean ====
abbrev S4096x1024 : Shape := ⟨2, ![4096, 1024]⟩
abbrev S4x4096x512 : Shape := ⟨3, ![4, 4096, 512]⟩
abbrev S4096x512 : Shape := ⟨2, ![4096, 512]⟩
abbrev S4096x128 : Shape := ⟨2, ![4096, 128]⟩
abbrev S4096x6656 : Shape := ⟨2, ![4096, 6656]⟩
abbrev S4096x4096 : Shape := ⟨2, ![4096, 4096]⟩
abbrev S4x512x1024 : Shape := ⟨3, ![4, 512, 1024]⟩
abbrev S1024x1024 : Shape := ⟨2, ![1024, 1024]⟩
abbrev S4096x4 : Shape := ⟨2, ![4096, 4]⟩
abbrev S4096x4x1 : Shape := ⟨3, ![4096, 4, 1]⟩
abbrev S4096x4x128 : Shape := ⟨3, ![4096, 4, 128]⟩
abbrev S_ : Shape := ⟨0, ![]⟩
abbrev S4096x4x1024 : Shape := ⟨3, ![4096, 4, 1024]⟩
abbrev S4096x1x1024 : Shape := ⟨3, ![4096, 1, 1024]⟩
abbrev S1x4096x512 : Shape := ⟨3, ![1, 4096, 512]⟩
abbrev S1x512x1024 : Shape := ⟨3, ![1, 512, 1024]⟩
abbrev S512x1024 : Shape := ⟨2, ![512, 1024]⟩
abbrev S3x4096x512 : Shape := ⟨3, ![3, 4096, 512]⟩

abbrev nBuf : Space → Nat
  | .hbm => 106
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x4096x512, .bf16⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x128, .f32⟩
  | .hbm, ⟨6, _⟩ => ⟨S4096x128, .f32⟩
  | .hbm, ⟨7, _⟩ => ⟨S4096x128, .f32⟩
  | .hbm, ⟨8, _⟩ => ⟨S4096x6656, .f32⟩
  | .hbm, ⟨9, _⟩ => ⟨S4096x4096, .f32⟩
  | .hbm, ⟨10, _⟩ => ⟨S4x512x1024, .f32⟩
  | .hbm, ⟨11, _⟩ => ⟨S1024x1024, .f32⟩
  | .hbm, ⟨12, _⟩ => ⟨S4096x4, .f32⟩
  | .hbm, ⟨13, _⟩ => ⟨S4096x4, .f32⟩
  | .hbm, ⟨14, _⟩ => ⟨S4096x4, .f32⟩
  | .hbm, ⟨15, _⟩ => ⟨S4096x4, .f32⟩
  | .hbm, ⟨16, _⟩ => ⟨S4096x4, .f32⟩
  | .hbm, ⟨17, _⟩ => ⟨S4096x4, .f32⟩
  | .hbm, ⟨18, _⟩ => ⟨S4096x4, .f32⟩
  | .hbm, ⟨19, _⟩ => ⟨S4096x4, .f32⟩
  | .hbm, ⟨20, _⟩ => ⟨S4096x4, .f32⟩
  | .hbm, ⟨21, _⟩ => ⟨S4096x4x1, .f32⟩
  | .hbm, ⟨22, _⟩ => ⟨S4096x4x128, .f32⟩
  | .hbm, ⟨23, _⟩ => ⟨S4096x4x128, .f32⟩
  | .hbm, ⟨24, _⟩ => ⟨S4096x4x128, .f32⟩
  | .hbm, ⟨25, _⟩ => ⟨S4096x4, .f32⟩
  | .hbm, ⟨26, _⟩ => ⟨S4096x4x1, .f32⟩
  | .hbm, ⟨27, _⟩ => ⟨S4096x4x128, .f32⟩
  | .hbm, ⟨28, _⟩ => ⟨S4096x4x128, .f32⟩
  | .hbm, ⟨29, _⟩ => ⟨S4096x4x128, .f32⟩
  | .hbm, ⟨30, _⟩ => ⟨S4096x4x128, .f32⟩
  | .hbm, ⟨31, _⟩ => ⟨S4096x4, .f32⟩
  | .hbm, ⟨32, _⟩ => ⟨S4096x4x1, .f32⟩
  | .hbm, ⟨33, _⟩ => ⟨S4096x4x128, .f32⟩
  | .hbm, ⟨34, _⟩ => ⟨S4096x4x128, .f32⟩
  | .hbm, ⟨35, _⟩ => ⟨S4096x4x128, .f32⟩
  | .hbm, ⟨36, _⟩ => ⟨S4096x4x128, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x4x1024, .f32⟩
  | .hbm, ⟨50, _⟩ => ⟨S4096x4x1024, .f32⟩
  | .hbm, ⟨51, _⟩ => ⟨S4096x4x1024, .f32⟩
  | .hbm, ⟨52, _⟩ => ⟨S_, .f32⟩
  | .hbm, ⟨53, _⟩ => ⟨S4096x4x1024, .f32⟩
  | .hbm, ⟨54, _⟩ => ⟨S4096x4x1024, .f32⟩
  | .hbm, ⟨55, _⟩ => ⟨S_, .f32⟩
  | .hbm, ⟨56, _⟩ => ⟨S4096x4x1024, .f32⟩
  | .hbm, ⟨57, _⟩ => ⟨S4096x4x1024, .f32⟩
  | .hbm, ⟨58, _⟩ => ⟨S4096x1x1024, .f32⟩
  | .hbm, ⟨59, _⟩ => ⟨S4096x1024, .f32⟩
  | .hbm, ⟨60, _⟩ => ⟨S1x4096x512, .bf16⟩
  | .hbm, ⟨61, _⟩ => ⟨S4096x512, .bf16⟩
  | .hbm, ⟨62, _⟩ => ⟨S4096x512, .f32⟩
  | .hbm, ⟨63, _⟩ => ⟨S1x512x1024, .f32⟩
  | .hbm, ⟨64, _⟩ => ⟨S512x1024, .f32⟩
  | .hbm, ⟨65, _⟩ => ⟨S4096x1024, .f32⟩
  | .hbm, ⟨66, _⟩ => ⟨S4096x1024, .f32⟩
  | .hbm, ⟨67, _⟩ => ⟨S4096x1x1024, .f32⟩
  | .hbm, ⟨68, _⟩ => ⟨S4096x1024, .f32⟩
  | .hbm, ⟨69, _⟩ => ⟨S1x4096x512, .bf16⟩
  | .hbm, ⟨70, _⟩ => ⟨S4096x512, .bf16⟩
  | .hbm, ⟨71, _⟩ => ⟨S4096x512, .f32⟩
  | .hbm, ⟨72, _⟩ => ⟨S1x512x1024, .f32⟩
  | .hbm, ⟨73, _⟩ => ⟨S512x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1x1024, .f32⟩
  | .hbm, ⟨78, _⟩ => ⟨S4096x1024, .f32⟩
  | .hbm, ⟨79, _⟩ => ⟨S1x512x1024, .f32⟩
  | .hbm, ⟨80, _⟩ => ⟨S512x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1x1024, .f32⟩
  | .hbm, ⟨85, _⟩ => ⟨S4096x1024, .f32⟩
  | .hbm, ⟨86, _⟩ => ⟨S1x4096x512, .bf16⟩
  | .hbm, ⟨87, _⟩ => ⟨S4096x512, .bf16⟩
  | .hbm, ⟨88, _⟩ => ⟨S4096x512, .f32⟩
  | .hbm, ⟨89, _⟩ => ⟨S1x512x1024, .f32⟩
  | .hbm, ⟨90, _⟩ => ⟨S512x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S3x4096x512, .bf16⟩
  | .hbm, ⟨97, _⟩ => ⟨S4096x512, .bf16⟩
  | .hbm, ⟨98, _⟩ => ⟨S1x4096x512, .bf16⟩
  | .hbm, ⟨99, _⟩ => ⟨S4x4096x512, .bf16⟩
  | .hbm, ⟨100, _⟩ => ⟨S4096x512, .bf16⟩
  | .hbm, ⟨101, _⟩ => ⟨S4096x4, .f32⟩
  | .hbm, ⟨102, _⟩ => ⟨S_, .i32⟩
  | .hbm, ⟨103, _⟩ => ⟨S_, .f32⟩
  | .hbm, ⟨104, _⟩ => ⟨S4096x128, .f32⟩
  | .hbm, ⟨105, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_v32 : Ref sig .tc := ⟨.hbm, 53, rfl⟩
abbrev main_v33 : Ref sig .tc := ⟨.hbm, 54, rfl⟩
abbrev main_cst_0 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_c : Ref sig .tc := ⟨.hbm, 102, rfl⟩
abbrev main_call1_v0 : Ref sig .tc := ⟨.hbm, 103, rfl⟩
abbrev main_v80 : Ref sig .tc := ⟨.hbm, 104, rfl⟩
abbrev main_v81 : Ref sig .tc := ⟨.hbm, 105, rfl⟩

abbrev nD : Nat := 1
abbrev τ : Topo := Topo.v7x

variable {F : FTy → Type} [FloatOps F]
-- ==== Proof.Spec.lean ====
/-
  The mathematics of the end of a layer, backwards, as plain sums over the extended reals: what the kernel's seven results
  and the reference's seven results are both shown to hold.

  `In R` is the data of the rows `R`; `dz`, `gate`, `mix`, `dt`, `dyb`, … are the derivative's terms, row by row, and
  `dwb` and `dwo`, the gradients of the two weights, are sums over the rows. Here too: the sigmoid written with a hyperbolic
  tangent is the logistic function on all of the extended reals, the derivative of SiLU in its two forms agrees when the
  incoming factor is finite, and a sum over 4096 rows is the sum over 16 blocks of 256.
-/
module

public import Idealize.ShloMosaic.PureOps.Ideal
public import Idealize.ShloMosaic.PureOps.Ideal.Laws

@[expose] public section

noncomputable section

namespace Cert.MergeBwd

open Idealize.ShloMosaic
open scoped BigOperators

/-! ## The derivative, as sums -/

/-- The data of the rows `R`: the incoming gradient `dx`, the four branch outputs `y` (the third is the attention output
    through its gate), the attention output `oc`, the merged activation `z`, the attention gate's input `cg`, the merge gates'
    inputs `g`, and the two weights. -/
structure In (R : Type) where
  dx : R → Fin 1024 → EReal
  y : R → Fin 4 → Fin 512 → EReal
  oc : R → Fin 512 → EReal
  z : R → Fin 1024 → EReal
  cg : R → Fin 512 → EReal
  g : R → Fin 4 → Fin 1024 → EReal
  w : Fin 4 → Fin 512 → Fin 1024 → EReal
  wo : Fin 1024 → Fin 1024 → EReal

namespace In

variable {R R' : Type} (I : In R)

/-- The data of some of the rows. -/
def rows (f : R' → R) : In R' where
  dx r := I.dx (f r)
  y r := I.y (f r)
  oc r := I.oc (f r)
  z r := I.z (f r)
  cg r := I.cg (f r)
  g r := I.g (f r)
  w := I.w
  wo := I.wo

/-- The gradient of the merged activation. -/
def dz (r : R) (j : Fin 1024) : EReal := ∑ k : Fin 1024, I.dx r k * I.wo j k

/-- The merge gates. -/
def gate (r : R) (b : Fin 4) (j : Fin 1024) : EReal := Ideal.logistic (I.g r b j)

/-- A branch projected to the model's width. -/
def mix (r : R) (b : Fin 4) (j : Fin 1024) : EReal := ∑ i : Fin 512, I.y r b i * I.w b i j

/-- The gradient of a projected branch. -/
def dt (r : R) (b : Fin 4) (j : Fin 1024) : EReal := I.dz r j * I.gate r b j

/-- The gradient of a branch. -/
def dyb (r : R) (b : Fin 4) (i : Fin 512) : EReal := ∑ j : Fin 1024, I.dt r b j * I.w b i j

/-- The gradient of the attention output. -/
def doc (r : R) (i : Fin 512) : EReal := I.dyb r 2 i * (I.cg r i * Ideal.logistic (I.cg r i))

/-- Attention gradient times attention output. -/
def prod (r : R) (i : Fin 512) : EReal := I.doc r i * I.oc r i

/-- Column `d` of head `h` among the 512 columns of the four heads. -/
def headCol (h : Fin 4) (d : Fin 128) : Fin 512 := ⟨128 * h.val + d.val, by have := h.isLt; have := d.isLt; omega⟩

/-- The row sums of attention gradient times attention output, one per head, in the first four of 128 lanes. -/
def delta (r : R) (l : Fin 128) : EReal :=
  if h : l.val < 4 then ∑ d : Fin 128, I.prod r (headCol ⟨l.val, h⟩ d) else 0

/-- The gradient of the attention gate's input. -/
def dcg (r : R) (i : Fin 512) : EReal :=
  I.dyb r 2 i * I.oc r i * (Ideal.logistic (I.cg r i) * (1 + I.cg r i * (1 - Ideal.logistic (I.cg r i))))

/-- The gradient of the merge gates' inputs. -/
def dgm (r : R) (b : Fin 4) (j : Fin 1024) : EReal :=
  I.dz r j * I.mix r b j * I.gate r b j * (1 - I.gate r b j)

/-- The gradient of the branch weights. -/
def dwb [Fintype R] (b : Fin 4) (i : Fin 512) (j : Fin 1024) : EReal := ∑ r : R, I.y r b i * I.dt r b j

/-- The gradient of the output weight. -/
def dwo [Fintype R] (i j : Fin 1024) : EReal := ∑ r : R, I.z r i * I.dx r j

end In

/-! ## Sigmoid and SiLU on the extended reals -/

theorem half_eq : Ideal.ofBits .f32 0x3F000000#32 = ((1 / 2 : ℝ) : EReal) := by
  simp [Ideal.ofBits, Ideal.ieee, -EReal.coe_mul]; norm_num

theorem one_eq : Ideal.ofBits .f32 0x3F800000#32 = 1 := by
  simp [Ideal.ofBits, Ideal.ieee, -EReal.coe_mul]; norm_num

/-- One half of (1 + tanh of half the argument) is the logistic function. -/
theorem sigmoid_eq (x : EReal) :
    Ideal.ofBits .f32 0x3F000000#32 * Ideal.tanh (Ideal.ofBits .f32 0x3F000000#32 * x) + Ideal.ofBits .f32 0x3F000000#32
      = Ideal.logistic x := by
  rw [half_eq]
  have h0 : (0 : ℝ) < 1 / 2 := by norm_num
  induction x using EReal.rec with
  | bot =>
    rw [EReal.coe_mul_bot_of_pos h0]
    simp only [Ideal.tanh_bot, Ideal.logistic_bot]
    rw [show (-1 : EReal) = ((-1 : ℝ) : EReal) by norm_num, ← EReal.coe_mul, ← EReal.coe_add]
    norm_num
  | top =>
    rw [EReal.coe_mul_top_of_pos h0]
    simp only [Ideal.tanh_top, Ideal.logistic_top]
    rw [show (1 : EReal) = ((1 : ℝ) : EReal) by norm_num, ← EReal.coe_mul, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    have p1 := Real.exp_pos (1 / 2 * r)
    have p2 := Real.exp_pos (-(1 / 2 * r))
    rw [e1]
    generalize Real.exp (1 / 2 * r) = a at *
    generalize Real.exp (-(1 / 2 * r)) = b at *
    have hb : a = b⁻¹ := eq_inv_of_mul_eq_one_left e2
    subst hb
    have : (1 + b * b) ≠ 0 := by positivity
    field_simp
    ring

/-- A finite extended real is a real number. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih =>
    rw [Finset.sum_insert ha]
    obtain ⟨u, hu⟩ := h a; obtain ⟨v, hv⟩ := ih
    exact ⟨u + v, by rw [hu, hv, EReal.coe_add]⟩

theorem isReal_logistic (x : EReal) : IsReal (Ideal.logistic x) := by
  induction x using EReal.rec with
  | bot => exact ⟨0, by simp⟩
  | top => exact ⟨1, by simp⟩
  | coe r => exact ⟨_, Ideal.logistic_coe r⟩

theorem isReal_of_abs_lt {x : EReal} (h : max x (-x) < ⊤) : IsReal x := by
  induction x using EReal.rec with
  | bot => simp at h
  | top => simp at h
  | coe r => exact ⟨r, rfl⟩

/-- The two forms of SiLU's derivative, times a finite factor. -/
theorem silu_grad_eq (ct x : EReal) (h : IsReal ct) :
    ct * (Ideal.logistic x * (1 + x * (1 - Ideal.logistic x)))
      = ct * Ideal.logistic x + x * ct * (Ideal.logistic x * (1 - Ideal.logistic x)) := by
  obtain ⟨c, rfl⟩ := h
  induction x using EReal.rec with
  | bot => simp
  | top =>
    rw [Ideal.logistic_top, show (1 : EReal) - 1 = 0 by rw [← EReal.coe_one, ← EReal.coe_sub, sub_self, EReal.coe_zero]]
    simp
  | coe r =>
    rw [Ideal.logistic_coe, ← EReal.coe_one]
    simp only [← EReal.coe_sub, ← EReal.coe_mul, ← EReal.coe_add]
    congr 1
    ring

namespace In

variable {R : Type} (I : In R)

/-- The attention branch's gradient times the attention output is finite when what it is made of is. -/
theorem isReal_ct (h1 : ∀ r k, IsReal (I.dx r k)) (h2 : ∀ j k, IsReal (I.wo j k)) (h3 : ∀ i j, IsReal (I.w 2 i j))
    (h4 : ∀ r i, IsReal (I.oc r i)) (r : R) (i : Fin 512) : IsReal (I.dyb r 2 i * I.oc r i) :=
  (IsReal.sum _ _ fun j => ((IsReal.sum _ _ fun k => (h1 r k).mul (h2 j k)).mul (isReal_logistic _)).mul (h3 i j)).mul (h4 r i)

end In

/-! ## Rows in blocks -/

/-- Row `r` of block `t` among 4096 rows. -/
def row (t : Fin 16) (r : Fin 256) : Fin 4096 := ⟨256 * t.val + r.val, by have := t.isLt; have := r.isLt; omega⟩

/-- A sum over 4096 rows, block by block. -/
theorem sum_rows (f : Fin 4096 → EReal) : ∑ s : Fin 4096, f s = ∑ t : Fin 16, ∑ r : Fin 256, f (row t r) := by
  rw [← Fintype.sum_prod_type']
  refine (Fintype.sum_equiv (finProdFinEquiv (m := 16) (n := 256)) _ _ fun p => ?_).symm
  congr 1
  apply Fin.ext
  show 256 * p.1.val + p.2.val = p.2.val + 256 * p.1.val
  omega

end Cert.MergeBwd

end
-- ==== Proof.Masks.lean ====
/-
  What the precondition and the mask say, element by element: the four arguments the precondition names are real numbers, and
  the mask of the fourth result keeps columns 5120 to 5631.
-/
module

public import proofs.«01_k».proof.Defs
public import proofs.«01_k».proof.Proof.Gen.On_written
public import proofs.«01_k».proof.Proof.Gen.Pre_finite
public import Idealize.ShloMosaic.Lib.ValueIdx
public import Idealize.ShloMosaic.Lib.Pointwise
public import proofs.«01_k».proof.Proof.Spec

@[expose] public section

noncomputable section

namespace Cert.MergeBwd

open Idealize.ShloMosaic Idealize.ShloMosaic.TcCoe Idealize.ShloMosaic.Tactic
open Cert.KernelIdeal

theorem inf_eq : Ideal.ofBits .f32 0x7F800000#32 = ⊤ := by
  simp [Ideal.ofBits, Ideal.ieee]

/-- A number whose magnitude compares below infinity is real. -/
theorem isReal_of_test {x : EReal}
    (h : BitVec.ofBool (decide (FloatOps.absf (F := Ideal) (φ := .f32) x < Ideal.ofBits .f32 0x7F800000#32)) = 1#1) : IsReal x := by
  rw [inf_eq] at h
  refine isReal_of_abs_lt ?_
  by_contra hc
  have h' : ¬ (FloatOps.absf (F := Ideal) (φ := .f32) x < (⊤ : EReal)) := hc
  rw [decide_eq_false h'] at h
  exact absurd h (by decide)

section

variable (x0 : FVec Ideal S4096x1024 .f32) (x1 x2 x3 x4 : FVec Ideal S4096x512 .f32) (x5 : FVec Ideal S4096x6656 .f32)
  (x6 : FVec Ideal S4096x4096 .f32) (x7 : FVec Ideal S4x512x1024 .f32) (x8 : FVec Ideal S1024x1024 .f32)

theorem real_dx (h : (Cert.Pre_finite.fn (F := Ideal) x0 x1 x2 x3 x4 x5 x6 x7 x8).1 = fun _ => 1#1) (R : Fin 4096) (k : Fin 1024) :
    IsReal (x0 (ix2 R k)) := by
  have h := congrFun h (ix2 R k)
  unfold Cert.Pre_finite.fn at h
  dsimp only at h
  pointwise at h
  exact isReal_of_test h

theorem real_wo (h : (Cert.Pre_finite.fn (F := Ideal) x0 x1 x2 x3 x4 x5 x6 x7 x8).2.1 = fun _ => 1#1) (j k : Fin 1024) :
    IsReal (x8 (ix2 j k)) := by
  have h := congrFun h (ix2 j k)
  unfold Cert.Pre_finite.fn at h
  dsimp only at h
  pointwise at h
  exact isReal_of_test h

theorem real_w (h : (Cert.Pre_finite.fn (F := Ideal) x0 x1 x2 x3 x4 x5 x6 x7 x8).2.2.1 = fun _ => 1#1) (i : Fin 512) (j : Fin 1024) :
    IsReal (x7 (ix3 2 i j)) := by
  have h := congrFun h (ix2 i j)
  unfold Cert.Pre_finite.fn at h
  dsimp only at h
  pointwise at h
  exact isReal_of_test h

theorem real_oc (h : (Cert.Pre_finite.fn (F := Ideal) x0 x1 x2 x3 x4 x5 x6 x7 x8).2.2.2 = fun _ => 1#1) (R : Fin 4096) (i : Fin 512) :
    IsReal (x4 (ix2 R i)) := by
  have h := congrFun h (ix2 R i)
  unfold Cert.Pre_finite.fn at h
  dsimp only at h
  pointwise at h
  exact isReal_of_test h

/-- A number below 2^31 read from 32 bits with a sign. -/
theorem toInt_small {n : ℕ} (h : n < 2147483648) : (BitVec.ofNat 32 n).toInt = n := by
  rw [BitVec.toInt_eq_toNat_of_lt (by rw [BitVec.toNat_ofNat]; omega), BitVec.toNat_ofNat]
  omega

/-- Where the mask of the fourth result is set, the column is one of the attention gate's. -/
theorem mask_cols (R : Fin 4096) (q : Fin 6656)
    (h : (Cert.On_written.fn (F := Ideal) x0 x1 x2 x3 x4 x5 x6 x7 x8).2.2.2.1 (ix2 R q) = 1#1) : 5120 ≤ q.val ∧ q.val < 5632 := by
  unfold Cert.On_written.fn at h
  dsimp only [Cert.On_written.fn_part1] at h
  pointwise at h
  have hq := q.isLt
  have e : (BitVec.ofNat 32 q.val).toInt = q.val := toInt_small (by omega)
  have e1 : (5120#32 : BitVec 32).toInt = 5120 := by decide
  have e2 : (5632#32 : BitVec 32).toInt = 5632 := by decide
  simp only [IntOp.andi, IntOp.cmpi, BitVec.sle, BitVec.slt, e, e1, e2] at h
  by_contra hc
  rcases Nat.lt_or_ge q.val 5120 with h1 | h1
  · rw [decide_eq_false (by omega : ¬ ((5120 : ℤ) ≤ q.val))] at h
    revert h
    cases decide ((q.val : ℤ) < 5632) <;> decide
  · have h2 : ¬ ((q.val : ℤ) < 5632) := by omega
    rw [decide_eq_false h2] at h
    revert h
    cases decide ((5120 : ℤ) ≤ q.val) <;> decide

end

end Cert.MergeBwd

end
-- ==== Proof.Pay.lean ====
/-
  The kernel body's stored vectors, read one element at a time: each is the term of the derivative that `Spec` names.
-/
module

public import proofs.«01_k».proof.Proof.Gen.KernelIdeal.Skeleton
public import Idealize.ShloMosaic.Lib.ValueIdx
public import Idealize.ShloMosaic.Lib.Pointwise
public import Idealize.ShloMosaic.Lib.Pipeline.Value
public import Idealize.ShloMosaic.Lib.Pipeline.ValueKit
public import proofs.«01_k».proof.Proof.Spec

@[expose] public section

set_option maxRecDepth 16384

noncomputable section

namespace Cert.KernelIdeal.Gen

open Idealize.ShloMosaic Idealize.ShloMosaic.TcCoe Idealize.ShloMosaic.Tactic
open Cert.KernelIdeal
/-! ## The body's arithmetic, read at one place

Each lemma gives the value at one row and column of one stored (or carried) vector of the kernel's body, over the extended
reals, where the conversions between the float formats change nothing. `I` is the data the vectors hold. -/

open Cert.MergeBwd

variable (I : In (Fin 256)) (b : Fin 4)

/-- The gradient of the merged activation, from the incoming gradient and the output weight. -/
theorem pay56_apply {v3 : Vec Ideal S256x1024 .f32} {v13 : Vec Ideal S1024x1024 .bf16}
    (hdx : ∀ r k, v3 (ix2 r k) = I.dx r k) (hwo : ∀ j k, v13 (ix2 j k) = I.wo j k) (r : Fin 256) (j : Fin 1024) :
    k0_pay56 v3 v13 (ix2 r j) = I.dz r j := by
  unfold k0_pay56 k0_pay54
  simp only [pointwise, shapeCast_self, zero_add, hdx, hwo, In.dz]

/-- The output weight's gradient gains the products of the merged activation and the incoming gradient. -/
theorem pay55_apply {v3 : Vec Ideal S256x1024 .f32} {v5 : Vec Ideal S1024x1024 .f32} {v6 : Vec Ideal S256x1024 .bf16}
    (hdx : ∀ r k, v3 (ix2 r k) = I.dx r k) (hz : ∀ r k, v6 (ix2 r k) = I.z r k) (i j : Fin 1024) :
    k0_pay55 v3 v5 v6 (ix2 i j) = v5 (ix2 i j) + I.dwo i j := by
  unfold k0_pay55 k0_pay54
  simp only [pointwise, shapeCast_self, zero_add, hdx, hz, In.dwo]

theorem zero_apply₃ (i : Fin 4) (j : Fin 512) (k : Fin 1024) : k0_pay9 (F := Ideal) (ix3 i j k) = 0 := by
  unfold k0_pay9
  simp only [pointwise, shapeCast_self]

theorem zero_apply₂ (i j : Fin 1024) : k0_pay10 (F := Ideal) (ix2 i j) = 0 := by
  unfold k0_pay10
  simp only [pointwise, shapeCast_self]

/-- The first branch's gate. -/
theorem pay57_apply {v : Vec Ideal S256x1024 .bf16} (hg : ∀ r j, v (ix2 r j) = I.g r b j) (r : Fin 256) (j : Fin 1024) :
    k0_pay57 v (ix2 r j) = I.gate r b j := by
  unfold k0_pay57
  simp only [pointwise, shapeCast_self, sigmoid_eq, hg, In.gate]

/-- The second branch's gate. -/
theorem pay64_apply {v : Vec Ideal S256x1024 .bf16} (hg : ∀ r j, v (ix2 r j) = I.g r b j) (r : Fin 256) (j : Fin 1024) :
    k0_pay64 v (ix2 r j) = I.gate r b j := by
  unfold k0_pay64
  simp only [pointwise, shapeCast_self, sigmoid_eq, hg, In.gate]

/-- The third branch's gate. -/
theorem pay72_apply {v : Vec Ideal S256x1024 .bf16} (hg : ∀ r j, v (ix2 r j) = I.g r b j) (r : Fin 256) (j : Fin 1024) :
    k0_pay72 (k0_pay70 v) k0_pay71 (ix2 r j) = I.gate r b j := by
  unfold k0_pay72 k0_pay70 k0_pay71
  simp only [pointwise, shapeCast_self, sigmoid_eq, hg, In.gate]

/-- The fourth branch's gate. -/
theorem pay92_apply {v : Vec Ideal S256x1024 .bf16} (hg : ∀ r j, v (ix2 r j) = I.g r b j) (r : Fin 256) (j : Fin 1024) :
    k0_pay92 v (ix2 r j) = I.gate r b j := by
  unfold k0_pay92
  simp only [pointwise, shapeCast_self, sigmoid_eq, hg, In.gate]

/-- The gradient of a merge gate's input. -/
theorem pay60_apply {d : FVec Ideal S256x1024 .f32} {g : FVec Ideal S256x1024 .f32} {y : Vec Ideal S1x256x512 .bf16}
    {w : Vec Ideal S1x512x1024 .bf16} (hdz : ∀ r j, d (ix2 r j) = I.dz r j) (hg : ∀ r j, g (ix2 r j) = I.gate r b j) (hy : ∀ r i, y (ix3 0 r i) = I.y r b i)
    (hw : ∀ i j, w (ix3 0 i j) = I.w b i j) (r : Fin 256) (j : Fin 1024) : k0_pay60 d g (k0_pay59 y w) (ix2 r j) = I.dgm r b j := by
  unfold k0_pay60 k0_pay59 k0_pay58
  simp only [pointwise, shapeCast_self, zero_add, one_eq, hg, hdz, hy, hw, In.dgm, In.mix]

/-- The gradient of a merge gate's input. -/
theorem pay66_apply {d : FVec Ideal S256x1024 .f32} {g : FVec Ideal S256x1024 .f32} {y : Vec Ideal S1x256x512 .bf16}
    {w : Vec Ideal S1x512x1024 .bf16} (hdz : ∀ r j, d (ix2 r j) = I.dz r j) (hg : ∀ r j, g (ix2 r j) = I.gate r b j) (hy : ∀ r i, y (ix3 0 r i) = I.y r b i)
    (hw : ∀ i j, w (ix3 0 i j) = I.w b i j) (r : Fin 256) (j : Fin 1024) : k0_pay66 d g y w (ix2 r j) = I.dgm r b j := by
  unfold k0_pay66 k0_pay65
  simp only [pointwise, shapeCast_self, zero_add, one_eq, hg, hdz, hy, hw, In.dgm, In.mix]

/-- The gradient of a merge gate's input. -/
theorem pay74_apply {d : FVec Ideal S256x1024 .f32} {v : Vec Ideal S256x1024 .bf16} {y : Vec Ideal S1x256x512 .bf16}
    {w : Vec Ideal S1x512x1024 .bf16} (hdz : ∀ r j, d (ix2 r j) = I.dz r j) (hg : ∀ r j, v (ix2 r j) = I.g r b j) (hy : ∀ r i, y (ix3 0 r i) = I.y r b i)
    (hw : ∀ i j, w (ix3 0 i j) = I.w b i j) (r : Fin 256) (j : Fin 1024) : k0_pay74 d (k0_pay70 v) k0_pay71 y w (ix2 r j) = I.dgm r b j := by
  unfold k0_pay74 k0_pay73
  simp only [pointwise, shapeCast_self, zero_add, one_eq, pay72_apply I b hg, hdz, hy, hw, In.dgm, In.mix]

/-- The gradient of a merge gate's input. -/
theorem pay94_apply {d : FVec Ideal S256x1024 .f32} {v : Vec Ideal S256x1024 .bf16} {y : Vec Ideal S1x256x512 .bf16}
    {w : Vec Ideal S1x512x1024 .bf16} (hdz : ∀ r j, d (ix2 r j) = I.dz r j) (hg : ∀ r j, v (ix2 r j) = I.g r b j) (hy : ∀ r i, y (ix3 0 r i) = I.y r b i)
    (hw : ∀ i j, w (ix3 0 i j) = I.w b i j) (r : Fin 256) (j : Fin 1024) : k0_pay94 d v y w (ix2 r j) = I.dgm r b j := by
  unfold k0_pay94 k0_pay93
  simp only [pointwise, shapeCast_self, zero_add, one_eq, pay92_apply I b hg, hdz, hy, hw, In.dgm, In.mix]

/-- A branch weight's gradient gains the products of the branch and its gradient. -/
theorem pay62_apply {d : FVec Ideal S256x1024 .f32} {g : FVec Ideal S256x1024 .f32} {y : Vec Ideal S1x256x512 .bf16}
    {a : Vec Ideal S1x512x1024 .f32} (hdz : ∀ r j, d (ix2 r j) = I.dz r j) (hg : ∀ r j, g (ix2 r j) = I.gate r b j) (hy : ∀ r i, y (ix3 0 r i) = I.y r b i)
    (i : Fin 512) (j : Fin 1024) : k0_pay62 d g (k0_pay58 y) a (ix3 0 i j) = a (ix3 0 i j) + I.dwb b i j := by
  unfold k0_pay62 k0_pay58 k0_pay61
  simp only [pointwise, shapeCast_self, zero_add, hg, hdz, hy, In.dwb, In.dt]

/-- A branch weight's gradient gains the products of the branch and its gradient. -/
theorem pay68_apply {d : FVec Ideal S256x1024 .f32} {g : FVec Ideal S256x1024 .f32} {y : Vec Ideal S1x256x512 .bf16}
    {a : Vec Ideal S1x512x1024 .f32} (hdz : ∀ r j, d (ix2 r j) = I.dz r j) (hg : ∀ r j, g (ix2 r j) = I.gate r b j) (hy : ∀ r i, y (ix3 0 r i) = I.y r b i)
    (i : Fin 512) (j : Fin 1024) : k0_pay68 d g y a (ix3 0 i j) = a (ix3 0 i j) + I.dwb b i j := by
  unfold k0_pay68 k0_pay65 k0_pay67
  simp only [pointwise, shapeCast_self, zero_add, hg, hdz, hy, In.dwb, In.dt]

/-- A branch weight's gradient gains the products of the branch and its gradient. -/
theorem pay76_apply {d : FVec Ideal S256x1024 .f32} {v : Vec Ideal S256x1024 .bf16} {y : Vec Ideal S1x256x512 .bf16}
    {a : Vec Ideal S1x512x1024 .f32} (hdz : ∀ r j, d (ix2 r j) = I.dz r j) (hg : ∀ r j, v (ix2 r j) = I.g r b j) (hy : ∀ r i, y (ix3 0 r i) = I.y r b i)
    (i : Fin 512) (j : Fin 1024) : k0_pay76 d (k0_pay70 v) k0_pay71 y a (ix3 0 i j) = a (ix3 0 i j) + I.dwb b i j := by
  unfold k0_pay76 k0_pay73 k0_pay75
  simp only [pointwise, shapeCast_self, zero_add, pay72_apply I b hg, hdz, hy, In.dwb, In.dt]

/-- A branch weight's gradient gains the products of the branch and its gradient. -/
theorem pay2_apply {d : FVec Ideal S256x1024 .f32} {g : FVec Ideal S256x1024 .f32} {y : Vec Ideal S1x256x512 .bf16}
    {a : Vec Ideal S1x512x1024 .f32} (hdz : ∀ r j, d (ix2 r j) = I.dz r j) (hg : ∀ r j, g (ix2 r j) = I.gate r b j) (hy : ∀ r i, y (ix3 0 r i) = I.y r b i)
    (i : Fin 512) (j : Fin 1024) : k0_pay2 d g (k0_pay93 y) a (ix3 0 i j) = a (ix3 0 i j) + I.dwb b i j := by
  unfold k0_pay2 k0_pay93 k0_pay1
  simp only [pointwise, shapeCast_self, zero_add, hg, hdz, hy, In.dwb, In.dt]

/-- The gradient of a branch. -/
theorem pay63_apply {d : FVec Ideal S256x1024 .f32} {g : FVec Ideal S256x1024 .f32} {w : Vec Ideal S1x512x1024 .bf16}
    (hdz : ∀ r j, d (ix2 r j) = I.dz r j) (hg : ∀ r j, g (ix2 r j) = I.gate r b j) (hw : ∀ i j, w (ix3 0 i j) = I.w b i j)
    (r : Fin 256) (i : Fin 512) : k0_pay63 d g w (ix3 0 r i) = I.dyb r b i := by
  unfold k0_pay63 k0_pay61
  simp only [pointwise, shapeCast_self, zero_add, hg, hdz, hw, In.dyb, In.dt]

/-- The gradient of a branch. -/
theorem pay69_apply {d : FVec Ideal S256x1024 .f32} {g : FVec Ideal S256x1024 .f32} {w : Vec Ideal S1x512x1024 .bf16}
    (hdz : ∀ r j, d (ix2 r j) = I.dz r j) (hg : ∀ r j, g (ix2 r j) = I.gate r b j) (hw : ∀ i j, w (ix3 0 i j) = I.w b i j)
    (r : Fin 256) (i : Fin 512) : k0_pay69 d g w (ix3 0 r i) = I.dyb r b i := by
  unfold k0_pay69 k0_pay67
  simp only [pointwise, shapeCast_self, zero_add, hg, hdz, hw, In.dyb, In.dt]

/-- The gradient of a branch. -/
theorem pay77_apply {d : FVec Ideal S256x1024 .f32} {v : Vec Ideal S256x1024 .bf16} {w : Vec Ideal S1x512x1024 .bf16}
    (hdz : ∀ r j, d (ix2 r j) = I.dz r j) (hg : ∀ r j, v (ix2 r j) = I.g r b j) (hw : ∀ i j, w (ix3 0 i j) = I.w b i j)
    (r : Fin 256) (i : Fin 512) : k0_pay77 d (k0_pay70 v) k0_pay71 w (ix2 r i) = I.dyb r b i := by
  unfold k0_pay77 k0_pay75
  simp only [pointwise, shapeCast_self, zero_add, pay72_apply I b hg, hdz, hw, In.dyb, In.dt]

/-- The gradient of a branch. -/
theorem pay3_apply {d : FVec Ideal S256x1024 .f32} {g : FVec Ideal S256x1024 .f32} {w : Vec Ideal S1x512x1024 .bf16}
    (hdz : ∀ r j, d (ix2 r j) = I.dz r j) (hg : ∀ r j, g (ix2 r j) = I.gate r b j) (hw : ∀ i j, w (ix3 0 i j) = I.w b i j)
    (r : Fin 256) (i : Fin 512) : k0_pay3 d g w (ix3 0 r i) = I.dyb r b i := by
  unfold k0_pay3 k0_pay1
  simp only [pointwise, shapeCast_self, zero_add, hg, hdz, hw, In.dyb, In.dt]

/-- The gradient of the attention output. -/
theorem pay81_apply {e : FVec Ideal S256x512 .f32} {v : Vec Ideal S256x512 .bf16}
    (he : ∀ r i, e (ix2 r i) = I.dyb r 2 i) (hcg : ∀ r i, v (ix2 r i) = I.cg r i) (r : Fin 256) (i : Fin 512) :
    k0_pay81 e (k0_pay78 v) (ix2 r i) = I.doc r i := by
  unfold k0_pay81 k0_pay80 k0_pay78
  simp only [pointwise, shapeCast_self, sigmoid_eq, he, hcg, In.doc]

theorem pay83_apply {e : FVec Ideal S256x512 .f32} {v : Vec Ideal S256x512 .bf16}
    (he : ∀ r i, e (ix2 r i) = I.dyb r 2 i) (hcg : ∀ r i, v (ix2 r i) = I.cg r i) (r : Fin 256) (i : Fin 512) :
    k0_pay83 e (k0_pay78 v) (ix2 r i) = I.doc r i := by
  unfold k0_pay83
  simp only [pointwise, pay81_apply I he hcg]

/-- The gradient of the attention gate's input. -/
theorem pay82_apply {e : FVec Ideal S256x512 .f32} {v : Vec Ideal S256x512 .bf16}
    (he : ∀ r i, e (ix2 r i) = I.dyb r 2 i) (hcg : ∀ r i, v (ix2 r i) = I.cg r i)
    {o : Vec Ideal S256x512 .bf16} (hoc : ∀ r i, o (ix2 r i) = I.oc r i) (r : Fin 256) (i : Fin 512) :
    k0_pay82 e (k0_pay78 v) o (ix2 r i) = I.dcg r i := by
  unfold k0_pay82 k0_pay80 k0_pay78 k0_pay79
  simp only [pointwise, shapeCast_self, sigmoid_eq, one_eq, he, hcg, hoc, In.dcg]

/-- The attention gradient times the attention output. -/
theorem pay84_apply {e : FVec Ideal S256x512 .f32} {v : Vec Ideal S256x512 .bf16}
    (he : ∀ r i, e (ix2 r i) = I.dyb r 2 i) (hcg : ∀ r i, v (ix2 r i) = I.cg r i)
    {o : Vec Ideal S256x512 .bf16} (hoc : ∀ r i, o (ix2 r i) = I.oc r i) (r : Fin 256) (i : Fin 512) :
    k0_pay84 e (k0_pay78 v) o (ix2 r i) = I.prod r i := by
  unfold k0_pay84 k0_pay79
  simp only [pointwise, shapeCast_self, pay81_apply I he hcg, hoc, In.prod]

/-- Its row sum over the columns of head 0. -/
theorem pay85_apply {e : FVec Ideal S256x512 .f32} {v : Vec Ideal S256x512 .bf16}
    (he : ∀ r i, e (ix2 r i) = I.dyb r 2 i) (hcg : ∀ r i, v (ix2 r i) = I.cg r i)
    {o : Vec Ideal S256x512 .bf16} (hoc : ∀ r i, o (ix2 r i) = I.oc r i) (r : Fin 256) (l : Fin 1) :
    k0_pay85 e (k0_pay78 v) o (ix2 r l) = ∑ d : Fin 128, I.prod r (In.headCol 0 d) := by
  unfold k0_pay85
  simp only [pointwise, zero_add]
  refine Finset.sum_congr rfl fun d _ => ?_
  rw [← pay84_apply I he hcg hoc]
  congr 1
  apply congrArg₂ <;> apply Fin.ext <;> simp [In.headCol]

/-- Its row sum over the columns of head 1. -/
theorem pay86_apply {e : FVec Ideal S256x512 .f32} {v : Vec Ideal S256x512 .bf16}
    (he : ∀ r i, e (ix2 r i) = I.dyb r 2 i) (hcg : ∀ r i, v (ix2 r i) = I.cg r i)
    {o : Vec Ideal S256x512 .bf16} (hoc : ∀ r i, o (ix2 r i) = I.oc r i) (r : Fin 256) (l : Fin 1) :
    k0_pay86 e (k0_pay78 v) o (ix2 r l) = ∑ d : Fin 128, I.prod r (In.headCol 1 d) := by
  unfold k0_pay86
  simp only [pointwise, zero_add]
  refine Finset.sum_congr rfl fun d _ => ?_
  rw [← pay84_apply I he hcg hoc]
  congr 1
  apply congrArg₂ <;> apply Fin.ext <;> simp [In.headCol]

/-- Its row sum over the columns of head 2. -/
theorem pay87_apply {e : FVec Ideal S256x512 .f32} {v : Vec Ideal S256x512 .bf16}
    (he : ∀ r i, e (ix2 r i) = I.dyb r 2 i) (hcg : ∀ r i, v (ix2 r i) = I.cg r i)
    {o : Vec Ideal S256x512 .bf16} (hoc : ∀ r i, o (ix2 r i) = I.oc r i) (r : Fin 256) (l : Fin 1) :
    k0_pay87 e (k0_pay78 v) o (ix2 r l) = ∑ d : Fin 128, I.prod r (In.headCol 2 d) := by
  unfold k0_pay87
  simp only [pointwise, zero_add]
  refine Finset.sum_congr rfl fun d _ => ?_
  rw [← pay84_apply I he hcg hoc]
  congr 1
  apply congrArg₂ <;> apply Fin.ext <;> simp [In.headCol]

/-- Its row sum over the columns of head 3. -/
theorem pay88_apply {e : FVec Ideal S256x512 .f32} {v : Vec Ideal S256x512 .bf16}
    (he : ∀ r i, e (ix2 r i) = I.dyb r 2 i) (hcg : ∀ r i, v (ix2 r i) = I.cg r i)
    {o : Vec Ideal S256x512 .bf16} (hoc : ∀ r i, o (ix2 r i) = I.oc r i) (r : Fin 256) (l : Fin 1) :
    k0_pay88 e (k0_pay78 v) o (ix2 r l) = ∑ d : Fin 128, I.prod r (In.headCol 3 d) := by
  unfold k0_pay88
  simp only [pointwise, zero_add]
  refine Finset.sum_congr rfl fun d _ => ?_
  rw [← pay84_apply I he hcg hoc]
  congr 1
  apply congrArg₂ <;> apply Fin.ext <;> simp [In.headCol]

/-- The four heads' row sums in the first four lanes, zeros in the others. -/
theorem pay91_apply {v156 v159 v162 v165 : FVec Ideal S256x1 .f32} (r : Fin 256) (l : Fin 128) {s : Fin 4 → EReal}
    (h0 : ∀ j, v156 (ix2 r j) = s 0) (h1 : ∀ j, v159 (ix2 r j) = s 1) (h2 : ∀ j, v162 (ix2 r j) = s 2)
    (h3 : ∀ j, v165 (ix2 r j) = s 3) :
    k0_pay91 v156 v159 v162 v165 (iota .tc S256x128 32 [1] iota_S256x128_d1_w32) k0_pay89 k0_pay90 (ix2 r l)
      = if h : l.val < 4 then s ⟨l.val, h⟩ else 0 := by
  unfold k0_pay91 k0_pay89 k0_pay90
  simp only [pointwise, shapeCast_self, h0, h1, h2, h3]
  have el : List.foldl (fun n a => n * (![256, 128] : Fin 2 → ℕ) a + (ix2 r l a).val) 0 [1] = l.val := by
    simp [List.foldl, ix2]
  have ec (k : ℕ) (hk : k < 4) :
      IntOp.cmpi CmpIPredicate.eq (BitVec.ofNat 32 l.val) (BitVec.ofNat 32 k) = if l.val = k then 1#1 else 0#1 := by
    have := l.isLt
    have e : (BitVec.ofNat 32 l.val = BitVec.ofNat 32 k) ↔ l.val = k := by
      constructor
      · intro h
        have := congrArg BitVec.toNat h
        simp only [BitVec.toNat_ofNat] at this
        omega
      · intro h; rw [h]
    by_cases h : l.val = k
    · simp [IntOp.cmpi, h]
    · have e2 : (BitVec.ofNat 32 l.val == BitVec.ofNat 32 k) = false := by simpa using fun q => h (e.1 q)
      simp [IntOp.cmpi, h, e2]
  rw [el]
  erw [ec 3 (by omega), ec 2 (by omega), ec 1 (by omega), ec 0 (by omega)]
  have hl := l.isLt
  by_cases q : l.val < 4
  · have : l.val = 0 ∨ l.val = 1 ∨ l.val = 2 ∨ l.val = 3 := by omega
    rw [dif_pos q]
    rcases this with h | h | h | h
    · simp [h, Scalar.select, h0]
    · simp [h, Scalar.select, h1]
    · simp [h, Scalar.select, h2]
    · simp [h, Scalar.select, h3]
  · rw [dif_neg q, if_neg (by omega), if_neg (by omega), if_neg (by omega), if_neg (by omega)]
    simp [Scalar.select]

end Cert.KernelIdeal.Gen

end
-- ==== Proof.Block.lean ====
/-
  Where the blocks of a grid step lie: block `t` of a row-tiled operand is rows `256 t` to `256 t + 255`, and the weights are whole.
-/
module

public import proofs.«01_k».proof.Proof.Gen.KernelIdeal.Skeleton
public import Idealize.ShloMosaic.Lib.ValueIdx
public import Idealize.ShloMosaic.Lib.Pointwise
public import Idealize.ShloMosaic.Lib.Pipeline.Value
public import Idealize.ShloMosaic.Lib.Pipeline.ValueKit
public import proofs.«01_k».proof.Proof.Pay

@[expose] public section

set_option maxRecDepth 16384

noncomputable section

namespace Cert.KernelIdeal.Gen

open Idealize.ShloMosaic Idealize.ShloMosaic.TcCoe Idealize.ShloMosaic.Tactic
open Cert.KernelIdeal
/-! ## The blocks of one grid point, as data

`blk` is the data one grid point's windows hold, with the branch weights given apart: on the first grid point the body reads
them from the copy it has just made of its own window, on the later ones from the copy the first one left in scratch. -/

open Cert.MergeBwd

/-- Where branch `b`'s rows lie among the four stacked branch outputs. -/
def ySlot : Fin 4 → Fin 4 := ![0, 1, 3, 2]

/-- Which branch the three stacked branch gradients belong to. -/
def dySlot : Fin 3 → Fin 4 := ![0, 1, 3]

/-- The data of one grid point. -/
def blk (x0 : Vec Ideal S256x1024 .f32) (x1 : Vec Ideal S4x256x512 .bf16) (x2 : Vec Ideal S256x512 .bf16)
    (x3 : Vec Ideal S256x1024 .bf16) (x4 : Vec Ideal S256x512 .bf16) (x5 x6 x7 x8 : Vec Ideal S256x1024 .bf16)
    (x10 : Vec Ideal S1024x1024 .bf16) (w : Fin 4 → Fin 512 → Fin 1024 → EReal) : In (Fin 256) where
  dx r k := x0 (ix2 r k)
  y r b i := x1 (ix3 (ySlot b) r i)
  oc r i := x2 (ix2 r i)
  z r k := x3 (ix2 r k)
  cg r i := x4 (ix2 r i)
  g r b j := (![x5, x6, x7, x8] b : Vec Ideal S256x1024 .bf16) (ix2 r j)
  w := w
  wo j k := x10 (ix2 j k)

/-- Column `j` among 1024 is column `j % 128` of block `j / 128`. -/
def colBlock (j : Fin 1024) : Fin 8 := ⟨j.val / 128, by have := j.isLt; omega⟩

def colIn (j : Fin 1024) : Fin 128 := ⟨j.val % 128, by omega⟩

/-- The branch weights in a window that holds them in 8 blocks of 128 columns, the four branches one under another. -/
def wOf (x9 : Vec Ideal S8x2048x128 .bf16) (b : Fin 4) (i : Fin 512) (j : Fin 1024) : EReal :=
  x9 (ix3 (colBlock j) ⟨512 * b.val + i.val, by have := b.isLt; have := i.isLt; omega⟩ (colIn j))

section Loads

variable {e : EltTy}

theorem ld_whole {n m : ℕ} (x : Vec Ideal ⟨2, ![n, m]⟩ e) (inb) (r : Fin n) (k : Fin m) :
    View.ld x (Rect.unit (s := ⟨2, ![n, m]⟩) ![0, 0] ![n, m] inb) (ix2 r k) = x (ix2 r k) := by
  refine View.ld_unit_apply_of _ _ _ _ _ _ (Fin.forall_fin_two.2 ⟨?_, ?_⟩)
  · show r.val = 0 + r.val; omega
  · show k.val = 0 + k.val; omega

theorem ld_slot {A B C n : ℕ} (x : Vec Ideal ⟨3, ![A, B, C]⟩ e) (inb) (b : Fin A) (hb : b.val = n) (r : Fin B) (k : Fin C) :
    View.ld x (Rect.unit (s := ⟨3, ![A, B, C]⟩) ![n, 0, 0] ![1, B, C] inb) (ix3 0 r k) = x (ix3 b r k) := by
  refine View.ld_unit_apply_of _ _ _ _ _ _ fun a => ?_
  fin_cases a
  · show b.val = n + 0; omega
  · show r.val = 0 + r.val; omega
  · show k.val = 0 + k.val; omega

/-- A store of one slot is read in that slot, -/
theorem slot_hit {A B C n : ℕ} (inb) (p : Vec Ideal ⟨3, ![1, B, C]⟩ e) (L : List (View.Piece (Elt Ideal) ⟨3, ![A, B, C]⟩ e))
    (b : Fin A) (hb : b.val = n) (r : Fin B) (k : Fin C) :
    View.canon ((⟨Rect.unit (s := ⟨3, ![A, B, C]⟩) ![n, 0, 0] ![1, B, C] inb, p⟩ : View.Piece (Elt Ideal) _ e) :: L) (ix3 b r k)
      = p (ix3 0 r k) := by
  have h : (Rect.unit (s := ⟨3, ![A, B, C]⟩) ![n, 0, 0] ![1, B, C] inb).emb (ix3 0 r k) = ix3 b r k := by
    funext a
    apply Fin.ext
    refine (Rect.idx_unit_val _ _ _ _ _).trans ?_
    fin_cases a
    · show n + 0 = b.val; omega
    · show 0 + r.val = r.val; omega
    · show 0 + k.val = k.val; omega
  rw [← h]
  exact View.canon_cons_emb _ _ _ _

/-- and leaves the other slots. -/
theorem slot_miss {A B C n : ℕ} (inb) (p : Vec Ideal ⟨3, ![1, B, C]⟩ e) (L : List (View.Piece (Elt Ideal) ⟨3, ![A, B, C]⟩ e))
    (b : Fin A) (hb : b.val ≠ n) (r : Fin B) (k : Fin C) :
    View.canon ((⟨Rect.unit (s := ⟨3, ![A, B, C]⟩) ![n, 0, 0] ![1, B, C] inb, p⟩ : View.Piece (Elt Ideal) _ e) :: L) (ix3 b r k)
      = View.canon L (ix3 b r k) := by
  refine View.canon_cons_of_not_mem _ _ fun h => hb ?_
  have h := (Rect.mem_set_unit (inb := inb).1 h) 0
  have h1 : n ≤ b.val := h.1
  have h2 : b.val < n + 1 := h.2
  omega

/-- A load of one slot of what the stores left. -/
theorem readCov_slot {A B C n : ℕ} {sig : RefSig} {κ : Kind} {sp : Space} (v : View sig κ sp ⟨3, ![A, B, C]⟩ e)
    (L : List (View.Piece (Elt Ideal) ⟨3, ![A, B, C]⟩ e)) (inb) (b : Fin A) (hb : b.val = n) (r : Fin B) (k : Fin C) :
    v.readCov L (Rect.unit (s := ⟨3, ![A, B, C]⟩) ![n, 0, 0] ![1, B, C] inb).toLoadRect (ix3 0 r k)
      = View.canon L (ix3 b r k) := by
  rw [View.readCov_eq_canon']
  refine congrArg (View.canon L) ?_
  funext a
  apply Fin.ext
  refine (Rect.idx_unit_val _ _ _ _ _).trans ?_
  fin_cases a
  · show n + 0 = b.val; omega
  · show 0 + r.val = r.val; omega
  · show 0 + k.val = k.val; omega

/-- A store of columns `n`, `n + 1`, … is read there, -/
theorem cols_hit {A B C n : ℕ} (inb) (p : Vec Ideal ⟨2, ![A, C]⟩ e) (L : List (View.Piece (Elt Ideal) ⟨2, ![A, B]⟩ e))
    (r : Fin A) (j : Fin B) (k : Fin C) (hj : j.val = n + k.val) :
    View.canon ((⟨Rect.unit (s := ⟨2, ![A, B]⟩) ![0, n] ![A, C] inb, p⟩ : View.Piece (Elt Ideal) _ e) :: L) (ix2 r j)
      = p (ix2 r k) := by
  have h : (Rect.unit (s := ⟨2, ![A, B]⟩) ![0, n] ![A, C] inb).emb (ix2 r k) = ix2 r j := by
    funext a
    apply Fin.ext
    refine (Rect.idx_unit_val _ _ _ _ _).trans ?_
    fin_cases a
    · show 0 + r.val = r.val; omega
    · show n + k.val = j.val; omega
  rw [← h]
  exact View.canon_cons_emb _ _ _ _

/-- and leaves the columns before. -/
theorem cols_miss {A B C n : ℕ} (inb) (p : Vec Ideal ⟨2, ![A, C]⟩ e) (L : List (View.Piece (Elt Ideal) ⟨2, ![A, B]⟩ e))
    (r : Fin A) (j : Fin B) (hj : j.val < n) :
    View.canon ((⟨Rect.unit (s := ⟨2, ![A, B]⟩) ![0, n] ![A, C] inb, p⟩ : View.Piece (Elt Ideal) _ e) :: L) (ix2 r j)
      = View.canon L (ix2 r j) := by
  refine View.canon_cons_of_not_mem _ _ fun h => ?_
  have h := (Rect.mem_set_unit (inb := inb).1 h) 1
  have h1 : n ≤ j.val := h.1
  omega

/-- The same of an array of four axes, -/
theorem slot4_hit {A B C D n : ℕ} (inb) (p : Vec Ideal ⟨4, ![1, B, C, D]⟩ e)
    (L : List (View.Piece (Elt Ideal) ⟨4, ![A, B, C, D]⟩ e)) (b : Fin A) (hb : b.val = n) (r : Fin B) (k : Fin C) (l : Fin D) :
    View.canon ((⟨Rect.unit (s := ⟨4, ![A, B, C, D]⟩) ![n, 0, 0, 0] ![1, B, C, D] inb, p⟩ : View.Piece (Elt Ideal) _ e) :: L)
      (ix4 b r k l) = p (ix4 0 r k l) := by
  have h : (Rect.unit (s := ⟨4, ![A, B, C, D]⟩) ![n, 0, 0, 0] ![1, B, C, D] inb).emb (ix4 0 r k l) = ix4 b r k l := by
    funext a
    apply Fin.ext
    refine (Rect.idx_unit_val _ _ _ _ _).trans ?_
    fin_cases a
    · show n + 0 = b.val; omega
    · show 0 + r.val = r.val; omega
    · show 0 + k.val = k.val; omega
    · show 0 + l.val = l.val; omega
  rw [← h]
  exact View.canon_cons_emb _ _ _ _

theorem slot4_miss {A B C D n : ℕ} (inb) (p : Vec Ideal ⟨4, ![1, B, C, D]⟩ e)
    (L : List (View.Piece (Elt Ideal) ⟨4, ![A, B, C, D]⟩ e)) (b : Fin A) (hb : b.val ≠ n) (r : Fin B) (k : Fin C) (l : Fin D) :
    View.canon ((⟨Rect.unit (s := ⟨4, ![A, B, C, D]⟩) ![n, 0, 0, 0] ![1, B, C, D] inb, p⟩ : View.Piece (Elt Ideal) _ e) :: L)
      (ix4 b r k l) = View.canon L (ix4 b r k l) := by
  refine View.canon_cons_of_not_mem _ _ fun h => hb ?_
  have h := (Rect.mem_set_unit (inb := inb).1 h) 0
  have h1 : n ≤ b.val := h.1
  have h2 : b.val < n + 1 := h.2
  omega

/-- A load of some of the columns of what the stores left. -/
theorem readCov_cols {A B C D n : ℕ} {sig : RefSig} {κ : Kind} {sp : Space} (v : View sig κ sp ⟨3, ![A, B, D]⟩ e)
    (L : List (View.Piece (Elt Ideal) ⟨3, ![A, B, D]⟩ e)) (inb) (b : Fin A) (r : Fin B) (q : Fin C) (j : Fin D)
    (hj : j.val = n + q.val) :
    v.readCov L (Rect.unit (s := ⟨3, ![A, B, D]⟩) ![0, 0, n] ![A, B, C] inb).toLoadRect (ix3 b r q)
      = View.canon L (ix3 b r j) := by
  rw [View.readCov_eq_canon']
  refine congrArg (View.canon L) ?_
  funext a
  apply Fin.ext
  refine (Rect.idx_unit_val _ _ _ _ _).trans ?_
  fin_cases a
  · show 0 + b.val = b.val; omega
  · show 0 + r.val = r.val; omega
  · show n + q.val = j.val; omega

end Loads

/-! ## The copy of the branch weights the first grid point makes -/

/-- The 32 stores that lay the window's blocks of columns side by side. -/
def wPieces (x9 : Vec Ideal S8x2048x128 .bf16) : List (View.Piece (Elt Ideal) S4x512x1024 .bf16) :=
  [⟨Rect.unit ![3, 0, 896] ![1, 512, 128] (by decide),
      shapeCast S1x512x128 (shapeCast S512x128 (View.ld x9 (Rect.unit ![7, 1536, 0] ![1, 512, 128] (by decide)))
        shapeCasts_S1x512x128_S512x128) shapeCasts_S512x128_S1x512x128⟩,
    ⟨Rect.unit ![2, 0, 896] ![1, 512, 128] (by decide),
      shapeCast S1x512x128 (shapeCast S512x128 (View.ld x9 (Rect.unit ![7, 1024, 0] ![1, 512, 128] (by decide)))
        shapeCasts_S1x512x128_S512x128) shapeCasts_S512x128_S1x512x128⟩,
    ⟨Rect.unit ![1, 0, 896] ![1, 512, 128] (by decide),
      shapeCast S1x512x128 (shapeCast S512x128 (View.ld x9 (Rect.unit ![7, 512, 0] ![1, 512, 128] (by decide)))
        shapeCasts_S1x512x128_S512x128) shapeCasts_S512x128_S1x512x128⟩,
    ⟨Rect.unit ![0, 0, 896] ![1, 512, 128] (by decide),
      shapeCast S1x512x128 (shapeCast S512x128 (View.ld x9 (Rect.unit ![7, 0, 0] ![1, 512, 128] (by decide)))
        shapeCasts_S1x512x128_S512x128) shapeCasts_S512x128_S1x512x128⟩,
    ⟨Rect.unit ![3, 0, 768] ![1, 512, 128] (by decide),
      shapeCast S1x512x128 (shapeCast S512x128 (View.ld x9 (Rect.unit ![6, 1536, 0] ![1, 512, 128] (by decide)))
        shapeCasts_S1x512x128_S512x128) shapeCasts_S512x128_S1x512x128⟩,
    ⟨Rect.unit ![2, 0, 768] ![1, 512, 128] (by decide),
      shapeCast S1x512x128 (shapeCast S512x128 (View.ld x9 (Rect.unit ![6, 1024, 0] ![1, 512, 128] (by decide)))
        shapeCasts_S1x512x128_S512x128) shapeCasts_S512x128_S1x512x128⟩,
    ⟨Rect.unit ![1, 0, 768] ![1, 512, 128] (by decide),
      shapeCast S1x512x128 (shapeCast S512x128 (View.ld x9 (Rect.unit ![6, 512, 0] ![1, 512, 128] (by decide)))
        shapeCasts_S1x512x128_S512x128) shapeCasts_S512x128_S1x512x128⟩,
    ⟨Rect.unit ![0, 0, 768] ![1, 512, 128] (by decide),
      shapeCast S1x512x128 (shapeCast S512x128 (View.ld x9 (Rect.unit ![6, 0, 0] ![1, 512, 128] (by decide)))
        shapeCasts_S1x512x128_S512x128) shapeCasts_S512x128_S1x512x128⟩,
    ⟨Rect.unit ![3, 0, 640] ![1, 512, 128] (by decide),
      shapeCast S1x512x128 (shapeCast S512x128 (View.ld x9 (Rect.unit ![5, 1536, 0] ![1, 512, 128] (by decide)))
        shapeCasts_S1x512x128_S512x128) shapeCasts_S512x128_S1x512x128⟩,
    ⟨Rect.unit ![2, 0, 640] ![1, 512, 128] (by decide),
      shapeCast S1x512x128 (shapeCast S512x128 (View.ld x9 (Rect.unit ![5, 1024, 0] ![1, 512, 128] (by decide)))
        shapeCasts_S1x512x128_S512x128) shapeCasts_S512x128_S1x512x128⟩,
    ⟨Rect.unit ![1, 0, 640] ![1, 512, 128] (by decide),
      shapeCast S1x512x128 (shapeCast S512x128 (View.ld x9 (Rect.unit ![5, 512, 0] ![1, 512, 128] (by decide)))
        shapeCasts_S1x512x128_S512x128) shapeCasts_S512x128_S1x512x128⟩,
    ⟨Rect.unit ![0, 0, 640] ![1, 512, 128] (by decide),
      shapeCast S1x512x128 (shapeCast S512x128 (View.ld x9 (Rect.unit ![5, 0, 0] ![1, 512, 128] (by decide)))
        shapeCasts_S1x512x128_S512x128) shapeCasts_S512x128_S1x512x128⟩,
    ⟨Rect.unit ![3, 0, 512] ![1, 512, 128] (by decide),
      shapeCast S1x512x128 (shapeCast S512x128 (View.ld x9 (Rect.unit ![4, 1536, 0] ![1, 512, 128] (by decide)))
        shapeCasts_S1x512x128_S512x128) shapeCasts_S512x128_S1x512x128⟩,
    ⟨Rect.unit ![2, 0, 512] ![1, 512, 128] (by decide),
      shapeCast S1x512x128 (shapeCast S512x128 (View.ld x9 (Rect.unit ![4, 1024, 0] ![1, 512, 128] (by decide)))
        shapeCasts_S1x512x128_S512x128) shapeCasts_S512x128_S1x512x128⟩,
    ⟨Rect.unit ![1, 0, 512] ![1, 512, 128] (by decide),
      shapeCast S1x512x128 (shapeCast S512x128 (View.ld x9 (Rect.unit ![4, 512, 0] ![1, 512, 128] (by decide)))
        shapeCasts_S1x512x128_S512x128) shapeCasts_S512x128_S1x512x128⟩,
    ⟨Rect.unit ![0, 0, 512] ![1, 512, 128] (by decide),
      shapeCast S1x512x128 (shapeCast S512x128 (View.ld x9 (Rect.unit ![4, 0, 0] ![1, 512, 128] (by decide)))
        shapeCasts_S1x512x128_S512x128) shapeCasts_S512x128_S1x512x128⟩,
    ⟨Rect.unit ![3, 0, 384] ![1, 512, 128] (by decide),
      shapeCast S1x512x128 (shapeCast S512x128 (View.ld x9 (Rect.unit ![3, 1536, 0] ![1, 512, 128] (by decide)))
        shapeCasts_S1x512x128_S512x128) shapeCasts_S512x128_S1x512x128⟩,
    ⟨Rect.unit ![2, 0, 384] ![1, 512, 128] (by decide),
      shapeCast S1x512x128 (shapeCast S512x128 (View.ld x9 (Rect.unit ![3, 1024, 0] ![1, 512, 128] (by decide)))
        shapeCasts_S1x512x128_S512x128) shapeCasts_S512x128_S1x512x128⟩,
    ⟨Rect.unit ![1, 0, 384] ![1, 512, 128] (by decide),
      shapeCast S1x512x128 (shapeCast S512x128 (View.ld x9 (Rect.unit ![3, 512, 0] ![1, 512, 128] (by decide)))
        shapeCasts_S1x512x128_S512x128) shapeCasts_S512x128_S1x512x128⟩,
    ⟨Rect.unit ![0, 0, 384] ![1, 512, 128] (by decide),
      shapeCast S1x512x128 (shapeCast S512x128 (View.ld x9 (Rect.unit ![3, 0, 0] ![1, 512, 128] (by decide)))
        shapeCasts_S1x512x128_S512x128) shapeCasts_S512x128_S1x512x128⟩,
    ⟨Rect.unit ![3, 0, 256] ![1, 512, 128] (by decide),
      shapeCast S1x512x128 (shapeCast S512x128 (View.ld x9 (Rect.unit ![2, 1536, 0] ![1, 512, 128] (by decide)))
        shapeCasts_S1x512x128_S512x128) shapeCasts_S512x128_S1x512x128⟩,
    ⟨Rect.unit ![2, 0, 256] ![1, 512, 128] (by decide),
      shapeCast S1x512x128 (shapeCast S512x128 (View.ld x9 (Rect.unit ![2, 1024, 0] ![1, 512, 128] (by decide)))
        shapeCasts_S1x512x128_S512x128) shapeCasts_S512x128_S1x512x128⟩,
    ⟨Rect.unit ![1, 0, 256] ![1, 512, 128] (by decide),
      shapeCast S1x512x128 (shapeCast S512x128 (View.ld x9 (Rect.unit ![2, 512, 0] ![1, 512, 128] (by decide)))
        shapeCasts_S1x512x128_S512x128) shapeCasts_S512x128_S1x512x128⟩,
    ⟨Rect.unit ![0, 0, 256] ![1, 512, 128] (by decide),
      shapeCast S1x512x128 (shapeCast S512x128 (View.ld x9 (Rect.unit ![2, 0, 0] ![1, 512, 128] (by decide)))
        shapeCasts_S1x512x128_S512x128) shapeCasts_S512x128_S1x512x128⟩,
    ⟨Rect.unit ![3, 0, 128] ![1, 512, 128] (by decide),
      shapeCast S1x512x128 (shapeCast S512x128 (View.ld x9 (Rect.unit ![1, 1536, 0] ![1, 512, 128] (by decide)))
        shapeCasts_S1x512x128_S512x128) shapeCasts_S512x128_S1x512x128⟩,
    ⟨Rect.unit ![2, 0, 128] ![1, 512, 128] (by decide),
      shapeCast S1x512x128 (shapeCast S512x128 (View.ld x9 (Rect.unit ![1, 1024, 0] ![1, 512, 128] (by decide)))
        shapeCasts_S1x512x128_S512x128) shapeCasts_S512x128_S1x512x128⟩,
    ⟨Rect.unit ![1, 0, 128] ![1, 512, 128] (by decide),
      shapeCast S1x512x128 (shapeCast S512x128 (View.ld x9 (Rect.unit ![1, 512, 0] ![1, 512, 128] (by decide)))
        shapeCasts_S1x512x128_S512x128) shapeCasts_S512x128_S1x512x128⟩,
    ⟨Rect.unit ![0, 0, 128] ![1, 512, 128] (by decide),
      shapeCast S1x512x128 (shapeCast S512x128 (View.ld x9 (Rect.unit ![1, 0, 0] ![1, 512, 128] (by decide)))
        shapeCasts_S1x512x128_S512x128) shapeCasts_S512x128_S1x512x128⟩,
    ⟨Rect.unit ![3, 0, 0] ![1, 512, 128] (by decide),
      shapeCast S1x512x128 (shapeCast S512x128 (View.ld x9 (Rect.unit ![0, 1536, 0] ![1, 512, 128] (by decide)))
        shapeCasts_S1x512x128_S512x128) shapeCasts_S512x128_S1x512x128⟩,
    ⟨Rect.unit ![2, 0, 0] ![1, 512, 128] (by decide),
      shapeCast S1x512x128 (shapeCast S512x128 (View.ld x9 (Rect.unit ![0, 1024, 0] ![1, 512, 128] (by decide)))
        shapeCasts_S1x512x128_S512x128) shapeCasts_S512x128_S1x512x128⟩,
    ⟨Rect.unit ![1, 0, 0] ![1, 512, 128] (by decide),
      shapeCast S1x512x128 (shapeCast S512x128 (View.ld x9 (Rect.unit ![0, 512, 0] ![1, 512, 128] (by decide)))
        shapeCasts_S1x512x128_S512x128) shapeCasts_S512x128_S1x512x128⟩,
    ⟨Rect.unit ![0, 0, 0] ![1, 512, 128] (by decide),
      shapeCast S1x512x128 (shapeCast S512x128 (View.ld x9 (Rect.unit ![0, 0, 0] ![1, 512, 128] (by decide)))
        shapeCasts_S1x512x128_S512x128) shapeCasts_S512x128_S1x512x128⟩]

theorem cast_ld (x9 : Vec Ideal S8x2048x128 .bf16) (off : Fin 3 → ℕ) (inb) (x : S1x512x128.Idx) (i : S8x2048x128.Idx)
    (hi : ∀ a, (i a : ℕ) = off a + x a) :
    shapeCast S1x512x128 (shapeCast S512x128 (View.ld x9 (Rect.unit (s := S8x2048x128) off ![1, 512, 128] inb))
        shapeCasts_S1x512x128_S512x128) shapeCasts_S512x128_S1x512x128 x = x9 i := by
  have hx : x = ix3 0 (x 1) (x 2) := by
    funext a
    apply Fin.ext
    fin_cases a
    · have : (x 0).val < 1 := (x 0).isLt
      show (x 0).val = 0
      omega
    · rfl
    · rfl
  rw [hx] at hi ⊢
  simp only [pointwise]
  refine congrArg x9 (funext fun a => Fin.ext ?_)
  rw [hi a]
  fin_cases a
  · show off 0 + 1 * 0 = off 0 + 0; omega
  · show off 1 + 1 * (x 1).val = off 1 + (x 1).val; omega
  · show off 2 + 1 * (x 2).val = off 2 + (x 2).val; omega

theorem wPieces_apply (x9 : Vec Ideal S8x2048x128 .bf16) (b : Fin 4) (i : Fin 512) (j : Fin 1024) :
    View.canon (wPieces x9) (ix3 b i j) = wOf x9 b i j := by
  have hb := b.isLt; have hi := i.isLt; have hj := j.isLt
  unfold wPieces
  generalize hy : ix3 b i j = y
  have y0 : (y 0).val = b.val := by rw [← hy]; rfl
  have y1 : (y 1).val = i.val := by rw [← hy]; rfl
  have y2 : (y 2).val = j.val := by rw [← hy]; rfl
  canon_tiles x h
  all_goals
    refine cast_ld x9 _ _ _ _ fun a => ?_
    fin_cases a
    · show j.val / 128 = _ + (x 0).val
      simp
      omega
    · show 512 * b.val + i.val = _ + (x 1).val
      simp
      omega
    · show j.val % 128 = _ + (x 2).val
      simp
      omega

end Cert.KernelIdeal.Gen

end
-- ==== Proof.CaseA.lean ====
/-
  The first grid step: the accumulators are cleared, the branch weights are laid out in scratch, and the first tile is added.
-/
module

public import proofs.«01_k».proof.Proof.Gen.KernelIdeal.Frame
public import Idealize.ShloMosaic.Lib.ValueIdx
public import Idealize.ShloMosaic.Lib.Pointwise
public import Idealize.ShloMosaic.Lib.Pipeline.Value
public import Idealize.ShloMosaic.Lib.Pipeline.ValueKit
public import proofs.«01_k».proof.Proof.Block

@[expose] public section

set_option maxRecDepth 16384
set_option maxHeartbeats 400000

noncomputable section

namespace Cert.KernelIdeal.Gen

open Idealize.ShloMosaic Idealize.ShloMosaic.TcCoe Idealize.ShloMosaic.Tactic
open Cert.KernelIdeal
/-! ## What the body leaves on the first of the grid points -/

open Cert.MergeBwd

variable (c : Dev nD) (i : grid0.Coords) (arg1 : Memref sig .tc .vmem S256x1024 .f32) (harg1 : arg1.IsWhole) (arg2 : Memref sig .tc .vmem S4x256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S8x2048x128 .bf16) (harg10 : arg10.IsWhole) (arg11 : Memref sig .tc .vmem S1024x1024 .bf16) (harg11 : arg11.IsWhole) (arg12 : Memref sig .tc .vmem S3x256x512 .bf16) (harg12 : arg12.IsWhole) (arg13 : Memref sig .tc .vmem S256x512 .bf16) (harg13 : arg13.IsWhole) (arg14 : Memref sig .tc .vmem S256x128 .f32) (harg14 : arg14.IsWhole) (arg15 : Memref sig .tc .vmem S256x512 .bf16) (harg15 : arg15.IsWhole) (arg16 : Memref sig .tc .vmem S256x4096 .bf16) (harg16 : arg16.IsWhole) (arg17 : Memref sig .tc .vmem S8x4x512x128 .bf16) (harg17 : arg17.IsWhole) (arg18 : Memref sig .tc .vmem S1024x1024 .bf16) (harg18 : arg18.IsWhole) (arg19 : Memref sig .tc .vmem S4x512x1024 .f32) (harg19 : arg19.IsWhole) (arg20 : Memref sig .tc .vmem S1024x1024 .f32) (harg20 : arg20.IsWhole) (arg21 : Memref sig .tc .vmem S4x512x1024 .bf16) (harg21 : arg21.IsWhole) (hc0 : cond0_0 i) (hc1 : ¬cond0_1 i)
  (x0 : Vec Ideal S256x1024 .f32) (x1 : Vec Ideal S4x256x512 .bf16) (x2 : Vec Ideal S256x512 .bf16) (x3 : Vec Ideal S256x1024 .bf16) (x4 : Vec Ideal S256x512 .bf16) (x5 : Vec Ideal S256x1024 .bf16) (x6 : Vec Ideal S256x1024 .bf16) (x7 : Vec Ideal S256x1024 .bf16) (x8 : Vec Ideal S256x1024 .bf16) (x9 : Vec Ideal S8x2048x128 .bf16) (x10 : Vec Ideal S1024x1024 .bf16)

/-- The three branch gradients. -/
theorem out11_A (s : Fin 3) (r : Fin 256) (k : Fin 512) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 (ix3 s r k) = In.dyb (blk x0 x1 x2 x3 x4 x5 x6 x7 x8 x10 (wOf x9)) r (dySlot s) k := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  have hs : s = 0 ∨ s = 1 ∨ s = 2 := by fin_cases s <;> decide
  rcases hs with rfl | rfl | rfl
  · refine (slot_miss (A := 3) (B := 256) (C := 512) (n := 2) _ _ _ 0 (by decide) _ _).trans ?_
    refine (slot_miss (A := 3) (B := 256) (C := 512) (n := 1) _ _ _ 0 (by decide) _ _).trans ?_
    refine (slot_hit (A := 3) (B := 256) (C := 512) (n := 0) _ _ _ 0 (by decide) _ _).trans ?_
    exact pay63_apply (blk x0 x1 x2 x3 x4 x5 x6 x7 x8 x10 (wOf x9)) 0 (pay56_apply (blk x0 x1 x2 x3 x4 x5 x6 x7 x8 x10 (wOf x9)) (fun r k => ld_whole x0 _ r k) (fun j k => ld_whole x10 _ j k)) (pay57_apply (blk x0 x1 x2 x3 x4 x5 x6 x7 x8 x10 (wOf x9)) 0 (fun r j => ld_whole x5 _ r j)) (fun i j => (readCov_slot (A := 4) (B := 512) (C := 1024) (n := 0) _ (wPieces x9) _ 0 (by decide) i j).trans (wPieces_apply x9 0 i j)) r k
  · refine (slot_miss (A := 3) (B := 256) (C := 512) (n := 2) _ _ _ 1 (by decide) _ _).trans ?_
    refine (slot_hit (A := 3) (B := 256) (C := 512) (n := 1) _ _ _ 1 (by decide) _ _).trans ?_
    exact pay69_apply (blk x0 x1 x2 x3 x4 x5 x6 x7 x8 x10 (wOf x9)) 1 (pay56_apply (blk x0 x1 x2 x3 x4 x5 x6 x7 x8 x10 (wOf x9)) (fun r k => ld_whole x0 _ r k) (fun j k => ld_whole x10 _ j k)) (pay64_apply (blk x0 x1 x2 x3 x4 x5 x6 x7 x8 x10 (wOf x9)) 1 (fun r j => ld_whole x6 _ r j)) (fun i j => (readCov_slot (A := 4) (B := 512) (C := 1024) (n := 1) _ (wPieces x9) _ 1 (by decide) i j).trans (wPieces_apply x9 1 i j)) r k
  · refine (slot_hit (A := 3) (B := 256) (C := 512) (n := 2) _ _ _ 2 (by decide) _ _).trans ?_
    exact pay3_apply (blk x0 x1 x2 x3 x4 x5 x6 x7 x8 x10 (wOf x9)) 3 (pay56_apply (blk x0 x1 x2 x3 x4 x5 x6 x7 x8 x10 (wOf x9)) (fun r k => ld_whole x0 _ r k) (fun j k => ld_whole x10 _ j k)) (pay92_apply (blk x0 x1 x2 x3 x4 x5 x6 x7 x8 x10 (wOf x9)) 3 (fun r j => ld_whole x8 _ r j)) (fun i j => (readCov_slot (A := 4) (B := 512) (C := 1024) (n := 3) _ (wPieces x9) _ 3 (by decide) i j).trans (wPieces_apply x9 3 i j)) r k

/-- The gradient of the attention output. -/
theorem out12_A (r : Fin 256) (k : Fin 512) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 (ix2 r k) = In.doc (blk x0 x1 x2 x3 x4 x5 x6 x7 x8 x10 (wOf x9)) r k := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  rw [View.canon_cons_unit_lit _ _ _ (by decide)]
  exact pay83_apply (blk x0 x1 x2 x3 x4 x5 x6 x7 x8 x10 (wOf x9)) (pay77_apply (blk x0 x1 x2 x3 x4 x5 x6 x7 x8 x10 (wOf x9)) 2 (pay56_apply (blk x0 x1 x2 x3 x4 x5 x6 x7 x8 x10 (wOf x9)) (fun r k => ld_whole x0 _ r k) (fun j k => ld_whole x10 _ j k)) (fun r j => ld_whole x7 _ r j) (fun i j => (readCov_slot (A := 4) (B := 512) (C := 1024) (n := 2) _ (wPieces x9) _ 2 (by decide) i j).trans (wPieces_apply x9 2 i j))) (fun r i => ld_whole x4 _ r i) r k

/-- The gradient of the attention gate's input. -/
theorem out14_A (r : Fin 256) (k : Fin 512) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 (ix2 r k) = In.dcg (blk x0 x1 x2 x3 x4 x5 x6 x7 x8 x10 (wOf x9)) r k := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  rw [View.canon_cons_unit_lit _ _ _ (by decide)]
  exact pay82_apply (blk x0 x1 x2 x3 x4 x5 x6 x7 x8 x10 (wOf x9)) (pay77_apply (blk x0 x1 x2 x3 x4 x5 x6 x7 x8 x10 (wOf x9)) 2 (pay56_apply (blk x0 x1 x2 x3 x4 x5 x6 x7 x8 x10 (wOf x9)) (fun r k => ld_whole x0 _ r k) (fun j k => ld_whole x10 _ j k)) (fun r j => ld_whole x7 _ r j) (fun i j => (readCov_slot (A := 4) (B := 512) (C := 1024) (n := 2) _ (wPieces x9) _ 2 (by decide) i j).trans (wPieces_apply x9 2 i j))) (fun r i => ld_whole x4 _ r i) (fun r i => ld_whole x2 _ r i) r k

/-- The heads' row sums. -/
theorem out13_A (r : Fin 256) (l : Fin 128) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 (ix2 r l) = In.delta (blk x0 x1 x2 x3 x4 x5 x6 x7 x8 x10 (wOf x9)) r l := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  rw [View.canon_cons_unit_lit _ _ _ (by decide)]
  exact pay91_apply r l (s := fun h => ∑ d : Fin 128, In.prod (blk x0 x1 x2 x3 x4 x5 x6 x7 x8 x10 (wOf x9)) r (In.headCol h d))
    (fun j => pay85_apply (blk x0 x1 x2 x3 x4 x5 x6 x7 x8 x10 (wOf x9)) (pay77_apply (blk x0 x1 x2 x3 x4 x5 x6 x7 x8 x10 (wOf x9)) 2 (pay56_apply (blk x0 x1 x2 x3 x4 x5 x6 x7 x8 x10 (wOf x9)) (fun r k => ld_whole x0 _ r k) (fun j k => ld_whole x10 _ j k)) (fun r j => ld_whole x7 _ r j) (fun i j => (readCov_slot (A := 4) (B := 512) (C := 1024) (n := 2) _ (wPieces x9) _ 2 (by decide) i j).trans (wPieces_apply x9 2 i j))) (fun r i => ld_whole x4 _ r i) (fun r i => ld_whole x2 _ r i) r j) (fun j => pay86_apply (blk x0 x1 x2 x3 x4 x5 x6 x7 x8 x10 (wOf x9)) (pay77_apply (blk x0 x1 x2 x3 x4 x5 x6 x7 x8 x10 (wOf x9)) 2 (pay56_apply (blk x0 x1 x2 x3 x4 x5 x6 x7 x8 x10 (wOf x9)) (fun r k => ld_whole x0 _ r k) (fun j k => ld_whole x10 _ j k)) (fun r j => ld_whole x7 _ r j) (fun i j => (readCov_slot (A := 4) (B := 512) (C := 1024) (n := 2) _ (wPieces x9) _ 2 (by decide) i j).trans (wPieces_apply x9 2 i j))) (fun r i => ld_whole x4 _ r i) (fun r i => ld_whole x2 _ r i) r j) (fun j => pay87_apply (blk x0 x1 x2 x3 x4 x5 x6 x7 x8 x10 (wOf x9)) (pay77_apply (blk x0 x1 x2 x3 x4 x5 x6 x7 x8 x10 (wOf x9)) 2 (pay56_apply (blk x0 x1 x2 x3 x4 x5 x6 x7 x8 x10 (wOf x9)) (fun r k => ld_whole x0 _ r k) (fun j k => ld_whole x10 _ j k)) (fun r j => ld_whole x7 _ r j) (fun i j => (readCov_slot (A := 4) (B := 512) (C := 1024) (n := 2) _ (wPieces x9) _ 2 (by decide) i j).trans (wPieces_apply x9 2 i j))) (fun r i => ld_whole x4 _ r i) (fun r i => ld_whole x2 _ r i) r j) (fun j => pay88_apply (blk x0 x1 x2 x3 x4 x5 x6 x7 x8 x10 (wOf x9)) (pay77_apply (blk x0 x1 x2 x3 x4 x5 x6 x7 x8 x10 (wOf x9)) 2 (pay56_apply (blk x0 x1 x2 x3 x4 x5 x6 x7 x8 x10 (wOf x9)) (fun r k => ld_whole x0 _ r k) (fun j k => ld_whole x10 _ j k)) (fun r j => ld_whole x7 _ r j) (fun i j => (readCov_slot (A := 4) (B := 512) (C := 1024) (n := 2) _ (wPieces x9) _ 2 (by decide) i j).trans (wPieces_apply x9 2 i j))) (fun r i => ld_whole x4 _ r i) (fun r i => ld_whole x2 _ r i) r j)

/-- The gradients of the merge gates' inputs. -/
theorem out15_A (r : Fin 256) (b : Fin 4) (k : Fin 1024) (q : Fin 4096) (hq : q.val = 1024 * b.val + k.val) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 (ix2 r q) = In.dgm (blk x0 x1 x2 x3 x4 x5 x6 x7 x8 x10 (wOf x9)) r b k := by
  have hk := k.isLt
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  have hs : b = 0 ∨ b = 1 ∨ b = 2 ∨ b = 3 := by fin_cases b <;> decide
  rcases hs with rfl | rfl | rfl | rfl
  · exact (cols_miss _ _ _ r q (by simp at hq; omega)).trans ((cols_miss _ _ _ r q (by simp at hq; omega)).trans ((cols_miss _ _ _ r q (by simp at hq; omega)).trans ((cols_hit _ _ _ r q k (by simpa using hq)).trans (pay60_apply (blk x0 x1 x2 x3 x4 x5 x6 x7 x8 x10 (wOf x9)) 0 (pay56_apply (blk x0 x1 x2 x3 x4 x5 x6 x7 x8 x10 (wOf x9)) (fun r k => ld_whole x0 _ r k) (fun j k => ld_whole x10 _ j k)) (pay57_apply (blk x0 x1 x2 x3 x4 x5 x6 x7 x8 x10 (wOf x9)) 0 (fun r j => ld_whole x5 _ r j)) (fun r i => ld_slot x1 _ 0 rfl r i) (fun i j => (readCov_slot (A := 4) (B := 512) (C := 1024) (n := 0) _ (wPieces x9) _ 0 (by decide) i j).trans (wPieces_apply x9 0 i j)) r k))))
  · exact (cols_miss _ _ _ r q (by simp at hq; omega)).trans ((cols_miss _ _ _ r q (by simp at hq; omega)).trans ((cols_hit _ _ _ r q k (by simpa using hq)).trans (pay66_apply (blk x0 x1 x2 x3 x4 x5 x6 x7 x8 x10 (wOf x9)) 1 (pay56_apply (blk x0 x1 x2 x3 x4 x5 x6 x7 x8 x10 (wOf x9)) (fun r k => ld_whole x0 _ r k) (fun j k => ld_whole x10 _ j k)) (pay64_apply (blk x0 x1 x2 x3 x4 x5 x6 x7 x8 x10 (wOf x9)) 1 (fun r j => ld_whole x6 _ r j)) (fun r i => ld_slot x1 _ 1 rfl r i) (fun i j => (readCov_slot (A := 4) (B := 512) (C := 1024) (n := 1) _ (wPieces x9) _ 1 (by decide) i j).trans (wPieces_apply x9 1 i j)) r k)))
  · exact (cols_miss _ _ _ r q (by simp at hq; omega)).trans ((cols_hit _ _ _ r q k (by simpa using hq)).trans (pay74_apply (blk x0 x1 x2 x3 x4 x5 x6 x7 x8 x10 (wOf x9)) 2 (pay56_apply (blk x0 x1 x2 x3 x4 x5 x6 x7 x8 x10 (wOf x9)) (fun r k => ld_whole x0 _ r k) (fun j k => ld_whole x10 _ j k)) (fun r j => ld_whole x7 _ r j) (fun r i => ld_slot x1 _ 3 rfl r i) (fun i j => (readCov_slot (A := 4) (B := 512) (C := 1024) (n := 2) _ (wPieces x9) _ 2 (by decide) i j).trans (wPieces_apply x9 2 i j)) r k))
  · exact (cols_hit _ _ _ r q k (by simpa using hq)).trans (pay94_apply (blk x0 x1 x2 x3 x4 x5 x6 x7 x8 x10 (wOf x9)) 3 (pay56_apply (blk x0 x1 x2 x3 x4 x5 x6 x7 x8 x10 (wOf x9)) (fun r k => ld_whole x0 _ r k) (fun j k => ld_whole x10 _ j k)) (fun r j => ld_whole x8 _ r j) (fun r i => ld_slot x1 _ 2 rfl r i) (fun i j => (readCov_slot (A := 4) (B := 512) (C := 1024) (n := 3) _ (wPieces x9) _ 3 (by decide) i j).trans (wPieces_apply x9 3 i j)) r k)

/-- The branch weights' gradient so far. -/
theorem acc_A (b : Fin 4) (k : Fin 512) (j : Fin 1024) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 (ix3 b k j) = In.dwb (blk x0 x1 x2 x3 x4 x5 x6 x7 x8 x10 (wOf x9)) b k j := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  have hs : b = 0 ∨ b = 1 ∨ b = 2 ∨ b = 3 := by fin_cases b <;> decide
  rcases hs with rfl | rfl | rfl | rfl
  · refine (slot_miss (A := 4) (B := 512) (C := 1024) (n := 3) _ _ _ 0 (by decide) _ _).trans ?_
    refine (slot_miss (A := 4) (B := 512) (C := 1024) (n := 2) _ _ _ 0 (by decide) _ _).trans ?_
    refine (slot_miss (A := 4) (B := 512) (C := 1024) (n := 1) _ _ _ 0 (by decide) _ _).trans ?_
    refine (slot_hit (A := 4) (B := 512) (C := 1024) (n := 0) _ _ _ 0 (by decide) _ _).trans ?_
    exact (pay62_apply (blk x0 x1 x2 x3 x4 x5 x6 x7 x8 x10 (wOf x9)) 0 (pay56_apply (blk x0 x1 x2 x3 x4 x5 x6 x7 x8 x10 (wOf x9)) (fun r k => ld_whole x0 _ r k) (fun j k => ld_whole x10 _ j k)) (pay57_apply (blk x0 x1 x2 x3 x4 x5 x6 x7 x8 x10 (wOf x9)) 0 (fun r j => ld_whole x5 _ r j)) (fun r i => ld_slot x1 _ 0 rfl r i) k j).trans ((congrArg (· + In.dwb (blk x0 x1 x2 x3 x4 x5 x6 x7 x8 x10 (wOf x9)) 0 k j) ((readCov_slot (A := 4) (B := 512) (C := 1024) (n := 0) _ _ _ 0 (by decide) k j).trans ((congrFun (View.canon_cons_unit_lit _ _ _ (by decide)) _).trans (zero_apply₃ _ _ _)))).trans (zero_add _))
  · refine (slot_miss (A := 4) (B := 512) (C := 1024) (n := 3) _ _ _ 1 (by decide) _ _).trans ?_
    refine (slot_miss (A := 4) (B := 512) (C := 1024) (n := 2) _ _ _ 1 (by decide) _ _).trans ?_
    refine (slot_hit (A := 4) (B := 512) (C := 1024) (n := 1) _ _ _ 1 (by decide) _ _).trans ?_
    exact (pay68_apply (blk x0 x1 x2 x3 x4 x5 x6 x7 x8 x10 (wOf x9)) 1 (pay56_apply (blk x0 x1 x2 x3 x4 x5 x6 x7 x8 x10 (wOf x9)) (fun r k => ld_whole x0 _ r k) (fun j k => ld_whole x10 _ j k)) (pay64_apply (blk x0 x1 x2 x3 x4 x5 x6 x7 x8 x10 (wOf x9)) 1 (fun r j => ld_whole x6 _ r j)) (fun r i => ld_slot x1 _ 1 rfl r i) k j).trans ((congrArg (· + In.dwb (blk x0 x1 x2 x3 x4 x5 x6 x7 x8 x10 (wOf x9)) 1 k j) ((readCov_slot (A := 4) (B := 512) (C := 1024) (n := 1) _ _ _ 1 (by decide) k j).trans ((slot_miss (A := 4) (B := 512) (C := 1024) (n := 0) _ _ _ 1 (by decide) _ _).trans ((congrFun (View.canon_cons_unit_lit _ _ _ (by decide)) _).trans (zero_apply₃ _ _ _))))).trans (zero_add _))
  · refine (slot_miss (A := 4) (B := 512) (C := 1024) (n := 3) _ _ _ 2 (by decide) _ _).trans ?_
    refine (slot_hit (A := 4) (B := 512) (C := 1024) (n := 2) _ _ _ 2 (by decide) _ _).trans ?_
    exact (pay76_apply (blk x0 x1 x2 x3 x4 x5 x6 x7 x8 x10 (wOf x9)) 2 (pay56_apply (blk x0 x1 x2 x3 x4 x5 x6 x7 x8 x10 (wOf x9)) (fun r k => ld_whole x0 _ r k) (fun j k => ld_whole x10 _ j k)) (fun r j => ld_whole x7 _ r j) (fun r i => ld_slot x1 _ 3 rfl r i) k j).trans ((congrArg (· + In.dwb (blk x0 x1 x2 x3 x4 x5 x6 x7 x8 x10 (wOf x9)) 2 k j) ((readCov_slot (A := 4) (B := 512) (C := 1024) (n := 2) _ _ _ 2 (by decide) k j).trans ((slot_miss (A := 4) (B := 512) (C := 1024) (n := 1) _ _ _ 2 (by decide) _ _).trans ((slot_miss (A := 4) (B := 512) (C := 1024) (n := 0) _ _ _ 2 (by decide) _ _).trans ((congrFun (View.canon_cons_unit_lit _ _ _ (by decide)) _).trans (zero_apply₃ _ _ _)))))).trans (zero_add _))
  · refine (slot_hit (A := 4) (B := 512) (C := 1024) (n := 3) _ _ _ 3 (by decide) _ _).trans ?_
    exact (pay2_apply (blk x0 x1 x2 x3 x4 x5 x6 x7 x8 x10 (wOf x9)) 3 (pay56_apply (blk x0 x1 x2 x3 x4 x5 x6 x7 x8 x10 (wOf x9)) (fun r k => ld_whole x0 _ r k) (fun j k => ld_whole x10 _ j k)) (pay92_apply (blk x0 x1 x2 x3 x4 x5 x6 x7 x8 x10 (wOf x9)) 3 (fun r j => ld_whole x8 _ r j)) (fun r i => ld_slot x1 _ 2 rfl r i) k j).trans ((congrArg (· + In.dwb (blk x0 x1 x2 x3 x4 x5 x6 x7 x8 x10 (wOf x9)) 3 k j) ((readCov_slot (A := 4) (B := 512) (C := 1024) (n := 3) _ _ _ 3 (by decide) k j).trans ((slot_miss (A := 4) (B := 512) (C := 1024) (n := 2) _ _ _ 3 (by decide) _ _).trans ((slot_miss (A := 4) (B := 512) (C := 1024) (n := 1) _ _ _ 3 (by decide) _ _).trans ((slot_miss (A := 4) (B := 512) (C := 1024) (n := 0) _ _ _ 3 (by decide) _ _).trans ((congrFun (View.canon_cons_unit_lit _ _ _ (by decide)) _).trans (zero_apply₃ _ _ _))))))).trans (zero_add _))

/-- The output weight's gradient so far. -/
theorem acco_A (k j : Fin 1024) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 (ix2 k j) = In.dwo (blk x0 x1 x2 x3 x4 x5 x6 x7 x8 x10 (wOf x9)) k j := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  rw [View.canon_cons_unit_lit _ _ _ (by decide)]
  refine (pay55_apply (blk x0 x1 x2 x3 x4 x5 x6 x7 x8 x10 (wOf x9)) (fun r k => ld_whole x0 _ r k) (fun r k => ld_whole x3 _ r k) k j).trans
    ((congrArg (· + In.dwo (blk x0 x1 x2 x3 x4 x5 x6 x7 x8 x10 (wOf x9)) k j) ?_).trans (zero_add _))
  rw [View.readCov_unit_lit _ _ _ (by decide)]
  exact zero_apply₂ k j

/-- The copy of the branch weights. -/
theorem wbs_A (b : Fin 4) (k : Fin 512) (j : Fin 1024) : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 (ix3 b k j) = wOf x9 b k j := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  exact wPieces_apply x9 b k j

end Cert.KernelIdeal.Gen

end
-- ==== Proof.CaseB.lean ====
/-
  A middle grid step: the tile's gradients are written and its part is added to the accumulators.
-/
module

public import proofs.«01_k».proof.Proof.Gen.KernelIdeal.Frame
public import Idealize.ShloMosaic.Lib.ValueIdx
public import Idealize.ShloMosaic.Lib.Pointwise
public import Idealize.ShloMosaic.Lib.Pipeline.Value
public import Idealize.ShloMosaic.Lib.Pipeline.ValueKit
public import proofs.«01_k».proof.Proof.Block

@[expose] public section

set_option maxRecDepth 16384
set_option maxHeartbeats 400000

noncomputable section

namespace Cert.KernelIdeal.Gen

open Idealize.ShloMosaic Idealize.ShloMosaic.TcCoe Idealize.ShloMosaic.Tactic
open Cert.KernelIdeal
/-! ## What the body leaves on the middle grid points -/

open Cert.MergeBwd

variable (c : Dev nD) (i : grid0.Coords) (arg1 : Memref sig .tc .vmem S256x1024 .f32) (harg1 : arg1.IsWhole) (arg2 : Memref sig .tc .vmem S4x256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S8x2048x128 .bf16) (harg10 : arg10.IsWhole) (arg11 : Memref sig .tc .vmem S1024x1024 .bf16) (harg11 : arg11.IsWhole) (arg12 : Memref sig .tc .vmem S3x256x512 .bf16) (harg12 : arg12.IsWhole) (arg13 : Memref sig .tc .vmem S256x512 .bf16) (harg13 : arg13.IsWhole) (arg14 : Memref sig .tc .vmem S256x128 .f32) (harg14 : arg14.IsWhole) (arg15 : Memref sig .tc .vmem S256x512 .bf16) (harg15 : arg15.IsWhole) (arg16 : Memref sig .tc .vmem S256x4096 .bf16) (harg16 : arg16.IsWhole) (arg17 : Memref sig .tc .vmem S8x4x512x128 .bf16) (harg17 : arg17.IsWhole) (arg18 : Memref sig .tc .vmem S1024x1024 .bf16) (harg18 : arg18.IsWhole) (arg19 : Memref sig .tc .vmem S4x512x1024 .f32) (harg19 : arg19.IsWhole) (arg20 : Memref sig .tc .vmem S1024x1024 .f32) (harg20 : arg20.IsWhole) (arg21 : Memref sig .tc .vmem S4x512x1024 .bf16) (harg21 : arg21.IsWhole) (hc0 : ¬cond0_0 i) (hc1 : ¬cond0_1 i)
  (x0 : Vec Ideal S256x1024 .f32) (x1 : Vec Ideal S4x256x512 .bf16) (x2 : Vec Ideal S256x512 .bf16) (x3 : Vec Ideal S256x1024 .bf16) (x4 : Vec Ideal S256x512 .bf16) (x5 : Vec Ideal S256x1024 .bf16) (x6 : Vec Ideal S256x1024 .bf16) (x7 : Vec Ideal S256x1024 .bf16) (x8 : Vec Ideal S256x1024 .bf16) (x9 : Vec Ideal S8x2048x128 .bf16) (x10 : Vec Ideal S1024x1024 .bf16) (xs0 : Vec Ideal S4x512x1024 .f32) (xs1 : Vec Ideal S1024x1024 .f32) (xs2 : Vec Ideal S4x512x1024 .bf16)

/-- The three branch gradients. -/
theorem out11_B (s : Fin 3) (r : Fin 256) (k : Fin 512) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 (ix3 s r k) = In.dyb (blk x0 x1 x2 x3 x4 x5 x6 x7 x8 x10 (fun b i j => xs2 (ix3 b i j))) r (dySlot s) k := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  have hs : s = 0 ∨ s = 1 ∨ s = 2 := by fin_cases s <;> decide
  rcases hs with rfl | rfl | rfl
  · refine (slot_miss (A := 3) (B := 256) (C := 512) (n := 2) _ _ _ 0 (by decide) _ _).trans ?_
    refine (slot_miss (A := 3) (B := 256) (C := 512) (n := 1) _ _ _ 0 (by decide) _ _).trans ?_
    refine (slot_hit (A := 3) (B := 256) (C := 512) (n := 0) _ _ _ 0 (by decide) _ _).trans ?_
    exact pay63_apply (blk x0 x1 x2 x3 x4 x5 x6 x7 x8 x10 (fun b i j => xs2 (ix3 b i j))) 0 (pay56_apply (blk x0 x1 x2 x3 x4 x5 x6 x7 x8 x10 (fun b i j => xs2 (ix3 b i j))) (fun r k => ld_whole x0 _ r k) (fun j k => ld_whole x10 _ j k)) (pay57_apply (blk x0 x1 x2 x3 x4 x5 x6 x7 x8 x10 (fun b i j => xs2 (ix3 b i j))) 0 (fun r j => ld_whole x5 _ r j)) (fun i j => ld_slot xs2 _ 0 rfl i j) r k
  · refine (slot_miss (A := 3) (B := 256) (C := 512) (n := 2) _ _ _ 1 (by decide) _ _).trans ?_
    refine (slot_hit (A := 3) (B := 256) (C := 512) (n := 1) _ _ _ 1 (by decide) _ _).trans ?_
    exact pay69_apply (blk x0 x1 x2 x3 x4 x5 x6 x7 x8 x10 (fun b i j => xs2 (ix3 b i j))) 1 (pay56_apply (blk x0 x1 x2 x3 x4 x5 x6 x7 x8 x10 (fun b i j => xs2 (ix3 b i j))) (fun r k => ld_whole x0 _ r k) (fun j k => ld_whole x10 _ j k)) (pay64_apply (blk x0 x1 x2 x3 x4 x5 x6 x7 x8 x10 (fun b i j => xs2 (ix3 b i j))) 1 (fun r j => ld_whole x6 _ r j)) (fun i j => ld_slot xs2 _ 1 rfl i j) r k
  · refine (slot_hit (A := 3) (B := 256) (C := 512) (n := 2) _ _ _ 2 (by decide) _ _).trans ?_
    exact pay3_apply (blk x0 x1 x2 x3 x4 x5 x6 x7 x8 x10 (fun b i j => xs2 (ix3 b i j))) 3 (pay56_apply (blk x0 x1 x2 x3 x4 x5 x6 x7 x8 x10 (fun b i j => xs2 (ix3 b i j))) (fun r k => ld_whole x0 _ r k) (fun j k => ld_whole x10 _ j k)) (pay92_apply (blk x0 x1 x2 x3 x4 x5 x6 x7 x8 x10 (fun b i j => xs2 (ix3 b i j))) 3 (fun r j => ld_whole x8 _ r j)) (fun i j => ld_slot xs2 _ 3 rfl i j) r k

/-- The gradient of the attention output. -/
theorem out12_B (r : Fin 256) (k : Fin 512) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 (ix2 r k) = In.doc (blk x0 x1 x2 x3 x4 x5 x6 x7 x8 x10 (fun b i j => xs2 (ix3 b i j))) r k := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  rw [View.canon_cons_unit_lit _ _ _ (by decide)]
  exact pay83_apply (blk x0 x1 x2 x3 x4 x5 x6 x7 x8 x10 (fun b i j => xs2 (ix3 b i j))) (pay77_apply (blk x0 x1 x2 x3 x4 x5 x6 x7 x8 x10 (fun b i j => xs2 (ix3 b i j))) 2 (pay56_apply (blk x0 x1 x2 x3 x4 x5 x6 x7 x8 x10 (fun b i j => xs2 (ix3 b i j))) (fun r k => ld_whole x0 _ r k) (fun j k => ld_whole x10 _ j k)) (fun r j => ld_whole x7 _ r j) (fun i j => ld_slot xs2 _ 2 rfl i j)) (fun r i => ld_whole x4 _ r i) r k

/-- The gradient of the attention gate's input. -/
theorem out14_B (r : Fin 256) (k : Fin 512) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 (ix2 r k) = In.dcg (blk x0 x1 x2 x3 x4 x5 x6 x7 x8 x10 (fun b i j => xs2 (ix3 b i j))) r k := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  rw [View.canon_cons_unit_lit _ _ _ (by decide)]
  exact pay82_apply (blk x0 x1 x2 x3 x4 x5 x6 x7 x8 x10 (fun b i j => xs2 (ix3 b i j))) (pay77_apply (blk x0 x1 x2 x3 x4 x5 x6 x7 x8 x10 (fun b i j => xs2 (ix3 b i j))) 2 (pay56_apply (blk x0 x1 x2 x3 x4 x5 x6 x7 x8 x10 (fun b i j => xs2 (ix3 b i j))) (fun r k => ld_whole x0 _ r k) (fun j k => ld_whole x10 _ j k)) (fun r j => ld_whole x7 _ r j) (fun i j => ld_slot xs2 _ 2 rfl i j)) (fun r i => ld_whole x4 _ r i) (fun r i => ld_whole x2 _ r i) r k

/-- The heads' row sums. -/
theorem out13_B (r : Fin 256) (l : Fin 128) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 (ix2 r l) = In.delta (blk x0 x1 x2 x3 x4 x5 x6 x7 x8 x10 (fun b i j => xs2 (ix3 b i j))) r l := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  rw [View.canon_cons_unit_lit _ _ _ (by decide)]
  exact pay91_apply r l (s := fun h => ∑ d : Fin 128, In.prod (blk x0 x1 x2 x3 x4 x5 x6 x7 x8 x10 (fun b i j => xs2 (ix3 b i j))) r (In.headCol h d))
    (fun j => pay85_apply (blk x0 x1 x2 x3 x4 x5 x6 x7 x8 x10 (fun b i j => xs2 (ix3 b i j))) (pay77_apply (blk x0 x1 x2 x3 x4 x5 x6 x7 x8 x10 (fun b i j => xs2 (ix3 b i j))) 2 (pay56_apply (blk x0 x1 x2 x3 x4 x5 x6 x7 x8 x10 (fun b i j => xs2 (ix3 b i j))) (fun r k => ld_whole x0 _ r k) (fun j k => ld_whole x10 _ j k)) (fun r j => ld_whole x7 _ r j) (fun i j => ld_slot xs2 _ 2 rfl i j)) (fun r i => ld_whole x4 _ r i) (fun r i => ld_whole x2 _ r i) r j) (fun j => pay86_apply (blk x0 x1 x2 x3 x4 x5 x6 x7 x8 x10 (fun b i j => xs2 (ix3 b i j))) (pay77_apply (blk x0 x1 x2 x3 x4 x5 x6 x7 x8 x10 (fun b i j => xs2 (ix3 b i j))) 2 (pay56_apply (blk x0 x1 x2 x3 x4 x5 x6 x7 x8 x10 (fun b i j => xs2 (ix3 b i j))) (fun r k => ld_whole x0 _ r k) (fun j k => ld_whole x10 _ j k)) (fun r j => ld_whole x7 _ r j) (fun i j => ld_slot xs2 _ 2 rfl i j)) (fun r i => ld_whole x4 _ r i) (fun r i => ld_whole x2 _ r i) r j) (fun j => pay87_apply (blk x0 x1 x2 x3 x4 x5 x6 x7 x8 x10 (fun b i j => xs2 (ix3 b i j))) (pay77_apply (blk x0 x1 x2 x3 x4 x5 x6 x7 x8 x10 (fun b i j => xs2 (ix3 b i j))) 2 (pay56_apply (blk x0 x1 x2 x3 x4 x5 x6 x7 x8 x10 (fun b i j => xs2 (ix3 b i j))) (fun r k => ld_whole x0 _ r k) (fun j k => ld_whole x10 _ j k)) (fun r j => ld_whole x7 _ r j) (fun i j => ld_slot xs2 _ 2 rfl i j)) (fun r i => ld_whole x4 _ r i) (fun r i => ld_whole x2 _ r i) r j) (fun j => pay88_apply (blk x0 x1 x2 x3 x4 x5 x6 x7 x8 x10 (fun b i j => xs2 (ix3 b i j))) (pay77_apply (blk x0 x1 x2 x3 x4 x5 x6 x7 x8 x10 (fun b i j => xs2 (ix3 b i j))) 2 (pay56_apply (blk x0 x1 x2 x3 x4 x5 x6 x7 x8 x10 (fun b i j => xs2 (ix3 b i j))) (fun r k => ld_whole x0 _ r k) (fun j k => ld_whole x10 _ j k)) (fun r j => ld_whole x7 _ r j) (fun i j => ld_slot xs2 _ 2 rfl i j)) (fun r i => ld_whole x4 _ r i) (fun r i => ld_whole x2 _ r i) r j)

/-- The gradients of the merge gates' inputs. -/
theorem out15_B (r : Fin 256) (b : Fin 4) (k : Fin 1024) (q : Fin 4096) (hq : q.val = 1024 * b.val + k.val) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 (ix2 r q) = In.dgm (blk x0 x1 x2 x3 x4 x5 x6 x7 x8 x10 (fun b i j => xs2 (ix3 b i j))) r b k := by
  have hk := k.isLt
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  have hs : b = 0 ∨ b = 1 ∨ b = 2 ∨ b = 3 := by fin_cases b <;> decide
  rcases hs with rfl | rfl | rfl | rfl
  · exact (cols_miss _ _ _ r q (by simp at hq; omega)).trans ((cols_miss _ _ _ r q (by simp at hq; omega)).trans ((cols_miss _ _ _ r q (by simp at hq; omega)).trans ((cols_hit _ _ _ r q k (by simpa using hq)).trans (pay60_apply (blk x0 x1 x2 x3 x4 x5 x6 x7 x8 x10 (fun b i j => xs2 (ix3 b i j))) 0 (pay56_apply (blk x0 x1 x2 x3 x4 x5 x6 x7 x8 x10 (fun b i j => xs2 (ix3 b i j))) (fun r k => ld_whole x0 _ r k) (fun j k => ld_whole x10 _ j k)) (pay57_apply (blk x0 x1 x2 x3 x4 x5 x6 x7 x8 x10 (fun b i j => xs2 (ix3 b i j))) 0 (fun r j => ld_whole x5 _ r j)) (fun r i => ld_slot x1 _ 0 rfl r i) (fun i j => ld_slot xs2 _ 0 rfl i j) r k))))
  · exact (cols_miss _ _ _ r q (by simp at hq; omega)).trans ((cols_miss _ _ _ r q (by simp at hq; omega)).trans ((cols_hit _ _ _ r q k (by simpa using hq)).trans (pay66_apply (blk x0 x1 x2 x3 x4 x5 x6 x7 x8 x10 (fun b i j => xs2 (ix3 b i j))) 1 (pay56_apply (blk x0 x1 x2 x3 x4 x5 x6 x7 x8 x10 (fun b i j => xs2 (ix3 b i j))) (fun r k => ld_whole x0 _ r k) (fun j k => ld_whole x10 _ j k)) (pay64_apply (blk x0 x1 x2 x3 x4 x5 x6 x7 x8 x10 (fun b i j => xs2 (ix3 b i j))) 1 (fun r j => ld_whole x6 _ r j)) (fun r i => ld_slot x1 _ 1 rfl r i) (fun i j => ld_slot xs2 _ 1 rfl i j) r k)))
  · exact (cols_miss _ _ _ r q (by simp at hq; omega)).trans ((cols_hit _ _ _ r q k (by simpa using hq)).trans (pay74_apply (blk x0 x1 x2 x3 x4 x5 x6 x7 x8 x10 (fun b i j => xs2 (ix3 b i j))) 2 (pay56_apply (blk x0 x1 x2 x3 x4 x5 x6 x7 x8 x10 (fun b i j => xs2 (ix3 b i j))) (fun r k => ld_whole x0 _ r k) (fun j k => ld_whole x10 _ j k)) (fun r j => ld_whole x7 _ r j) (fun r i => ld_slot x1 _ 3 rfl r i) (fun i j => ld_slot xs2 _ 2 rfl i j) r k))
  · exact (cols_hit _ _ _ r q k (by simpa using hq)).trans (pay94_apply (blk x0 x1 x2 x3 x4 x5 x6 x7 x8 x10 (fun b i j => xs2 (ix3 b i j))) 3 (pay56_apply (blk x0 x1 x2 x3 x4 x5 x6 x7 x8 x10 (fun b i j => xs2 (ix3 b i j))) (fun r k => ld_whole x0 _ r k) (fun j k => ld_whole x10 _ j k)) (fun r j => ld_whole x8 _ r j) (fun r i => ld_slot x1 _ 2 rfl r i) (fun i j => ld_slot xs2 _ 3 rfl i j) r k)

/-- The branch weights' gradient so far. -/
theorem acc_B (b : Fin 4) (k : Fin 512) (j : Fin 1024) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 (ix3 b k j) = xs0 (ix3 b k j) + In.dwb (blk x0 x1 x2 x3 x4 x5 x6 x7 x8 x10 (fun b i j => xs2 (ix3 b i j))) b k j := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  have hs : b = 0 ∨ b = 1 ∨ b = 2 ∨ b = 3 := by fin_cases b <;> decide
  rcases hs with rfl | rfl | rfl | rfl
  · refine (slot_miss (A := 4) (B := 512) (C := 1024) (n := 3) _ _ _ 0 (by decide) _ _).trans ?_
    refine (slot_miss (A := 4) (B := 512) (C := 1024) (n := 2) _ _ _ 0 (by decide) _ _).trans ?_
    refine (slot_miss (A := 4) (B := 512) (C := 1024) (n := 1) _ _ _ 0 (by decide) _ _).trans ?_
    refine (slot_hit (A := 4) (B := 512) (C := 1024) (n := 0) _ _ _ 0 (by decide) _ _).trans ?_
    exact (pay62_apply (blk x0 x1 x2 x3 x4 x5 x6 x7 x8 x10 (fun b i j => xs2 (ix3 b i j))) 0 (pay56_apply (blk x0 x1 x2 x3 x4 x5 x6 x7 x8 x10 (fun b i j => xs2 (ix3 b i j))) (fun r k => ld_whole x0 _ r k) (fun j k => ld_whole x10 _ j k)) (pay57_apply (blk x0 x1 x2 x3 x4 x5 x6 x7 x8 x10 (fun b i j => xs2 (ix3 b i j))) 0 (fun r j => ld_whole x5 _ r j)) (fun r i => ld_slot x1 _ 0 rfl r i) k j).trans (congrArg (· + In.dwb (blk x0 x1 x2 x3 x4 x5 x6 x7 x8 x10 (fun b i j => xs2 (ix3 b i j))) 0 k j) (ld_slot xs0 _ 0 rfl k j))
  · refine (slot_miss (A := 4) (B := 512) (C := 1024) (n := 3) _ _ _ 1 (by decide) _ _).trans ?_
    refine (slot_miss (A := 4) (B := 512) (C := 1024) (n := 2) _ _ _ 1 (by decide) _ _).trans ?_
    refine (slot_hit (A := 4) (B := 512) (C := 1024) (n := 1) _ _ _ 1 (by decide) _ _).trans ?_
    exact (pay68_apply (blk x0 x1 x2 x3 x4 x5 x6 x7 x8 x10 (fun b i j => xs2 (ix3 b i j))) 1 (pay56_apply (blk x0 x1 x2 x3 x4 x5 x6 x7 x8 x10 (fun b i j => xs2 (ix3 b i j))) (fun r k => ld_whole x0 _ r k) (fun j k => ld_whole x10 _ j k)) (pay64_apply (blk x0 x1 x2 x3 x4 x5 x6 x7 x8 x10 (fun b i j => xs2 (ix3 b i j))) 1 (fun r j => ld_whole x6 _ r j)) (fun r i => ld_slot x1 _ 1 rfl r i) k j).trans (congrArg (· + In.dwb (blk x0 x1 x2 x3 x4 x5 x6 x7 x8 x10 (fun b i j => xs2 (ix3 b i j))) 1 k j) (ld_slot xs0 _ 1 rfl k j))
  · refine (slot_miss (A := 4) (B := 512) (C := 1024) (n := 3) _ _ _ 2 (by decide) _ _).trans ?_
    refine (slot_hit (A := 4) (B := 512) (C := 1024) (n := 2) _ _ _ 2 (by decide) _ _).trans ?_
    exact (pay76_apply (blk x0 x1 x2 x3 x4 x5 x6 x7 x8 x10 (fun b i j => xs2 (ix3 b i j))) 2 (pay56_apply (blk x0 x1 x2 x3 x4 x5 x6 x7 x8 x10 (fun b i j => xs2 (ix3 b i j))) (fun r k => ld_whole x0 _ r k) (fun j k => ld_whole x10 _ j k)) (fun r j => ld_whole x7 _ r j) (fun r i => ld_slot x1 _ 3 rfl r i) k j).trans (congrArg (· + In.dwb (blk x0 x1 x2 x3 x4 x5 x6 x7 x8 x10 (fun b i j => xs2 (ix3 b i j))) 2 k j) (ld_slot xs0 _ 2 rfl k j))
  · refine (slot_hit (A := 4) (B := 512) (C := 1024) (n := 3) _ _ _ 3 (by decide) _ _).trans ?_
    exact (pay2_apply (blk x0 x1 x2 x3 x4 x5 x6 x7 x8 x10 (fun b i j => xs2 (ix3 b i j))) 3 (pay56_apply (blk x0 x1 x2 x3 x4 x5 x6 x7 x8 x10 (fun b i j => xs2 (ix3 b i j))) (fun r k => ld_whole x0 _ r k) (fun j k => ld_whole x10 _ j k)) (pay92_apply (blk x0 x1 x2 x3 x4 x5 x6 x7 x8 x10 (fun b i j => xs2 (ix3 b i j))) 3 (fun r j => ld_whole x8 _ r j)) (fun r i => ld_slot x1 _ 2 rfl r i) k j).trans (congrArg (· + In.dwb (blk x0 x1 x2 x3 x4 x5 x6 x7 x8 x10 (fun b i j => xs2 (ix3 b i j))) 3 k j) (ld_slot xs0 _ 3 rfl k j))

/-- The output weight's gradient so far. -/
theorem acco_B (k j : Fin 1024) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 (ix2 k j) = xs1 (ix2 k j) + In.dwo (blk x0 x1 x2 x3 x4 x5 x6 x7 x8 x10 (fun b i j => xs2 (ix3 b i j))) k j := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  rw [View.canon_cons_unit_lit _ _ _ (by decide)]
  refine (pay55_apply (blk x0 x1 x2 x3 x4 x5 x6 x7 x8 x10 (fun b i j => xs2 (ix3 b i j))) (fun r k => ld_whole x0 _ r k) (fun r k => ld_whole x3 _ r k) k j).trans
    (congrArg (· + In.dwo (blk x0 x1 x2 x3 x4 x5 x6 x7 x8 x10 (fun b i j => xs2 (ix3 b i j))) k j) (ld_whole xs1 _ k j))

end Cert.KernelIdeal.Gen

end
-- ==== Proof.CaseC.lean ====
/-
  The last grid step: the tile's part is added and the two weight gradients are written out.
-/
module

public import proofs.«01_k».proof.Proof.Gen.KernelIdeal.Frame
public import Idealize.ShloMosaic.Lib.ValueIdx
public import Idealize.ShloMosaic.Lib.Pointwise
public import Idealize.ShloMosaic.Lib.Pipeline.Value
public import Idealize.ShloMosaic.Lib.Pipeline.ValueKit
public import proofs.«01_k».proof.Proof.Block

@[expose] public section

set_option maxRecDepth 16384
set_option maxHeartbeats 400000

noncomputable section

namespace Cert.KernelIdeal.Gen

open Idealize.ShloMosaic Idealize.ShloMosaic.TcCoe Idealize.ShloMosaic.Tactic
open Cert.KernelIdeal
/-! ## What the body leaves on the last of the grid points -/

open Cert.MergeBwd

variable (c : Dev nD) (i : grid0.Coords) (arg1 : Memref sig .tc .vmem S256x1024 .f32) (harg1 : arg1.IsWhole) (arg2 : Memref sig .tc .vmem S4x256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x512 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S8x2048x128 .bf16) (harg10 : arg10.IsWhole) (arg11 : Memref sig .tc .vmem S1024x1024 .bf16) (harg11 : arg11.IsWhole) (arg12 : Memref sig .tc .vmem S3x256x512 .bf16) (harg12 : arg12.IsWhole) (arg13 : Memref sig .tc .vmem S256x512 .bf16) (harg13 : arg13.IsWhole) (arg14 : Memref sig .tc .vmem S256x128 .f32) (harg14 : arg14.IsWhole) (arg15 : Memref sig .tc .vmem S256x512 .bf16) (harg15 : arg15.IsWhole) (arg16 : Memref sig .tc .vmem S256x4096 .bf16) (harg16 : arg16.IsWhole) (arg17 : Memref sig .tc .vmem S8x4x512x128 .bf16) (harg17 : arg17.IsWhole) (arg18 : Memref sig .tc .vmem S1024x1024 .bf16) (harg18 : arg18.IsWhole) (arg19 : Memref sig .tc .vmem S4x512x1024 .f32) (harg19 : arg19.IsWhole) (arg20 : Memref sig .tc .vmem S1024x1024 .f32) (harg20 : arg20.IsWhole) (arg21 : Memref sig .tc .vmem S4x512x1024 .bf16) (harg21 : arg21.IsWhole) (hc0 : ¬cond0_0 i) (hc1 : cond0_1 i)
  (x0 : Vec Ideal S256x1024 .f32) (x1 : Vec Ideal S4x256x512 .bf16) (x2 : Vec Ideal S256x512 .bf16) (x3 : Vec Ideal S256x1024 .bf16) (x4 : Vec Ideal S256x512 .bf16) (x5 : Vec Ideal S256x1024 .bf16) (x6 : Vec Ideal S256x1024 .bf16) (x7 : Vec Ideal S256x1024 .bf16) (x8 : Vec Ideal S256x1024 .bf16) (x9 : Vec Ideal S8x2048x128 .bf16) (x10 : Vec Ideal S1024x1024 .bf16) (xs0 : Vec Ideal S4x512x1024 .f32) (xs1 : Vec Ideal S1024x1024 .f32) (xs2 : Vec Ideal S4x512x1024 .bf16)

/-- The three branch gradients. -/
theorem out11_C (s : Fin 3) (r : Fin 256) (k : Fin 512) :
    out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 (ix3 s r k) = In.dyb (blk x0 x1 x2 x3 x4 x5 x6 x7 x8 x10 (fun b i j => xs2 (ix3 b i j))) r (dySlot s) k := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  have hs : s = 0 ∨ s = 1 ∨ s = 2 := by fin_cases s <;> decide
  rcases hs with rfl | rfl | rfl
  · refine (slot_miss (A := 3) (B := 256) (C := 512) (n := 2) _ _ _ 0 (by decide) _ _).trans ?_
    refine (slot_miss (A := 3) (B := 256) (C := 512) (n := 1) _ _ _ 0 (by decide) _ _).trans ?_
    refine (slot_hit (A := 3) (B := 256) (C := 512) (n := 0) _ _ _ 0 (by decide) _ _).trans ?_
    exact pay63_apply (blk x0 x1 x2 x3 x4 x5 x6 x7 x8 x10 (fun b i j => xs2 (ix3 b i j))) 0 (pay56_apply (blk x0 x1 x2 x3 x4 x5 x6 x7 x8 x10 (fun b i j => xs2 (ix3 b i j))) (fun r k => ld_whole x0 _ r k) (fun j k => ld_whole x10 _ j k)) (pay57_apply (blk x0 x1 x2 x3 x4 x5 x6 x7 x8 x10 (fun b i j => xs2 (ix3 b i j))) 0 (fun r j => ld_whole x5 _ r j)) (fun i j => ld_slot xs2 _ 0 rfl i j) r k
  · refine (slot_miss (A := 3) (B := 256) (C := 512) (n := 2) _ _ _ 1 (by decide) _ _).trans ?_
    refine (slot_hit (A := 3) (B := 256) (C := 512) (n := 1) _ _ _ 1 (by decide) _ _).trans ?_
    exact pay69_apply (blk x0 x1 x2 x3 x4 x5 x6 x7 x8 x10 (fun b i j => xs2 (ix3 b i j))) 1 (pay56_apply (blk x0 x1 x2 x3 x4 x5 x6 x7 x8 x10 (fun b i j => xs2 (ix3 b i j))) (fun r k => ld_whole x0 _ r k) (fun j k => ld_whole x10 _ j k)) (pay64_apply (blk x0 x1 x2 x3 x4 x5 x6 x7 x8 x10 (fun b i j => xs2 (ix3 b i j))) 1 (fun r j => ld_whole x6 _ r j)) (fun i j => ld_slot xs2 _ 1 rfl i j) r k
  · refine (slot_hit (A := 3) (B := 256) (C := 512) (n := 2) _ _ _ 2 (by decide) _ _).trans ?_
    exact pay3_apply (blk x0 x1 x2 x3 x4 x5 x6 x7 x8 x10 (fun b i j => xs2 (ix3 b i j))) 3 (pay56_apply (blk x0 x1 x2 x3 x4 x5 x6 x7 x8 x10 (fun b i j => xs2 (ix3 b i j))) (fun r k => ld_whole x0 _ r k) (fun j k => ld_whole x10 _ j k)) (pay92_apply (blk x0 x1 x2 x3 x4 x5 x6 x7 x8 x10 (fun b i j => xs2 (ix3 b i j))) 3 (fun r j => ld_whole x8 _ r j)) (fun i j => ld_slot xs2 _ 3 rfl i j) r k

/-- The gradient of the attention output. -/
theorem out12_C (r : Fin 256) (k : Fin 512) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 (ix2 r k) = In.doc (blk x0 x1 x2 x3 x4 x5 x6 x7 x8 x10 (fun b i j => xs2 (ix3 b i j))) r k := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  rw [View.canon_cons_unit_lit _ _ _ (by decide)]
  exact pay83_apply (blk x0 x1 x2 x3 x4 x5 x6 x7 x8 x10 (fun b i j => xs2 (ix3 b i j))) (pay77_apply (blk x0 x1 x2 x3 x4 x5 x6 x7 x8 x10 (fun b i j => xs2 (ix3 b i j))) 2 (pay56_apply (blk x0 x1 x2 x3 x4 x5 x6 x7 x8 x10 (fun b i j => xs2 (ix3 b i j))) (fun r k => ld_whole x0 _ r k) (fun j k => ld_whole x10 _ j k)) (fun r j => ld_whole x7 _ r j) (fun i j => ld_slot xs2 _ 2 rfl i j)) (fun r i => ld_whole x4 _ r i) r k

/-- The gradient of the attention gate's input. -/
theorem out14_C (r : Fin 256) (k : Fin 512) :
    out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 (ix2 r k) = In.dcg (blk x0 x1 x2 x3 x4 x5 x6 x7 x8 x10 (fun b i j => xs2 (ix3 b i j))) r k := by
  unfold out0_C_14
  rw [View.read_writes_eq_canon _ _ _ (cover0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  rw [View.canon_cons_unit_lit _ _ _ (by decide)]
  exact pay82_apply (blk x0 x1 x2 x3 x4 x5 x6 x7 x8 x10 (fun b i j => xs2 (ix3 b i j))) (pay77_apply (blk x0 x1 x2 x3 x4 x5 x6 x7 x8 x10 (fun b i j => xs2 (ix3 b i j))) 2 (pay56_apply (blk x0 x1 x2 x3 x4 x5 x6 x7 x8 x10 (fun b i j => xs2 (ix3 b i j))) (fun r k => ld_whole x0 _ r k) (fun j k => ld_whole x10 _ j k)) (fun r j => ld_whole x7 _ r j) (fun i j => ld_slot xs2 _ 2 rfl i j)) (fun r i => ld_whole x4 _ r i) (fun r i => ld_whole x2 _ r i) r k

/-- The heads' row sums. -/
theorem out13_C (r : Fin 256) (l : Fin 128) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 (ix2 r l) = In.delta (blk x0 x1 x2 x3 x4 x5 x6 x7 x8 x10 (fun b i j => xs2 (ix3 b i j))) r l := by
  unfold out0_C_13
  rw [View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  rw [View.canon_cons_unit_lit _ _ _ (by decide)]
  exact pay91_apply r l (s := fun h => ∑ d : Fin 128, In.prod (blk x0 x1 x2 x3 x4 x5 x6 x7 x8 x10 (fun b i j => xs2 (ix3 b i j))) r (In.headCol h d))
    (fun j => pay85_apply (blk x0 x1 x2 x3 x4 x5 x6 x7 x8 x10 (fun b i j => xs2 (ix3 b i j))) (pay77_apply (blk x0 x1 x2 x3 x4 x5 x6 x7 x8 x10 (fun b i j => xs2 (ix3 b i j))) 2 (pay56_apply (blk x0 x1 x2 x3 x4 x5 x6 x7 x8 x10 (fun b i j => xs2 (ix3 b i j))) (fun r k => ld_whole x0 _ r k) (fun j k => ld_whole x10 _ j k)) (fun r j => ld_whole x7 _ r j) (fun i j => ld_slot xs2 _ 2 rfl i j)) (fun r i => ld_whole x4 _ r i) (fun r i => ld_whole x2 _ r i) r j) (fun j => pay86_apply (blk x0 x1 x2 x3 x4 x5 x6 x7 x8 x10 (fun b i j => xs2 (ix3 b i j))) (pay77_apply (blk x0 x1 x2 x3 x4 x5 x6 x7 x8 x10 (fun b i j => xs2 (ix3 b i j))) 2 (pay56_apply (blk x0 x1 x2 x3 x4 x5 x6 x7 x8 x10 (fun b i j => xs2 (ix3 b i j))) (fun r k => ld_whole x0 _ r k) (fun j k => ld_whole x10 _ j k)) (fun r j => ld_whole x7 _ r j) (fun i j => ld_slot xs2 _ 2 rfl i j)) (fun r i => ld_whole x4 _ r i) (fun r i => ld_whole x2 _ r i) r j) (fun j => pay87_apply (blk x0 x1 x2 x3 x4 x5 x6 x7 x8 x10 (fun b i j => xs2 (ix3 b i j))) (pay77_apply (blk x0 x1 x2 x3 x4 x5 x6 x7 x8 x10 (fun b i j => xs2 (ix3 b i j))) 2 (pay56_apply (blk x0 x1 x2 x3 x4 x5 x6 x7 x8 x10 (fun b i j => xs2 (ix3 b i j))) (fun r k => ld_whole x0 _ r k) (fun j k => ld_whole x10 _ j k)) (fun r j => ld_whole x7 _ r j) (fun i j => ld_slot xs2 _ 2 rfl i j)) (fun r i => ld_whole x4 _ r i) (fun r i => ld_whole x2 _ r i) r j) (fun j => pay88_apply (blk x0 x1 x2 x3 x4 x5 x6 x7 x8 x10 (fun b i j => xs2 (ix3 b i j))) (pay77_apply (blk x0 x1 x2 x3 x4 x5 x6 x7 x8 x10 (fun b i j => xs2 (ix3 b i j))) 2 (pay56_apply (blk x0 x1 x2 x3 x4 x5 x6 x7 x8 x10 (fun b i j => xs2 (ix3 b i j))) (fun r k => ld_whole x0 _ r k) (fun j k => ld_whole x10 _ j k)) (fun r j => ld_whole x7 _ r j) (fun i j => ld_slot xs2 _ 2 rfl i j)) (fun r i => ld_whole x4 _ r i) (fun r i => ld_whole x2 _ r i) r j)

/-- The gradients of the merge gates' inputs. -/
theorem out15_C (r : Fin 256) (b : Fin 4) (k : Fin 1024) (q : Fin 4096) (hq : q.val = 1024 * b.val + k.val) :
    out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 (ix2 r q) = In.dgm (blk x0 x1 x2 x3 x4 x5 x6 x7 x8 x10 (fun b i j => xs2 (ix3 b i j))) r b k := by
  have hk := k.isLt
  unfold out0_C_15
  rw [View.read_writes_eq_canon _ _ _ (cover0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  have hs : b = 0 ∨ b = 1 ∨ b = 2 ∨ b = 3 := by fin_cases b <;> decide
  rcases hs with rfl | rfl | rfl | rfl
  · exact (cols_miss _ _ _ r q (by simp at hq; omega)).trans ((cols_miss _ _ _ r q (by simp at hq; omega)).trans ((cols_miss _ _ _ r q (by simp at hq; omega)).trans ((cols_hit _ _ _ r q k (by simpa using hq)).trans (pay60_apply (blk x0 x1 x2 x3 x4 x5 x6 x7 x8 x10 (fun b i j => xs2 (ix3 b i j))) 0 (pay56_apply (blk x0 x1 x2 x3 x4 x5 x6 x7 x8 x10 (fun b i j => xs2 (ix3 b i j))) (fun r k => ld_whole x0 _ r k) (fun j k => ld_whole x10 _ j k)) (pay57_apply (blk x0 x1 x2 x3 x4 x5 x6 x7 x8 x10 (fun b i j => xs2 (ix3 b i j))) 0 (fun r j => ld_whole x5 _ r j)) (fun r i => ld_slot x1 _ 0 rfl r i) (fun i j => ld_slot xs2 _ 0 rfl i j) r k))))
  · exact (cols_miss _ _ _ r q (by simp at hq; omega)).trans ((cols_miss _ _ _ r q (by simp at hq; omega)).trans ((cols_hit _ _ _ r q k (by simpa using hq)).trans (pay66_apply (blk x0 x1 x2 x3 x4 x5 x6 x7 x8 x10 (fun b i j => xs2 (ix3 b i j))) 1 (pay56_apply (blk x0 x1 x2 x3 x4 x5 x6 x7 x8 x10 (fun b i j => xs2 (ix3 b i j))) (fun r k => ld_whole x0 _ r k) (fun j k => ld_whole x10 _ j k)) (pay64_apply (blk x0 x1 x2 x3 x4 x5 x6 x7 x8 x10 (fun b i j => xs2 (ix3 b i j))) 1 (fun r j => ld_whole x6 _ r j)) (fun r i => ld_slot x1 _ 1 rfl r i) (fun i j => ld_slot xs2 _ 1 rfl i j) r k)))
  · exact (cols_miss _ _ _ r q (by simp at hq; omega)).trans ((cols_hit _ _ _ r q k (by simpa using hq)).trans (pay74_apply (blk x0 x1 x2 x3 x4 x5 x6 x7 x8 x10 (fun b i j => xs2 (ix3 b i j))) 2 (pay56_apply (blk x0 x1 x2 x3 x4 x5 x6 x7 x8 x10 (fun b i j => xs2 (ix3 b i j))) (fun r k => ld_whole x0 _ r k) (fun j k => ld_whole x10 _ j k)) (fun r j => ld_whole x7 _ r j) (fun r i => ld_slot x1 _ 3 rfl r i) (fun i j => ld_slot xs2 _ 2 rfl i j) r k))
  · exact (cols_hit _ _ _ r q k (by simpa using hq)).trans (pay94_apply (blk x0 x1 x2 x3 x4 x5 x6 x7 x8 x10 (fun b i j => xs2 (ix3 b i j))) 3 (pay56_apply (blk x0 x1 x2 x3 x4 x5 x6 x7 x8 x10 (fun b i j => xs2 (ix3 b i j))) (fun r k => ld_whole x0 _ r k) (fun j k => ld_whole x10 _ j k)) (fun r j => ld_whole x8 _ r j) (fun r i => ld_slot x1 _ 2 rfl r i) (fun i j => ld_slot xs2 _ 3 rfl i j) r k)

/-- The branch weights' gradient so far. -/
theorem acc_C (b : Fin 4) (k : Fin 512) (j : Fin 1024) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 (ix3 b k j) = xs0 (ix3 b k j) + In.dwb (blk x0 x1 x2 x3 x4 x5 x6 x7 x8 x10 (fun b i j => xs2 (ix3 b i j))) b k j := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  have hs : b = 0 ∨ b = 1 ∨ b = 2 ∨ b = 3 := by fin_cases b <;> decide
  rcases hs with rfl | rfl | rfl | rfl
  · refine (slot_miss (A := 4) (B := 512) (C := 1024) (n := 3) _ _ _ 0 (by decide) _ _).trans ?_
    refine (slot_miss (A := 4) (B := 512) (C := 1024) (n := 2) _ _ _ 0 (by decide) _ _).trans ?_
    refine (slot_miss (A := 4) (B := 512) (C := 1024) (n := 1) _ _ _ 0 (by decide) _ _).trans ?_
    refine (slot_hit (A := 4) (B := 512) (C := 1024) (n := 0) _ _ _ 0 (by decide) _ _).trans ?_
    exact (pay62_apply (blk x0 x1 x2 x3 x4 x5 x6 x7 x8 x10 (fun b i j => xs2 (ix3 b i j))) 0 (pay56_apply (blk x0 x1 x2 x3 x4 x5 x6 x7 x8 x10 (fun b i j => xs2 (ix3 b i j))) (fun r k => ld_whole x0 _ r k) (fun j k => ld_whole x10 _ j k)) (pay57_apply (blk x0 x1 x2 x3 x4 x5 x6 x7 x8 x10 (fun b i j => xs2 (ix3 b i j))) 0 (fun r j => ld_whole x5 _ r j)) (fun r i => ld_slot x1 _ 0 rfl r i) k j).trans (congrArg (· + In.dwb (blk x0 x1 x2 x3 x4 x5 x6 x7 x8 x10 (fun b i j => xs2 (ix3 b i j))) 0 k j) (ld_slot xs0 _ 0 rfl k j))
  · refine (slot_miss (A := 4) (B := 512) (C := 1024) (n := 3) _ _ _ 1 (by decide) _ _).trans ?_
    refine (slot_miss (A := 4) (B := 512) (C := 1024) (n := 2) _ _ _ 1 (by decide) _ _).trans ?_
    refine (slot_hit (A := 4) (B := 512) (C := 1024) (n := 1) _ _ _ 1 (by decide) _ _).trans ?_
    exact (pay68_apply (blk x0 x1 x2 x3 x4 x5 x6 x7 x8 x10 (fun b i j => xs2 (ix3 b i j))) 1 (pay56_apply (blk x0 x1 x2 x3 x4 x5 x6 x7 x8 x10 (fun b i j => xs2 (ix3 b i j))) (fun r k => ld_whole x0 _ r k) (fun j k => ld_whole x10 _ j k)) (pay64_apply (blk x0 x1 x2 x3 x4 x5 x6 x7 x8 x10 (fun b i j => xs2 (ix3 b i j))) 1 (fun r j => ld_whole x6 _ r j)) (fun r i => ld_slot x1 _ 1 rfl r i) k j).trans (congrArg (· + In.dwb (blk x0 x1 x2 x3 x4 x5 x6 x7 x8 x10 (fun b i j => xs2 (ix3 b i j))) 1 k j) (ld_slot xs0 _ 1 rfl k j))
  · refine (slot_miss (A := 4) (B := 512) (C := 1024) (n := 3) _ _ _ 2 (by decide) _ _).trans ?_
    refine (slot_hit (A := 4) (B := 512) (C := 1024) (n := 2) _ _ _ 2 (by decide) _ _).trans ?_
    exact (pay76_apply (blk x0 x1 x2 x3 x4 x5 x6 x7 x8 x10 (fun b i j => xs2 (ix3 b i j))) 2 (pay56_apply (blk x0 x1 x2 x3 x4 x5 x6 x7 x8 x10 (fun b i j => xs2 (ix3 b i j))) (fun r k => ld_whole x0 _ r k) (fun j k => ld_whole x10 _ j k)) (fun r j => ld_whole x7 _ r j) (fun r i => ld_slot x1 _ 3 rfl r i) k j).trans (congrArg (· + In.dwb (blk x0 x1 x2 x3 x4 x5 x6 x7 x8 x10 (fun b i j => xs2 (ix3 b i j))) 2 k j) (ld_slot xs0 _ 2 rfl k j))
  · refine (slot_hit (A := 4) (B := 512) (C := 1024) (n := 3) _ _ _ 3 (by decide) _ _).trans ?_
    exact (pay2_apply (blk x0 x1 x2 x3 x4 x5 x6 x7 x8 x10 (fun b i j => xs2 (ix3 b i j))) 3 (pay56_apply (blk x0 x1 x2 x3 x4 x5 x6 x7 x8 x10 (fun b i j => xs2 (ix3 b i j))) (fun r k => ld_whole x0 _ r k) (fun j k => ld_whole x10 _ j k)) (pay92_apply (blk x0 x1 x2 x3 x4 x5 x6 x7 x8 x10 (fun b i j => xs2 (ix3 b i j))) 3 (fun r j => ld_whole x8 _ r j)) (fun r i => ld_slot x1 _ 2 rfl r i) k j).trans (congrArg (· + In.dwb (blk x0 x1 x2 x3 x4 x5 x6 x7 x8 x10 (fun b i j => xs2 (ix3 b i j))) 3 k j) (ld_slot xs0 _ 3 rfl k j))

/-- The output weight's gradient so far. -/
theorem acco_C (k j : Fin 1024) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 (ix2 k j) = xs1 (ix2 k j) + In.dwo (blk x0 x1 x2 x3 x4 x5 x6 x7 x8 x10 (fun b i j => xs2 (ix3 b i j))) k j := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  rw [View.canon_cons_unit_lit _ _ _ (by decide)]
  refine (pay55_apply (blk x0 x1 x2 x3 x4 x5 x6 x7 x8 x10 (fun b i j => xs2 (ix3 b i j))) (fun r k => ld_whole x0 _ r k) (fun r k => ld_whole x3 _ r k) k j).trans
    (congrArg (· + In.dwo (blk x0 x1 x2 x3 x4 x5 x6 x7 x8 x10 (fun b i j => xs2 (ix3 b i j))) k j) (ld_whole xs1 _ k j))

/-- The branch weights' gradient, as the last grid point stores it. -/
theorem out16_C (n : Fin 8) (b : Fin 4) (k : Fin 512) (q : Fin 128) (j : Fin 1024) (hj : j.val = 128 * n.val + q.val) :
    out0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 (ix4 n b k q) = xs0 (ix3 b k j) + In.dwb (blk x0 x1 x2 x3 x4 x5 x6 x7 x8 x10 (fun b i j => xs2 (ix3 b i j))) b k j := by
  have hacc := acc_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 b k j
  unfold sout0_C_0 at hacc
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2)] at hacc
  unfold kernelRun0_C at hacc
  dsimp only at hacc
  revert hacc
  unfold out0_C_16
  rw [View.read_writes_eq_canon _ _ _ (cover0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  intro hacc
  have hs : n = 0 ∨ n = 1 ∨ n = 2 ∨ n = 3 ∨ n = 4 ∨ n = 5 ∨ n = 6 ∨ n = 7 := by fin_cases n <;> decide
  rcases hs with rfl | rfl | rfl | rfl | rfl | rfl | rfl | rfl
  · refine (slot4_miss (A := 8) (B := 4) (C := 512) (D := 128) (n := 7) _ _ _ 0 (by decide) _ _ _).trans ((slot4_miss (A := 8) (B := 4) (C := 512) (D := 128) (n := 6) _ _ _ 0 (by decide) _ _ _).trans ((slot4_miss (A := 8) (B := 4) (C := 512) (D := 128) (n := 5) _ _ _ 0 (by decide) _ _ _).trans ((slot4_miss (A := 8) (B := 4) (C := 512) (D := 128) (n := 4) _ _ _ 0 (by decide) _ _ _).trans ((slot4_miss (A := 8) (B := 4) (C := 512) (D := 128) (n := 3) _ _ _ 0 (by decide) _ _ _).trans ((slot4_miss (A := 8) (B := 4) (C := 512) (D := 128) (n := 2) _ _ _ 0 (by decide) _ _ _).trans ((slot4_miss (A := 8) (B := 4) (C := 512) (D := 128) (n := 1) _ _ _ 0 (by decide) _ _ _).trans ((slot4_hit (A := 8) (B := 4) (C := 512) (D := 128) (n := 0) _ _ _ 0 (by decide) _ _ _).trans ?_)))))))
    unfold k0_pay45
    simp only [pointwise]
    exact (readCov_cols (A := 4) (B := 512) (C := 128) (D := 1024) (n := 0) _ _ _ b k q j (by simpa using hj)).trans hacc
  · refine (slot4_miss (A := 8) (B := 4) (C := 512) (D := 128) (n := 7) _ _ _ 1 (by decide) _ _ _).trans ((slot4_miss (A := 8) (B := 4) (C := 512) (D := 128) (n := 6) _ _ _ 1 (by decide) _ _ _).trans ((slot4_miss (A := 8) (B := 4) (C := 512) (D := 128) (n := 5) _ _ _ 1 (by decide) _ _ _).trans ((slot4_miss (A := 8) (B := 4) (C := 512) (D := 128) (n := 4) _ _ _ 1 (by decide) _ _ _).trans ((slot4_miss (A := 8) (B := 4) (C := 512) (D := 128) (n := 3) _ _ _ 1 (by decide) _ _ _).trans ((slot4_miss (A := 8) (B := 4) (C := 512) (D := 128) (n := 2) _ _ _ 1 (by decide) _ _ _).trans ((slot4_hit (A := 8) (B := 4) (C := 512) (D := 128) (n := 1) _ _ _ 1 (by decide) _ _ _).trans ?_))))))
    unfold k0_pay46
    simp only [pointwise]
    exact (readCov_cols (A := 4) (B := 512) (C := 128) (D := 1024) (n := 128) _ _ _ b k q j (by simpa using hj)).trans hacc
  · refine (slot4_miss (A := 8) (B := 4) (C := 512) (D := 128) (n := 7) _ _ _ 2 (by decide) _ _ _).trans ((slot4_miss (A := 8) (B := 4) (C := 512) (D := 128) (n := 6) _ _ _ 2 (by decide) _ _ _).trans ((slot4_miss (A := 8) (B := 4) (C := 512) (D := 128) (n := 5) _ _ _ 2 (by decide) _ _ _).trans ((slot4_miss (A := 8) (B := 4) (C := 512) (D := 128) (n := 4) _ _ _ 2 (by decide) _ _ _).trans ((slot4_miss (A := 8) (B := 4) (C := 512) (D := 128) (n := 3) _ _ _ 2 (by decide) _ _ _).trans ((slot4_hit (A := 8) (B := 4) (C := 512) (D := 128) (n := 2) _ _ _ 2 (by decide) _ _ _).trans ?_)))))
    unfold k0_pay47
    simp only [pointwise]
    exact (readCov_cols (A := 4) (B := 512) (C := 128) (D := 1024) (n := 256) _ _ _ b k q j (by simpa using hj)).trans hacc
  · refine (slot4_miss (A := 8) (B := 4) (C := 512) (D := 128) (n := 7) _ _ _ 3 (by decide) _ _ _).trans ((slot4_miss (A := 8) (B := 4) (C := 512) (D := 128) (n := 6) _ _ _ 3 (by decide) _ _ _).trans ((slot4_miss (A := 8) (B := 4) (C := 512) (D := 128) (n := 5) _ _ _ 3 (by decide) _ _ _).trans ((slot4_miss (A := 8) (B := 4) (C := 512) (D := 128) (n := 4) _ _ _ 3 (by decide) _ _ _).trans ((slot4_hit (A := 8) (B := 4) (C := 512) (D := 128) (n := 3) _ _ _ 3 (by decide) _ _ _).trans ?_))))
    unfold k0_pay48
    simp only [pointwise]
    exact (readCov_cols (A := 4) (B := 512) (C := 128) (D := 1024) (n := 384) _ _ _ b k q j (by simpa using hj)).trans hacc
  · refine (slot4_miss (A := 8) (B := 4) (C := 512) (D := 128) (n := 7) _ _ _ 4 (by decide) _ _ _).trans ((slot4_miss (A := 8) (B := 4) (C := 512) (D := 128) (n := 6) _ _ _ 4 (by decide) _ _ _).trans ((slot4_miss (A := 8) (B := 4) (C := 512) (D := 128) (n := 5) _ _ _ 4 (by decide) _ _ _).trans ((slot4_hit (A := 8) (B := 4) (C := 512) (D := 128) (n := 4) _ _ _ 4 (by decide) _ _ _).trans ?_)))
    unfold k0_pay4 k0_pay49
    simp only [pointwise]
    exact (readCov_cols (A := 4) (B := 512) (C := 128) (D := 1024) (n := 512) _ _ _ b k q j (by simpa using hj)).trans hacc
  · refine (slot4_miss (A := 8) (B := 4) (C := 512) (D := 128) (n := 7) _ _ _ 5 (by decide) _ _ _).trans ((slot4_miss (A := 8) (B := 4) (C := 512) (D := 128) (n := 6) _ _ _ 5 (by decide) _ _ _).trans ((slot4_hit (A := 8) (B := 4) (C := 512) (D := 128) (n := 5) _ _ _ 5 (by decide) _ _ _).trans ?_))
    unfold k0_pay5
    simp only [pointwise]
    exact (readCov_cols (A := 4) (B := 512) (C := 128) (D := 1024) (n := 640) _ _ _ b k q j (by simpa using hj)).trans hacc
  · refine (slot4_miss (A := 8) (B := 4) (C := 512) (D := 128) (n := 7) _ _ _ 6 (by decide) _ _ _).trans ((slot4_hit (A := 8) (B := 4) (C := 512) (D := 128) (n := 6) _ _ _ 6 (by decide) _ _ _).trans ?_)
    unfold k0_pay6
    simp only [pointwise]
    exact (readCov_cols (A := 4) (B := 512) (C := 128) (D := 1024) (n := 768) _ _ _ b k q j (by simpa using hj)).trans hacc
  · refine (slot4_hit (A := 8) (B := 4) (C := 512) (D := 128) (n := 7) _ _ _ 7 (by decide) _ _ _).trans ?_
    unfold k0_pay7
    simp only [pointwise]
    exact (readCov_cols (A := 4) (B := 512) (C := 128) (D := 1024) (n := 896) _ _ _ b k q j (by simpa using hj)).trans hacc

/-- The output weight's gradient, as the last grid point stores it. -/
theorem out17_C (k j : Fin 1024) : out0_C_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 (ix2 k j) = xs1 (ix2 k j) + In.dwo (blk x0 x1 x2 x3 x4 x5 x6 x7 x8 x10 (fun b i j => xs2 (ix3 b i j))) k j := by
  have hacc := acco_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2 k j
  unfold sout0_C_1 at hacc
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2)] at hacc
  unfold kernelRun0_C at hacc
  dsimp only at hacc
  revert hacc
  unfold out0_C_17
  rw [View.read_writes_eq_canon _ _ _ (cover0_C_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 xs0 xs1 xs2)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]
  intro hacc
  rw [View.canon_cons_unit_lit _ _ _ (by decide)]
  unfold k0_pay8
  simp only [pointwise]
  rw [View.readCov_eq_canon']
  refine Eq.trans (congrArg (View.canon _) ?_) hacc
  funext a
  apply Fin.ext
  refine (Rect.idx_unit_val _ _ _ _ _).trans ?_
  fin_cases a
  · show 0 + k.val = k.val; omega
  · show 0 + j.val = j.val; omega

end Cert.KernelIdeal.Gen

end
-- ==== Proof.Fold.lean ====
/-
  The accumulators after any number of grid steps hold the sums over the rows seen so far.
-/
module

public import proofs.«01_k».proof.Proof.Gen.KernelIdeal.Value
public import Idealize.ShloMosaic.Lib.ValueIdx
public import Idealize.ShloMosaic.Lib.Pointwise
public import Idealize.ShloMosaic.Lib.Pipeline.Value
public import Idealize.ShloMosaic.Lib.Pipeline.ValueKit
public import proofs.«01_k».proof.Proof.CaseA
public import proofs.«01_k».proof.Proof.CaseB
public import proofs.«01_k».proof.Proof.CaseC

@[expose] public section

set_option maxRecDepth 16384
set_option maxHeartbeats 400000

noncomputable section

namespace Cert.KernelIdeal.Gen

open Idealize.ShloMosaic Idealize.ShloMosaic.TcCoe Idealize.ShloMosaic.Tactic
open Cert.KernelIdeal
/-! ## The grid points, one after another

`hblk` says the data of grid point `t` is that of the rows `256 t … 256 t + 255` of one array of data `I`. Then every grid point
leaves its rows' results in its output blocks, and the two accumulators hold the sums over the rows so far. -/

open Cert.MergeBwd Cert.KernelIdeal.Value

/-- The data of grid point `t`, as its windows hold it. -/
def pointIn (m : (ℓ : Loc nD τ sig) → Buf (Elt Ideal) ℓ) (c : Dev nD) (t : Fin cfg0.N)
    (w : Fin 4 → Fin 512 → Fin 1024 → EReal) : In (Fin 256) :=
  blk (iblk m c 0 t) (iblk m c 1 t) (iblk m c 2 t) (iblk m c 3 t) (iblk m c 4 t) (iblk m c 5 t) (iblk m c 6 t)
    (iblk m c 7 t) (iblk m c 8 t) (iblk m c 10 t) w

variable (m : (ℓ : Loc nD τ sig) → Buf (Elt Ideal) ℓ) (c : Dev nD) (I : In (Fin 4096))

/-- The grid point of number `n`. -/
def pt (n : ℕ) (hn : n < 16) : Fin cfg0.N := ⟨n, lt_of_lt_of_eq hn N_0.symm⟩

/-- The rows of one block. -/
def part (n : ℕ) : In (Fin 256) := I.rows fun r => row ⟨n % 16, Nat.mod_lt _ (by decide)⟩ r

/-- What the fold leaves after point `n`. -/
structure Done (n : ℕ) (a : Vec Ideal S3x256x512 .bf16 × Vec Ideal S256x512 .bf16 × Vec Ideal S256x128 .f32 × Vec Ideal S256x512 .bf16
    × Vec Ideal S256x4096 .bf16 × Vec Ideal S8x4x512x128 .bf16 × Vec Ideal S1024x1024 .bf16 × Vec Ideal S4x512x1024 .f32
    × Vec Ideal S1024x1024 .f32 × Vec Ideal S4x512x1024 .bf16) : Prop where
  dy : ∀ s r k, a.1 (ix3 s r k) = (part I n).dyb r (dySlot s) k
  doc : ∀ r k, a.2.1 (ix2 r k) = (part I n).doc r k
  delta : ∀ r l, a.2.2.1 (ix2 r l) = (part I n).delta r l
  dcg : ∀ r k, a.2.2.2.1 (ix2 r k) = (part I n).dcg r k
  dgm : ∀ r b k (q : Fin 4096), q.val = 1024 * b.val + k.val → a.2.2.2.2.1 (ix2 r q) = (part I n).dgm r b k
  acc : ∀ b k j, a.2.2.2.2.2.2.2.1 (ix3 b k j) = ∑ t ∈ Finset.range (n + 1), (part I t).dwb b k j
  acco : ∀ k j, a.2.2.2.2.2.2.2.2.1 (ix2 k j) = ∑ t ∈ Finset.range (n + 1), (part I t).dwo k j
  wbs : n < 15 → ∀ b k j, a.2.2.2.2.2.2.2.2.2 (ix3 b k j) = I.w b k j
  dwb : n = 15 → ∀ (s : Fin 8) b k (q : Fin 128) (j : Fin 1024), j.val = 128 * s.val + q.val →
    a.2.2.2.2.2.1 (ix4 s b k q) = ∑ t ∈ Finset.range (n + 1), (part I t).dwb b k j
  dwo : n = 15 → ∀ k j, a.2.2.2.2.2.2.1 (ix2 k j) = ∑ t ∈ Finset.range (n + 1), (part I t).dwo k j

variable (hblk : ∀ (n : ℕ) (hn : n < 16), pointIn m c (pt n hn) (wOf (iblk m c 9 (pt n hn))) = part I n)

include hblk in
/-- The same with the weights read from scratch, once they hold what the window holds. -/
theorem pointIn_eq (n : ℕ) (hn : n < 16) (w : Fin 4 → Fin 512 → Fin 1024 → EReal) (hw : ∀ b k j, w b k j = I.w b k j) :
    pointIn m c (pt n hn) w = part I n := by
  rw [← hblk n hn]
  have e : wOf (iblk m c 9 (pt n hn)) = I.w := congrArg In.w (hblk n hn)
  have e' : w = I.w := funext fun b => funext fun k => funext fun j => hw b k j
  rw [e, e']

include hblk in
theorem done_zero (hn : 0 < cfg0.N) : Done I 0 (outsAt0 m c 0 hn) := by
  have hb := hblk 0 (by decide)
  rw [outsAt0_zero, stAt0_A m c ⟨0, hn⟩ _ (Nat.zero_mod _) (fun h => by (try dsimp only at h); omega)]
  refine ⟨?_, ?_, ?_, ?_, ?_, ?_, ?_, ?_, ?_, ?_⟩
  · intro s r k; dsimp only; rw [← hb]; apply out11_A
  · intro r k; dsimp only; rw [← hb]; apply out12_A
  · intro r l; dsimp only; rw [← hb]; apply out13_A
  · intro r k; dsimp only; rw [← hb]; apply out14_A
  · intro r b k q hq; dsimp only; rw [← hb]; apply out15_A (hq := hq)
  · intro b k j; dsimp only; rw [Finset.sum_range_one, ← hb]; apply acc_A
  · intro k j; dsimp only; rw [Finset.sum_range_one, ← hb]; apply acco_A
  · intro _ b k j
    have e : wOf (iblk m c 9 (pt 0 (by decide))) = I.w := congrArg In.w hb
    dsimp only; rw [← e]; apply wbs_A
  · intro h; exact absurd h (by decide)
  · intro h; exact absurd h (by decide)

include hblk in
theorem done_succ (n : ℕ) (hn : n + 1 < cfg0.N) (a) (ha : Done I n a) : Done I (n + 1) (stAt0 m c (n + 1) hn a) := by
  have hN : n + 1 < 16 := lt_of_lt_of_eq hn N_0
  have hb := pointIn_eq m c I hblk (n + 1) hN (fun b k j => a.2.2.2.2.2.2.2.2.2 (ix3 b k j)) (ha.wbs (by omega))
  by_cases h15 : n + 1 = 15
  · rw [stAt0_C m c ⟨n + 1, hn⟩ a (by dsimp only; omega) (by dsimp only; omega)]
    refine ⟨?_, ?_, ?_, ?_, ?_, ?_, ?_, ?_, ?_, ?_⟩
    · intro s r k; dsimp only; rw [← hb]; apply out11_C
    · intro r k; dsimp only; rw [← hb]; apply out12_C
    · intro r l; dsimp only; rw [← hb]; apply out13_C
    · intro r k; dsimp only; rw [← hb]; apply out14_C
    · intro r b k q hq; dsimp only; rw [← hb]; apply out15_C (hq := hq)
    · intro b k j; dsimp only; rw [Finset.sum_range_succ, ← ha.acc, ← hb]; apply acc_C
    · intro k j; dsimp only; rw [Finset.sum_range_succ, ← ha.acco, ← hb]; apply acco_C
    · intro h; omega
    · intro _ s b k q j hj; dsimp only; rw [Finset.sum_range_succ, ← ha.acc, ← hb]; apply out16_C (hj := hj)
    · intro _ k j; dsimp only; rw [Finset.sum_range_succ, ← ha.acco, ← hb]; apply out17_C
  · rw [stAt0_B m c ⟨n + 1, hn⟩ a (by dsimp only; omega) (by dsimp only; omega)]
    refine ⟨?_, ?_, ?_, ?_, ?_, ?_, ?_, ?_, ?_, ?_⟩
    · intro s r k; dsimp only; rw [← hb]; apply out11_B
    · intro r k; dsimp only; rw [← hb]; apply out12_B
    · intro r l; dsimp only; rw [← hb]; apply out13_B
    · intro r k; dsimp only; rw [← hb]; apply out14_B
    · intro r b k q hq; dsimp only; rw [← hb]; apply out15_B (hq := hq)
    · intro b k j; dsimp only; rw [Finset.sum_range_succ, ← ha.acc, ← hb]; apply acc_B
    · intro k j; dsimp only; rw [Finset.sum_range_succ, ← ha.acco, ← hb]; apply acco_B
    · intro _ b k j; exact ha.wbs (by omega) b k j
    · intro h; exact absurd h h15
    · intro h; exact absurd h h15

include hblk in
theorem done (n : ℕ) (hn : n < cfg0.N) : Done I n (outsAt0 m c n hn) := by
  induction n with
  | zero => exact done_zero m c I hblk hn
  | succ n ih => rw [outsAt0_succ]; exact done_succ m c I hblk n hn _ (ih _)

include hblk in
/-- The fold after point `n`, as the results are stated over it. -/
theorem done_acc (n : ℕ) (hn : n < cfg0.N) :
    Done I n (Pipeline.accAt (fun n h => stAt0 m c n h junk0) (stAt0 m c) 0 n (by omega)) := by
  rw [← outsAt0_sweep m c n hn]
  exact done m c I hblk n hn

/-- The blocks' sums add up to the sum over all rows. -/
theorem sum_dwb (b : Fin 4) (k : Fin 512) (j : Fin 1024) : ∑ t ∈ Finset.range 16, (part I t).dwb b k j = I.dwb b k j := by
  rw [Finset.sum_range, In.dwb, sum_rows]
  refine Finset.sum_congr rfl fun t _ => ?_
  have e : (⟨t.val % 16, Nat.mod_lt _ (by decide)⟩ : Fin 16) = t := Fin.ext (Nat.mod_eq_of_lt t.isLt)
  unfold part
  rw [e]
  rfl

theorem sum_dwo (k j : Fin 1024) : ∑ t ∈ Finset.range 16, (part I t).dwo k j = I.dwo k j := by
  rw [Finset.sum_range, In.dwo, sum_rows]
  refine Finset.sum_congr rfl fun t _ => ?_
  have e : (⟨t.val % 16, Nat.mod_lt _ (by decide)⟩ : Fin 16) = t := Fin.ext (Nat.mod_eq_of_lt t.isLt)
  unfold part
  rw [e]
  rfl

end Cert.KernelIdeal.Gen

end
-- ==== Proof.HostV.lean ====
/-
  The arrays that the host code prepares for the kernel, read one element at a time.
-/
module

public import proofs.«01_k».proof.Proof.Gen.KernelIdeal.Frame
public import Idealize.ShloMosaic.Lib.ValueIdx
public import Idealize.ShloMosaic.Lib.Claim
public import Idealize.ShloMosaic.Lib.StableHlo.ReadAt
public import Idealize.ShloMosaic.Lib.Pipeline.ValueKit.Point
public import Idealize.ShloMosaic.Lib.Pointwise
public import Idealize.ShloMosaic.Lib.Pipeline.Value
public import Idealize.ShloMosaic.Lib.Pipeline.ValueKit
public import proofs.«01_k».proof.Proof.Block

@[expose] public section

set_option maxRecDepth 16384
set_option maxHeartbeats 400000

noncomputable section

namespace Cert.KernelIdeal.Gen

open Idealize.ShloMosaic Idealize.ShloMosaic.TcCoe Idealize.ShloMosaic.Tactic
open Cert.KernelIdeal
variable (m : (ℓ : Loc nD τ sig) → Buf (Elt Ideal) ℓ) (c : Dev nD)
open Cert.MergeBwd

/-! ## The data of the whole step, from the arguments -/

def argDx (i : S4096x1024.Idx) : EReal := m (c, Proc.tc.devRef main_arg0) i
def argYa (i : S4096x512.Idx) : EReal := m (c, Proc.tc.devRef main_arg1) i
def argYp (i : S4096x512.Idx) : EReal := m (c, Proc.tc.devRef main_arg2) i
def argYm (i : S4096x512.Idx) : EReal := m (c, Proc.tc.devRef main_arg3) i
def argOc (i : S4096x512.Idx) : EReal := m (c, Proc.tc.devRef main_arg4) i
def argProj (i : S4096x6656.Idx) : EReal := m (c, Proc.tc.devRef main_arg5) i
def argG (i : S4096x4096.Idx) : EReal := m (c, Proc.tc.devRef main_arg6) i
def argW (i : S4x512x1024.Idx) : EReal := m (c, Proc.tc.devRef main_arg7) i
def argWo (i : S1024x1024.Idx) : EReal := m (c, Proc.tc.devRef main_arg8) i

/-- The attention gate's input: columns 5120 to 5631 of the projection. -/
def cgOf (R : Fin 4096) (i : Fin 512) : EReal := argProj m c (ix2 R ⟨5120 + i.val, by have := i.isLt; omega⟩)

/-- The four branch outputs, the third one the attention output times its gate. -/
def yOf (R : Fin 4096) (b : Fin 4) (i : Fin 512) : EReal :=
  (![argYa m c (ix2 R i), argYp m c (ix2 R i), argOc m c (ix2 R i) * (cgOf m c R i * Ideal.logistic (cgOf m c R i)),
    argYm m c (ix2 R i)] : Fin 4 → EReal) b

/-- The merge gates' inputs: four groups of 1024 columns. -/
def gOf (R : Fin 4096) (b : Fin 4) (j : Fin 1024) : EReal :=
  argG m c (ix2 R ⟨1024 * b.val + j.val, by have := b.isLt; have := j.isLt; omega⟩)

theorem gOf_zero (R : Fin 4096) (k : Fin 1024) (h : k.val < 4096) : argG m c (ix2 R ⟨k.val, h⟩) = gOf m c R 0 k := by
  refine congrArg (fun q => argG m c (ix2 R q)) (Fin.ext ?_)
  show k.val = 1024 * 0 + k.val
  omega

/-- The merged activation: each branch projected, through its gate, added up. -/
def zOf (R : Fin 4096) (k : Fin 1024) : EReal :=
  Ideal.logistic (gOf m c R 0 k) * (∑ i : Fin 512, yOf m c R 0 i * argW m c (ix3 0 i k))
  + Ideal.logistic (gOf m c R 1 k) * (∑ i : Fin 512, yOf m c R 1 i * argW m c (ix3 1 i k))
  + Ideal.logistic (gOf m c R 2 k) * (∑ i : Fin 512, yOf m c R 2 i * argW m c (ix3 2 i k))
  + Ideal.logistic (gOf m c R 3 k) * (∑ i : Fin 512, yOf m c R 3 i * argW m c (ix3 3 i k))

/-- The data of the step: every row's, and the weights. -/
def stepIn : In (Fin 4096) where
  dx R k := argDx m c (ix2 R k)
  y := yOf m c
  oc R i := argOc m c (ix2 R i)
  z := zOf m c
  cg := cgOf m c
  g := gOf m c
  w b i j := argW m c (ix3 b i j)
  wo j k := argWo m c (ix2 j k)

/-! ## What the host hands the kernel, element by element -/

theorem host_y0 (R : Fin 4096) (k : Fin 512) : V m c main_v42 (ix3 0 R k : S4x4096x512.Idx) = yOf m c R 0 k := by
  unfold V
  after_reads_at
  after_reads_at
  rfl

theorem host_y1 (R : Fin 4096) (k : Fin 512) : V m c main_v42 (ix3 1 R k : S4x4096x512.Idx) = yOf m c R 1 k := by
  unfold V
  after_reads_at
  after_reads_at
  rfl

theorem host_y3 (R : Fin 4096) (k : Fin 512) : V m c main_v42 (ix3 2 R k : S4x4096x512.Idx) = yOf m c R 3 k := by
  unfold V
  after_reads_at
  after_reads_at
  rfl

theorem host_y2 (R : Fin 4096) (k : Fin 512) : V m c main_v42 (ix3 3 R k : S4x4096x512.Idx) = yOf m c R 2 k := by
  unfold V
  after_reads_at
  after_reads_at
  rfl

theorem host_z (R : Fin 4096) (k : Fin 1024) : V m c main_v47 (ix2 R k : S4096x1024.Idx) = zOf m c R k := by
  unfold V
  after_reads_at
  simp only [zOf, ← gOf_zero m c R k (by have := k.isLt; omega)]
  rfl

theorem host_w (b : Fin 4) (i : Fin 512) (j : Fin 1024) :
    V m c main_v45 (ix3 (colBlock j) ⟨512 * b.val + i.val, by have := b.isLt; have := i.isLt; omega⟩ (colIn j) : S8x2048x128.Idx)
      = argW m c (ix3 b i j) := by
  unfold V
  after_reads_at
  refine congrArg (argW m c) ?_
  have hi := i.isLt
  funext a; apply Fin.ext
  match a with
  | ⟨0, _⟩ => show (512 * b.val + i.val) / 512 = b.val; omega
  | ⟨1, _⟩ => show (512 * b.val + i.val) % 512 = i.val; omega
  | ⟨2, _⟩ => show j.val / 128 * 128 + j.val % 128 = j.val; omega

/-! ## What each window's block holds -/

theorem idx_in0 : ∀ t : Fin cfg0.N, win0_0.index t (0 : Fin 2) = t.val ∧ win0_0.index t (1 : Fin 2) = 0 := by decide +kernel

theorem iblk_0 (t : Fin cfg0.N) (r : Fin 256) (R : Fin 4096) (hR : R.val = 256 * t.val + r.val) (k : Fin 1024) :
    iblk m c 0 t (ix2 r k : S256x1024.Idx) = argDx m c (ix2 R k) := by
  obtain ⟨e0, e1⟩ := idx_in0 t
  unfold iblk
  rw [View.read_apply]
  show V m c main_arg0 (((cfg0.win 0).blk t).view.emb (ix2 r k : S256x1024.Idx)) = _
  have e : (((cfg0.win 0).blk t).view.emb (ix2 r k : S256x1024.Idx)) = (ix2 R k : S4096x1024.Idx) := by
    funext a; apply Fin.ext
    match a with
    | ⟨0, _⟩ => show win0_0.index t (0 : Fin 2) * 256 + 1 * r.val = R.val; omega
    | ⟨1, _⟩ => show win0_0.index t (1 : Fin 2) * 1024 + 1 * k.val = k.val; omega
  rw [e]
  unfold V
  after_reads_at
  try rfl

theorem idx_in2 : ∀ t : Fin cfg0.N, win0_2.index t (0 : Fin 2) = t.val ∧ win0_2.index t (1 : Fin 2) = 0 := by decide +kernel

theorem iblk_2 (t : Fin cfg0.N) (r : Fin 256) (R : Fin 4096) (hR : R.val = 256 * t.val + r.val) (k : Fin 512) :
    iblk m c 2 t (ix2 r k : S256x512.Idx) = argOc m c (ix2 R k) := by
  obtain ⟨e0, e1⟩ := idx_in2 t
  unfold iblk
  rw [View.read_apply]
  show V m c main_v46 (((cfg0.win 2).blk t).view.emb (ix2 r k : S256x512.Idx)) = _
  have e : (((cfg0.win 2).blk t).view.emb (ix2 r k : S256x512.Idx)) = (ix2 R k : S4096x512.Idx) := by
    funext a; apply Fin.ext
    match a with
    | ⟨0, _⟩ => show win0_2.index t (0 : Fin 2) * 256 + 1 * r.val = R.val; omega
    | ⟨1, _⟩ => show win0_2.index t (1 : Fin 2) * 512 + 1 * k.val = k.val; omega
  rw [e]
  unfold V
  after_reads_at
  rfl

theorem idx_in3 : ∀ t : Fin cfg0.N, win0_3.index t (0 : Fin 2) = t.val ∧ win0_3.index t (1 : Fin 2) = 0 := by decide +kernel

theorem iblk_3 (t : Fin cfg0.N) (r : Fin 256) (R : Fin 4096) (hR : R.val = 256 * t.val + r.val) (k : Fin 1024) :
    iblk m c 3 t (ix2 r k : S256x1024.Idx) = zOf m c R k := by
  obtain ⟨e0, e1⟩ := idx_in3 t
  unfold iblk
  rw [View.read_apply]
  show V m c main_v47 (((cfg0.win 3).blk t).view.emb (ix2 r k : S256x1024.Idx)) = _
  have e : (((cfg0.win 3).blk t).view.emb (ix2 r k : S256x1024.Idx)) = (ix2 R k : S4096x1024.Idx) := by
    funext a; apply Fin.ext
    match a with
    | ⟨0, _⟩ => show win0_3.index t (0 : Fin 2) * 256 + 1 * r.val = R.val; omega
    | ⟨1, _⟩ => show win0_3.index t (1 : Fin 2) * 1024 + 1 * k.val = k.val; omega
  rw [e]
  exact host_z m c R k

theorem idx_in4 : ∀ t : Fin cfg0.N, win0_4.index t (0 : Fin 2) = t.val ∧ win0_4.index t (1 : Fin 2) = 10 := by decide +kernel

theorem iblk_4 (t : Fin cfg0.N) (r : Fin 256) (R : Fin 4096) (hR : R.val = 256 * t.val + r.val) (k : Fin 512) :
    iblk m c 4 t (ix2 r k : S256x512.Idx) = cgOf m c R k := by
  obtain ⟨e0, e1⟩ := idx_in4 t
  unfold iblk
  rw [View.read_apply]
  show V m c main_v48 (((cfg0.win 4).blk t).view.emb (ix2 r k : S256x512.Idx)) = _
  have e : (((cfg0.win 4).blk t).view.emb (ix2 r k : S256x512.Idx)) = (ix2 R ⟨5120 + k.val, by have := k.isLt; omega⟩ : S4096x6656.Idx) := by
    funext a; apply Fin.ext
    match a with
    | ⟨0, _⟩ => show win0_4.index t (0 : Fin 2) * 256 + 1 * r.val = R.val; omega
    | ⟨1, _⟩ => show win0_4.index t (1 : Fin 2) * 512 + 1 * k.val = 5120 + k.val; omega
  rw [e]
  unfold V
  after_reads_at
  rfl

theorem idx_in5 : ∀ t : Fin cfg0.N, win0_5.index t (0 : Fin 2) = t.val ∧ win0_5.index t (1 : Fin 2) = 0 := by decide +kernel

theorem iblk_5 (t : Fin cfg0.N) (r : Fin 256) (R : Fin 4096) (hR : R.val = 256 * t.val + r.val) (k : Fin 1024) :
    iblk m c 5 t (ix2 r k : S256x1024.Idx) = gOf m c R 0 k := by
  obtain ⟨e0, e1⟩ := idx_in5 t
  unfold iblk
  rw [View.read_apply]
  show V m c main_v49 (((cfg0.win 5).blk t).view.emb (ix2 r k : S256x1024.Idx)) = _
  have e : (((cfg0.win 5).blk t).view.emb (ix2 r k : S256x1024.Idx)) = (ix2 R ⟨1024 * (0 : Fin 4).val + k.val, by have := k.isLt; omega⟩ : S4096x4096.Idx) := by
    funext a; apply Fin.ext
    match a with
    | ⟨0, _⟩ => show win0_5.index t (0 : Fin 2) * 256 + 1 * r.val = R.val; omega
    | ⟨1, _⟩ => show win0_5.index t (1 : Fin 2) * 1024 + 1 * k.val = 1024 * (0 : Fin 4).val + k.val; simp; omega
  rw [e]
  unfold V
  after_reads_at
  exact gOf_zero m c R k _

theorem idx_in6 : ∀ t : Fin cfg0.N, win0_6.index t (0 : Fin 2) = t.val ∧ win0_6.index t (1 : Fin 2) = 1 := by decide +kernel

theorem iblk_6 (t : Fin cfg0.N) (r : Fin 256) (R : Fin 4096) (hR : R.val = 256 * t.val + r.val) (k : Fin 1024) :
    iblk m c 6 t (ix2 r k : S256x1024.Idx) = gOf m c R 1 k := by
  obtain ⟨e0, e1⟩ := idx_in6 t
  unfold iblk
  rw [View.read_apply]
  show V m c main_v49 (((cfg0.win 6).blk t).view.emb (ix2 r k : S256x1024.Idx)) = _
  have e : (((cfg0.win 6).blk t).view.emb (ix2 r k : S256x1024.Idx)) = (ix2 R ⟨1024 + k.val, by have := k.isLt; omega⟩ : S4096x4096.Idx) := by
    funext a; apply Fin.ext
    match a with
    | ⟨0, _⟩ => show win0_6.index t (0 : Fin 2) * 256 + 1 * r.val = R.val; omega
    | ⟨1, _⟩ => show win0_6.index t (1 : Fin 2) * 1024 + 1 * k.val = 1024 + k.val; omega
  rw [e]
  unfold V
  after_reads_at
  rfl

theorem idx_in7 : ∀ t : Fin cfg0.N, win0_7.index t (0 : Fin 2) = t.val ∧ win0_7.index t (1 : Fin 2) = 2 := by decide +kernel

theorem iblk_7 (t : Fin cfg0.N) (r : Fin 256) (R : Fin 4096) (hR : R.val = 256 * t.val + r.val) (k : Fin 1024) :
    iblk m c 7 t (ix2 r k : S256x1024.Idx) = gOf m c R 2 k := by
  obtain ⟨e0, e1⟩ := idx_in7 t
  unfold iblk
  rw [View.read_apply]
  show V m c main_v49 (((cfg0.win 7).blk t).view.emb (ix2 r k : S256x1024.Idx)) = _
  have e : (((cfg0.win 7).blk t).view.emb (ix2 r k : S256x1024.Idx)) = (ix2 R ⟨2048 + k.val, by have := k.isLt; omega⟩ : S4096x4096.Idx) := by
    funext a; apply Fin.ext
    match a with
    | ⟨0, _⟩ => show win0_7.index t (0 : Fin 2) * 256 + 1 * r.val = R.val; omega
    | ⟨1, _⟩ => show win0_7.index t (1 : Fin 2) * 1024 + 1 * k.val = 2048 + k.val; omega
  rw [e]
  unfold V
  after_reads_at
  rfl

theorem idx_in8 : ∀ t : Fin cfg0.N, win0_8.index t (0 : Fin 2) = t.val ∧ win0_8.index t (1 : Fin 2) = 3 := by decide +kernel

theorem iblk_8 (t : Fin cfg0.N) (r : Fin 256) (R : Fin 4096) (hR : R.val = 256 * t.val + r.val) (k : Fin 1024) :
    iblk m c 8 t (ix2 r k : S256x1024.Idx) = gOf m c R 3 k := by
  obtain ⟨e0, e1⟩ := idx_in8 t
  unfold iblk
  rw [View.read_apply]
  show V m c main_v49 (((cfg0.win 8).blk t).view.emb (ix2 r k : S256x1024.Idx)) = _
  have e : (((cfg0.win 8).blk t).view.emb (ix2 r k : S256x1024.Idx)) = (ix2 R ⟨3072 + k.val, by have := k.isLt; omega⟩ : S4096x4096.Idx) := by
    funext a; apply Fin.ext
    match a with
    | ⟨0, _⟩ => show win0_8.index t (0 : Fin 2) * 256 + 1 * r.val = R.val; omega
    | ⟨1, _⟩ => show win0_8.index t (1 : Fin 2) * 1024 + 1 * k.val = 3072 + k.val; omega
  rw [e]
  unfold V
  after_reads_at
  rfl

theorem idx_in1 : ∀ t : Fin cfg0.N, win0_1.index t (0 : Fin 3) = 0 ∧ win0_1.index t (1 : Fin 3) = t.val ∧ win0_1.index t (2 : Fin 3) = 0 := by
  decide +kernel

theorem iblk_1_at (t : Fin cfg0.N) (r : Fin 256) (R : Fin 4096) (hR : R.val = 256 * t.val + r.val) (s : Fin 4) (k : Fin 512) :
    iblk m c 1 t (ix3 s r k : S4x256x512.Idx) = V m c main_v42 (ix3 s R k : S4x4096x512.Idx) := by
  obtain ⟨e0, e1, e2⟩ := idx_in1 t
  unfold iblk
  rw [View.read_apply]
  show V m c main_v42 (((cfg0.win 1).blk t).view.emb (ix3 s r k : S4x256x512.Idx)) = _
  refine congrArg (V m c main_v42) ?_
  funext a; apply Fin.ext
  match a with
  | ⟨0, _⟩ => show win0_1.index t (0 : Fin 3) * 4 + 1 * s.val = s.val; omega
  | ⟨1, _⟩ => show win0_1.index t (1 : Fin 3) * 256 + 1 * r.val = R.val; omega
  | ⟨2, _⟩ => show win0_1.index t (2 : Fin 3) * 512 + 1 * k.val = k.val; omega

theorem iblk_1 (t : Fin cfg0.N) (r : Fin 256) (R : Fin 4096) (hR : R.val = 256 * t.val + r.val) (b : Fin 4) (k : Fin 512) :
    iblk m c 1 t (ix3 (ySlot b) r k : S4x256x512.Idx) = yOf m c R b k := by
  rw [iblk_1_at m c t r R hR]
  match b with
  | ⟨0, _⟩ => exact host_y0 m c R k
  | ⟨1, _⟩ => exact host_y1 m c R k
  | ⟨2, _⟩ => exact host_y2 m c R k
  | ⟨3, _⟩ => exact host_y3 m c R k

theorem idx_in9 : ∀ t : Fin cfg0.N, win0_9.index t (0 : Fin 3) = 0 ∧ win0_9.index t (1 : Fin 3) = 0 ∧ win0_9.index t (2 : Fin 3) = 0 := by
  decide +kernel

theorem iblk_9 (t : Fin cfg0.N) (b : Fin 8) (r : Fin 2048) (k : Fin 128) :
    iblk m c 9 t (ix3 b r k : S8x2048x128.Idx) = V m c main_v45 (ix3 b r k : S8x2048x128.Idx) := by
  obtain ⟨e0, e1, e2⟩ := idx_in9 t
  unfold iblk
  rw [View.read_apply]
  show V m c main_v45 (((cfg0.win 9).blk t).view.emb (ix3 b r k : S8x2048x128.Idx)) = _
  refine congrArg (V m c main_v45) ?_
  funext a; apply Fin.ext
  match a with
  | ⟨0, _⟩ => show win0_9.index t (0 : Fin 3) * 8 + 1 * b.val = b.val; omega
  | ⟨1, _⟩ => show win0_9.index t (1 : Fin 3) * 2048 + 1 * r.val = r.val; omega
  | ⟨2, _⟩ => show win0_9.index t (2 : Fin 3) * 128 + 1 * k.val = k.val; omega

theorem idx_in10 : ∀ t : Fin cfg0.N, win0_10.index t (0 : Fin 2) = 0 ∧ win0_10.index t (1 : Fin 2) = 0 := by decide +kernel

theorem iblk_10 (t : Fin cfg0.N) (j k : Fin 1024) :
    iblk m c 10 t (ix2 j k : S1024x1024.Idx) = argWo m c (ix2 j k) := by
  obtain ⟨e0, e1⟩ := idx_in10 t
  unfold iblk
  rw [View.read_apply]
  show V m c main_v50 (((cfg0.win 10).blk t).view.emb (ix2 j k : S1024x1024.Idx)) = _
  have e : (((cfg0.win 10).blk t).view.emb (ix2 j k : S1024x1024.Idx)) = (ix2 j k : S1024x1024.Idx) := by
    funext a; apply Fin.ext
    match a with
    | ⟨0, _⟩ => show win0_10.index t (0 : Fin 2) * 1024 + 1 * j.val = j.val; omega
    | ⟨1, _⟩ => show win0_10.index t (1 : Fin 2) * 1024 + 1 * k.val = k.val; omega
  rw [e]
  unfold V
  after_reads_at
  rfl

end Cert.KernelIdeal.Gen

end
-- ==== Proof.Host.lean ====
/-
  The kernel's operands in a grid step, as elements of the program's arguments.
-/
module

public import proofs.«01_k».proof.Proof.Gen.KernelIdeal.Frame
public import Idealize.ShloMosaic.Lib.ValueIdx
public import Idealize.ShloMosaic.Lib.Pointwise
public import Idealize.ShloMosaic.Lib.Pipeline.Value
public import Idealize.ShloMosaic.Lib.Pipeline.ValueKit
public import proofs.«01_k».proof.Proof.Fold
public import proofs.«01_k».proof.Proof.HostV

@[expose] public section

set_option maxRecDepth 16384
set_option maxHeartbeats 400000

noncomputable section

namespace Cert.KernelIdeal.Gen

open Idealize.ShloMosaic Idealize.ShloMosaic.TcCoe Idealize.ShloMosaic.Tactic
open Cert.KernelIdeal
variable (m : (ℓ : Loc nD τ sig) → Buf (Elt Ideal) ℓ) (c : Dev nD)
open Cert.MergeBwd

/-! ## A grid point's data are its rows of the step's data -/

section Fields

variable (x0 : Vec Ideal S256x1024 .f32) (x1 : Vec Ideal S4x256x512 .bf16) (x2 : Vec Ideal S256x512 .bf16)
  (x3 : Vec Ideal S256x1024 .bf16) (x4 : Vec Ideal S256x512 .bf16) (x5 x6 x7 x8 : Vec Ideal S256x1024 .bf16)
  (x10 : Vec Ideal S1024x1024 .bf16) (w : Fin 4 → Fin 512 → Fin 1024 → EReal)

/-- Two ways to hold a block's data are equal when they agree with the windows entry by entry. -/
theorem blk_eq (J : In (Fin 256)) (h0 : ∀ r k, x0 (ix2 r k) = J.dx r k) (h1 : ∀ r b i, x1 (ix3 (ySlot b) r i) = J.y r b i)
    (h2 : ∀ r i, x2 (ix2 r i) = J.oc r i) (h3 : ∀ r k, x3 (ix2 r k) = J.z r k) (h4 : ∀ r i, x4 (ix2 r i) = J.cg r i)
    (h5 : ∀ r j, x5 (ix2 r j) = J.g r 0 j) (h6 : ∀ r j, x6 (ix2 r j) = J.g r 1 j) (h7 : ∀ r j, x7 (ix2 r j) = J.g r 2 j)
    (h8 : ∀ r j, x8 (ix2 r j) = J.g r 3 j) (h10 : ∀ j k, x10 (ix2 j k) = J.wo j k) (hw : ∀ b i j, w b i j = J.w b i j) :
    blk x0 x1 x2 x3 x4 x5 x6 x7 x8 x10 w = J := by
  cases J with
  | mk dx y oc z cg g w' wo =>
    dsimp only at h0 h1 h2 h3 h4 h5 h6 h7 h8 h10 hw
    unfold blk
    congr 1
    · funext r k; exact h0 r k
    · funext r b i; exact h1 r b i
    · funext r i; exact h2 r i
    · funext r k; exact h3 r k
    · funext r i; exact h4 r i
    · funext r b j
      match b with
      | ⟨0, _⟩ => exact h5 r j
      | ⟨1, _⟩ => exact h6 r j
      | ⟨2, _⟩ => exact h7 r j
      | ⟨3, _⟩ => exact h8 r j
    · funext b i j; exact hw b i j
    · funext j k; exact h10 j k

end Fields

theorem row_val (n : ℕ) (hn : n < 16) (r : Fin 256) :
    (row ⟨n % 16, Nat.mod_lt _ (by decide)⟩ r).val = 256 * (pt n hn).val + r.val := by
  show 256 * (n % 16) + r.val = 256 * n + r.val
  rw [Nat.mod_eq_of_lt hn]

/-- The windows of grid point `n` hold the step's data of the rows of block `n`. -/
theorem point_part (n : ℕ) (hn : n < 16) : pointIn m c (pt n hn) (wOf (iblk m c 9 (pt n hn))) = part (stepIn m c) n := by
  unfold pointIn
  refine blk_eq _ _ _ _ _ _ _ _ _ _ _ _ ?_ ?_ ?_ ?_ ?_ ?_ ?_ ?_ ?_ ?_ ?_
  · intro r k; exact iblk_0 m c _ r _ (row_val n hn r) k
  · intro r b i; exact iblk_1 m c _ r _ (row_val n hn r) b i
  · intro r i; exact iblk_2 m c _ r _ (row_val n hn r) i
  · intro r k; exact iblk_3 m c _ r _ (row_val n hn r) k
  · intro r i; exact iblk_4 m c _ r _ (row_val n hn r) i
  · intro r j; exact iblk_5 m c _ r _ (row_val n hn r) j
  · intro r j; exact iblk_6 m c _ r _ (row_val n hn r) j
  · intro r j; exact iblk_7 m c _ r _ (row_val n hn r) j
  · intro r j; exact iblk_8 m c _ r _ (row_val n hn r) j
  · intro j k; exact iblk_10 m c _ j k
  · intro b i j; exact (iblk_9 m c _ _ _ _).trans (host_w m c b i j)

end Cert.KernelIdeal.Gen

end
-- ==== Proof.Out.lean ====
/-
  The kernel's seven results, element by element, as the sums of `Spec`.
-/
module

public import proofs.«01_k».proof.Proof.Gen.KernelIdeal.Value
public import Idealize.ShloMosaic.Lib.ValueIdx
public import Idealize.ShloMosaic.Lib.Pointwise
public import Idealize.ShloMosaic.Lib.Pipeline.Value
public import Idealize.ShloMosaic.Lib.Pipeline.ValueKit
public import proofs.«01_k».proof.Proof.Host

@[expose] public section

set_option maxRecDepth 16384
set_option maxHeartbeats 400000

noncomputable section

namespace Cert.KernelIdeal.Gen

open Idealize.ShloMosaic Idealize.ShloMosaic.TcCoe Idealize.ShloMosaic.Tactic
open Cert.KernelIdeal
variable (m : (ℓ : Loc nD τ sig) → Buf (Elt Ideal) ℓ) (c : Dev nD)
open Cert.MergeBwd Cert.KernelIdeal.Value

/-! ## The kernel's seven results are the derivative's terms -/

/-- What the grid has left after point `n`: the terms of the rows of block `n`, and at the end the two weights' gradients. -/
theorem done_at (n : ℕ) (hn : 0 + n < cfg0.N) :
    Done (stepIn m c) n (Pipeline.accAt (fun n h => stAt0 m c n h junk0) (stAt0 m c) 0 n hn) :=
  done_acc m c (stepIn m c) (point_part m c) n (by omega)

/-- Row `R` of the array is row `R % 256` of block `R / 256`. -/
theorem row_split (R : Fin 4096) (h) : row ⟨R.val / 256 % 16, h⟩ ⟨R.val % 256, Nat.mod_lt _ (by decide)⟩ = R := by
  have := R.isLt
  refine Fin.ext ?_
  show 256 * (R.val / 256 % 16) + R.val % 256 = R.val
  omega

theorem block_lt (R : Fin 4096) : R.val / 256 < cfg0.N := by
  have := R.isLt
  rw [show cfg0.N = 16 from N_0]
  omega

theorem out_dy (s : Fin 3) (R : Fin 4096) (k : Fin 512) :
    G11 m c (ix3 s R k : S3x4096x512.Idx) = (stepIn m c).dyb R (dySlot s) k := by
  have hs := s.isLt
  have hR := R.isLt
  have hk := k.isLt
  have hp : pt11Of (ix3 s R k : S3x4096x512.Idx) = R.val / 256 := by
    show 16 * (s.val / 3 - 0) + 1 * (R.val / 256 - 0) + 1 * (k.val / 512 - 0) = R.val / 256
    omega
  have hl : loc11Of (ix3 s R k : S3x4096x512.Idx) = (ix3 s ⟨R.val % 256, Nat.mod_lt _ (by decide)⟩ k : S3x256x512.Idx) := by
    funext a; apply Fin.ext
    match a with
    | ⟨0, _⟩ => show s.val % 3 = s.val; omega
    | ⟨1, _⟩ => rfl
    | ⟨2, _⟩ => show k.val % 512 = k.val; omega
  have hN := block_lt R
  unfold G11
  rw [dif_pos (by rw [hp]; exact hN), hl, fold0_congr m c _ _ (R.val / 256) (by omega) hp, (done_at m c _ _).dy]
  show (stepIn m c).dyb (row _ _) _ _ = _
  rw [row_split]

theorem out_doc (R : Fin 4096) (k : Fin 512) : G12 m c (ix2 R k : S4096x512.Idx) = (stepIn m c).doc R k := by
  have hR := R.isLt
  have hk := k.isLt
  have hp : pt12Of (ix2 R k : S4096x512.Idx) = R.val / 256 := by
    show 1 * (R.val / 256 - 0) + 1 * (k.val / 512 - 0) = R.val / 256
    omega
  have hl : loc12Of (ix2 R k : S4096x512.Idx) = (ix2 ⟨R.val % 256, Nat.mod_lt _ (by decide)⟩ k : S256x512.Idx) := by
    funext a; apply Fin.ext
    match a with
    | ⟨0, _⟩ => rfl
    | ⟨1, _⟩ => show k.val % 512 = k.val; omega
  have hN := block_lt R
  unfold G12
  rw [dif_pos (by rw [hp]; exact hN), hl, fold0_congr m c _ _ (R.val / 256) (by omega) hp, (done_at m c _ _).doc]
  show (stepIn m c).doc (row _ _) _ = _
  rw [row_split]

theorem out_delta (R : Fin 4096) (l : Fin 128) : G13 m c (ix2 R l : S4096x128.Idx) = (stepIn m c).delta R l := by
  have hR := R.isLt
  have hl' := l.isLt
  have hp : pt13Of (ix2 R l : S4096x128.Idx) = R.val / 256 := by
    show 1 * (R.val / 256 - 0) + 1 * (l.val / 128 - 0) = R.val / 256
    omega
  have hl : loc13Of (ix2 R l : S4096x128.Idx) = (ix2 ⟨R.val % 256, Nat.mod_lt _ (by decide)⟩ l : S256x128.Idx) := by
    funext a; apply Fin.ext
    match a with
    | ⟨0, _⟩ => rfl
    | ⟨1, _⟩ => show l.val % 128 = l.val; omega
  have hN := block_lt R
  unfold G13
  rw [dif_pos (by rw [hp]; exact hN), hl, fold0_congr m c _ _ (R.val / 256) (by omega) hp, (done_at m c _ _).delta]
  show (stepIn m c).delta (row _ _) _ = _
  rw [row_split]

theorem out_dcg (R : Fin 4096) (k : Fin 512) (h5) :
    G14 m c (ix2 R ⟨5120 + k.val, h5⟩ : S4096x6656.Idx) = (stepIn m c).dcg R k := by
  have hR := R.isLt
  have hk := k.isLt
  have hp : pt14Of (ix2 R ⟨5120 + k.val, h5⟩ : S4096x6656.Idx) = R.val / 256 := by
    show 1 * (R.val / 256 - 0) + 1 * ((5120 + k.val) / 512 - 10) = R.val / 256
    omega
  have hl : loc14Of (ix2 R ⟨5120 + k.val, h5⟩ : S4096x6656.Idx) = (ix2 ⟨R.val % 256, Nat.mod_lt _ (by decide)⟩ k : S256x512.Idx) := by
    funext a; apply Fin.ext
    match a with
    | ⟨0, _⟩ => rfl
    | ⟨1, _⟩ => show (5120 + k.val) % 512 = k.val; omega
  have hN := block_lt R
  unfold G14
  rw [dif_pos (by rw [hp]; exact hN), hl, fold0_congr m c _ _ (R.val / 256) (by omega) hp, (done_at m c _ _).dcg]
  show (stepIn m c).dcg (row _ _) _ = _
  rw [row_split]

theorem out_dgm (R : Fin 4096) (q : Fin 4096) (b : Fin 4) (j : Fin 1024) (hq : q.val = 1024 * b.val + j.val) :
    G15 m c (ix2 R q : S4096x4096.Idx) = (stepIn m c).dgm R b j := by
  have hR := R.isLt
  have hq' := q.isLt
  have hp : pt15Of (ix2 R q : S4096x4096.Idx) = R.val / 256 := by
    show 1 * (R.val / 256 - 0) + 1 * (q.val / 4096 - 0) = R.val / 256
    omega
  have hl : loc15Of (ix2 R q : S4096x4096.Idx) = (ix2 ⟨R.val % 256, Nat.mod_lt _ (by decide)⟩ q : S256x4096.Idx) := by
    funext a; apply Fin.ext
    match a with
    | ⟨0, _⟩ => rfl
    | ⟨1, _⟩ => show q.val % 4096 = q.val; omega
  have hN := block_lt R
  unfold G15
  rw [dif_pos (by rw [hp]; exact hN), hl, fold0_congr m c _ _ (R.val / 256) (by omega) hp,
    (done_at m c _ _).dgm _ b j q hq]
  show (stepIn m c).dgm (row _ _) _ _ = _
  rw [row_split]

theorem out_dwb (s : Fin 8) (b : Fin 4) (k : Fin 512) (q : Fin 128) (j : Fin 1024) (hj : j.val = 128 * s.val + q.val) :
    G16 m c (ix4 s b k q : S8x4x512x128.Idx) = (stepIn m c).dwb b k j := by
  rw [G16_last, (done_at m c 15 _).dwb rfl s b k q j hj]
  exact sum_dwb _ _ _ _

theorem out_dwo (k j : Fin 1024) : G17 m c (ix2 k j : S1024x1024.Idx) = (stepIn m c).dwo k j := by
  rw [G17_last, (done_at m c 15 _).dwo rfl]
  exact sum_dwo _ _ _

end Cert.KernelIdeal.Gen

end
-- ==== Proof.Ref.lean ====
/-
  The reference program's seven results, element by element, as the sums of `Spec`.
-/
module

public import proofs.«01_k».proof.Proof.Gen.ReferenceIdeal.Read
public import Idealize.ShloMosaic.Lib.ValueIdx
public import Idealize.ShloMosaic.Lib.Pointwise
public import proofs.«01_k».proof.Proof.Spec

@[expose] public section

set_option maxRecDepth 16384
set_option maxHeartbeats 400000

noncomputable section

namespace Cert.ReferenceIdeal.Read

open Idealize.ShloMosaic Idealize.ShloMosaic.TcCoe Idealize.ShloMosaic.Tactic
open Cert.ReferenceIdeal
/-! ## The data, from the arguments -/

open Cert.MergeBwd
variable (x0 : (⟨S4096x1024, .f32⟩ : BufTy).Contents (Elt Ideal)) (x1 x2 x3 x4 : (⟨S4096x512, .f32⟩ : BufTy).Contents (Elt Ideal))
  (x5 : (⟨S4096x6656, .f32⟩ : BufTy).Contents (Elt Ideal)) (x6 : (⟨S4096x4096, .f32⟩ : BufTy).Contents (Elt Ideal))
  (x7 : (⟨S4x512x1024, .f32⟩ : BufTy).Contents (Elt Ideal)) (x8 : (⟨S1024x1024, .f32⟩ : BufTy).Contents (Elt Ideal))

/-- The attention gate's input: columns 5120 to 5631 of the projection. -/
def cgR (R : Fin 4096) (i : Fin 512) : EReal := x5 (ix2 R ⟨5120 + i.val, by have := i.isLt; omega⟩)

/-- The four branch outputs, the third one the attention output times its gate. -/
def yR (R : Fin 4096) (b : Fin 4) (i : Fin 512) : EReal :=
  (![x1 (ix2 R i), x2 (ix2 R i), x4 (ix2 R i) * (cgR x5 R i * Ideal.logistic (cgR x5 R i)), x3 (ix2 R i)] : Fin 4 → EReal) b

/-- The merge gates' inputs: four groups of 1024 columns. -/
def gR (R : Fin 4096) (b : Fin 4) (j : Fin 1024) : EReal :=
  x6 (ix2 R ⟨1024 * b.val + j.val, by have := b.isLt; have := j.isLt; omega⟩)

/-- The merged activation. -/
def zR (R : Fin 4096) (k : Fin 1024) : EReal :=
  Ideal.logistic (gR x6 R 0 k) * (∑ i : Fin 512, yR x1 x2 x3 x4 x5 R 0 i * x7 (ix3 0 i k))
  + Ideal.logistic (gR x6 R 1 k) * (∑ i : Fin 512, yR x1 x2 x3 x4 x5 R 1 i * x7 (ix3 1 i k))
  + Ideal.logistic (gR x6 R 2 k) * (∑ i : Fin 512, yR x1 x2 x3 x4 x5 R 2 i * x7 (ix3 2 i k))
  + Ideal.logistic (gR x6 R 3 k) * (∑ i : Fin 512, yR x1 x2 x3 x4 x5 R 3 i * x7 (ix3 3 i k))

/-- The data of the step, from the reference's arguments. -/
def refIn : In (Fin 4096) where
  dx R k := x0 (ix2 R k)
  y := yR x1 x2 x3 x4 x5
  oc R i := x4 (ix2 R i)
  z := zR x1 x2 x3 x4 x5 x6 x7
  cg := cgR x5
  g := gR x6
  w b i j := x7 (ix3 b i j)
  wo j k := x8 (ix2 j k)

/-! ## The reference's values, stage by stage -/
theorem sil_x (R : Fin 4096) (i : Fin 512) :
    val_main_v0 (F := Ideal) x5 (ix2 R i : S4096x512.Idx) = cgR x5 R i := by
  unfold val_main_v0
  pointwise
  try rfl

theorem sil_s (R : Fin 4096) (i : Fin 512) :
    val_main_v1_2 (F := Ideal) x5 (ix2 R i : S4096x512.Idx) = Ideal.logistic (cgR x5 R i) := by
  unfold val_main_v1_2 val_main_call0_v4 val_main_call0_v3 val_main_call0_v2 val_main_call0_v1 val_main_call0_v0 val_main_call0_cst val_main_call0_cst_0
  pointwise
  simp only [sil_x]
  try rfl

theorem sil_d (R : Fin 4096) (i : Fin 512) :
    val_main_v1_1 (F := Ideal) x5 (ix2 R i : S4096x512.Idx) = Ideal.logistic (cgR x5 R i) * (1 - Ideal.logistic (cgR x5 R i)) := by
  unfold val_main_v1_1 val_main_call0_v7 val_main_call0_v6 val_main_call0_cst_1
  pointwise
  simp only [sil_s]
  try rfl

theorem sil_y (R : Fin 4096) (i : Fin 512) :
    val_main_v1_0 (F := Ideal) x5 (ix2 R i : S4096x512.Idx) = cgR x5 R i * Ideal.logistic (cgR x5 R i) := by
  unfold val_main_v1_0
  pointwise
  simp only [sil_s, sil_x]
  try rfl

theorem r_y2 (R : Fin 4096) (i : Fin 512) :
    val_main_v2 (F := Ideal) x4 x5 (ix2 R i : S4096x512.Idx) = yR x1 x2 x3 x4 x5 R 2 i := by
  unfold val_main_v2
  pointwise
  simp only [sil_y]
  try rfl

theorem r_gates (R : Fin 4096) (b : Fin 4) (j : Fin 1024) :
    val_main_v9 (F := Ideal) x6 (ix3 R b j : S4096x4x1024.Idx) = Ideal.logistic (gR x6 R b j) := by
  unfold val_main_v9 val_main_v8 val_main_v7 val_main_v6 val_main_v5 val_main_v4 val_main_v3 val_main_cst val_main_cst_0
  pointwise
  have e : (⟨b.val * 1024 + j.val, by have := b.isLt; have := j.isLt; omega⟩ : Fin 4096)
      = ⟨1024 * b.val + j.val, by have := b.isLt; have := j.isLt; omega⟩ := Fin.ext (by show b.val * 1024 + j.val = 1024 * b.val + j.val; omega)
  rw [e]
  rfl

theorem r_dz (R : Fin 4096) (j : Fin 1024) :
    val_main_v43 (F := Ideal) x0 x8 (ix2 R j : S4096x1024.Idx) = (refIn x0 x1 x2 x3 x4 x5 x6 x7 x8).dz R j := by
  unfold val_main_v43
  pointwise
  rfl

theorem r_gate0 (R : Fin 4096) (j : Fin 1024) :
    val_main_v14 (F := Ideal) x6 (ix2 R j : S4096x1024.Idx) = (refIn x0 x1 x2 x3 x4 x5 x6 x7 x8).gate R 0 j := by
  unfold val_main_v14 val_main_v13
  pointwise
  simp only [r_gates]
  rfl

theorem r_w0 (i : Fin 512) (j : Fin 1024) :
    val_main_v16 (F := Ideal) x7 (ix2 i j : S512x1024.Idx) = x7 (ix3 0 i j) := by
  unfold val_main_v16 val_main_v15
  pointwise
  try rfl

theorem r_mix0 (R : Fin 4096) (j : Fin 1024) :
    val_main_v17 (F := Ideal) x1 x7 (ix2 R j : S4096x1024.Idx) = (refIn x0 x1 x2 x3 x4 x5 x6 x7 x8).mix R 0 j := by
  unfold val_main_v17
  pointwise
  simp only [r_w0]
  rfl

theorem r_dt0 (R : Fin 4096) (j : Fin 1024) :
    val_main_v75 (F := Ideal) x0 x6 x8 (ix2 R j : S4096x1024.Idx) = (refIn x0 x1 x2 x3 x4 x5 x6 x7 x8).dt R 0 j := by
  unfold val_main_v75
  pointwise
  simp only [r_gate0 x0 x1 x2 x3 x4 x5 x6 x7 x8, r_dz x0 x1 x2 x3 x4 x5 x6 x7 x8]
  exact mul_comm _ _

theorem r_dy0 (R : Fin 4096) (i : Fin 512) :
    val_main_v79 (F := Ideal) x0 x6 x7 x8 (ix2 R i : S4096x512.Idx) = (refIn x0 x1 x2 x3 x4 x5 x6 x7 x8).dyb R 0 i := by
  unfold val_main_v79
  pointwise
  simp only [r_dt0 x0 x1 x2 x3 x4 x5 x6 x7 x8, r_w0]
  rfl

theorem r_dg0 (R : Fin 4096) (j : Fin 1024) :
    val_main_v76 (F := Ideal) x0 x1 x7 x8 (ix2 R j : S4096x1024.Idx) = (refIn x0 x1 x2 x3 x4 x5 x6 x7 x8).dz R j * (refIn x0 x1 x2 x3 x4 x5 x6 x7 x8).mix R 0 j := by
  unfold val_main_v76
  pointwise
  simp only [r_dz x0 x1 x2 x3 x4 x5 x6 x7 x8, r_mix0 x0 x1 x2 x3 x4 x5 x6 x7 x8]
  try rfl

theorem r_dw0 (i : Fin 512) (j : Fin 1024) :
    val_main_v78 (F := Ideal) x0 x1 x6 x8 (ix2 i j : S512x1024.Idx) = (refIn x0 x1 x2 x3 x4 x5 x6 x7 x8).dwb 0 i j := by
  unfold val_main_v78 val_main_v77
  pointwise
  simp only [r_dt0 x0 x1 x2 x3 x4 x5 x6 x7 x8]
  exact Finset.sum_congr rfl fun r _ => mul_comm _ _

theorem r_gate1 (R : Fin 4096) (j : Fin 1024) :
    val_main_v20 (F := Ideal) x6 (ix2 R j : S4096x1024.Idx) = (refIn x0 x1 x2 x3 x4 x5 x6 x7 x8).gate R 1 j := by
  unfold val_main_v20 val_main_v19
  pointwise
  simp only [r_gates]
  rfl

theorem r_w1 (i : Fin 512) (j : Fin 1024) :
    val_main_v22 (F := Ideal) x7 (ix2 i j : S512x1024.Idx) = x7 (ix3 1 i j) := by
  unfold val_main_v22 val_main_v21
  pointwise
  try rfl

theorem r_mix1 (R : Fin 4096) (j : Fin 1024) :
    val_main_v23 (F := Ideal) x2 x7 (ix2 R j : S4096x1024.Idx) = (refIn x0 x1 x2 x3 x4 x5 x6 x7 x8).mix R 1 j := by
  unfold val_main_v23
  pointwise
  simp only [r_w1]
  rfl

theorem r_dt1 (R : Fin 4096) (j : Fin 1024) :
    val_main_v64 (F := Ideal) x0 x6 x8 (ix2 R j : S4096x1024.Idx) = (refIn x0 x1 x2 x3 x4 x5 x6 x7 x8).dt R 1 j := by
  unfold val_main_v64
  pointwise
  simp only [r_gate1 x0 x1 x2 x3 x4 x5 x6 x7 x8, r_dz x0 x1 x2 x3 x4 x5 x6 x7 x8]
  exact mul_comm _ _

theorem r_dy1 (R : Fin 4096) (i : Fin 512) :
    val_main_v68 (F := Ideal) x0 x6 x7 x8 (ix2 R i : S4096x512.Idx) = (refIn x0 x1 x2 x3 x4 x5 x6 x7 x8).dyb R 1 i := by
  unfold val_main_v68
  pointwise
  simp only [r_dt1 x0 x1 x2 x3 x4 x5 x6 x7 x8, r_w1]
  rfl

theorem r_dg1 (R : Fin 4096) (j : Fin 1024) :
    val_main_v65 (F := Ideal) x0 x2 x7 x8 (ix2 R j : S4096x1024.Idx) = (refIn x0 x1 x2 x3 x4 x5 x6 x7 x8).dz R j * (refIn x0 x1 x2 x3 x4 x5 x6 x7 x8).mix R 1 j := by
  unfold val_main_v65
  pointwise
  simp only [r_dz x0 x1 x2 x3 x4 x5 x6 x7 x8, r_mix1 x0 x1 x2 x3 x4 x5 x6 x7 x8]
  try rfl

theorem r_dw1 (i : Fin 512) (j : Fin 1024) :
    val_main_v67 (F := Ideal) x0 x2 x6 x8 (ix2 i j : S512x1024.Idx) = (refIn x0 x1 x2 x3 x4 x5 x6 x7 x8).dwb 1 i j := by
  unfold val_main_v67 val_main_v66
  pointwise
  simp only [r_dt1 x0 x1 x2 x3 x4 x5 x6 x7 x8]
  exact Finset.sum_congr rfl fun r _ => mul_comm _ _

theorem r_gate2 (R : Fin 4096) (j : Fin 1024) :
    val_main_v27 (F := Ideal) x6 (ix2 R j : S4096x1024.Idx) = (refIn x0 x1 x2 x3 x4 x5 x6 x7 x8).gate R 2 j := by
  unfold val_main_v27 val_main_v26
  pointwise
  simp only [r_gates]
  rfl

theorem r_w2 (i : Fin 512) (j : Fin 1024) :
    val_main_v29 (F := Ideal) x7 (ix2 i j : S512x1024.Idx) = x7 (ix3 2 i j) := by
  unfold val_main_v29 val_main_v28
  pointwise
  try rfl

theorem r_mix2 (R : Fin 4096) (j : Fin 1024) :
    val_main_v30 (F := Ideal) x4 x5 x7 (ix2 R j : S4096x1024.Idx) = (refIn x0 x1 x2 x3 x4 x5 x6 x7 x8).mix R 2 j := by
  unfold val_main_v30
  pointwise
  simp only [r_y2 x1 x2 x3 x4 x5, r_w2]
  rfl

theorem r_dt2 (R : Fin 4096) (j : Fin 1024) :
    val_main_v53 (F := Ideal) x0 x6 x8 (ix2 R j : S4096x1024.Idx) = (refIn x0 x1 x2 x3 x4 x5 x6 x7 x8).dt R 2 j := by
  unfold val_main_v53
  pointwise
  simp only [r_gate2 x0 x1 x2 x3 x4 x5 x6 x7 x8, r_dz x0 x1 x2 x3 x4 x5 x6 x7 x8]
  exact mul_comm _ _

theorem r_dy2 (R : Fin 4096) (i : Fin 512) :
    val_main_v57 (F := Ideal) x0 x6 x7 x8 (ix2 R i : S4096x512.Idx) = (refIn x0 x1 x2 x3 x4 x5 x6 x7 x8).dyb R 2 i := by
  unfold val_main_v57
  pointwise
  simp only [r_dt2 x0 x1 x2 x3 x4 x5 x6 x7 x8, r_w2]
  rfl

theorem r_dg2 (R : Fin 4096) (j : Fin 1024) :
    val_main_v54 (F := Ideal) x0 x4 x5 x7 x8 (ix2 R j : S4096x1024.Idx) = (refIn x0 x1 x2 x3 x4 x5 x6 x7 x8).dz R j * (refIn x0 x1 x2 x3 x4 x5 x6 x7 x8).mix R 2 j := by
  unfold val_main_v54
  pointwise
  simp only [r_dz x0 x1 x2 x3 x4 x5 x6 x7 x8, r_mix2 x0 x1 x2 x3 x4 x5 x6 x7 x8]
  try rfl

theorem r_dw2 (i : Fin 512) (j : Fin 1024) :
    val_main_v56 (F := Ideal) x0 x4 x5 x6 x8 (ix2 i j : S512x1024.Idx) = (refIn x0 x1 x2 x3 x4 x5 x6 x7 x8).dwb 2 i j := by
  unfold val_main_v56 val_main_v55
  pointwise
  simp only [r_dt2 x0 x1 x2 x3 x4 x5 x6 x7 x8, r_y2 x1 x2 x3 x4 x5]
  exact Finset.sum_congr rfl fun r _ => mul_comm _ _

theorem r_gate3 (R : Fin 4096) (j : Fin 1024) :
    val_main_v34 (F := Ideal) x6 (ix2 R j : S4096x1024.Idx) = (refIn x0 x1 x2 x3 x4 x5 x6 x7 x8).gate R 3 j := by
  unfold val_main_v34 val_main_v33
  pointwise
  simp only [r_gates]
  rfl

theorem r_w3 (i : Fin 512) (j : Fin 1024) :
    val_main_v36 (F := Ideal) x7 (ix2 i j : S512x1024.Idx) = x7 (ix3 3 i j) := by
  unfold val_main_v36 val_main_v35
  pointwise
  try rfl

theorem r_mix3 (R : Fin 4096) (j : Fin 1024) :
    val_main_v37 (F := Ideal) x3 x7 (ix2 R j : S4096x1024.Idx) = (refIn x0 x1 x2 x3 x4 x5 x6 x7 x8).mix R 3 j := by
  unfold val_main_v37
  pointwise
  simp only [r_w3]
  rfl

theorem r_dt3 (R : Fin 4096) (j : Fin 1024) :
    val_main_v44 (F := Ideal) x0 x6 x8 (ix2 R j : S4096x1024.Idx) = (refIn x0 x1 x2 x3 x4 x5 x6 x7 x8).dt R 3 j := by
  unfold val_main_v44
  pointwise
  simp only [r_gate3 x0 x1 x2 x3 x4 x5 x6 x7 x8, r_dz x0 x1 x2 x3 x4 x5 x6 x7 x8]
  exact mul_comm _ _

theorem r_dy3 (R : Fin 4096) (i : Fin 512) :
    val_main_v48 (F := Ideal) x0 x6 x7 x8 (ix2 R i : S4096x512.Idx) = (refIn x0 x1 x2 x3 x4 x5 x6 x7 x8).dyb R 3 i := by
  unfold val_main_v48
  pointwise
  simp only [r_dt3 x0 x1 x2 x3 x4 x5 x6 x7 x8, r_w3]
  rfl

theorem r_dg3 (R : Fin 4096) (j : Fin 1024) :
    val_main_v45 (F := Ideal) x0 x3 x7 x8 (ix2 R j : S4096x1024.Idx) = (refIn x0 x1 x2 x3 x4 x5 x6 x7 x8).dz R j * (refIn x0 x1 x2 x3 x4 x5 x6 x7 x8).mix R 3 j := by
  unfold val_main_v45
  pointwise
  simp only [r_dz x0 x1 x2 x3 x4 x5 x6 x7 x8, r_mix3 x0 x1 x2 x3 x4 x5 x6 x7 x8]
  try rfl

theorem r_dw3 (i : Fin 512) (j : Fin 1024) :
    val_main_v47 (F := Ideal) x0 x3 x6 x8 (ix2 i j : S512x1024.Idx) = (refIn x0 x1 x2 x3 x4 x5 x6 x7 x8).dwb 3 i j := by
  unfold val_main_v47 val_main_v46
  pointwise
  simp only [r_dt3 x0 x1 x2 x3 x4 x5 x6 x7 x8]
  exact Finset.sum_congr rfl fun r _ => mul_comm _ _

theorem r_dwb0 (i : Fin 512) (j : Fin 1024) :
    val_main_v82 (F := Ideal) x0 x1 x2 x3 x4 x5 x6 x8 (ix3 0 i j : S4x512x1024.Idx) = (refIn x0 x1 x2 x3 x4 x5 x6 x7 x8).dwb 0 i j := by
  unfold val_main_v82 val_main_v71 val_main_v60 val_main_v81 val_main_v80 val_main_cst_8 val_main_v70 val_main_v69 val_main_cst_6 val_main_v59 val_main_v58 val_main_cst_4 val_main_v50 val_main_v49 val_main_cst_2
  pointwise
  simp only [r_dw0 x0 x1 x2 x3 x4 x5 x6 x7 x8, zero_add, add_zero]

theorem r_dgs0 (R : Fin 4096) (j : Fin 1024) :
    val_main_v85 (F := Ideal) x0 x1 x2 x3 x4 x5 x7 x8 (ix3 R 0 j : S4096x4x1024.Idx) = (refIn x0 x1 x2 x3 x4 x5 x6 x7 x8).dz R j * (refIn x0 x1 x2 x3 x4 x5 x6 x7 x8).mix R 0 j := by
  unfold val_main_v85 val_main_v74 val_main_v63 val_main_v84 val_main_v83 val_main_cst_9 val_main_v73 val_main_v72 val_main_cst_7 val_main_v62 val_main_v61 val_main_cst_5 val_main_v52 val_main_v51 val_main_cst_3
  pointwise
  simp only [r_dg0 x0 x1 x2 x3 x4 x5 x6 x7 x8, zero_add, add_zero]

theorem r_dwb1 (i : Fin 512) (j : Fin 1024) :
    val_main_v82 (F := Ideal) x0 x1 x2 x3 x4 x5 x6 x8 (ix3 1 i j : S4x512x1024.Idx) = (refIn x0 x1 x2 x3 x4 x5 x6 x7 x8).dwb 1 i j := by
  unfold val_main_v82 val_main_v71 val_main_v60 val_main_v81 val_main_v80 val_main_cst_8 val_main_v70 val_main_v69 val_main_cst_6 val_main_v59 val_main_v58 val_main_cst_4 val_main_v50 val_main_v49 val_main_cst_2
  pointwise
  simp only [r_dw1 x0 x1 x2 x3 x4 x5 x6 x7 x8, zero_add, add_zero]

theorem r_dgs1 (R : Fin 4096) (j : Fin 1024) :
    val_main_v85 (F := Ideal) x0 x1 x2 x3 x4 x5 x7 x8 (ix3 R 1 j : S4096x4x1024.Idx) = (refIn x0 x1 x2 x3 x4 x5 x6 x7 x8).dz R j * (refIn x0 x1 x2 x3 x4 x5 x6 x7 x8).mix R 1 j := by
  unfold val_main_v85 val_main_v74 val_main_v63 val_main_v84 val_main_v83 val_main_cst_9 val_main_v73 val_main_v72 val_main_cst_7 val_main_v62 val_main_v61 val_main_cst_5 val_main_v52 val_main_v51 val_main_cst_3
  pointwise
  simp only [r_dg1 x0 x1 x2 x3 x4 x5 x6 x7 x8, zero_add, add_zero]

theorem r_dwb2 (i : Fin 512) (j : Fin 1024) :
    val_main_v82 (F := Ideal) x0 x1 x2 x3 x4 x5 x6 x8 (ix3 2 i j : S4x512x1024.Idx) = (refIn x0 x1 x2 x3 x4 x5 x6 x7 x8).dwb 2 i j := by
  unfold val_main_v82 val_main_v71 val_main_v60 val_main_v81 val_main_v80 val_main_cst_8 val_main_v70 val_main_v69 val_main_cst_6 val_main_v59 val_main_v58 val_main_cst_4 val_main_v50 val_main_v49 val_main_cst_2
  pointwise
  simp only [r_dw2 x0 x1 x2 x3 x4 x5 x6 x7 x8, zero_add, add_zero]

theorem r_dgs2 (R : Fin 4096) (j : Fin 1024) :
    val_main_v85 (F := Ideal) x0 x1 x2 x3 x4 x5 x7 x8 (ix3 R 2 j : S4096x4x1024.Idx) = (refIn x0 x1 x2 x3 x4 x5 x6 x7 x8).dz R j * (refIn x0 x1 x2 x3 x4 x5 x6 x7 x8).mix R 2 j := by
  unfold val_main_v85 val_main_v74 val_main_v63 val_main_v84 val_main_v83 val_main_cst_9 val_main_v73 val_main_v72 val_main_cst_7 val_main_v62 val_main_v61 val_main_cst_5 val_main_v52 val_main_v51 val_main_cst_3
  pointwise
  simp only [r_dg2 x0 x1 x2 x3 x4 x5 x6 x7 x8, zero_add, add_zero]

theorem r_dwb3 (i : Fin 512) (j : Fin 1024) :
    val_main_v82 (F := Ideal) x0 x1 x2 x3 x4 x5 x6 x8 (ix3 3 i j : S4x512x1024.Idx) = (refIn x0 x1 x2 x3 x4 x5 x6 x7 x8).dwb 3 i j := by
  unfold val_main_v82 val_main_v71 val_main_v60 val_main_v81 val_main_v80 val_main_cst_8 val_main_v70 val_main_v69 val_main_cst_6 val_main_v59 val_main_v58 val_main_cst_4 val_main_v50 val_main_v49 val_main_cst_2
  pointwise
  simp only [r_dw3 x0 x1 x2 x3 x4 x5 x6 x7 x8, zero_add, add_zero]

theorem r_dgs3 (R : Fin 4096) (j : Fin 1024) :
    val_main_v85 (F := Ideal) x0 x1 x2 x3 x4 x5 x7 x8 (ix3 R 3 j : S4096x4x1024.Idx) = (refIn x0 x1 x2 x3 x4 x5 x6 x7 x8).dz R j * (refIn x0 x1 x2 x3 x4 x5 x6 x7 x8).mix R 3 j := by
  unfold val_main_v85 val_main_v74 val_main_v63 val_main_v84 val_main_v83 val_main_cst_9 val_main_v73 val_main_v72 val_main_cst_7 val_main_v62 val_main_v61 val_main_cst_5 val_main_v52 val_main_v51 val_main_cst_3
  pointwise
  simp only [r_dg3 x0 x1 x2 x3 x4 x5 x6 x7 x8, zero_add, add_zero]

theorem r_dwb (b : Fin 4) (i : Fin 512) (j : Fin 1024) :
    val_main_v82 (F := Ideal) x0 x1 x2 x3 x4 x5 x6 x8 (ix3 b i j : S4x512x1024.Idx) = (refIn x0 x1 x2 x3 x4 x5 x6 x7 x8).dwb b i j := by
  match b with
  | ⟨0, _⟩ => exact r_dwb0 x0 x1 x2 x3 x4 x5 x6 x7 x8 i j
  | ⟨1, _⟩ => exact r_dwb1 x0 x1 x2 x3 x4 x5 x6 x7 x8 i j
  | ⟨2, _⟩ => exact r_dwb2 x0 x1 x2 x3 x4 x5 x6 x7 x8 i j
  | ⟨3, _⟩ => exact r_dwb3 x0 x1 x2 x3 x4 x5 x6 x7 x8 i j

theorem r_dgs (R : Fin 4096) (b : Fin 4) (j : Fin 1024) :
    val_main_v85 (F := Ideal) x0 x1 x2 x3 x4 x5 x7 x8 (ix3 R b j : S4096x4x1024.Idx) = (refIn x0 x1 x2 x3 x4 x5 x6 x7 x8).dz R j * (refIn x0 x1 x2 x3 x4 x5 x6 x7 x8).mix R b j := by
  match b with
  | ⟨0, _⟩ => exact r_dgs0 x0 x1 x2 x3 x4 x5 x6 x7 x8 R j
  | ⟨1, _⟩ => exact r_dgs1 x0 x1 x2 x3 x4 x5 x6 x7 x8 R j
  | ⟨2, _⟩ => exact r_dgs2 x0 x1 x2 x3 x4 x5 x6 x7 x8 R j
  | ⟨3, _⟩ => exact r_dgs3 x0 x1 x2 x3 x4 x5 x6 x7 x8 R j

theorem r_doc (R : Fin 4096) (i : Fin 512) :
    val_main_v89 (F := Ideal) x0 x5 x6 x7 x8 (ix2 R i : S4096x512.Idx) = (refIn x0 x1 x2 x3 x4 x5 x6 x7 x8).doc R i := by
  unfold val_main_v89
  pointwise
  simp only [r_dy2 x0 x1 x2 x3 x4 x5 x6 x7 x8, sil_y]
  rfl

/-! ## The seven results -/

theorem res_dy0 (R : Fin 4096) (k : Fin 512) :
    val_main_v99 (F := Ideal) x0 x6 x7 x8 (ix3 0 R k : S3x4096x512.Idx) = (refIn x0 x1 x2 x3 x4 x5 x6 x7 x8).dyb R 0 k := by
  unfold val_main_v99 val_main_v98 val_main_v95 val_main_v96 val_main_v97
  pointwise
  simp only [r_dy0 x0 x1 x2 x3 x4 x5 x6 x7 x8]

theorem res_dy1 (R : Fin 4096) (k : Fin 512) :
    val_main_v99 (F := Ideal) x0 x6 x7 x8 (ix3 1 R k : S3x4096x512.Idx) = (refIn x0 x1 x2 x3 x4 x5 x6 x7 x8).dyb R 1 k := by
  unfold val_main_v99 val_main_v98 val_main_v95 val_main_v96 val_main_v97
  pointwise
  simp only [r_dy1 x0 x1 x2 x3 x4 x5 x6 x7 x8]

theorem res_dy3 (R : Fin 4096) (k : Fin 512) :
    val_main_v99 (F := Ideal) x0 x6 x7 x8 (ix3 2 R k : S3x4096x512.Idx) = (refIn x0 x1 x2 x3 x4 x5 x6 x7 x8).dyb R 3 k := by
  unfold val_main_v99 val_main_v98 val_main_v95 val_main_v96 val_main_v97
  pointwise
  simp only [r_dy3 x0 x1 x2 x3 x4 x5 x6 x7 x8]

theorem res_doc (R : Fin 4096) (i : Fin 512) :
    val_main_v100 (F := Ideal) x0 x5 x6 x7 x8 (ix2 R i : S4096x512.Idx) = (refIn x0 x1 x2 x3 x4 x5 x6 x7 x8).doc R i := by
  unfold val_main_v100
  pointwise
  simp only [r_doc x0 x1 x2 x3 x4 x5 x6 x7 x8]

theorem res_delta (R : Fin 4096) (l : Fin 128) :
    val_main_v101 (F := Ideal) x0 x4 x5 x6 x7 x8 (ix2 R l : S4096x128.Idx) = (refIn x0 x1 x2 x3 x4 x5 x6 x7 x8).delta R l := by
  unfold val_main_v101 val_main_v94 val_main_v93 val_main_v92 val_main_cst_11 val_main_call2_v0 val_main_c
  pointwise
  simp only [r_doc x0 x1 x2 x3 x4 x5 x6 x7 x8]
  unfold In.delta
  by_cases h : l.val < 4
  · rw [dif_pos h, dif_pos h]
    refine Finset.sum_congr rfl fun d _ => ?_
    have e : (⟨l.val * 128 + d.val, by have := d.isLt; omega⟩ : Fin 512) = In.headCol ⟨l.val, h⟩ d :=
      Fin.ext (by show l.val * 128 + d.val = 128 * l.val + d.val; omega)
    rw [e]
    rfl
  · rw [dif_neg h, dif_neg h]
    show ((((0#32 : BitVec 32).toInt : ℤ) : ℝ) : EReal) = 0
    simp

theorem r_silg (R : Fin 4096) (i : Fin 512) (h : IsReal ((refIn x0 x1 x2 x3 x4 x5 x6 x7 x8).dyb R 2 i * (refIn x0 x1 x2 x3 x4 x5 x6 x7 x8).oc R i)) :
    val_main_v90 (F := Ideal) x0 x4 x5 x6 x7 x8 (ix2 R i : S4096x512.Idx) = (refIn x0 x1 x2 x3 x4 x5 x6 x7 x8).dcg R i := by
  unfold val_main_v90 val_main_call1_v1 val_main_call1_v2 val_main_call1_v0 val_main_v88
  pointwise
  simp only [r_dy2 x0 x1 x2 x3 x4 x5 x6 x7 x8, sil_s, sil_d, sil_x]
  unfold In.dcg
  rw [silu_grad_eq _ _ h, mul_comm ((refIn x0 x1 x2 x3 x4 x5 x6 x7 x8).dyb R 2 i)]
  rfl

theorem res_dcg (R : Fin 4096) (i : Fin 512) (hi) (h : IsReal ((refIn x0 x1 x2 x3 x4 x5 x6 x7 x8).dyb R 2 i * (refIn x0 x1 x2 x3 x4 x5 x6 x7 x8).oc R i)) :
    val_main_v102 (F := Ideal) x0 x4 x5 x6 x7 x8 (ix2 R (⟨5120 + i.val, hi⟩ : Fin 6656) : S4096x6656.Idx) = (refIn x0 x1 x2 x3 x4 x5 x6 x7 x8).dcg R i := by
  unfold val_main_v102 val_main_v91
  pointwise
  simp only [r_silg x0 x1 x2 x3 x4 x5 x6 x7 x8 R i h]

theorem r_dgm (R : Fin 4096) (b : Fin 4) (j : Fin 1024) :
    val_main_v86 (F := Ideal) x0 x1 x2 x3 x4 x5 x6 x7 x8 (ix3 R b j : S4096x4x1024.Idx) = (refIn x0 x1 x2 x3 x4 x5 x6 x7 x8).dgm R b j := by
  unfold val_main_v86 val_main_v12 val_main_v11 val_main_v10 val_main_cst_1
  pointwise
  simp only [r_dgs x0 x1 x2 x3 x4 x5 x6 x7 x8, r_gates]
  unfold In.dgm
  rw [mul_assoc ((refIn x0 x1 x2 x3 x4 x5 x6 x7 x8).dz R j * (refIn x0 x1 x2 x3 x4 x5 x6 x7 x8).mix R b j)]
  rfl

theorem res_dgm (R : Fin 4096) (q : Fin 4096) (b : Fin 4) (j : Fin 1024) (hq : q.val = 1024 * b.val + j.val) :
    val_main_v103 (F := Ideal) x0 x1 x2 x3 x4 x5 x6 x7 x8 (ix2 R q : S4096x4096.Idx) = (refIn x0 x1 x2 x3 x4 x5 x6 x7 x8).dgm R b j := by
  unfold val_main_v103 val_main_v87
  pointwise
  have hj := j.isLt
  have e1 : (⟨q.val / 1024, by have := q.isLt; omega⟩ : Fin 4) = b := Fin.ext (by show q.val / 1024 = b.val; omega)
  have e2 : (⟨q.val % 1024, by omega⟩ : Fin 1024) = j := Fin.ext (by show q.val % 1024 = j.val; omega)
  rw [e1, e2]
  exact r_dgm x0 x1 x2 x3 x4 x5 x6 x7 x8 R b j

theorem res_dwb (s : Fin 8) (b : Fin 4) (k : Fin 512) (q : Fin 128) (j : Fin 1024) (hj : j.val = 128 * s.val + q.val) :
    val_main_v106 (F := Ideal) x0 x1 x2 x3 x4 x5 x6 x8 (ix4 s b k q : S8x4x512x128.Idx) = (refIn x0 x1 x2 x3 x4 x5 x6 x7 x8).dwb b k j := by
  unfold val_main_v106 val_main_v105 val_main_v104
  pointwise
  have e : (⟨s.val * 128 + q.val, by have := s.isLt; have := q.isLt; omega⟩ : Fin 1024) = j := Fin.ext (by show s.val * 128 + q.val = j.val; omega)
  rw [e]
  exact r_dwb x0 x1 x2 x3 x4 x5 x6 x7 x8 b k j

theorem r_z (R : Fin 4096) (j : Fin 1024) :
    val_main_v39 (F := Ideal) x1 x2 x3 x4 x5 x6 x7 (ix2 R j : S4096x1024.Idx) = (refIn x0 x1 x2 x3 x4 x5 x6 x7 x8).z R j := by
  unfold val_main_v39 val_main_v38 val_main_v32 val_main_v31 val_main_v25 val_main_v24 val_main_v18
  pointwise
  simp only [r_gate0 x0 x1 x2 x3 x4 x5 x6 x7 x8, r_mix0 x0 x1 x2 x3 x4 x5 x6 x7 x8, r_gate1 x0 x1 x2 x3 x4 x5 x6 x7 x8, r_mix1 x0 x1 x2 x3 x4 x5 x6 x7 x8, r_gate2 x0 x1 x2 x3 x4 x5 x6 x7 x8, r_mix2 x0 x1 x2 x3 x4 x5 x6 x7 x8, r_gate3 x0 x1 x2 x3 x4 x5 x6 x7 x8, r_mix3 x0 x1 x2 x3 x4 x5 x6 x7 x8]
  rfl

theorem res_dwo (i j : Fin 1024) :
    val_main_v107 (F := Ideal) x0 x1 x2 x3 x4 x5 x6 x7 (ix2 i j : S1024x1024.Idx) = (refIn x0 x1 x2 x3 x4 x5 x6 x7 x8).dwo i j := by
  unfold val_main_v107 val_main_v42 val_main_v41
  pointwise
  simp only [r_z x0 x1 x2 x3 x4 x5 x6 x7 x8]
  exact Finset.sum_congr rfl fun r _ => mul_comm _ _

end Cert.ReferenceIdeal.Read

end
-- ==== Proof.Agree.lean ====
/-
  The kernel's form of each result and the reference's are equal, result by result.
-/
module

public import proofs.«01_k».proof.Proof.Gen.KernelIdeal.Value
public import Idealize.ShloMosaic.Lib.ValueIdx
public import Idealize.ShloMosaic.Lib.Pointwise
public import Idealize.ShloMosaic.Lib.Pipeline.Value
public import Idealize.ShloMosaic.Lib.Pipeline.ValueKit
public import proofs.«01_k».proof.Proof.Out
public import proofs.«01_k».proof.Proof.Ref

@[expose] public section

set_option maxRecDepth 16384
set_option maxHeartbeats 400000

noncomputable section

namespace Cert.KernelIdeal.Gen

open Idealize.ShloMosaic Idealize.ShloMosaic.TcCoe Idealize.ShloMosaic.Tactic
open Cert.KernelIdeal
/-! ## The two programs agree

Each result of the reference, read at an element, is the term of the derivative the kernel's result holds there. -/

open Cert.MergeBwd Cert.KernelIdeal.Value Cert.ReferenceIdeal.Read

variable (m : (ℓ : Loc nD τ sig) → Buf (Elt Ideal) ℓ) (c : Dev nD)

def a0 : (⟨Cert.ReferenceIdeal.S4096x1024, .f32⟩ : BufTy).Contents (Elt Ideal) := m ((c.tc : Thread nD τ).loc main_arg0)
def a1 : (⟨Cert.ReferenceIdeal.S4096x512, .f32⟩ : BufTy).Contents (Elt Ideal) := m ((c.tc : Thread nD τ).loc main_arg1)
def a2 : (⟨Cert.ReferenceIdeal.S4096x512, .f32⟩ : BufTy).Contents (Elt Ideal) := m ((c.tc : Thread nD τ).loc main_arg2)
def a3 : (⟨Cert.ReferenceIdeal.S4096x512, .f32⟩ : BufTy).Contents (Elt Ideal) := m ((c.tc : Thread nD τ).loc main_arg3)
def a4 : (⟨Cert.ReferenceIdeal.S4096x512, .f32⟩ : BufTy).Contents (Elt Ideal) := m ((c.tc : Thread nD τ).loc main_arg4)
def a5 : (⟨Cert.ReferenceIdeal.S4096x6656, .f32⟩ : BufTy).Contents (Elt Ideal) := m ((c.tc : Thread nD τ).loc main_arg5)
def a6 : (⟨Cert.ReferenceIdeal.S4096x4096, .f32⟩ : BufTy).Contents (Elt Ideal) := m ((c.tc : Thread nD τ).loc main_arg6)
def a7 : (⟨Cert.ReferenceIdeal.S4x512x1024, .f32⟩ : BufTy).Contents (Elt Ideal) := m ((c.tc : Thread nD τ).loc main_arg7)
def a8 : (⟨Cert.ReferenceIdeal.S1024x1024, .f32⟩ : BufTy).Contents (Elt Ideal) := m ((c.tc : Thread nD τ).loc main_arg8)

/-- The reference's data at the kernel's arguments. -/
def theIn : In (Fin 4096) := refIn (a0 m c) (a1 m c) (a2 m c) (a3 m c) (a4 m c) (a5 m c) (a6 m c) (a7 m c) (a8 m c)

theorem data_eq : theIn m c = stepIn m c := rfl

theorem agree_dy (i : S3x4096x512.Idx) :
    val_main_v99 (F := Ideal) (a0 m c) (a6 m c) (a7 m c) (a8 m c) i = G11 m c i := by
  obtain ⟨s, R, k, rfl⟩ : ∃ (s : Fin 3) (R : Fin 4096) (k : Fin 512), i = ix3 s R k := ⟨i 0, i 1, i 2, eq_ix3 i⟩
  refine Eq.trans ?_ (out_dy m c s R k).symm
  rw [← data_eq]
  match s with
  | ⟨0, _⟩ => exact res_dy0 _ (a1 m c) (a2 m c) (a3 m c) (a4 m c) (a5 m c) _ _ _ R k
  | ⟨1, _⟩ => exact res_dy1 _ (a1 m c) (a2 m c) (a3 m c) (a4 m c) (a5 m c) _ _ _ R k
  | ⟨2, _⟩ => exact res_dy3 _ (a1 m c) (a2 m c) (a3 m c) (a4 m c) (a5 m c) _ _ _ R k

theorem agree_doc (i : S4096x512.Idx) :
    val_main_v100 (F := Ideal) (a0 m c) (a5 m c) (a6 m c) (a7 m c) (a8 m c) i = G12 m c i := by
  obtain ⟨R, k, rfl⟩ : ∃ (R : Fin 4096) (k : Fin 512), i = ix2 R k := ⟨i 0, i 1, eq_ix2 i⟩
  refine Eq.trans ?_ (out_doc m c R k).symm
  rw [← data_eq]
  exact res_doc _ (a1 m c) (a2 m c) (a3 m c) (a4 m c) _ _ _ _ R k

theorem agree_delta (i : S4096x128.Idx) :
    val_main_v101 (F := Ideal) (a0 m c) (a4 m c) (a5 m c) (a6 m c) (a7 m c) (a8 m c) i = G13 m c i := by
  obtain ⟨R, l, rfl⟩ : ∃ (R : Fin 4096) (l : Fin 128), i = ix2 R l := ⟨i 0, i 1, eq_ix2 i⟩
  refine Eq.trans ?_ (out_delta m c R l).symm
  rw [← data_eq]
  exact res_delta _ (a1 m c) (a2 m c) (a3 m c) _ _ _ _ _ R l

/-- The fourth result's columns the kernel writes. -/
theorem agree_dcg (hp : ∀ R i, IsReal ((theIn m c).dyb R 2 i * (theIn m c).oc R i)) (i : S4096x6656.Idx)
    (h : 5120 ≤ (i 1).val ∧ (i 1).val < 5632) :
    val_main_v102 (F := Ideal) (a0 m c) (a4 m c) (a5 m c) (a6 m c) (a7 m c) (a8 m c) i = G14 m c i := by
  obtain ⟨R, q, rfl⟩ : ∃ (R : Fin 4096) (q : Fin 6656), i = ix2 R q := ⟨i 0, i 1, eq_ix2 i⟩
  have h' : 5120 ≤ q.val ∧ q.val < 5632 := h
  obtain ⟨k, hk, rfl⟩ : ∃ (k : Fin 512) (hk : 5120 + k.val < 6656), q = ⟨5120 + k.val, hk⟩ :=
    ⟨⟨q.val - 5120, by omega⟩, by show 5120 + (q.val - 5120) < 6656; omega,
      Fin.ext (by show q.val = 5120 + (q.val - 5120); omega)⟩
  refine Eq.trans ?_ (out_dcg m c R k _).symm
  rw [← data_eq]
  exact res_dcg _ (a1 m c) (a2 m c) (a3 m c) _ _ _ _ _ R k _ (hp R k)

theorem agree_dgm (i : S4096x4096.Idx) :
    val_main_v103 (F := Ideal) (a0 m c) (a1 m c) (a2 m c) (a3 m c) (a4 m c) (a5 m c) (a6 m c) (a7 m c) (a8 m c) i = G15 m c i := by
  obtain ⟨R, q, rfl⟩ : ∃ (R : Fin 4096) (q : Fin 4096), i = ix2 R q := ⟨i 0, i 1, eq_ix2 i⟩
  have hq := q.isLt
  have e : q.val = 1024 * (⟨q.val / 1024, by omega⟩ : Fin 4).val + (⟨q.val % 1024, by omega⟩ : Fin 1024).val := by
    show q.val = 1024 * (q.val / 1024) + q.val % 1024
    omega
  refine Eq.trans ?_ (out_dgm m c R q _ _ e).symm
  rw [← data_eq]
  exact res_dgm _ _ _ _ _ _ _ _ _ R q _ _ e

theorem agree_dwb (i : S8x4x512x128.Idx) :
    val_main_v106 (F := Ideal) (a0 m c) (a1 m c) (a2 m c) (a3 m c) (a4 m c) (a5 m c) (a6 m c) (a8 m c) i = G16 m c i := by
  obtain ⟨s, b, k, q, rfl⟩ : ∃ (s : Fin 8) (b : Fin 4) (k : Fin 512) (q : Fin 128), i = ix4 s b k q := ⟨i 0, i 1, i 2, i 3, eq_ix4 i⟩
  have hs := s.isLt
  have hq := q.isLt
  have e : (⟨128 * s.val + q.val, by omega⟩ : Fin 1024).val = 128 * s.val + q.val := rfl
  refine Eq.trans ?_ (out_dwb m c s b k q _ e).symm
  rw [← data_eq]
  exact res_dwb _ _ _ _ _ _ _ (a7 m c) _ s b k q _ e

theorem agree_dwo (i : S1024x1024.Idx) :
    val_main_v107 (F := Ideal) (a0 m c) (a1 m c) (a2 m c) (a3 m c) (a4 m c) (a5 m c) (a6 m c) (a7 m c) i = G17 m c i := by
  obtain ⟨j, k, rfl⟩ : ∃ (j k : Fin 1024), i = ix2 j k := ⟨i 0, i 1, eq_ix2 i⟩
  refine Eq.trans ?_ (out_dwo m c j k).symm
  rw [← data_eq]
  exact res_dwo _ _ _ _ _ _ _ _ (a8 m c) j k

end Cert.KernelIdeal.Gen

end
-- ==== Proof.DhSpec.lean ====
/-
  The mathematics of the start of a layer, backwards, as plain sums over the extended reals: what the second kernel's two
  results and the second reference's two results are both shown to hold.

  `In` is the data; `In.dh` is the gradient of the normalised rows, `rinv` the reciprocal root mean square of a row, `dxRow`
  the gradient of one row in the kernel's form and `dxRef` in the reference's form. The two forms agree on all of the
  extended reals: a row with an infinite entry has reciprocal root mean square zero, and both forms then pass the incoming
  gradient by; otherwise the reciprocal root mean square is a positive real number, which distributes over every sum.
-/
module

public import Idealize.ShloMosaic.PureOps.Ideal
public import Idealize.ShloMosaic.PureOps.Ideal.Laws

@[expose] public section

noncomputable section

namespace Cert.DhBwd

open Idealize.ShloMosaic
open scoped BigOperators

/-! ## The derivative, as sums -/

/-- The data: the gradient `dp` of the combined projection, the projection's weight `w`, the residual stream `x`, the norm's
    gain `g`, and the gradient `dxo` that passes by. -/
structure In where
  dp : Fin 4096 → Fin 10752 → EReal
  w : Fin 1024 → Fin 10752 → EReal
  x : Fin 4096 → Fin 1024 → EReal
  g : Fin 1024 → EReal
  dxo : Fin 4096 → Fin 1024 → EReal

/-- The mean square of a row, plus the norm's small constant. -/
def ms (f : Fin 1024 → EReal) : EReal :=
  Ideal.div (∑ k, f k * f k) (Ideal.ofBits .f32 0x44800000#32) + Ideal.ofBits .f32 0x358637BD#32

/-- The reciprocal root mean square of a row. -/
def rinv (f : Fin 1024 → EReal) : EReal := Ideal.rsqrt (ms f)

/-- The gradient of a row `f` of the residual stream: `d` is the gradient of the normalised row, `g` the gain, `o` the gradient
    that passes by. -/
def dxRow (f d g o : Fin 1024 → EReal) (k : Fin 1024) : EReal :=
  o k + rinv f * (d k * g k - f k * rinv f * Ideal.div (∑ j, d j * g j * (f j * rinv f)) (Ideal.ofBits .f32 0x44800000#32))

/-- What the gradient of a row receives through its mean square, times one half and per entry. -/
def viaMs (f d g : Fin 1024 → EReal) : EReal :=
  Ideal.div ((∑ j, f j * (d j * g j)) * (Ideal.ofBits .f32 0xBF000000#32 * Ideal.div (rinv f) (ms f)))
    (Ideal.ofBits .f32 0x44800000#32)

/-- The gradient of a row, as the chain rule gives it: past the norm, through the normalised row, and twice through the square. -/
def dxRef (f d g o : Fin 1024 → EReal) (k : Fin 1024) : EReal :=
  o k + d k * g k * rinv f + f k * viaMs f d g + viaMs f d g * f k

namespace In

variable (I : In)

/-- The gradient of the normalised rows. -/
def dh (R : Fin 4096) (j : Fin 1024) : EReal := ∑ k, I.dp R k * I.w j k

/-- The gradient of the residual stream. -/
def dx (R : Fin 4096) (k : Fin 1024) : EReal := dxRow (I.x R) (I.dh R) I.g (I.dxo R) k

/-- The gradient of the gain. -/
def dg (k : Fin 1024) : EReal := ∑ R, I.dh R k * (I.x R k * rinv (I.x R))

/-! ## Its sums, taken block by block -/

def term (R : Fin 4096) (j : Fin 1024) (n : ℕ) : EReal := if h : n < 10752 then I.dp R ⟨n, h⟩ * I.w j ⟨n, h⟩ else 0

/-- The gradient of the normalised rows from the first `n` columns alone. -/
def upTo (R : Fin 4096) (j : Fin 1024) (n : ℕ) : EReal := ∑ m ∈ Finset.range n, I.term R j m

theorem upTo_zero (R : Fin 4096) (j : Fin 1024) : I.upTo R j 0 = 0 := Finset.sum_range_zero _

theorem upTo_all (R : Fin 4096) (j : Fin 1024) : I.upTo R j 10752 = I.dh R j := by
  unfold upTo dh
  rw [Finset.sum_range]
  exact Finset.sum_congr rfl fun k _ => dif_pos k.isLt

theorem upTo_add (R : Fin 4096) (j : Fin 1024) (n l : ℕ) (h : n + l ≤ 10752) :
    I.upTo R j (n + l) = I.upTo R j n
      + ∑ q : Fin l, I.dp R ⟨n + q.val, by have := q.isLt; omega⟩ * I.w j ⟨n + q.val, by have := q.isLt; omega⟩ := by
  unfold upTo
  rw [Finset.sum_range_add, Finset.sum_range (fun x => I.term R j (n + x))]
  congr 1
  exact Finset.sum_congr rfl fun q _ => dif_pos (by have := q.isLt; omega)

def gterm (k : Fin 1024) (n : ℕ) : EReal :=
  if h : n < 4096 then I.dh ⟨n, h⟩ k * (I.x ⟨n, h⟩ k * rinv (I.x ⟨n, h⟩)) else 0

/-- The gain's gradient from the first `n` rows alone. -/
def gUpTo (k : Fin 1024) (n : ℕ) : EReal := ∑ m ∈ Finset.range n, I.gterm k m

theorem gUpTo_zero (k : Fin 1024) : I.gUpTo k 0 = 0 := Finset.sum_range_zero _

theorem gUpTo_all (k : Fin 1024) : I.gUpTo k 4096 = I.dg k := by
  unfold gUpTo dg
  rw [Finset.sum_range]
  exact Finset.sum_congr rfl fun R _ => dif_pos R.isLt

theorem gUpTo_add (k : Fin 1024) (n l : ℕ) (h : n + l ≤ 4096) :
    I.gUpTo k (n + l) = I.gUpTo k n
      + ∑ q : Fin l, I.dh ⟨n + q.val, by have := q.isLt; omega⟩ k
          * (I.x ⟨n + q.val, by have := q.isLt; omega⟩ k * rinv (I.x ⟨n + q.val, by have := q.isLt; omega⟩)) := by
  unfold gUpTo
  rw [Finset.sum_range_add, Finset.sum_range (fun x => I.gterm k (n + x))]
  exact congrArg (_ + ·) (Finset.sum_congr rfl fun q _ => dif_pos (by have := q.isLt; omega))

end In

/-! ## The constants -/

theorem width_eq : Ideal.ofBits .f32 0x44800000#32 = ((1024 : ℝ) : EReal) := by
  simp [Ideal.ofBits, Ideal.ieee, -EReal.coe_mul]; norm_num

theorem neg_half_eq : Ideal.ofBits .f32 0xBF000000#32 = ((-(1 / 2) : ℝ) : EReal) := by
  simp [Ideal.ofBits, Ideal.ieee, -EReal.coe_mul]; norm_num

theorem small_pos : ∃ e : ℝ, 0 < e ∧ Ideal.ofBits .f32 0x358637BD#32 = (e : EReal) := by
  refine ⟨(2 : ℝ) ^ (-43 : ℤ) * 8796093, by positivity, ?_⟩
  simp [Ideal.ofBits, Ideal.ieee, -EReal.coe_mul]; norm_num

/-- Dividing by the row's width is multiplying by its inverse. -/
theorem div_width (a : EReal) : Ideal.div a (Ideal.ofBits .f32 0x44800000#32) = a * ((1 / 1024 : ℝ) : EReal) := by
  rw [width_eq, Ideal.div_coe (by norm_num)]

/-! ## A row is all real, or its reciprocal root mean square is zero -/

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem sq_nonneg' (a : EReal) : 0 ≤ a * a := by
  induction a using EReal.rec with
  | bot => rw [EReal.bot_mul_bot]; exact le_top
  | top => rw [EReal.top_mul_top]; exact le_top
  | coe a => rw [← EReal.coe_mul]; exact EReal.coe_nonneg.2 (mul_self_nonneg a)

theorem row_cases (f : Fin 1024 → EReal) :
    rinv f = 0 ∧ ms f = ⊤ ∨ ∃ (φ : Fin 1024 → ℝ) (ν : ℝ), 0 < ν ∧ f = (fun k => (φ k : EReal)) ∧ ms f = (ν : EReal)
      ∧ rinv f = (((Real.sqrt ν)⁻¹ : ℝ) : EReal) := by
  obtain ⟨e, he, hε⟩ := small_pos
  by_cases h : ∀ k, f k ≠ ⊤ ∧ f k ≠ ⊥
  · right
    have hf : f = fun k => ((f k).toReal : EReal) := funext fun k => (EReal.coe_toReal (h k).1 (h k).2).symm
    have hs : (∑ k, f k * f k) = ((∑ k, (f k).toReal * (f k).toReal : ℝ) : EReal) := by
      rw [coe_sum]
      refine Finset.sum_congr rfl fun k _ => ?_
      rw [EReal.coe_mul, EReal.coe_toReal (h k).1 (h k).2]
    have h0 : 0 ≤ ∑ k, (f k).toReal * (f k).toReal := Finset.sum_nonneg fun k _ => mul_self_nonneg _
    have hpos : 0 < (∑ k, (f k).toReal * (f k).toReal) * (1 / 1024) + e := by positivity
    have hm : ms f = (((∑ k, (f k).toReal * (f k).toReal) * (1 / 1024) + e : ℝ) : EReal) := by
      unfold ms
      rw [div_width, hε, hs, ← EReal.coe_mul, ← EReal.coe_add]
    refine ⟨fun k => (f k).toReal, _, hpos, hf, hm, ?_⟩
    unfold rinv
    rw [hm, Ideal.rsqrt_coe, if_neg (not_lt.2 hpos.le), if_neg hpos.ne']
  · left
    have hm : ms f = ⊤ := by
      push Not at h
      obtain ⟨k, hk⟩ := h
      have hk' : f k * f k = ⊤ := by
        by_cases ht : f k = ⊤
        · rw [ht, EReal.top_mul_top]
        · rw [hk ht, EReal.bot_mul_bot]
      have hs : (∑ k, f k * f k) = ⊤ := by
        refine top_le_iff.1 ?_
        rw [← hk']
        exact Finset.single_le_sum (f := fun k => f k * f k) (fun j _ => sq_nonneg' (f j)) (Finset.mem_univ k)
      unfold ms
      rw [div_width, hε, hs, EReal.top_mul_coe_of_pos (by norm_num), EReal.top_add_coe]
    refine ⟨?_, hm⟩
    unfold rinv
    rw [hm, Ideal.rsqrt_top]

/-! ## The two forms of a row's gradient agree -/

theorem sum_mul_pos {ι : Type} (s : Finset ι) (r : ℝ) (hr : 0 ≤ r) (a : ι → EReal) :
    ∑ j ∈ s, (r : EReal) * a j = (r : EReal) * ∑ j ∈ s, a j := by
  classical
  induction s using Finset.induction_on with
  | empty => simp
  | insert i s hi ih =>
    rw [Finset.sum_insert hi, Finset.sum_insert hi, ih,
      EReal.left_distrib_of_nonneg_of_ne_top (EReal.coe_nonneg.2 hr) (EReal.coe_ne_top r)]

theorem double (q : ℝ) (T : EReal) : (q : EReal) * T + (q : EReal) * T = ((2 * q : ℝ) : EReal) * T := by
  have h2 : ((2 * q : ℝ) : EReal) * T = ((1 : EReal) + 1) * ((q : EReal) * T) := by
    rw [EReal.coe_mul, mul_assoc]
    congr 1
    rw [show (1 : EReal) = ((1 : ℝ) : EReal) by norm_num, ← EReal.coe_add]
    norm_num
  rw [h2, EReal.right_distrib_of_nonneg zero_le_one zero_le_one, one_mul]

/-- The kernel's form of a row's gradient is the chain rule's. -/
theorem dxRow_eq (f d g o : Fin 1024 → EReal) (k : Fin 1024) : dxRow f d g o k = dxRef f d g o k := by
  rcases row_cases f with ⟨hr, hm⟩ | ⟨φ, ν, hν, hf, hm, hr⟩
  · have hv : viaMs f d g = 0 := by
      unfold viaMs
      have : Ideal.div (0 : EReal) ⊤ = 0 := by
        unfold Ideal.div
        rw [if_neg (by simp), zero_mul]
      rw [hr, hm, this, div_width, mul_zero, mul_zero, zero_mul]
    unfold dxRow dxRef
    rw [hv, hr, zero_mul, mul_zero, mul_zero, zero_mul, add_zero, add_zero, add_zero]
  · have hs : 0 < Real.sqrt ν := Real.sqrt_pos.2 hν
    have hss : Real.sqrt ν * Real.sqrt ν = ν := Real.mul_self_sqrt hν.le
    have hfk : f k = (φ k : EReal) := congrFun hf k
    have hρ : 0 ≤ (Real.sqrt ν)⁻¹ := (inv_pos.2 hs).le
    have hS : (∑ j, d j * g j * (f j * rinv f)) = (((Real.sqrt ν)⁻¹ : ℝ) : EReal) * ∑ j, f j * (d j * g j) := by
      rw [← sum_mul_pos _ _ hρ, hr]
      refine Finset.sum_congr rfl fun j _ => ?_
      rw [mul_comm (d j * g j), mul_comm (f j), mul_assoc]
    have hv : viaMs f d g
        = ((-(1 / 2) * ((Real.sqrt ν)⁻¹ * (1 / ν)) * (1 / 1024) : ℝ) : EReal) * ∑ j, f j * (d j * g j) := by
      unfold viaMs
      rw [div_width, hr, hm, Ideal.div_coe hν.ne', neg_half_eq, ← EReal.coe_mul, ← EReal.coe_mul, mul_assoc, ← EReal.coe_mul,
        mul_comm]
    unfold dxRow dxRef
    rw [hS, hv, hr, div_width, hfk]
    generalize (∑ j, f j * (d j * g j)) = T
    generalize d k * g k = D
    have e1 : (φ k : EReal) * (((-(1 / 2) * ((Real.sqrt ν)⁻¹ * (1 / ν)) * (1 / 1024) : ℝ) : EReal) * T)
        = ((φ k * (-(1 / 2) * ((Real.sqrt ν)⁻¹ * (1 / ν)) * (1 / 1024)) : ℝ) : EReal) * T := by
      rw [EReal.coe_mul (φ k), mul_assoc (φ k : EReal)]
    rw [add_assoc, add_assoc, mul_comm (((-(1 / 2) * ((Real.sqrt ν)⁻¹ * (1 / ν)) * (1 / 1024) : ℝ) : EReal) * T), e1, double]
    congr 1
    have e2 : (φ k : EReal) * (((Real.sqrt ν)⁻¹ : ℝ) : EReal) * ((((Real.sqrt ν)⁻¹ : ℝ) : EReal) * T * ((1 / 1024 : ℝ) : EReal))
        = ((φ k * (Real.sqrt ν)⁻¹ * ((Real.sqrt ν)⁻¹ * (1 / 1024)) : ℝ) : EReal) * T := by
      rw [mul_assoc _ T, mul_comm T, ← mul_assoc, ← mul_assoc, ← EReal.coe_mul, ← EReal.coe_mul, ← EReal.coe_mul,
        mul_assoc (φ k * (Real.sqrt ν)⁻¹)]
    rw [e2, sub_eq_add_neg, EReal.left_distrib_of_nonneg_of_ne_top (EReal.coe_nonneg.2 hρ) (EReal.coe_ne_top _), mul_comm D,
      ← EReal.neg_mul, ← EReal.coe_neg, ← mul_assoc, ← EReal.coe_mul]
    congr 3
    have hne : Real.sqrt ν ≠ 0 := hs.ne'
    rw [← hss]
    have : Real.sqrt (Real.sqrt ν * Real.sqrt ν) = Real.sqrt ν := by rw [hss]
    rw [this]
    field_simp
    try ring

end Cert.DhBwd

end
-- ==== Proof.DhPay.lean ====
/-
  The stored vectors of the second kernel's body, read one element at a time.
-/
module

public import proofs.«01_k».proof.Proof.Gen.Kernel2Ideal.Skeleton
public import Idealize.ShloMosaic.Lib.ValueIdx
public import Idealize.ShloMosaic.Lib.Pointwise
public import Idealize.ShloMosaic.Lib.Pipeline.Value
public import Idealize.ShloMosaic.Lib.Pipeline.ValueKit
public import proofs.«01_k».proof.Proof.DhSpec

@[expose] public section

set_option maxRecDepth 16384
set_option maxHeartbeats 400000

noncomputable section

namespace Cert.Kernel2Ideal.Gen

open Idealize.ShloMosaic Idealize.ShloMosaic.TcCoe Idealize.ShloMosaic.Tactic
open Cert.Kernel2Ideal
open Cert.DhBwd

/-! ## The body's arithmetic, read at one place

Each lemma gives one entry of one stored vector, over the extended reals, from what the operands hold. -/

theorem zeros_apply (j : Fin 1024) : k0_pay1 (F := Ideal) (ix2 0 j) = 0 := by
  unfold k0_pay1
  simp only [pointwise, shapeCast_self]

theorem zero_apply (r j : Fin 1024) : k0_pay2 (F := Ideal) (ix2 r j) = 0 := by
  unfold k0_pay2
  simp only [pointwise, shapeCast_self]

/-- A block of the branches' columns is added to the accumulator. -/
theorem pay3_apply {a : Vec Ideal S1024x1024 .f32} {d : Vec Ideal S1024x1664 .bf16} {w : Vec Ideal S1664x1024 .bf16}
    {r j : Fin 1024} {α : EReal} {D W : Fin 1664 → EReal} (ha : a (ix2 r j) = α) (hd : ∀ q, d (ix2 r q) = D q)
    (hw : ∀ q, w (ix2 q j) = W q) : k0_pay3 a d w (ix2 r j) = α + ∑ q, D q * W q := by
  unfold k0_pay3
  simp only [pointwise, shapeCast_self, zero_add, ha, hd, hw]

/-- A block of the gates' columns is added to the accumulator, in two halves. -/
theorem pay4_apply {a : Vec Ideal S1024x1024 .f32} {d e : Vec Ideal S1024x512 .bf16} {w v : Vec Ideal S512x1024 .bf16}
    {r j : Fin 1024} {α : EReal} {D W E V : Fin 512 → EReal} (ha : a (ix2 r j) = α) (hd : ∀ q, d (ix2 r q) = D q)
    (hw : ∀ q, w (ix2 q j) = W q) (he : ∀ q, e (ix2 r q) = E q) (hv : ∀ q, v (ix2 q j) = V q) :
    k0_pay4 a d w e v (ix2 r j) = α + (∑ q, D q * W q + ∑ q, E q * V q) := by
  unfold k0_pay4
  simp only [pointwise, shapeCast_self, zero_add, ha, hd, hw, he, hv]

/-- The reciprocal root mean square of a row. -/
theorem pay5_apply {x : Vec Ideal S1024x1024 .f32} {r : Fin 1024} {f : Fin 1024 → EReal} (hx : ∀ k, x (ix2 r k) = f k) :
    k0_pay5 x (ix2 r 0) = rinv f := by
  unfold k0_pay5
  simp only [pointwise, shapeCast_self, zero_add, hx, rinv, ms]

/-- The normalised row. -/
theorem pay6_apply {x : Vec Ideal S1024x1024 .f32} {r : Fin 1024} {f : Fin 1024 → EReal} (hx : ∀ k, x (ix2 r k) = f k)
    (k : Fin 1024) : k0_pay6 x (ix2 r k) = f k * rinv f := by
  rw [← pay5_apply hx, ← hx k]
  unfold k0_pay6
  simp only [pointwise, shapeCast_self, zero_add]
  rfl

/-- The gain's gradient gains a tile's rows. -/
theorem pay7_apply {x d : Vec Ideal S1024x1024 .f32} {a : Vec Ideal S1x1024 .f32} {k : Fin 1024} {α : EReal}
    {f D : Fin 1024 → Fin 1024 → EReal} (hx : ∀ r k, x (ix2 r k) = f r k) (hd : ∀ r k, d (ix2 r k) = D r k)
    (ha : a (ix2 0 k) = α) : k0_pay7 x d a (ix2 0 k) = α + ∑ r, D r k * (f r k * rinv (f r)) := by
  unfold k0_pay7
  simp only [pointwise, shapeCast_self, zero_add, hd, ha, pay6_apply (hx _)]

/-- The gradient of a row of the residual stream. -/
theorem pay8_apply {x d o : Vec Ideal S1024x1024 .f32} {a : Vec Ideal S1x1024 .f32} {r : Fin 1024}
    {f D g O : Fin 1024 → EReal} (hx : ∀ k, x (ix2 r k) = f k) (hd : ∀ k, d (ix2 r k) = D k) (ha : ∀ k, a (ix2 0 k) = g k)
    (ho : ∀ k, o (ix2 r k) = O k) (k : Fin 1024) : k0_pay8 x d a o (ix2 r k) = dxRow f D g O k := by
  unfold k0_pay8
  simp only [pointwise, shapeCast_self, zero_add]
  show o (ix2 r k) + k0_pay5 x (ix2 r 0) * (d (ix2 r k) * a (ix2 0 k) - k0_pay6 x (ix2 r k)
    * Ideal.div (∑ j, d (ix2 r j) * a (ix2 0 j) * k0_pay6 x (ix2 r j)) (Ideal.ofBits .f32 0x44800000#32)) = _
  simp only [pay5_apply hx, pay6_apply hx, hd, ha, ho]
  rfl

end Cert.Kernel2Ideal.Gen

end
-- ==== Proof.DhCase.lean ====
/-
  What the body of the second kernel leaves at each of the five kinds of grid point.
-/
module

public import proofs.«01_k».proof.Proof.Gen.Kernel2Ideal.Frame
public import Idealize.ShloMosaic.Lib.ValueIdx
public import Idealize.ShloMosaic.Lib.Pointwise
public import Idealize.ShloMosaic.Lib.Pipeline.Value
public import Idealize.ShloMosaic.Lib.Pipeline.ValueKit
public import proofs.«01_k».proof.Proof.DhPay

@[expose] public section

set_option maxRecDepth 16384
set_option maxHeartbeats 400000

noncomputable section

namespace Cert.Kernel2Ideal.Gen

open Idealize.ShloMosaic Idealize.ShloMosaic.TcCoe Idealize.ShloMosaic.Tactic
open Cert.Kernel2Ideal
open Cert.DhBwd

variable {e : EltTy}

/-- A load of a whole buffer. -/
theorem ld_all {n m : ℕ} (x : Vec Ideal ⟨2, ![n, m]⟩ e) (inb) (r : Fin n) (k : Fin m) :
    View.ld x (Rect.unit (s := ⟨2, ![n, m]⟩) ![0, 0] ![n, m] inb) (ix2 r k) = x (ix2 r k) := by
  refine View.ld_unit_apply_of _ _ _ _ _ _ (Fin.forall_fin_two.2 ⟨?_, ?_⟩)
  · show r.val = 0 + r.val; omega
  · show k.val = 0 + k.val; omega

/-- A load of the columns from `l` on. -/
theorem ld_cols {n m l p : ℕ} (x : Vec Ideal ⟨2, ![n, m]⟩ e) (inb) (r : Fin n) (q : Fin p) (k : Fin m) (hk : k.val = l + q.val) :
    View.ld x (Rect.unit (s := ⟨2, ![n, m]⟩) ![0, l] ![n, p] inb) (ix2 r q) = x (ix2 r k) := by
  refine View.ld_unit_apply_of _ _ _ _ _ _ (Fin.forall_fin_two.2 ⟨?_, ?_⟩)
  · show r.val = 0 + r.val; omega
  · show k.val = l + q.val; omega

/-- The product of a block of the branches' columns. -/
def brPart (x0 : Vec Ideal S1024x1664 .bf16) (x1 : Vec Ideal S1664x1024 .bf16) (r j : Fin 1024) : EReal :=
  ∑ q : Fin 1664, x0 (ix2 r q) * x1 (ix2 q j)

/-- The product of a block of the gates' columns, in two halves. -/
def gaPart (x2 : Vec Ideal S1024x1024 .bf16) (x3 x4 : Vec Ideal S512x1024 .bf16) (r j : Fin 1024) : EReal :=
  (∑ q : Fin 512, x2 (ix2 r ⟨0 + q.val, by have := q.isLt; omega⟩) * x3 (ix2 q j))
    + ∑ q : Fin 512, x2 (ix2 r ⟨512 + q.val, by have := q.isLt; omega⟩) * x4 (ix2 q j)

section

variable (c : Dev nD) (i : grid0.Coords) (arg2 : Memref sig .tc .vmem S1024x1664 .bf16) (harg2 : arg2.IsWhole) (arg3 : Memref sig .tc .vmem S1664x1024 .bf16) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1x1024 .f32) (harg11 : arg11.IsWhole) (arg12 : Memref sig .tc .vmem S1024x1024 .f32) (harg12 : arg12.IsWhole) (hc0 : cond0_0 i) (hc1 : cond0_1 i) (hc2 : cond0_2 i) (hc3 : ¬cond0_3 i) (hc4 : ¬cond0_4 i)
  (x0 : Vec Ideal S1024x1664 .bf16) (x1 : Vec Ideal S1664x1024 .bf16) (x2 : Vec Ideal S1024x1024 .bf16) (x3 : Vec Ideal S512x1024 .bf16) (x4 : Vec Ideal S512x1024 .bf16) (x5 : Vec Ideal S1024x1024 .f32) (x6 : Vec Ideal S1x1024 .f32) (x7 : Vec Ideal S1024x1024 .f32) (xo9 : Vec Ideal S1x1024 .f32) (xs0 : Vec Ideal S1024x1024 .f32)

/-- The accumulator starts a tile with its first block. -/
theorem acc_A (r j : Fin 1024) : sout0_A_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 (ix2 r j) = brPart x0 x1 r j := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  rw [View.canon_cons_unit_lit _ _ _ (by decide)]
  refine (pay3_apply ?_ (fun q => ld_all x0 _ r q) (fun q => ld_all x1 _ q j)).trans (zero_add _)
  rw [View.readCov_unit_lit _ _ _ (by decide)]
  exact zero_apply r j

/-- The gain's gradient starts at zero. -/
theorem out9_A (j : Fin 1024) : out0_A_9 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 (ix2 0 j) = 0 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7)]
  unfold kernelRun0_A
  dsimp only
  sl_unfold_words
  rw [View.canon_cons_unit_lit _ _ _ (by decide)]
  exact zeros_apply j

end

section

variable (c : Dev nD) (i : grid0.Coords) (arg2 : Memref sig .tc .vmem S1024x1664 .bf16) (harg2 : arg2.IsWhole) (arg3 : Memref sig .tc .vmem S1664x1024 .bf16) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1x1024 .f32) (harg11 : arg11.IsWhole) (arg12 : Memref sig .tc .vmem S1024x1024 .f32) (harg12 : arg12.IsWhole) (hc0 : ¬cond0_0 i) (hc1 : ¬cond0_1 i) (hc2 : cond0_2 i) (hc3 : ¬cond0_3 i) (hc4 : ¬cond0_4 i)
  (x0 : Vec Ideal S1024x1664 .bf16) (x1 : Vec Ideal S1664x1024 .bf16) (x2 : Vec Ideal S1024x1024 .bf16) (x3 : Vec Ideal S512x1024 .bf16) (x4 : Vec Ideal S512x1024 .bf16) (x5 : Vec Ideal S1024x1024 .f32) (x6 : Vec Ideal S1x1024 .f32) (x7 : Vec Ideal S1024x1024 .f32) (xo9 : Vec Ideal S1x1024 .f32) (xs0 : Vec Ideal S1024x1024 .f32)

/-- A block of the branches' columns is added. -/
theorem acc_B (r j : Fin 1024) : sout0_B_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 (ix2 r j) = xs0 (ix2 r j) + brPart x0 x1 r j := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  rw [View.canon_cons_unit_lit _ _ _ (by decide)]
  exact pay3_apply (ld_all xs0 _ r j) (fun q => ld_all x0 _ r q) (fun q => ld_all x1 _ q j)

end

section

variable (c : Dev nD) (i : grid0.Coords) (arg2 : Memref sig .tc .vmem S1024x1664 .bf16) (harg2 : arg2.IsWhole) (arg3 : Memref sig .tc .vmem S1664x1024 .bf16) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1x1024 .f32) (harg11 : arg11.IsWhole) (arg12 : Memref sig .tc .vmem S1024x1024 .f32) (harg12 : arg12.IsWhole) (hc0 : ¬cond0_0 i) (hc1 : ¬cond0_1 i) (hc2 : ¬cond0_2 i) (hc3 : cond0_3 i) (hc4 : ¬cond0_4 i)
  (x0 : Vec Ideal S1024x1664 .bf16) (x1 : Vec Ideal S1664x1024 .bf16) (x2 : Vec Ideal S1024x1024 .bf16) (x3 : Vec Ideal S512x1024 .bf16) (x4 : Vec Ideal S512x1024 .bf16) (x5 : Vec Ideal S1024x1024 .f32) (x6 : Vec Ideal S1x1024 .f32) (x7 : Vec Ideal S1024x1024 .f32) (xo9 : Vec Ideal S1x1024 .f32) (xs0 : Vec Ideal S1024x1024 .f32)

/-- A block of the gates' columns is added. -/
theorem acc_C (r j : Fin 1024) : sout0_C_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0 (ix2 r j) = xs0 (ix2 r j) + gaPart x2 x3 x4 r j := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xs0)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  rw [View.canon_cons_unit_lit _ _ _ (by decide)]
  exact pay4_apply (ld_all xs0 _ r j) (fun q => ld_cols x2 _ r q ⟨0 + q.val, by have := q.isLt; omega⟩ rfl) (fun q => ld_all x3 _ q j) (fun q => ld_cols x2 _ r q ⟨512 + q.val, by have := q.isLt; omega⟩ rfl) (fun q => ld_all x4 _ q j)

end

section

variable (c : Dev nD) (i : grid0.Coords) (arg2 : Memref sig .tc .vmem S1024x1664 .bf16) (harg2 : arg2.IsWhole) (arg3 : Memref sig .tc .vmem S1664x1024 .bf16) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1x1024 .f32) (harg11 : arg11.IsWhole) (arg12 : Memref sig .tc .vmem S1024x1024 .f32) (harg12 : arg12.IsWhole) (hc0 : ¬cond0_0 i) (hc1 : ¬cond0_1 i) (hc2 : ¬cond0_2 i) (hc3 : cond0_3 i) (hc4 : cond0_4 i)
  (x0 : Vec Ideal S1024x1664 .bf16) (x1 : Vec Ideal S1664x1024 .bf16) (x2 : Vec Ideal S1024x1024 .bf16) (x3 : Vec Ideal S512x1024 .bf16) (x4 : Vec Ideal S512x1024 .bf16) (x5 : Vec Ideal S1024x1024 .f32) (x6 : Vec Ideal S1x1024 .f32) (x7 : Vec Ideal S1024x1024 .f32) (xo9 : Vec Ideal S1x1024 .f32) (xs0 : Vec Ideal S1024x1024 .f32)

/-- A block of the gates' columns is added. -/
theorem acc_D (r j : Fin 1024) : sout0_D_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xo9 xs0 (ix2 r j) = xs0 (ix2 r j) + gaPart x2 x3 x4 r j := by
  unfold sout0_D_0
  rw [View.read_writes_eq_canon _ _ _ (scover0_D_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xo9 xs0)]
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  rw [View.canon_cons_unit_lit _ _ _ (by decide)]
  exact pay4_apply (ld_all xs0 _ r j) (fun q => ld_cols x2 _ r q ⟨0 + q.val, by have := q.isLt; omega⟩ rfl) (fun q => ld_all x3 _ q j) (fun q => ld_cols x2 _ r q ⟨512 + q.val, by have := q.isLt; omega⟩ rfl) (fun q => ld_all x4 _ q j)

/-- The gain's gradient gains the tile's rows. -/
theorem out9_D (k : Fin 1024) : out0_D_9 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xo9 xs0 (ix2 0 k) = xo9 (ix2 0 k) + ∑ r : Fin 1024, (xs0 (ix2 r k) + gaPart x2 x3 x4 r k) * (x5 (ix2 r k) * rinv (fun k => x5 (ix2 r k))) := by
  unfold out0_D_9
  rw [View.read_writes_eq_canon _ _ _ (cover0_D_9 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xo9 xs0)]
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  rw [View.canon_cons_unit_lit _ _ _ (by decide)]
  exact pay7_apply (D := fun r j => xs0 (ix2 r j) + gaPart x2 x3 x4 r j) (f := fun r k => x5 (ix2 r k)) (fun r k => ld_all x5 _ r k) (fun r j => by
    rw [View.readCov_unit_lit _ _ _ (by decide)]
    exact pay4_apply (ld_all xs0 _ r j) (fun q => ld_cols x2 _ r q ⟨0 + q.val, by have := q.isLt; omega⟩ rfl) (fun q => ld_all x3 _ q j) (fun q => ld_cols x2 _ r q ⟨512 + q.val, by have := q.isLt; omega⟩ rfl) (fun q => ld_all x4 _ q j)) (ld_all xo9 _ 0 k)

/-- The gradient of the tile's rows. -/
theorem out8_D (r k : Fin 1024) : out0_D_8 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xo9 xs0 (ix2 r k) = dxRow (fun k => x5 (ix2 r k)) (fun j => xs0 (ix2 r j) + gaPart x2 x3 x4 r j) (fun k => x6 (ix2 0 k)) (fun k => x7 (ix2 r k)) k := by
  unfold out0_D_8
  rw [View.read_writes_eq_canon _ _ _ (cover0_D_8 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 xo9 xs0)]
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  rw [View.canon_cons_unit_lit _ _ _ (by decide)]
  exact pay8_apply (D := fun j => xs0 (ix2 r j) + gaPart x2 x3 x4 r j) (fun k => ld_all x5 _ r k) (fun j => by
    rw [View.readCov_unit_lit _ _ _ (by decide)]
    exact pay4_apply (ld_all xs0 _ r j) (fun q => ld_cols x2 _ r q ⟨0 + q.val, by have := q.isLt; omega⟩ rfl) (fun q => ld_all x3 _ q j) (fun q => ld_cols x2 _ r q ⟨512 + q.val, by have := q.isLt; omega⟩ rfl) (fun q => ld_all x4 _ q j)) (fun k => ld_all x6 _ 0 k) (fun k => ld_all x7 _ r k) k

end

section

variable (c : Dev nD) (i : grid0.Coords) (arg2 : Memref sig .tc .vmem S1024x1664 .bf16) (harg2 : arg2.IsWhole) (arg3 : Memref sig .tc .vmem S1664x1024 .bf16) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1x1024 .f32) (harg11 : arg11.IsWhole) (arg12 : Memref sig .tc .vmem S1024x1024 .f32) (harg12 : arg12.IsWhole) (hc0 : ¬cond0_0 i) (hc1 : cond0_1 i) (hc2 : cond0_2 i) (hc3 : ¬cond0_3 i) (hc4 : ¬cond0_4 i)
  (x0 : Vec Ideal S1024x1664 .bf16) (x1 : Vec Ideal S1664x1024 .bf16) (x2 : Vec Ideal S1024x1024 .bf16) (x3 : Vec Ideal S512x1024 .bf16) (x4 : Vec Ideal S512x1024 .bf16) (x5 : Vec Ideal S1024x1024 .f32) (x6 : Vec Ideal S1x1024 .f32) (x7 : Vec Ideal S1024x1024 .f32) (xo9 : Vec Ideal S1x1024 .f32) (xs0 : Vec Ideal S1024x1024 .f32)

/-- The accumulator starts a tile with its first block. -/
theorem acc_E (r j : Fin 1024) : sout0_E_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7 (ix2 r j) = brPart x0 x1 r j := by
  unfold sout0_E_0
  rw [View.read_writes_eq_canon _ _ _ (scover0_E_0 c i arg2 harg2 arg3 harg3 arg4 harg4 arg5 harg5 arg6 harg6 arg7 harg7 arg8 harg8 arg9 harg9 arg10 harg10 arg11 harg11 arg12 harg12 hc0 hc1 hc2 hc3 hc4 x0 x1 x2 x3 x4 x5 x6 x7)]
  unfold kernelRun0_E
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread]
  rw [View.canon_cons_unit_lit _ _ _ (by decide)]
  refine (pay3_apply ?_ (fun q => ld_all x0 _ r q) (fun q => ld_all x1 _ q j)).trans (zero_add _)
  rw [View.readCov_unit_lit _ _ _ (by decide)]
  exact zero_apply r j

end

end Cert.Kernel2Ideal.Gen

end
-- ==== Proof.DhHost.lean ====
/-
  The arrays that the host code prepares for the second kernel, and the blocks that its grid points read of them.
-/
module

public import proofs.«01_k».proof.Proof.Gen.Kernel2Ideal.Frame
public import Idealize.ShloMosaic.Lib.ValueIdx
public import Idealize.ShloMosaic.Lib.Pointwise
public import Idealize.ShloMosaic.Lib.Pipeline.Value
public import Idealize.ShloMosaic.Lib.Pipeline.ValueKit
public import Idealize.ShloMosaic.Lib.Claim
public import Idealize.ShloMosaic.Lib.StableHlo.ReadAt
public import Idealize.ShloMosaic.Lib.Pipeline.ValueKit.Point
public import proofs.«01_k».proof.Proof.DhPay

@[expose] public section

set_option maxRecDepth 16384
set_option maxHeartbeats 400000

noncomputable section

namespace Cert.Kernel2Ideal.Gen

open Idealize.ShloMosaic Idealize.ShloMosaic.TcCoe Idealize.ShloMosaic.Tactic
open Cert.Kernel2Ideal
open Cert.DhBwd

variable (m : (ℓ : Loc nD τ sig) → Buf (Elt Ideal) ℓ) (c : Dev nD)

/-! ## The data, as the program's arguments hold it -/

abbrev argDp : S4096x10752.Idx → EReal := m ((c : Thread nD τ).loc main_arg0)
abbrev argW : S1024x10752.Idx → EReal := m ((c : Thread nD τ).loc main_arg1)
abbrev argX : S4096x1024.Idx → EReal := m ((c : Thread nD τ).loc main_arg2)
abbrev argG : S1024.Idx → EReal := m ((c : Thread nD τ).loc main_arg3)
abbrev argDxo : S4096x1024.Idx → EReal := m ((c : Thread nD τ).loc main_arg4)

def stepIn : In where
  dp R k := argDp m c (ix2 R k)
  w j k := argW m c (ix2 j k)
  x R k := argX m c (ix2 R k)
  g k := argG m c (ix1 k)
  dxo R k := argDxo m c (ix2 R k)

/-! ## What the host hands the kernel -/

theorem host_branch (R : Fin 4096) (k : Fin 6656) (n : Fin 10752) (hn : n.val = k.val) :
    V m c main_v1 (ix2 R k : S4096x6656.Idx) = (stepIn m c).dp R n := by
  unfold V
  after_reads_at
  refine congrArg (argDp m c) ?_
  funext a; apply Fin.ext
  match a with
  | ⟨0, _⟩ => show R.val = R.val; rfl
  | ⟨1, _⟩ => show k.val = n.val; omega

theorem host_gate (R : Fin 4096) (k : Fin 4096) (n : Fin 10752) (hn : n.val = 6656 + k.val) :
    V m c main_v3 (ix2 R k : S4096x4096.Idx) = (stepIn m c).dp R n := by
  unfold V
  after_reads_at
  refine congrArg (argDp m c) ?_
  funext a; apply Fin.ext
  match a with
  | ⟨0, _⟩ => show R.val = R.val; rfl
  | ⟨1, _⟩ => show 6656 + k.val = n.val; omega

theorem host_weight (n : Fin 10752) (j : Fin 1024) :
    V m c main_v5 (ix2 n j : S10752x1024.Idx) = (stepIn m c).w j n := by
  unfold V
  after_reads_at
  refine congrArg (argW m c) ?_
  funext a; apply Fin.ext
  match a with
  | ⟨0, _⟩ => rfl
  | ⟨1, _⟩ => rfl

theorem host_gain (k : Fin 1024) : V m c main_v6 (ix2 0 k : S1x1024.Idx) = (stepIn m c).g k := by
  unfold V
  after_reads_at
  refine congrArg (argG m c) ?_
  funext a; apply Fin.ext
  match a with
  | ⟨0, _⟩ => show k.val = k.val; rfl

theorem V_arg2 : V m c main_arg2 = argX m c := by
  unfold V
  after_reads_at

theorem V_arg4 : V m c main_arg4 = argDxo m c := by
  unfold V
  after_reads_at

/-! ## The blocks that grid point `t` reads -/

theorem idx_in0 : ∀ t : Fin cfg0.N, win0_0.index t (0 : Fin 2) = t.val / 8 ∧ win0_0.index t (1 : Fin 2) = min (t.val % 8) 3 := by
  decide +kernel

theorem idx_in1 : ∀ t : Fin cfg0.N, win0_1.index t (0 : Fin 2) = min (t.val % 8) 3 ∧ win0_1.index t (1 : Fin 2) = 0 := by
  decide +kernel

theorem idx_in2 : ∀ t : Fin cfg0.N, win0_2.index t (0 : Fin 2) = t.val / 8 ∧ win0_2.index t (1 : Fin 2) = t.val % 8 - 4 := by
  decide +kernel

theorem idx_in3 : ∀ t : Fin cfg0.N, win0_3.index t (0 : Fin 2) = 13 + 2 * (t.val % 8 - 4) ∧ win0_3.index t (1 : Fin 2) = 0 := by
  decide +kernel

theorem idx_in4 : ∀ t : Fin cfg0.N, win0_4.index t (0 : Fin 2) = 14 + 2 * (t.val % 8 - 4) ∧ win0_4.index t (1 : Fin 2) = 0 := by
  decide +kernel

theorem idx_in5 : ∀ t : Fin cfg0.N, win0_5.index t (0 : Fin 2) = t.val / 8 ∧ win0_5.index t (1 : Fin 2) = 0 := by
  decide +kernel

theorem idx_in6 : ∀ t : Fin cfg0.N, win0_6.index t (0 : Fin 2) = 0 ∧ win0_6.index t (1 : Fin 2) = 0 := by
  decide +kernel

theorem idx_in7 : ∀ t : Fin cfg0.N, win0_7.index t (0 : Fin 2) = t.val / 8 ∧ win0_7.index t (1 : Fin 2) = 0 := by
  decide +kernel

theorem iblk_0 (t : Fin cfg0.N) (r : Fin 1024) (R : Fin 4096) (q : Fin 1664) (n : Fin 10752) (hR : R.val = 1024 * (t.val / 8) + r.val) (hk : t.val % 8 ≤ 3) (hn : n.val = 1664 * (t.val % 8) + q.val) :
    iblk m c 0 t (ix2 r q : S1024x1664.Idx) = (stepIn m c).dp R n := by
  obtain ⟨e0, e1⟩ := idx_in0 t
  unfold iblk
  rw [View.read_apply]
  show V m c main_v1 (((cfg0.win 0).blk t).view.emb (ix2 r q : S1024x1664.Idx)) = _
  refine Eq.trans ?_ (host_branch m c R ⟨n.val, by have := q.isLt; omega⟩ n rfl)
  refine congrArg (V m c main_v1) ?_
  funext a; apply Fin.ext
  match a with
  | ⟨0, _⟩ => show win0_0.index t (0 : Fin 2) * 1024 + 1 * r.val = R.val; omega
  | ⟨1, _⟩ => show win0_0.index t (1 : Fin 2) * 1664 + 1 * q.val = n.val; omega

theorem x0_1 (t : Fin cfg0.N) (q : Fin 1664) (j : Fin 1024) (n : Fin 10752) (hk : t.val % 8 ≤ 3) (hn : n.val = 1664 * (t.val % 8) + q.val) :
    X0_1 m c t (ix2 q j : S1664x1024.Idx) = (stepIn m c).w j n := by
  obtain ⟨e0, e1⟩ := idx_in1 t
  unfold X0_1 Pipeline.Window.fill
  rw [dif_pos (moved0_1 t _)]
  unfold iblk
  rw [View.read_apply]
  refine Eq.trans ?_ (host_weight m c n j)
  refine congrArg (V m c main_v5) ?_
  funext a; apply Fin.ext
  match a with
  | ⟨0, _⟩ => show win0_1.index t (0 : Fin 2) * 1664 + 1 * q.val = n.val; omega
  | ⟨1, _⟩ => show win0_1.index t (1 : Fin 2) * 1024 + 1 * j.val = j.val; omega

theorem iblk_2 (t : Fin cfg0.N) (r : Fin 1024) (R : Fin 4096) (q : Fin 1024) (n : Fin 10752) (hR : R.val = 1024 * (t.val / 8) + r.val) (hn : n.val = 6656 + 1024 * (t.val % 8 - 4) + q.val) :
    iblk m c 2 t (ix2 r q : S1024x1024.Idx) = (stepIn m c).dp R n := by
  obtain ⟨e0, e1⟩ := idx_in2 t
  unfold iblk
  rw [View.read_apply]
  show V m c main_v3 (((cfg0.win 2).blk t).view.emb (ix2 r q : S1024x1024.Idx)) = _
  refine Eq.trans ?_ (host_gate m c R ⟨n.val - 6656, by have := n.isLt; omega⟩ n (by dsimp only; omega))
  refine congrArg (V m c main_v3) ?_
  funext a; apply Fin.ext
  match a with
  | ⟨0, _⟩ => show win0_2.index t (0 : Fin 2) * 1024 + 1 * r.val = R.val; omega
  | ⟨1, _⟩ => show win0_2.index t (1 : Fin 2) * 1024 + 1 * q.val = n.val - 6656; omega

theorem iblk_3 (t : Fin cfg0.N) (q : Fin 512) (j : Fin 1024) (n : Fin 10752) (hn : n.val = 6656 + 1024 * (t.val % 8 - 4) + (0 + q.val)) :
    iblk m c 3 t (ix2 q j : S512x1024.Idx) = (stepIn m c).w j n := by
  obtain ⟨e0, e1⟩ := idx_in3 t
  unfold iblk
  rw [View.read_apply]
  show V m c main_v5 (((cfg0.win 3).blk t).view.emb (ix2 q j : S512x1024.Idx)) = _
  refine Eq.trans ?_ (host_weight m c n j)
  refine congrArg (V m c main_v5) ?_
  funext a; apply Fin.ext
  match a with
  | ⟨0, _⟩ => show win0_3.index t (0 : Fin 2) * 512 + 1 * q.val = n.val; omega
  | ⟨1, _⟩ => show win0_3.index t (1 : Fin 2) * 1024 + 1 * j.val = j.val; omega

theorem iblk_4 (t : Fin cfg0.N) (q : Fin 512) (j : Fin 1024) (n : Fin 10752) (hn : n.val = 6656 + 1024 * (t.val % 8 - 4) + (512 + q.val)) :
    iblk m c 4 t (ix2 q j : S512x1024.Idx) = (stepIn m c).w j n := by
  obtain ⟨e0, e1⟩ := idx_in4 t
  unfold iblk
  rw [View.read_apply]
  show V m c main_v5 (((cfg0.win 4).blk t).view.emb (ix2 q j : S512x1024.Idx)) = _
  refine Eq.trans ?_ (host_weight m c n j)
  refine congrArg (V m c main_v5) ?_
  funext a; apply Fin.ext
  match a with
  | ⟨0, _⟩ => show win0_4.index t (0 : Fin 2) * 512 + 1 * q.val = n.val; omega
  | ⟨1, _⟩ => show win0_4.index t (1 : Fin 2) * 1024 + 1 * j.val = j.val; omega

theorem iblk_5 (t : Fin cfg0.N) (r : Fin 1024) (R : Fin 4096) (k : Fin 1024) (hR : R.val = 1024 * (t.val / 8) + r.val) :
    iblk m c 5 t (ix2 r k : S1024x1024.Idx) = (stepIn m c).x R k := by
  obtain ⟨e0, e1⟩ := idx_in5 t
  unfold iblk
  rw [View.read_apply]
  show V m c main_arg2 (((cfg0.win 5).blk t).view.emb (ix2 r k : S1024x1024.Idx)) = _
  refine Eq.trans ?_ (congrFun (V_arg2 m c) _)
  refine congrArg (V m c main_arg2) ?_
  funext a; apply Fin.ext
  match a with
  | ⟨0, _⟩ => show win0_5.index t (0 : Fin 2) * 1024 + 1 * r.val = R.val; omega
  | ⟨1, _⟩ => show win0_5.index t (1 : Fin 2) * 1024 + 1 * k.val = k.val; omega

theorem iblk_6 (t : Fin cfg0.N) (k : Fin 1024)  :
    iblk m c 6 t (ix2 0 k : S1x1024.Idx) = (stepIn m c).g k := by
  obtain ⟨e0, e1⟩ := idx_in6 t
  unfold iblk
  rw [View.read_apply]
  show V m c main_v6 (((cfg0.win 6).blk t).view.emb (ix2 0 k : S1x1024.Idx)) = _
  refine Eq.trans ?_ (host_gain m c k)
  refine congrArg (V m c main_v6) ?_
  funext a; apply Fin.ext
  match a with
  | ⟨0, _⟩ => show win0_6.index t (0 : Fin 2) * 1 + 1 * 0 = 0; omega
  | ⟨1, _⟩ => show win0_6.index t (1 : Fin 2) * 1024 + 1 * k.val = k.val; omega

theorem iblk_7 (t : Fin cfg0.N) (r : Fin 1024) (R : Fin 4096) (k : Fin 1024) (hR : R.val = 1024 * (t.val / 8) + r.val) :
    iblk m c 7 t (ix2 r k : S1024x1024.Idx) = (stepIn m c).dxo R k := by
  obtain ⟨e0, e1⟩ := idx_in7 t
  unfold iblk
  rw [View.read_apply]
  show V m c main_arg4 (((cfg0.win 7).blk t).view.emb (ix2 r k : S1024x1024.Idx)) = _
  refine Eq.trans ?_ (congrFun (V_arg4 m c) _)
  refine congrArg (V m c main_arg4) ?_
  funext a; apply Fin.ext
  match a with
  | ⟨0, _⟩ => show win0_7.index t (0 : Fin 2) * 1024 + 1 * r.val = R.val; omega
  | ⟨1, _⟩ => show win0_7.index t (1 : Fin 2) * 1024 + 1 * k.val = k.val; omega

end Cert.Kernel2Ideal.Gen

end
-- ==== Proof.DhFold.lean ====
/-
  The second kernel's grid as a whole: what its accumulator, the gain's gradient and the rows' gradient hold after each point.
-/
module

public import proofs.«01_k».proof.Proof.Gen.Kernel2Ideal.Frame
public import Idealize.ShloMosaic.Lib.ValueIdx
public import Idealize.ShloMosaic.Lib.Pointwise
public import Idealize.ShloMosaic.Lib.Pipeline.Value
public import Idealize.ShloMosaic.Lib.Pipeline.ValueKit
public import proofs.«01_k».proof.Proof.DhCase
public import proofs.«01_k».proof.Proof.DhHost

@[expose] public section

set_option maxRecDepth 16384
set_option maxHeartbeats 400000

noncomputable section

namespace Cert.Kernel2Ideal.Gen

open Idealize.ShloMosaic Idealize.ShloMosaic.TcCoe Idealize.ShloMosaic.Tactic
open Cert.Kernel2Ideal
open Cert.DhBwd

variable (m : (ℓ : Loc nD τ sig) → Buf (Elt Ideal) ℓ) (c : Dev nD)

/-- Row `r` of the tile of grid point `n`. -/
def rowOf (n : ℕ) (hn : n < 32) (r : Fin 1024) : Fin 4096 := ⟨1024 * (n / 8) + r.val, by have := r.isLt; omega⟩

/-- How many columns the first `k` points of a tile have taken. -/
def taken (k : ℕ) : ℕ := 1664 * min k 4 + 1024 * (k - 4)

/-- A point of a tile's first half adds its block of the branches' columns. -/
theorem br_step (t : Fin cfg0.N) (ht : t.val < 32) (hk : t.val % 8 ≤ 3) (r j : Fin 1024) :
    (stepIn m c).upTo (rowOf t.val ht r) j (taken (t.val % 8)) + brPart (iblk m c 0 t) (X0_1 m c t) r j
      = (stepIn m c).upTo (rowOf t.val ht r) j (taken (t.val % 8 + 1)) := by
  rw [show taken (t.val % 8) = 1664 * (t.val % 8) by unfold taken; omega,
    show taken (t.val % 8 + 1) = 1664 * (t.val % 8) + 1664 by unfold taken; omega, In.upTo_add _ _ _ _ _ (by omega)]
  unfold brPart
  refine congrArg (_ + ·) (Finset.sum_congr rfl fun q _ => ?_)
  exact congrArg₂ (· * ·) (iblk_0 m c t r _ q ⟨1664 * (t.val % 8) + q.val, by have := q.isLt; omega⟩ rfl hk rfl)
    (x0_1 m c t q j ⟨1664 * (t.val % 8) + q.val, by have := q.isLt; omega⟩ hk rfl)

/-- A point of a tile's second half adds its block of the gates' columns. -/
theorem ga_step (t : Fin cfg0.N) (ht : t.val < 32) (hk : 4 ≤ t.val % 8) (r j : Fin 1024) :
    (stepIn m c).upTo (rowOf t.val ht r) j (taken (t.val % 8)) + gaPart (iblk m c 2 t) (iblk m c 3 t) (iblk m c 4 t) r j
      = (stepIn m c).upTo (rowOf t.val ht r) j (taken (t.val % 8 + 1)) := by
  rw [show taken (t.val % 8) = 6656 + 1024 * (t.val % 8 - 4) by unfold taken; omega,
    show taken (t.val % 8 + 1) = 6656 + 1024 * (t.val % 8 - 4) + 512 + 512 by unfold taken; omega,
    In.upTo_add _ _ _ _ 512 (by omega), In.upTo_add _ _ _ _ 512 (by omega), add_assoc]
  unfold gaPart
  refine congrArg (_ + ·) (congrArg₂ (· + ·) (Finset.sum_congr rfl fun q _ => ?_) (Finset.sum_congr rfl fun q _ => ?_))
  · exact congrArg₂ (· * ·)
      (iblk_2 m c t r _ ⟨0 + q.val, by have := q.isLt; omega⟩
        ⟨6656 + 1024 * (t.val % 8 - 4) + q.val, by have := q.isLt; omega⟩ rfl (by dsimp only; omega))
      (iblk_3 m c t q j ⟨6656 + 1024 * (t.val % 8 - 4) + q.val, by have := q.isLt; omega⟩ (by dsimp only; omega))
  · exact congrArg₂ (· * ·)
      (iblk_2 m c t r _ ⟨512 + q.val, by have := q.isLt; omega⟩
        ⟨6656 + 1024 * (t.val % 8 - 4) + 512 + q.val, by have := q.isLt; omega⟩ rfl (by dsimp only; omega))
      (iblk_4 m c t q j ⟨6656 + 1024 * (t.val % 8 - 4) + 512 + q.val, by have := q.isLt; omega⟩ (by dsimp only; omega))

/-- What grid point `n` leaves: the accumulator holds the tile's products so far, the gain's gradient the finished tiles' rows,
    and a tile's last point the gradient of its rows. -/
structure Done (n : ℕ) (hn : n < 32) (a : Vec Ideal S1024x1024 .f32 × Vec Ideal S1x1024 .f32 × Vec Ideal S1024x1024 .f32) : Prop where
  acc : ∀ r j, a.2.2 (ix2 r j) = (stepIn m c).upTo (rowOf n hn r) j (taken (n % 8 + 1))
  gain : ∀ k, a.2.1 (ix2 0 k) = (stepIn m c).gUpTo k (1024 * ((n + 1) / 8))
  dx : n % 8 = 7 → ∀ r k, a.1 (ix2 r k) = (stepIn m c).dx (rowOf n hn r) k

theorem row_pred (n : ℕ) (hn : n < 32) (hn' : n - 1 < 32) (h : ¬n % 8 = 0) (r : Fin 1024) :
    rowOf (n - 1) hn' r = rowOf n hn r := by
  refine Fin.ext ?_
  show 1024 * ((n - 1) / 8) + r.val = 1024 * (n / 8) + r.val
  omega

/-- The first point leaves what it should. -/
theorem done_zero (t : Fin cfg0.N) (ht : t.val < 32) (h : t.val = 0) : Done m c t.val ht (outsAt0 m c t.val t.isLt) := by
  rw [outsAt0_A m c t (by omega) (by omega) (by omega) (by omega) (by omega)]
  refine ⟨?_, ?_, ?_⟩
  · intro r j
    refine Eq.trans ?_ (br_step m c t ht (by omega) r j)
    rw [show taken (t.val % 8) = 0 by rw [h]; rfl, In.upTo_zero, zero_add]
    dsimp only
    apply acc_A
  · intro k
    rw [show 1024 * ((t.val + 1) / 8) = 0 by omega]
    refine Eq.trans ?_ (In.gUpTo_zero (stepIn m c) k).symm
    dsimp only
    apply out9_A
  · intro h
    omega

/-- A point leaves what it should if the point before did. -/
theorem done_step (t : Fin cfg0.N) (ht : t.val < 32) (h0 : ¬t.val = 0) (hp : t.val - 1 < 32)
    (ha : Done m c (t.val - 1) hp (outsAt0 m c (t.val - 1) (Nat.lt_of_le_of_lt (Nat.sub_le _ _) t.isLt))) :
    Done m c t.val ht (outsAt0 m c t.val t.isLt) := by
  by_cases h8 : t.val % 8 = 0
  · rw [outsAt0_E m c t (by omega) h8 (by omega) (by omega) (by omega)]
    generalize outsAt0 m c (t.val - 1) _ = a at ha ⊢
    refine ⟨?_, ?_, ?_⟩
    · intro r j
      refine Eq.trans ?_ (br_step m c t ht (by omega) r j)
      rw [show taken (t.val % 8) = 0 by rw [h8]; rfl, In.upTo_zero, zero_add]
      dsimp only
      apply acc_E
    · intro k
      refine (ha.gain k).trans ?_
      rw [show 1024 * ((t.val - 1 + 1) / 8) = 1024 * ((t.val + 1) / 8) by omega]
    · intro h
      omega
  by_cases h3 : t.val % 8 ≤ 3
  · rw [outsAt0_B m c t (by omega) h8 h3 (by omega) (by omega)]
    generalize outsAt0 m c (t.val - 1) _ = a at ha ⊢
    refine ⟨?_, ?_, ?_⟩
    · intro r j
      refine Eq.trans ?_ (br_step m c t ht h3 r j)
      have e : a.2.2 (ix2 r j) = (stepIn m c).upTo (rowOf t.val ht r) j (taken (t.val % 8)) := by
        rw [ha.acc, row_pred t.val ht hp h8, show (t.val - 1) % 8 + 1 = t.val % 8 by omega]
      rw [← e]
      dsimp only
      apply acc_B
    · intro k
      refine (ha.gain k).trans ?_
      rw [show 1024 * ((t.val - 1 + 1) / 8) = 1024 * ((t.val + 1) / 8) by omega]
    · intro h
      omega
  by_cases h7 : t.val % 8 = 7
  · rw [outsAt0_D m c t (by omega) h8 h3 (by omega) h7]
    generalize outsAt0 m c (t.val - 1) _ = a at ha ⊢
    have hacc : ∀ r j, a.2.2 (ix2 r j) + gaPart (iblk m c 2 t) (iblk m c 3 t) (iblk m c 4 t) r j
        = (stepIn m c).upTo (rowOf t.val ht r) j (taken (t.val % 8 + 1)) := by
      intro r j
      refine Eq.trans ?_ (ga_step m c t ht (by omega) r j)
      rw [ha.acc, row_pred t.val ht hp h8, show (t.val - 1) % 8 + 1 = t.val % 8 by omega]
    have hfin : ∀ r j, a.2.2 (ix2 r j) + gaPart (iblk m c 2 t) (iblk m c 3 t) (iblk m c 4 t) r j
        = (stepIn m c).dh (rowOf t.val ht r) j := by
      intro r j
      rw [hacc, show taken (t.val % 8 + 1) = 10752 by rw [h7]; rfl, In.upTo_all]
    have hx : ∀ r k, iblk m c 5 t (ix2 r k : S1024x1024.Idx) = (stepIn m c).x (rowOf t.val ht r) k :=
      fun r k => iblk_5 m c t r _ k rfl
    refine ⟨?_, ?_, ?_⟩
    · intro r j
      refine Eq.trans ?_ (hacc r j)
      dsimp only
      apply acc_D
    · intro k
      dsimp only
      refine Eq.trans (out9_D (k := k) ..) ?_
      rw [ha.gain, show 1024 * ((t.val - 1 + 1) / 8) = 1024 * (t.val / 8) by omega,
        show 1024 * ((t.val + 1) / 8) = 1024 * (t.val / 8) + 1024 by omega, In.gUpTo_add _ _ _ _ (by omega)]
      refine congrArg (_ + ·) (Finset.sum_congr rfl fun r _ => ?_)
      exact congrArg₂ (· * ·) (hfin r k) (congrArg₂ (· * ·) (hx r k) (congrArg rinv (funext fun k => hx r k)))
    · intro _ r k
      dsimp only
      refine Eq.trans (out8_D (r := r) (k := k) ..) ?_
      unfold In.dx
      have e1 : (fun k => iblk m c 5 t (ix2 r k : S1024x1024.Idx)) = (stepIn m c).x (rowOf t.val ht r) := funext fun k => hx r k
      have e2 : (fun k => iblk m c 6 t (ix2 0 k : S1x1024.Idx)) = (stepIn m c).g := funext fun k => iblk_6 m c t k
      have e3 : (fun k => iblk m c 7 t (ix2 r k : S1024x1024.Idx)) = (stepIn m c).dxo (rowOf t.val ht r) :=
        funext fun k => iblk_7 m c t r _ k rfl
      have e4 := funext fun j => hfin r j
      exact congrArg₂ (fun p q => dxRow p.1 p.2 q.1 q.2 k) (congrArg₂ Prod.mk e1 e4) (congrArg₂ Prod.mk e2 e3)
  · rw [outsAt0_C m c t (by omega) h8 h3 (by omega) h7]
    generalize outsAt0 m c (t.val - 1) _ = a at ha ⊢
    refine ⟨?_, ?_, ?_⟩
    · intro r j
      refine Eq.trans ?_ (ga_step m c t ht (by omega) r j)
      have e : a.2.2 (ix2 r j) = (stepIn m c).upTo (rowOf t.val ht r) j (taken (t.val % 8)) := by
        rw [ha.acc, row_pred t.val ht hp h8, show (t.val - 1) % 8 + 1 = t.val % 8 by omega]
      rw [← e]
      dsimp only
      apply acc_C
    · intro k
      refine (ha.gain k).trans ?_
      rw [show 1024 * ((t.val - 1 + 1) / 8) = 1024 * ((t.val + 1) / 8) by omega]
    · intro h
      omega

/-- Every point leaves what it should. -/
theorem done : ∀ (n : ℕ) (hn : n < cfg0.N) (h : n < 32), Done m c n h (outsAt0 m c n hn)
  | 0, hn, h => done_zero m c ⟨0, hn⟩ h rfl
  | n + 1, hn, h => done_step m c ⟨n + 1, hn⟩ h (Nat.succ_ne_zero n) (show n < 32 by omega) (done n (Nat.lt_of_succ_lt hn) (by omega))

end Cert.Kernel2Ideal.Gen

end
-- ==== Proof.DhRun.lean ====
/-
  What the second kernel leaves in its two results after the run, element by element, and the run itself.
-/
module

public import proofs.«01_k».proof.Proof.Gen.Kernel2Ideal.Frame
public import Idealize.ShloMosaic.Lib.ValueIdx
public import Idealize.ShloMosaic.Lib.Pipeline.Value
public import proofs.«01_k».proof.Proof.DhFold

@[expose] public section

set_option maxRecDepth 16384
set_option maxHeartbeats 400000

noncomputable section

namespace Cert.Kernel2Ideal.Gen

open Idealize.ShloMosaic Idealize.ShloMosaic.TcCoe Idealize.ShloMosaic.Tactic Idealize.SL.Sem
open Cert.Kernel2Ideal
open Cert.DhBwd

variable (m : (ℓ : Loc nD τ sig) → Buf (Elt Ideal) ℓ) (c : Dev nD)

/-- The gradient of the residual stream as an array. -/
def dxArr : Buf (Elt Ideal) ((c : Thread nD τ).loc main_v7_0) := fun i => (stepIn m c).dx (i 0) (i 1)

/-- The gradient of the gain as an array of one row. -/
def dgArr : Buf (Elt Ideal) ((c : Thread nD τ).loc main_v7_1) := fun i => (stepIn m c).dg (i 1)

/-! ## The rows' gradient -/

/-- Grid point `t` works on block `t / 8` of the rows. -/
theorem dx_block : ∀ t : Fin cfg0.N, win0_8.index t (0 : Fin 2) = t.val / 8 ∧ win0_8.index t (1 : Fin 2) = 0 :=
  (by decide +kernel : ∀ t : Fin grid0.N, _)

/-- A tile's last point writes its rows of the gradient. -/
theorem dx_written (t : Fin cfg0.N) (hf : (cfg0.win 8).flush t = true) :
    (dats m 0 c).flushed 8 t = ((cfg0.win 8).blk t).view.read (Elt Ideal) (dxArr m c) := by
  show (cfg0.win 8).cut (grid0.coords t) ((dats m 0 c).after 8 t) = _
  have ht : t.val < 32 := lt_of_lt_of_eq t.isLt (show cfg0.N = 32 from N_0)
  have h7 : t.val % 8 = 7 := (flush0_8 t).mp hf
  obtain ⟨e0, e1⟩ := dx_block t
  rw [after0_8]
  funext y
  have hy0 : (y 0).val < 1024 := (y 0).isLt
  have hy1 : (y 1).val < 1024 := (y 1).isLt
  have hx : (cfg0.win 8).xinj (grid0.coords t) y = (ix2 ⟨(y 0).val, hy0⟩ ⟨(y 1).val, hy1⟩ : S1024x1024.Idx) := by
    funext a; apply Fin.ext
    match a with
    | ⟨0, _⟩ => rfl
    | ⟨1, _⟩ => rfl
  show (outsAt0 m c t.val t.isLt).1 ((cfg0.win 8).xinj (grid0.coords t) y)
    = (stepIn m c).dx (((cfg0.win 8).blk t).view.emb y 0) (((cfg0.win 8).blk t).view.emb y 1)
  rw [hx, (done m c t.val t.isLt ht).dx h7]
  have r0 : rowOf t.val ht ⟨(y 0).val, hy0⟩ = ((cfg0.win 8).blk t).view.emb y 0 := by
    refine Fin.ext ?_
    show 1024 * (t.val / 8) + (y 0).val = win0_8.index t (0 : Fin 2) * 1024 + 1 * (y 0).val
    omega
  have r1 : (⟨(y 1).val, hy1⟩ : Fin 1024) = ((cfg0.win 8).blk t).view.emb y 1 := by
    refine Fin.ext ?_
    show (y 1).val = win0_8.index t (1 : Fin 2) * 1024 + 1 * (y 1).val
    omega
  exact congrArg₂ (stepIn m c).dx r0 r1

/-- Every row is in the block of its tile's last point. -/
theorem dx_cover (i : S4096x1024.Idx) : ∃ t : Fin cfg0.N, (cfg0.win 8).flush t = true ∧ i ∈ ((cfg0.win 8).blk t).view.set := by
  have h0 : (i 0).val < 4096 := (i 0).isLt
  have h1 : (i 1).val < 1024 := (i 1).isLt
  have hN : 8 * ((i 0).val / 1024) + 7 < cfg0.N := by
    rw [show cfg0.N = 32 from N_0]
    omega
  obtain ⟨e0, e1⟩ := dx_block ⟨_, hN⟩
  refine ⟨⟨_, hN⟩, (flush0_8 _).mpr (by show (8 * ((i 0).val / 1024) + 7) % 8 = 7; omega), ?_⟩
  show i ∈ ((View.whole main_v7_0).slice (win0_8.rect ⟨_, hN⟩)).set
  rw [View.set_slice_whole, Rect.mem_set_unit]
  intro a
  match a with
  | ⟨0, _⟩ =>
    show win0_8.index ⟨_, hN⟩ (0 : Fin 2) * 1024 ≤ (i 0).val ∧ (i 0).val < win0_8.index ⟨_, hN⟩ (0 : Fin 2) * 1024 + 1024
    rw [e0]
    dsimp only
    omega
  | ⟨1, _⟩ =>
    show win0_8.index ⟨_, hN⟩ (1 : Fin 2) * 1024 ≤ (i 1).val ∧ (i 1).val < win0_8.index ⟨_, hN⟩ (1 : Fin 2) * 1024 + 1024
    rw [e1]
    omega

theorem dx_final : (dats m 0 c).arrAt 8 cfg0.N = dxArr m c :=
  (dats m 0 c).arrAt_eq_of_cover 8 _ (fun t hf => dx_written m c t hf) dx_cover

/-! ## The gain's gradient -/

/-- Every grid point holds the whole of the gain's gradient. -/
theorem dg_block : ∀ t : Fin cfg0.N, win0_9.index t (0 : Fin 2) = 0 ∧ win0_9.index t (1 : Fin 2) = 0 :=
  (by decide +kernel : ∀ t : Fin grid0.N, _)

/-- The last point writes the gain's gradient. -/
theorem dg_written (t : Fin cfg0.N) (hf : (cfg0.win 9).flush t = true) :
    (dats m 0 c).flushed 9 t = ((cfg0.win 9).blk t).view.read (Elt Ideal) (dgArr m c) := by
  show (cfg0.win 9).cut (grid0.coords t) ((dats m 0 c).after 9 t) = _
  have ht : t.val < 32 := lt_of_lt_of_eq t.isLt (show cfg0.N = 32 from N_0)
  have h31 : t.val % 32 = 31 := (flush0_9 t).mp hf
  obtain ⟨e0, e1⟩ := dg_block t
  rw [after0_9]
  funext y
  have hy0 : (y 0).val < 1 := (y 0).isLt
  have hy1 : (y 1).val < 1024 := (y 1).isLt
  have hx : (cfg0.win 9).xinj (grid0.coords t) y = (ix2 0 ⟨(y 1).val, hy1⟩ : S1x1024.Idx) := by
    funext a; apply Fin.ext
    match a with
    | ⟨0, _⟩ => show (y 0).val = 0; omega
    | ⟨1, _⟩ => rfl
  show (outsAt0 m c t.val t.isLt).2.1 ((cfg0.win 9).xinj (grid0.coords t) y)
    = (stepIn m c).dg (((cfg0.win 9).blk t).view.emb y 1)
  rw [hx, (done m c t.val t.isLt ht).gain, show 1024 * ((t.val + 1) / 8) = 4096 by omega, In.gUpTo_all]
  have r1 : (⟨(y 1).val, hy1⟩ : Fin 1024) = ((cfg0.win 9).blk t).view.emb y 1 := by
    refine Fin.ext ?_
    show (y 1).val = win0_9.index t (1 : Fin 2) * 1024 + 1 * (y 1).val
    omega
  exact congrArg (stepIn m c).dg r1

/-- Every entry of the gain's gradient is in the last point's block. -/
theorem dg_cover (i : S1x1024.Idx) : ∃ t : Fin cfg0.N, (cfg0.win 9).flush t = true ∧ i ∈ ((cfg0.win 9).blk t).view.set := by
  have h0 : (i 0).val < 1 := (i 0).isLt
  have h1 : (i 1).val < 1024 := (i 1).isLt
  have hN : 31 < cfg0.N := by
    rw [show cfg0.N = 32 from N_0]
    omega
  obtain ⟨e0, e1⟩ := dg_block ⟨31, hN⟩
  refine ⟨⟨31, hN⟩, (flush0_9 _).mpr rfl, ?_⟩
  show i ∈ ((View.whole main_v7_1).slice (win0_9.rect ⟨31, hN⟩)).set
  rw [View.set_slice_whole, Rect.mem_set_unit]
  intro a
  match a with
  | ⟨0, _⟩ =>
    show win0_9.index ⟨31, hN⟩ (0 : Fin 2) * 1 ≤ (i 0).val ∧ (i 0).val < win0_9.index ⟨31, hN⟩ (0 : Fin 2) * 1 + 1
    rw [e0]
    omega
  | ⟨1, _⟩ =>
    show win0_9.index ⟨31, hN⟩ (1 : Fin 2) * 1024 ≤ (i 1).val ∧ (i 1).val < win0_9.index ⟨31, hN⟩ (1 : Fin 2) * 1024 + 1024
    rw [e1]
    omega

theorem dg_final : (dats m 0 c).arrAt 9 cfg0.N = dgArr m c :=
  (dats m 0 c).arrAt_eq_of_cover 9 _ (fun t hf => dg_written m c t hf) dg_cover

/-! ## The run -/

/-- The kernel runs, leaves its arguments as they were, and leaves the two gradients in its results. -/
theorem dh_run (ρ : Dev nD → PrngReg) :
    θ_run defs (onTc (τ := τ) (main (F := Ideal))) ⟨m, fun _ => 0, ρ⟩ fun r => ∀ c : Dev nD,
      r.2.mem ((c : Thread nD τ).loc main_v7_0) = dxArr m c
      ∧ r.2.mem ((c : Thread nD τ).loc main_v7_1) = dgArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (run_main m ρ)
  obtain ⟨hw, hrest⟩ := h c
  refine ⟨(hw 8).trans (dx_final m c), (hw 9).trans (dg_final m c), ?_, ?_, ?_, ?_, ?_⟩
  · exact (hrest main_arg0 (Pipeline.mem_restRefs_of main_arg0 (by decide) (by decide))).trans (V_main_arg0 m c)
  · exact (hrest main_arg1 (Pipeline.mem_restRefs_of main_arg1 (by decide) (by decide))).trans (V_main_arg1 m c)
  · exact (hw 5).trans (((dats m 0 c).arrAt_in 5 rfl _).trans ((A_eq m c 5).trans (V_main_arg2 m c)))
  · exact (hrest main_arg3 (Pipeline.mem_restRefs_of main_arg3 (by decide) (by decide))).trans (V_main_arg3 m c)
  · exact (hw 7).trans (((dats m 0 c).arrAt_in 7 rfl _).trans ((A_eq m c 7).trans (V_main_arg4 m c)))

end Cert.Kernel2Ideal.Gen

end
-- ==== Proof.DhRef.lean ====
/-
  The second reference program's two results, element by element, as the sums of `DhSpec`.
-/
module

public import proofs.«01_k».proof.Proof.Gen.Reference2Ideal.Read
public import Idealize.ShloMosaic.Lib.ValueIdx
public import Idealize.ShloMosaic.Lib.Pointwise
public import proofs.«01_k».proof.Proof.DhSpec

@[expose] public section

set_option maxRecDepth 16384
set_option maxHeartbeats 400000

noncomputable section

namespace Cert.Reference2Ideal.Read

open Idealize.ShloMosaic Idealize.ShloMosaic.TcCoe Idealize.ShloMosaic.Tactic
open Cert.Reference2Ideal
open Cert.DhBwd

variable (x0 : (⟨S4096x10752, .f32⟩ : BufTy).Contents (Elt Ideal)) (x1 : (⟨S1024x10752, .f32⟩ : BufTy).Contents (Elt Ideal))
  (x2 : (⟨S4096x1024, .f32⟩ : BufTy).Contents (Elt Ideal)) (x3 : (⟨S1024, .f32⟩ : BufTy).Contents (Elt Ideal))
  (x4 : (⟨S4096x1024, .f32⟩ : BufTy).Contents (Elt Ideal))

/-- The data of the step, from the reference's arguments. -/
def dhIn : In where
  dp R k := x0 (ix2 R k)
  w j k := x1 (ix2 j k)
  x R k := x2 (ix2 R k)
  g k := x3 (ix1 k)
  dxo R k := x4 (ix2 R k)

/-- Row `R` of the residual stream. -/
def xRow (R : Fin 4096) (k : Fin 1024) : EReal := x2 (ix2 R k)

/-! ## The values, stage by stage -/

theorem r_sq (R : Fin 4096) :
    val_main_v1 (F := Ideal) x2 (ix1 R : S4096.Idx) = ∑ k, xRow x2 R k * xRow x2 R k := by
  unfold val_main_v1 val_main_v0 val_main_cst
  pointwise
  rfl

theorem r_ms (R : Fin 4096) :
    val_main_v6 (F := Ideal) x2 (ix2 R 0 : S4096x1.Idx) = ms (xRow x2 R) := by
  unfold val_main_v6 val_main_v5 val_main_v4 val_main_v3 val_main_v2 val_main_cst_0 val_main_cst_1
  pointwise
  simp only [r_sq]
  rfl

theorem r_rinv (R : Fin 4096) :
    val_main_v7 (F := Ideal) x2 (ix2 R 0 : S4096x1.Idx) = rinv (xRow x2 R) := by
  unfold val_main_v7
  pointwise
  simp only [r_ms]
  rfl

theorem r_half (R : Fin 4096) :
    val_main_v10 (F := Ideal) x2 (ix2 R 0 : S4096x1.Idx) = Ideal.ofBits .f32 0xBF000000#32 * Ideal.div (rinv (xRow x2 R)) (ms (xRow x2 R)) := by
  unfold val_main_v10 val_main_v9 val_main_v8 val_main_cst_2
  pointwise
  simp only [r_rinv, r_ms]
  try rfl

theorem r_norm (R : Fin 4096) (k : Fin 1024) :
    val_main_v12 (F := Ideal) x2 (ix2 R k : S4096x1024.Idx) = xRow x2 R k * rinv (xRow x2 R) := by
  unfold val_main_v12 val_main_v11
  pointwise
  simp only [r_rinv]
  rfl

theorem r_dh (R : Fin 4096) (k : Fin 1024) :
    val_main_v17 (F := Ideal) x0 x1 (ix2 R k : S4096x1024.Idx) = (dhIn x0 x1 x2 x3 x4).dh R k := by
  unfold val_main_v17
  pointwise
  rfl

theorem r_dg (k : Fin 1024) :
    val_main_v19 (F := Ideal) x0 x1 x2 (ix1 k : S1024.Idx) = (dhIn x0 x1 x2 x3 x4).dg k := by
  unfold val_main_v19 val_main_v18 val_main_cst_3
  pointwise
  simp only [zero_add, r_norm, r_dh x0 x1 x2 x3 x4]
  exact Finset.sum_congr rfl fun R _ => mul_comm _ _

theorem res_dg (k : Fin 1024) :
    val_main_v39 (F := Ideal) x0 x1 x2 (ix2 0 k : S1x1024.Idx) = (dhIn x0 x1 x2 x3 x4).dg k := by
  unfold val_main_v39 val_main_v23 val_main_v20 val_main_cst_4
  pointwise
  simp only [zero_add, r_dg x0 x1 x2 x3 x4, Fin.sum_univ_one]
  try rfl

theorem r_dhg (R : Fin 4096) (k : Fin 1024) :
    val_main_v22 (F := Ideal) x0 x1 x3 (ix2 R k : S4096x1024.Idx) = (dhIn x0 x1 x2 x3 x4).dh R k * (dhIn x0 x1 x2 x3 x4).g k := by
  unfold val_main_v22 val_main_v21 val_main_v13
  pointwise
  simp only [r_dh x0 x1 x2 x3 x4]
  rfl

theorem r_dot (R : Fin 4096) :
    val_main_v25 (F := Ideal) x0 x1 x2 x3 (ix1 R : S4096.Idx) = ∑ k, xRow x2 R k * ((dhIn x0 x1 x2 x3 x4).dh R k * (dhIn x0 x1 x2 x3 x4).g k) := by
  unfold val_main_v25 val_main_v24 val_main_cst_5
  pointwise
  simp only [zero_add, r_dhg x0 x1 x2 x3 x4]
  rfl

theorem r_via (R : Fin 4096) :
    val_main_v32 (F := Ideal) x0 x1 x2 x3 (ix2 R 0 : S4096x1.Idx) = viaMs (xRow x2 R) ((dhIn x0 x1 x2 x3 x4).dh R) (dhIn x0 x1 x2 x3 x4).g := by
  unfold val_main_v32 val_main_v31 val_main_v30 val_main_v26 val_main_cst_6
  pointwise
  simp only [r_dot x0 x1 x2 x3 x4, r_half]
  rfl

theorem r_viaB (R : Fin 4096) (k : Fin 1024) :
    val_main_v34 (F := Ideal) x0 x1 x2 x3 (ix2 R k : S4096x1024.Idx) = viaMs (xRow x2 R) ((dhIn x0 x1 x2 x3 x4).dh R) (dhIn x0 x1 x2 x3 x4).g := by
  unfold val_main_v34 val_main_v33 val_main_cst_7
  pointwise
  simp only [zero_add, r_via x0 x1 x2 x3 x4, Fin.sum_univ_one]
  try rfl

theorem r_main (R : Fin 4096) (k : Fin 1024) :
    val_main_v29 (F := Ideal) x0 x1 x2 x3 x4 (ix2 R k : S4096x1024.Idx) = (dhIn x0 x1 x2 x3 x4).dxo R k + (dhIn x0 x1 x2 x3 x4).dh R k * (dhIn x0 x1 x2 x3 x4).g k * rinv (xRow x2 R) := by
  unfold val_main_v29 val_main_v28 val_main_v27
  pointwise
  simp only [r_dhg x0 x1 x2 x3 x4, r_rinv]
  rfl

theorem r_dx (R : Fin 4096) (k : Fin 1024) :
    val_main_v38 (F := Ideal) x0 x1 x2 x3 x4 (ix2 R k : S4096x1024.Idx) = dxRef (xRow x2 R) ((dhIn x0 x1 x2 x3 x4).dh R) (dhIn x0 x1 x2 x3 x4).g ((dhIn x0 x1 x2 x3 x4).dxo R) k := by
  unfold val_main_v38 val_main_v37 val_main_v36 val_main_v35
  pointwise
  simp only [r_main, r_viaB x0 x1 x2 x3 x4]
  rfl

theorem res_dx (R : Fin 4096) (k : Fin 1024) : val_main_v38 (F := Ideal) x0 x1 x2 x3 x4 (ix2 R k : S4096x1024.Idx) = (dhIn x0 x1 x2 x3 x4).dx R k :=
  (r_dx x0 x1 x2 x3 x4 R k).trans (dxRow_eq _ _ _ _ k).symm

end Cert.Reference2Ideal.Read

end
-- ==== Proof.DhAgree.lean ====
/-
  The second kernel and the second reference leave equal gradients.
-/
module

public import proofs.«01_k».proof.Defs
public import proofs.«01_k».proof.Proof.Gen.Reference2Ideal.Run
public import Idealize.ShloMosaic.Lib.Quiescent
public import proofs.«01_k».proof.Proof.DhRun
public import proofs.«01_k».proof.Proof.DhRef

@[expose] public section

noncomputable section

namespace Cert.DhBwd

open Idealize.ShloMosaic Idealize.ShloMosaic.TcCoe Idealize.SL.Sem Cert.Kernel2Ideal Cert.Kernel2Ideal.Gen Cert.Reference2Ideal.Read

variable (m : (ℓ : Loc nD τ sig) → Buf (Elt Ideal) ℓ) (c : Dev nD)

theorem agree_dx (i : S4096x1024.Idx) :
    val_main_v38 (F := Ideal) (argDp m c) (argW m c) (argX m c) (argG m c) (argDxo m c) i = dxArr m c i := by
  obtain ⟨R, k, rfl⟩ : ∃ (R : Fin 4096) (k : Fin 1024), i = ix2 R k := ⟨i 0, i 1, eq_ix2 i⟩
  exact res_dx _ _ _ _ _ R k

theorem agree_dg (i : S1x1024.Idx) :
    val_main_v39 (F := Ideal) (argDp m c) (argW m c) (argX m c) i = dgArr m c i := by
  obtain ⟨r, k, rfl⟩ : ∃ (r : Fin 1) (k : Fin 1024), i = ix2 r k := ⟨i 0, i 1, eq_ix2 i⟩
  rw [show r = 0 from Subsingleton.elim _ _]
  exact res_dg _ _ _ (argG m c) (argDxo m c) k

/-- Kernel and reference compute the same two gradients. -/
theorem algebraic : Cert.algebraic_Kernel2Ideal_Reference2Ideal := by
  intro m g m' g' _ hin
  refine ⟨fun c => dxArr m c, fun c => dgArr m c, dh_run m g, ?_⟩
  refine (θ_run _ _ _).mono (fun r h c => ?_) (Cert.Reference2Ideal.Value.run m' g')
  obtain ⟨h0, h1, hargs⟩ := h c
  obtain ⟨e0, e1, e2, e3, e4⟩ := hin c
  rw [val_main_v38_eq, e0, e1, e2, e3, e4] at h0
  rw [val_main_v39_eq, e0, e1, e2] at h1
  exact ⟨h0.trans (funext fun i => agree_dx m c i), h1.trans (funext fun i => agree_dg m c i), hargs⟩

/-- The reference runs and leaves its arguments as they were. -/
theorem reference_frame : Cert.quiescent_Reference2Ideal := by
  intro m g _
  refine (θ_run _ _ _).mono (fun r h => ⟨fun c => ?_, sem_eq_zero_of_no_sems rfl _⟩) (Cert.Reference2Ideal.Value.run m g)
  obtain ⟨_, _, hargs⟩ := h c
  exact hargs

end Cert.DhBwd

end
-- ==== Proof.DwSpec.lean ====
/-
  The gradient of the combined projection's weight, transposed, as a plain sum over the rows of the batch, and the two halves
  in which a kernel adds it up.
-/
module

public import Idealize.ShloMosaic.Lib.ValueIdx
public import Idealize.ShloMosaic.Lib.Pointwise
public import Idealize.ShloMosaic.Lib.Pipeline.Value
public import Idealize.ShloMosaic.Lib.Pipeline.ValueKit

@[expose] public section

set_option maxRecDepth 16384
set_option maxHeartbeats 400000

noncomputable section

namespace Cert.DwIn

open Idealize.ShloMosaic
open scoped BigOperators

/-- The gradient of the weight from feature `j` to column `n`: over the rows, the column's gradient times the feature. -/
def dw (h : Fin 4096 → Fin 1024 → EReal) (d : Fin 4096 → Fin 10752 → EReal) (n : Fin 10752) (j : Fin 1024) : EReal :=
  ∑ R, d R n * h R j

/-- A row of the first or the second half. -/
def rowAt (k : Fin 2) (q : Fin 2048) : Fin 4096 := ⟨2048 * k.val + q.val, by have := k.isLt; have := q.isLt; omega⟩

/-- The two halves of the rows make up the sum. -/
theorem sum_halves (f : Fin 4096 → EReal) : ∑ q, f (rowAt 0 q) + ∑ q, f (rowAt 1 q) = ∑ R, f R := by
  refine Eq.trans ?_ (Fin.sum_univ_add (a := 2048) (b := 2048) f).symm
  refine congrArg₂ (· + ·) (Finset.sum_congr rfl fun q _ => congrArg f (Fin.ext ?_)) (Finset.sum_congr rfl fun q _ => congrArg f (Fin.ext ?_))
  · show 2048 * 0 + q.val = q.val
    omega
  · show 2048 * 1 + q.val = 2048 + q.val
    omega

/-- A load of a whole buffer. -/
theorem load_whole {e : EltTy} {n m : ℕ} (x : Vec Ideal ⟨2, ![n, m]⟩ e) (inb) (r : Fin n) (k : Fin m) :
    View.ld x (Rect.unit (s := ⟨2, ![n, m]⟩) ![0, 0] ![n, m] inb) (ix2 r k) = x (ix2 r k) := by
  refine View.ld_unit_apply_of _ _ _ _ _ _ (Fin.forall_fin_two.2 ⟨?_, ?_⟩)
  · show r.val = 0 + r.val; omega
  · show k.val = 0 + k.val; omega

end Cert.DwIn

end
-- ==== Proof.Dw3Case.lean ====
/-
  What the kernel that makes the branches' part of the weight's gradient leaves in its accumulator after the first half
  of the rows, and in its output block after the second.
-/
module

public import proofs.«01_k».proof.Proof.Gen.Kernel3Ideal.Frame
public import Idealize.ShloMosaic.Lib.ValueIdx
public import Idealize.ShloMosaic.Lib.Pointwise
public import Idealize.ShloMosaic.Lib.Pipeline.Value
public import Idealize.ShloMosaic.Lib.Pipeline.ValueKit
public import proofs.«01_k».proof.Proof.DwSpec

@[expose] public section

set_option maxRecDepth 16384
set_option maxHeartbeats 400000

noncomputable section

namespace Cert.Kernel3Ideal.Gen

open Idealize.ShloMosaic Idealize.ShloMosaic.TcCoe Idealize.ShloMosaic.Tactic
open Cert.Kernel3Ideal
open Cert.DwIn

/-! ## The body's arithmetic, read at one place -/

theorem start_apply (r : Fin 1664) (j : Fin 1024) : k0_pay1 (F := Ideal) (ix2 r j) = 0 := by
  unfold k0_pay1
  simp only [pointwise, shapeCast_self]

/-- A half of the rows is added to the accumulator. -/
theorem add_apply {a : Vec Ideal S1664x1024 .f32} {d : Vec Ideal S2048x1664 .bf16} {h : Vec Ideal S2048x1024 .bf16}
    {r : Fin 1664} {j : Fin 1024} {α : EReal} {D H : Fin 2048 → EReal} (ha : a (ix2 r j) = α) (hd : ∀ q, d (ix2 q r) = D q)
    (hh : ∀ q, h (ix2 q j) = H q) : k0_pay2 a d h (ix2 r j) = α + ∑ q, D q * H q := by
  unfold k0_pay2
  simp only [pointwise, shapeCast_self, zero_add, ha, hd, hh]

theorem out_apply {a : Vec Ideal S1664x1024 .f32} {r : Fin 1664} {j : Fin 1024} {α : EReal} (ha : a (ix2 r j) = α) :
    k0_pay3 a (ix2 r j) = α := by
  unfold k0_pay3
  simp only [pointwise, shapeCast_self, ha]

/-! ## The two kinds of grid points -/

section

variable (c : Dev nD) (i : grid0.Coords) (arg2 : Memref sig .tc .vmem S2048x1664 .bf16) (harg2 : arg2.IsWhole) (arg3 : Memref sig .tc .vmem S2048x1024 .bf16) (harg3 : arg3.IsWhole) (arg4 : Memref sig .tc .vmem S1664x1024 .bf16) (harg4 : arg4.IsWhole) (arg5 : Memref sig .tc .vmem S1664x1024 .f32) (harg5 : arg5.IsWhole)
  (x0 : Vec Ideal S2048x1664 .bf16) (x1 : Vec Ideal S2048x1024 .bf16) (xs0 : Vec Ideal S1664x1024 .f32)

/-- A block's first point starts the accumulator with the first half's product. -/
theorem acc_first (hc0 : cond0_0 i) (hc1 : ¬cond0_1 i) (r : Fin 1664) (j : Fin 1024) :
    sout0_A_0 c i arg2 harg2 arg3 harg3 arg4 harg4 arg5 harg5 hc0 hc1 x0 x1 (ix2 r j) = ∑ q : Fin 2048, x0 (ix2 q r) * x1 (ix2 q j) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  simp only [View.readAt_eq_ld, harg2.read_unread, harg3.read_unread, harg4.read_unread, harg5.read_unread]
  rw [View.canon_cons_unit_lit _ _ _ (by decide)]
  refine (add_apply ?_ (fun q => load_whole x0 _ q r) (fun q => load_whole x1 _ q j)).trans (zero_add _)
  rw [View.readCov_unit_lit _ _ _ (by decide)]
  exact start_apply r j

/-- A block's second point puts the sum of both halves out. -/
theorem out_second (hc0 : ¬cond0_0 i) (hc1 : cond0_1 i) (r : Fin 1664) (j : Fin 1024) :
    out0_B_2 c i arg2 harg2 arg3 harg3 arg4 harg4 arg5 harg5 hc0 hc1 x0 x1 xs0 (ix2 r j) = xs0 (ix2 r j) + ∑ q : Fin 2048, x0 (ix2 q r) * x1 (ix2 q j) := by
  unfold out0_B_2
  rw [View.read_writes_eq_canon _ _ _ (cover0_B_2 c i arg2 harg2 arg3 harg3 arg4 harg4 arg5 harg5 hc0 hc1 x0 x1 xs0)]
  unfold kernelRun0_B
  dsimp only
  sl_unfold_words
  simp only [View.readAt_eq_ld, harg2.read_unread, harg3.read_unread, harg4.read_unread, harg5.read_unread]
  rw [View.canon_cons_unit_lit _ _ _ (by decide)]
  refine out_apply ?_
  rw [View.readCov_unit_lit _ _ _ (by decide)]
  exact add_apply (load_whole xs0 _ r j) (fun q => load_whole x0 _ q r) (fun q => load_whole x1 _ q j)

end

end Cert.Kernel3Ideal.Gen

end
-- ==== Proof.Dw3Run.lean ====
/-
  The arrays and blocks that the kernel making the branches' part of the weight's gradient reads, and what its run leaves
  in its result.
-/
module

public import proofs.«01_k».proof.Proof.Gen.Kernel3Ideal.Value
public import Idealize.ShloMosaic.Lib.ValueIdx
public import Idealize.ShloMosaic.Lib.Pointwise
public import Idealize.ShloMosaic.Lib.Pipeline.Value
public import Idealize.ShloMosaic.Lib.Pipeline.ValueKit
public import Idealize.ShloMosaic.Lib.Claim
public import Idealize.ShloMosaic.Lib.StableHlo.ReadAt
public import Idealize.ShloMosaic.Lib.Pipeline.ValueKit.Point
public import proofs.«01_k».proof.Proof.Dw3Case

@[expose] public section

set_option maxRecDepth 16384
set_option maxHeartbeats 400000

noncomputable section

namespace Cert.Kernel3Ideal.Gen

open Idealize.ShloMosaic Idealize.ShloMosaic.TcCoe Idealize.ShloMosaic.Tactic Idealize.SL.Sem
open Cert.Kernel3Ideal
open Cert.DwIn

variable (m : (ℓ : Loc nD τ sig) → Buf (Elt Ideal) ℓ) (c : Dev nD)

abbrev argH : S4096x1024.Idx → EReal := m ((c : Thread nD τ).loc main_arg0)
abbrev argD : S4096x10752.Idx → EReal := m ((c : Thread nD τ).loc main_arg1)

/-- The normalised rows. -/
def feat (R : Fin 4096) (j : Fin 1024) : EReal := argH m c (ix2 R j)

/-- The gradient of the combined projection. -/
def grad (R : Fin 4096) (n : Fin 10752) : EReal := argD m c (ix2 R n)

/-- The gradient of the weight, transposed, as an array. -/
def dwArr : Buf (Elt Ideal) ((c : Thread nD τ).loc main_v3) := fun i => dw (feat m c) (grad m c) (i 0) (i 1)

/-! ## What the host hands the kernel -/

theorem host_grad (R : Fin 4096) (k : Fin 6656) (n : Fin 10752) (hn : n.val = k.val) :
    V m c main_v2 (ix2 R k : S4096x6656.Idx) = grad m c R n := by
  unfold V
  after_reads_at
  refine congrArg (argD m c) ?_
  funext a; apply Fin.ext
  match a with
  | ⟨0, _⟩ => show R.val = R.val; rfl
  | ⟨1, _⟩ => show k.val = n.val; omega

theorem host_feat (R : Fin 4096) (j : Fin 1024) : V m c main_v0 (ix2 R j : S4096x1024.Idx) = feat m c R j := by
  unfold V
  after_reads_at
  rfl

/-! ## The blocks that grid point `t` reads -/

theorem idx_in0 : ∀ t : Fin cfg0.N, win0_0.index t (0 : Fin 2) = t.val % 2 ∧ win0_0.index t (1 : Fin 2) = t.val / 2 := by
  decide +kernel

theorem idx_in1 : ∀ t : Fin cfg0.N, win0_1.index t (0 : Fin 2) = t.val % 2 ∧ win0_1.index t (1 : Fin 2) = 0 := by
  decide +kernel

theorem iblk_0 (t : Fin cfg0.N) (k : Fin 2) (q : Fin 2048) (r : Fin 1664) (n : Fin 10752) (hk : t.val % 2 = k.val) (hn : n.val = 1664 * (t.val / 2) + r.val) :
    iblk m c 0 t (ix2 q r : S2048x1664.Idx) = grad m c (rowAt k q) n := by
  obtain ⟨e0, e1⟩ := idx_in0 t
  unfold iblk
  rw [View.read_apply]
  show V m c main_v2 (((cfg0.win 0).blk t).view.emb (ix2 q r : S2048x1664.Idx)) = _
  have ht : t.val < 8 := lt_of_lt_of_eq t.isLt (show cfg0.N = 8 from N_0)
  refine Eq.trans ?_ (host_grad m c (rowAt k q) ⟨1664 * (t.val / 2) + r.val, by have := r.isLt; omega⟩ n (by dsimp only; omega))
  refine congrArg (V m c main_v2) ?_
  funext a; apply Fin.ext
  match a with
  | ⟨0, _⟩ => show win0_0.index t (0 : Fin 2) * 2048 + 1 * q.val = 2048 * k.val + q.val; omega
  | ⟨1, _⟩ => show win0_0.index t (1 : Fin 2) * 1664 + 1 * r.val = 1664 * (t.val / 2) + r.val; omega

theorem iblk_1 (t : Fin cfg0.N) (k : Fin 2) (q : Fin 2048) (j : Fin 1024) (hk : t.val % 2 = k.val) :
    iblk m c 1 t (ix2 q j : S2048x1024.Idx) = feat m c (rowAt k q) j := by
  obtain ⟨e0, e1⟩ := idx_in1 t
  unfold iblk
  rw [View.read_apply]
  show V m c main_v0 (((cfg0.win 1).blk t).view.emb (ix2 q j : S2048x1024.Idx)) = _
  refine Eq.trans ?_ (host_feat m c (rowAt k q) j)
  refine congrArg (V m c main_v0) ?_
  funext a; apply Fin.ext
  match a with
  | ⟨0, _⟩ => show win0_1.index t (0 : Fin 2) * 2048 + 1 * q.val = 2048 * k.val + q.val; omega
  | ⟨1, _⟩ => show win0_1.index t (1 : Fin 2) * 1024 + 1 * j.val = j.val; omega

/-! ## The two points of a block -/

/-- After a block's first point the accumulator holds the first half of the sum. -/
theorem half_done (t : Fin cfg0.N) (h0 : t.val % 2 = 0) (r : Fin 1664) (j : Fin 1024) (n : Fin 10752) (hn : n.val = 1664 * (t.val / 2) + r.val) :
    (outsAt0 m c t.val t.isLt).2 (ix2 r j : S1664x1024.Idx) = ∑ q, grad m c (rowAt 0 q) n * feat m c (rowAt 0 q) j := by
  rw [outsAt0_A m c t h0 (by omega)]
  dsimp only
  rw [acc_first]
  refine Finset.sum_congr rfl fun q _ => ?_
  rw [iblk_0 m c t 0 q r n h0 hn, iblk_1 m c t 0 q j h0]

/-- A block's second point puts out the whole sum. -/
theorem all_done (t : Fin cfg0.N) (h1 : t.val % 2 = 1) (r : Fin 1664) (j : Fin 1024) (n : Fin 10752) (hn : n.val = 1664 * (t.val / 2) + r.val) :
    (outsAt0 m c t.val t.isLt).1 (ix2 r j : S1664x1024.Idx) = dw (feat m c) (grad m c) n j := by
  rw [outsAt0_B m c t (by omega) h1]
  dsimp only
  rw [out_second]
  refine Eq.trans ?_ (sum_halves fun R => grad m c R n * feat m c R j)
  refine congrArg₂ (· + ·) ?_ (Finset.sum_congr rfl fun q _ => ?_)
  · exact half_done m c ⟨t.val - 1, Nat.lt_of_le_of_lt (Nat.sub_le _ _) t.isLt⟩ (by dsimp only; omega) r j n (by dsimp only; omega)
  · rw [iblk_0 m c t 1 q r n h1 hn, iblk_1 m c t 1 q j h1]

/-! ## The result -/

/-- Grid point `t` writes block `t.val / 2`. -/
theorem out_block : ∀ t : Fin cfg0.N, win0_2.index t (0 : Fin 2) = t.val / 2 ∧ win0_2.index t (1 : Fin 2) = 0 :=
  (by decide +kernel : ∀ t : Fin grid0.N, _)

/-- The blocks that the run reaches lie inside the array, whole. -/
theorem out_size : ∀ t : Fin cfg0.N, ((cfg0.win 2).xblock (grid0.coords t)).size 0 = 1664 ∧ ((cfg0.win 2).xblock (grid0.coords t)).size 1 = 1024 :=
  (by decide +kernel : ∀ t : Fin grid0.N, (win0_2.xblock (grid0.coords t)).size 0 = 1664 ∧ (win0_2.xblock (grid0.coords t)).size 1 = 1024)

theorem written (t : Fin cfg0.N) (hf : (cfg0.win 2).flush t = true) :
    (dats m 0 c).flushed 2 t = ((cfg0.win 2).blk t).view.read (Elt Ideal) (dwArr m c) := by
  show (cfg0.win 2).cut (grid0.coords t) ((dats m 0 c).after 2 t) = _
  have ht : t.val < 8 := lt_of_lt_of_eq t.isLt (show cfg0.N = 8 from N_0)
  have h1 : t.val % 2 = 1 := (flush0_2 t).mp hf
  obtain ⟨e0, e1⟩ := out_block t
  rw [after0_2]
  funext y
  show (outsAt0 m c t.val t.isLt).1 ((cfg0.win 2).xinj (grid0.coords t) y)
    = dw (feat m c) (grad m c) (((cfg0.win 2).blk t).view.emb y 0) (((cfg0.win 2).blk t).view.emb y 1)
  have x0 : ((cfg0.win 2).xinj (grid0.coords t) y 0).val = (y 0).val := rfl
  have x1 : ((cfg0.win 2).xinj (grid0.coords t) y 1).val = (y 1).val := rfl
  have r0' : (((cfg0.win 2).blk t).view.emb y 0).val = win0_2.index t (0 : Fin 2) * 1664 + 1 * (y 0).val := rfl
  have r1' : (((cfg0.win 2).blk t).view.emb y 1).val = win0_2.index t (1 : Fin 2) * 1024 + 1 * (y 1).val := rfl
  generalize (cfg0.win 2).xinj (grid0.coords t) y = x at x0 x1 ⊢
  have l0 : (x 0).val < 1664 := (x 0).isLt
  have r0 : (⟨1664 * (t.val / 2) + (x 0).val, by omega⟩ : Fin 10752) = ((cfg0.win 2).blk t).view.emb y 0 := by
    refine Fin.ext ?_
    show 1664 * (t.val / 2) + (x 0).val = _
    omega
  have r1 : (x 1 : Fin 1024) = ((cfg0.win 2).blk t).view.emb y 1 := by
    refine Fin.ext ?_
    omega
  rw [show x = (ix2 (x 0) (x 1) : S1664x1024.Idx) from eq_ix2 x]
  refine (all_done m c t h1 (x 0) (x 1) ⟨1664 * (t.val / 2) + (x 0).val, by omega⟩ rfl).trans ?_
  exact congrArg₂ (dw (feat m c) (grad m c)) r0 r1

/-- Every row of the branches' part is in the block of its second point. -/
theorem final_branch (i : S10752x1024.Idx) (hi : (i 0).val < 6656) : (dats m 0 c).arrAt 2 cfg0.N i = dwArr m c i := by
  have h1 : (i 1).val < 1024 := (i 1).isLt
  have hN : 2 * ((i 0).val / 1664) + 1 < cfg0.N := by
    rw [show cfg0.N = 8 from N_0]
    omega
  obtain ⟨e0, e1⟩ := out_block ⟨_, hN⟩
  obtain ⟨s0, s1⟩ := out_size ⟨_, hN⟩
  refine (dats m 0 c).arrAt_apply_of_mem 2 (dwArr m c) (fun t hf => written m c t hf) cfg0.N ⟨_, hN⟩ i hN
    ((flush0_2 _).mpr (by show (2 * ((i 0).val / 1664) + 1) % 2 = 1; omega)) ?_
  show i ∈ ((View.whole main_v3).slice (win0_2.rect ⟨_, hN⟩)).set
  rw [View.set_slice_whole, Rect.mem_set_unit]
  intro a
  match a with
  | ⟨0, _⟩ =>
    show win0_2.index ⟨_, hN⟩ (0 : Fin 2) * 1664 ≤ (i 0).val ∧ (i 0).val < win0_2.index ⟨_, hN⟩ (0 : Fin 2) * 1664 + ((cfg0.win 2).xblock (grid0.coords ⟨_, hN⟩)).size 0
    rw [e0, s0]
    dsimp only
    omega
  | ⟨1, _⟩ =>
    show win0_2.index ⟨_, hN⟩ (1 : Fin 2) * 1024 ≤ (i 1).val ∧ (i 1).val < win0_2.index ⟨_, hN⟩ (1 : Fin 2) * 1024 + ((cfg0.win 2).xblock (grid0.coords ⟨_, hN⟩)).size 1
    rw [e1, s1]
    omega

end Cert.Kernel3Ideal.Gen

end
-- ==== Proof.Dw3Ref.lean ====
/-
  What the reference for the branches' part of the weight's gradient computes, element by element.
-/
module

public import proofs.«01_k».proof.Proof.Gen.Reference3Ideal.Read
public import Idealize.ShloMosaic.Lib.ValueIdx
public import Idealize.ShloMosaic.Lib.Pointwise
public import Idealize.ShloMosaic.Lib.Pipeline.Value
public import proofs.«01_k».proof.Proof.DwSpec

@[expose] public section

set_option maxRecDepth 16384
set_option maxHeartbeats 400000

noncomputable section

namespace Cert.Reference3Ideal.Read

open Idealize.ShloMosaic Idealize.ShloMosaic.TcCoe Idealize.ShloMosaic.Tactic
open Cert.Reference3Ideal Cert.Reference3Ideal.Gen
open Cert.DwIn

variable (h : FVec Ideal S4096x1024 .f32) (d : FVec Ideal S4096x10752 .f32)

theorem ref_2 (n : Fin 10752) (j : Fin 1024) : val_main_v2 (F := Ideal) h d (ix2 n j) = dw (fun R j => h (ix2 R j)) (fun R n => d (ix2 R n)) n j := by
  unfold val_main_v2
  pointwise
  rfl

theorem ref_3 (j : Fin 1024) (n : Fin 10752) : val_main_v3 (F := Ideal) h d (ix2 j n) = dw (fun R j => h (ix2 R j)) (fun R n => d (ix2 R n)) n j := by
  unfold val_main_v3
  pointwise
  simp only [ref_2 h d n j]

theorem ref_4 (n : Fin 10752) (j : Fin 1024) : val_main_v4 (F := Ideal) h d (ix2 n j) = dw (fun R j => h (ix2 R j)) (fun R n => d (ix2 R n)) n j := by
  unfold val_main_v4
  pointwise
  simp only [ref_3 h d j n]

theorem res_dw (n : Fin 10752) (j : Fin 1024) : val_main_v5 (F := Ideal) h d (ix2 n j) = dw (fun R j => h (ix2 R j)) (fun R n => d (ix2 R n)) n j := by
  unfold val_main_v5
  pointwise
  simp only [ref_4 h d n j]

end Cert.Reference3Ideal.Read

end
-- ==== Proof.Dw3Agree.lean ====
/-
  The kernel and the reference for the branches' part of the weight's gradient leave equal results.
-/
module

public import proofs.«01_k».proof.Defs
public import proofs.«01_k».proof.Proof.Gen.Reference3Ideal.Run
public import Idealize.ShloMosaic.Lib.Quiescent
public import Idealize.ShloMosaic.Lib.Pointwise
public import proofs.«01_k».proof.Proof.Gen.On_branch_rows
public import proofs.«01_k».proof.Proof.Dw3Run
public import proofs.«01_k».proof.Proof.Dw3Ref

@[expose] public section

noncomputable section

namespace Cert.DwIn3

open Idealize.ShloMosaic Idealize.ShloMosaic.TcCoe Idealize.ShloMosaic.Tactic Idealize.SL.Sem
open Cert.Kernel3Ideal Cert.Kernel3Ideal.Gen Cert.Reference3Ideal.Read

variable (m : (ℓ : Loc nD τ sig) → Buf (Elt Ideal) ℓ) (c : Dev nD)

/-- Where the mask of the result is set, the row is one of the branches'. -/
theorem mask_rows (x0 : FVec Ideal S4096x1024 .f32) (x1 : FVec Ideal S4096x10752 .f32) (n : Fin 10752) (j : Fin 1024)
    (h : Cert.On_branch_rows.fn (F := Ideal) x0 x1 (ix2 n j) = 1#1) : n.val < 6656 := by
  unfold Cert.On_branch_rows.fn at h
  pointwise at h
  have hn := n.isLt
  have e : (BitVec.ofNat 32 n.val).toInt = n.val := by
    rw [BitVec.toInt_eq_toNat_of_lt (by rw [BitVec.toNat_ofNat]; omega), BitVec.toNat_ofNat]
    omega
  have e1 : (6656#32 : BitVec 32).toInt = 6656 := by decide
  have e2 : ∀ b : BitVec 32, IntOp.addi b 0#32 = b := fun b => BitVec.add_zero b
  simp only [e2, IntOp.cmpi, BitVec.slt, e, e1] at h
  by_contra hc
  rw [decide_eq_false (by omega)] at h
  exact absurd h (by decide)

theorem agree (i : S10752x1024.Idx) : val_main_v5 (F := Ideal) (argH m c) (argD m c) i = dwArr m c i := by
  obtain ⟨n, j, rfl⟩ : ∃ (n : Fin 10752) (j : Fin 1024), i = ix2 n j := ⟨i 0, i 1, eq_ix2 i⟩
  exact res_dw _ _ n j

/-- Kernel and reference compute the same gradient on the branches' rows. -/
theorem algebraic : Cert.algebraic_Kernel3Ideal_Reference3Ideal_on_branch_rows := by
  intro m g m' g' _ hin
  refine ⟨fun c => dwArr m c, ?_, ?_⟩
  · refine (θ_run _ _ _).mono (fun r h c => ?_) (Cert.Kernel3Ideal.Value.run_blocks m g)
    obtain ⟨h0, hargs⟩ := h c
    refine ⟨fun i hi => ?_, hargs⟩
    have hr : (i 0).val < 6656 := mask_rows _ _ (i 0) (i 1) ((congrArg _ (eq_ix2 i).symm).trans hi)
    exact (congrFun h0 i).trans (final_branch m c i hr)
  · refine (θ_run _ _ _).mono (fun r h c => ?_) (Cert.Reference3Ideal.Value.run m' g')
    obtain ⟨h0, hargs⟩ := h c
    obtain ⟨e0, e1⟩ := hin c
    rw [val_main_v5_eq, e0, e1] at h0
    exact ⟨fun i _ => (congrFun h0 i).trans (agree m c i), hargs⟩

/-- The reference runs and leaves its arguments as they were. -/
theorem reference_frame : Cert.quiescent_Reference3Ideal := by
  intro m g _
  refine (θ_run _ _ _).mono (fun r h => ⟨fun c => ?_, sem_eq_zero_of_no_sems rfl _⟩) (Cert.Reference3Ideal.Value.run m g)
  obtain ⟨_, hargs⟩ := h c
  exact hargs

end Cert.DwIn3

end
-- ==== Proof.Dw4Case.lean ====
/-
  What the kernel that makes the gates' part of the weight's gradient leaves in its accumulator after the first half
  of the rows, and in its output block after the second.
-/
module

public import proofs.«01_k».proof.Proof.Gen.Kernel4Ideal.Frame
public import Idealize.ShloMosaic.Lib.ValueIdx
public import Idealize.ShloMosaic.Lib.Pointwise
public import Idealize.ShloMosaic.Lib.Pipeline.Value
public import Idealize.ShloMosaic.Lib.Pipeline.ValueKit
public import proofs.«01_k».proof.Proof.DwSpec

@[expose] public section

set_option maxRecDepth 16384
set_option maxHeartbeats 400000

noncomputable section

namespace Cert.Kernel4Ideal.Gen

open Idealize.ShloMosaic Idealize.ShloMosaic.TcCoe Idealize.ShloMosaic.Tactic
open Cert.Kernel4Ideal
open Cert.DwIn

/-! ## The body's arithmetic, read at one place -/

theorem start_apply (r : Fin 512) (j : Fin 1024) : k0_pay1 (F := Ideal) (ix2 r j) = 0 := by
  unfold k0_pay1
  simp only [pointwise, shapeCast_self]

/-- A half of the rows is added to the accumulator. -/
theorem add_apply {a : Vec Ideal S512x1024 .f32} {d : Vec Ideal S2048x512 .bf16} {h : Vec Ideal S2048x1024 .bf16}
    {r : Fin 512} {j : Fin 1024} {α : EReal} {D H : Fin 2048 → EReal} (ha : a (ix2 r j) = α) (hd : ∀ q, d (ix2 q r) = D q)
    (hh : ∀ q, h (ix2 q j) = H q) : k0_pay2 a d h (ix2 r j) = α + ∑ q, D q * H q := by
  unfold k0_pay2
  simp only [pointwise, shapeCast_self, zero_add, ha, hd, hh]

theorem out_apply {a : Vec Ideal S512x1024 .f32} {r : Fin 512} {j : Fin 1024} {α : EReal} (ha : a (ix2 r j) = α) :
    k0_pay3 a (ix2 r j) = α := by
  unfold k0_pay3
  simp only [pointwise, shapeCast_self, ha]

/-! ## The two kinds of grid points -/

section

variable (c : Dev nD) (i : grid0.Coords) (arg2 : Memref sig .tc .vmem S2048x512 .bf16) (harg2 : arg2.IsWhole) (arg3 : Memref sig .tc .vmem S2048x1024 .bf16) (harg3 : arg3.IsWhole) (arg5 : Memref sig .tc .vmem S512x1024 .bf16) (harg5 : arg5.IsWhole) (arg6 : Memref sig .tc .vmem S512x1024 .f32) (harg6 : arg6.IsWhole)
  (x0 : Vec Ideal S2048x512 .bf16) (x1 : Vec Ideal S2048x1024 .bf16) (xs0 : Vec Ideal S512x1024 .f32)

/-- A block's first point starts the accumulator with the first half's product. -/
theorem acc_first (hc0 : cond0_0 i) (hc1 : ¬cond0_1 i) (r : Fin 512) (j : Fin 1024) :
    sout0_A_0 c i arg2 harg2 arg3 harg3 arg5 harg5 arg6 harg6 hc0 hc1 x0 x1 (ix2 r j) = ∑ q : Fin 2048, x0 (ix2 q r) * x1 (ix2 q j) := by
  unfold sout0_A_0
  rw [View.read_writes_eq_canon _ _ _ (scover0_A_0 c i arg2 harg2 arg3 harg3 arg5 harg5 arg6 harg6 hc0 hc1 x0 x1)]
  unfold kernelRun0_A
  dsimp only
  sl_unfold_words
  simp only [View.readAt_eq_ld, harg2.read_unread, harg3.read_unread, harg5.read_unread, harg6.read_unread]
  rw [View.canon_cons_unit_lit _ _ _ (by decide)]
  refine (add_apply ?_ (fun q => load_whole x0 _ q r) (fun q => load_whole x1 _ q j)).trans (zero_add _)
  rw [View.readCov_unit_lit _ _ _ (by decide)]
  exact start_apply r j

/-- A block's second point puts the sum of both halves out. -/
theorem out_second (hc0 : ¬cond0_0 i) (hc1 : cond0_1 i) (r : Fin 512) (j : Fin 1024) :
    out0_B_2 c i arg2 harg2 arg3 harg3 arg5 harg5 arg6 harg6 hc0 hc1 x0 x1 xs0 (ix2 r j) = xs0 (ix2 r j) + ∑ q : Fin 2048, x0 (ix2 q r) * x1 (ix2 q j) := by
  unfold out0_B_2
  rw [View.read_writes_eq_canon _ _ _ (cover0_B_2 c i arg2 harg2 arg3 harg3 arg5 harg5 arg6 harg6 hc0 hc1 x0 x1 xs0)]
  unfold kernelRun0_B
  dsimp only
  sl_unfold_words
  simp only [View.readAt_eq_ld, harg2.read_unread, harg3.read_unread, harg5.read_unread, harg6.read_unread]
  rw [View.canon_cons_unit_lit _ _ _ (by decide)]
  refine out_apply ?_
  rw [View.readCov_unit_lit _ _ _ (by decide)]
  exact add_apply (load_whole xs0 _ r j) (fun q => load_whole x0 _ q r) (fun q => load_whole x1 _ q j)

end

end Cert.Kernel4Ideal.Gen

end
-- ==== Proof.Dw4Run.lean ====
/-
  The arrays and blocks that the kernel making the gates' part of the weight's gradient reads, and what its run leaves
  in its result.
-/
module

public import proofs.«01_k».proof.Proof.Gen.Kernel4Ideal.Value
public import Idealize.ShloMosaic.Lib.ValueIdx
public import Idealize.ShloMosaic.Lib.Pointwise
public import Idealize.ShloMosaic.Lib.Pipeline.Value
public import Idealize.ShloMosaic.Lib.Pipeline.ValueKit
public import Idealize.ShloMosaic.Lib.Claim
public import Idealize.ShloMosaic.Lib.StableHlo.ReadAt
public import Idealize.ShloMosaic.Lib.Pipeline.ValueKit.Point
public import proofs.«01_k».proof.Proof.Dw4Case

@[expose] public section

set_option maxRecDepth 16384
set_option maxHeartbeats 400000

noncomputable section

namespace Cert.Kernel4Ideal.Gen

open Idealize.ShloMosaic Idealize.ShloMosaic.TcCoe Idealize.ShloMosaic.Tactic Idealize.SL.Sem
open Cert.Kernel4Ideal
open Cert.DwIn

variable (m : (ℓ : Loc nD τ sig) → Buf (Elt Ideal) ℓ) (c : Dev nD)

abbrev argH : S4096x1024.Idx → EReal := m ((c : Thread nD τ).loc main_arg0)
abbrev argD : S4096x10752.Idx → EReal := m ((c : Thread nD τ).loc main_arg1)
abbrev argDst : S10752x1024.Idx → EReal := m ((c : Thread nD τ).loc main_arg2)

/-- The normalised rows. -/
def feat (R : Fin 4096) (j : Fin 1024) : EReal := argH m c (ix2 R j)

/-- The gradient of the combined projection. -/
def grad (R : Fin 4096) (n : Fin 10752) : EReal := argD m c (ix2 R n)

/-- The array that the call is given, with the gates' part replaced by the gradient of the weight, transposed. -/
def dwArr : Buf (Elt Ideal) ((c : Thread nD τ).loc main_v3) := fun i =>
  if 6656 ≤ (i 0).val then dw (feat m c) (grad m c) (i 0) (i 1) else argDst m c i

/-! ## What the host hands the kernel -/

theorem host_grad (R : Fin 4096) (k : Fin 4096) (n : Fin 10752) (hn : n.val = 6656 + k.val) :
    V m c main_v2 (ix2 R k : S4096x4096.Idx) = grad m c R n := by
  unfold V
  after_reads_at
  refine congrArg (argD m c) ?_
  funext a; apply Fin.ext
  match a with
  | ⟨0, _⟩ => show R.val = R.val; rfl
  | ⟨1, _⟩ => show 6656 + k.val = n.val; omega

theorem host_feat (R : Fin 4096) (j : Fin 1024) : V m c main_v0 (ix2 R j : S4096x1024.Idx) = feat m c R j := by
  unfold V
  after_reads_at
  rfl

/-- The result starts as the array that the call is given. -/
theorem entry_eq : V m c main_v3 = argDst m c := by
  unfold V
  after_reads_at
  rfl

/-! ## The blocks that grid point `t` reads -/

theorem idx_in0 : ∀ t : Fin cfg0.N, win0_0.index t (0 : Fin 2) = t.val % 2 ∧ win0_0.index t (1 : Fin 2) = t.val / 2 := by
  decide +kernel

theorem idx_in1 : ∀ t : Fin cfg0.N, win0_1.index t (0 : Fin 2) = t.val % 2 ∧ win0_1.index t (1 : Fin 2) = 0 := by
  decide +kernel

theorem iblk_0 (t : Fin cfg0.N) (k : Fin 2) (q : Fin 2048) (r : Fin 512) (n : Fin 10752) (hk : t.val % 2 = k.val) (hn : n.val = 6656 + 512 * (t.val / 2) + r.val) :
    iblk m c 0 t (ix2 q r : S2048x512.Idx) = grad m c (rowAt k q) n := by
  obtain ⟨e0, e1⟩ := idx_in0 t
  unfold iblk
  rw [View.read_apply]
  show V m c main_v2 (((cfg0.win 0).blk t).view.emb (ix2 q r : S2048x512.Idx)) = _
  have ht : t.val < 16 := lt_of_lt_of_eq t.isLt (show cfg0.N = 16 from N_0)
  refine Eq.trans ?_ (host_grad m c (rowAt k q) ⟨512 * (t.val / 2) + r.val, by have := r.isLt; omega⟩ n (by dsimp only; omega))
  refine congrArg (V m c main_v2) ?_
  funext a; apply Fin.ext
  match a with
  | ⟨0, _⟩ => show win0_0.index t (0 : Fin 2) * 2048 + 1 * q.val = 2048 * k.val + q.val; omega
  | ⟨1, _⟩ => show win0_0.index t (1 : Fin 2) * 512 + 1 * r.val = 512 * (t.val / 2) + r.val; omega

theorem iblk_1 (t : Fin cfg0.N) (k : Fin 2) (q : Fin 2048) (j : Fin 1024) (hk : t.val % 2 = k.val) :
    iblk m c 1 t (ix2 q j : S2048x1024.Idx) = feat m c (rowAt k q) j := by
  obtain ⟨e0, e1⟩ := idx_in1 t
  unfold iblk
  rw [View.read_apply]
  show V m c main_v0 (((cfg0.win 1).blk t).view.emb (ix2 q j : S2048x1024.Idx)) = _
  refine Eq.trans ?_ (host_feat m c (rowAt k q) j)
  refine congrArg (V m c main_v0) ?_
  funext a; apply Fin.ext
  match a with
  | ⟨0, _⟩ => show win0_1.index t (0 : Fin 2) * 2048 + 1 * q.val = 2048 * k.val + q.val; omega
  | ⟨1, _⟩ => show win0_1.index t (1 : Fin 2) * 1024 + 1 * j.val = j.val; omega

/-! ## The two points of a block -/

/-- After a block's first point the accumulator holds the first half of the sum. -/
theorem half_done (t : Fin cfg0.N) (h0 : t.val % 2 = 0) (r : Fin 512) (j : Fin 1024) (n : Fin 10752) (hn : n.val = 6656 + 512 * (t.val / 2) + r.val) :
    (outsAt0 m c t.val t.isLt).2 (ix2 r j : S512x1024.Idx) = ∑ q, grad m c (rowAt 0 q) n * feat m c (rowAt 0 q) j := by
  rw [outsAt0_A m c t h0 (by omega)]
  dsimp only
  rw [acc_first]
  refine Finset.sum_congr rfl fun q _ => ?_
  rw [iblk_0 m c t 0 q r n h0 hn, iblk_1 m c t 0 q j h0]

/-- A block's second point puts out the whole sum. -/
theorem all_done (t : Fin cfg0.N) (h1 : t.val % 2 = 1) (r : Fin 512) (j : Fin 1024) (n : Fin 10752) (hn : n.val = 6656 + 512 * (t.val / 2) + r.val) :
    (outsAt0 m c t.val t.isLt).1 (ix2 r j : S512x1024.Idx) = dw (feat m c) (grad m c) n j := by
  rw [outsAt0_B m c t (by omega) h1]
  dsimp only
  rw [out_second]
  refine Eq.trans ?_ (sum_halves fun R => grad m c R n * feat m c R j)
  refine congrArg₂ (· + ·) ?_ (Finset.sum_congr rfl fun q _ => ?_)
  · exact half_done m c ⟨t.val - 1, Nat.lt_of_le_of_lt (Nat.sub_le _ _) t.isLt⟩ (by dsimp only; omega) r j n (by dsimp only; omega)
  · rw [iblk_0 m c t 1 q r n h1 hn, iblk_1 m c t 1 q j h1]

/-! ## The result -/

/-- Grid point `t` writes block `13 + t.val / 2`. -/
theorem out_block : ∀ t : Fin cfg0.N, win0_2.index t (0 : Fin 2) = 13 + t.val / 2 ∧ win0_2.index t (1 : Fin 2) = 0 :=
  (by decide +kernel : ∀ t : Fin grid0.N, _)

theorem written (t : Fin cfg0.N) (hf : (cfg0.win 2).flush t = true) :
    (dats m 0 c).flushed 2 t = ((cfg0.win 2).blk t).view.read (Elt Ideal) (dwArr m c) := by
  show (cfg0.win 2).cut (grid0.coords t) ((dats m 0 c).after 2 t) = _
  have ht : t.val < 16 := lt_of_lt_of_eq t.isLt (show cfg0.N = 16 from N_0)
  have h1 : t.val % 2 = 1 := (flush0_2 t).mp hf
  obtain ⟨e0, e1⟩ := out_block t
  rw [after0_2]
  funext y
  show (outsAt0 m c t.val t.isLt).1 ((cfg0.win 2).xinj (grid0.coords t) y)
    = dwArr m c (((cfg0.win 2).blk t).view.emb y)
  have x0 : ((cfg0.win 2).xinj (grid0.coords t) y 0).val = (y 0).val := rfl
  have x1 : ((cfg0.win 2).xinj (grid0.coords t) y 1).val = (y 1).val := rfl
  have r0' : (((cfg0.win 2).blk t).view.emb y 0).val = win0_2.index t (0 : Fin 2) * 512 + 1 * (y 0).val := rfl
  have r1' : (((cfg0.win 2).blk t).view.emb y 1).val = win0_2.index t (1 : Fin 2) * 1024 + 1 * (y 1).val := rfl
  generalize (cfg0.win 2).xinj (grid0.coords t) y = x at x0 x1 ⊢
  have l0 : (x 0).val < 512 := (x 0).isLt
  have r0 : (⟨6656 + 512 * (t.val / 2) + (x 0).val, by omega⟩ : Fin 10752) = ((cfg0.win 2).blk t).view.emb y 0 := by
    refine Fin.ext ?_
    show 6656 + 512 * (t.val / 2) + (x 0).val = _
    omega
  have r1 : (x 1 : Fin 1024) = ((cfg0.win 2).blk t).view.emb y 1 := by
    refine Fin.ext ?_
    omega
  rw [show x = (ix2 (x 0) (x 1) : S512x1024.Idx) from eq_ix2 x]
  refine (all_done m c t h1 (x 0) (x 1) ⟨6656 + 512 * (t.val / 2) + (x 0).val, by omega⟩ rfl).trans ?_
  have hge : 6656 ≤ (((cfg0.win 2).blk t).view.emb y 0).val := by
    rw [← r0]
    show 6656 ≤ 6656 + 512 * (t.val / 2) + (x 0).val
    omega
  exact (congrArg₂ (dw (feat m c) (grad m c)) r0 r1).trans (if_pos hge).symm

/-- A block that the call writes holds rows of the gates' part only, and each of those rows is in one. -/
theorem covered (i : S10752x1024.Idx) :
    (∃ t : Fin cfg0.N, (cfg0.win 2).flush t = true ∧ i ∈ ((cfg0.win 2).blk t).view.set) ↔ 6656 ≤ (i 0).val := by
  have h0 : (i 0).val < 10752 := (i 0).isLt
  have h1 : (i 1).val < 1024 := (i 1).isLt
  constructor
  · rintro ⟨t, hf, hi⟩
    obtain ⟨e0, e1⟩ := out_block t
    have hi : i ∈ ((View.whole main_v3).slice (win0_2.rect t)).set := hi
    rw [View.set_slice_whole, Rect.mem_set_unit] at hi
    have h := (hi 0).1
    have h : win0_2.index t (0 : Fin 2) * 512 ≤ (i 0).val := h
    rw [e0] at h
    omega
  · intro hge
    have hN : 2 * (((i 0).val - 6656) / 512) + 1 < cfg0.N := by
      rw [show cfg0.N = 16 from N_0]
      omega
    obtain ⟨e0, e1⟩ := out_block ⟨_, hN⟩
    refine ⟨⟨_, hN⟩, (flush0_2 _).mpr (by show (2 * (((i 0).val - 6656) / 512) + 1) % 2 = 1; omega), ?_⟩
    show i ∈ ((View.whole main_v3).slice (win0_2.rect ⟨_, hN⟩)).set
    rw [View.set_slice_whole, Rect.mem_set_unit]
    intro a
    match a with
    | ⟨0, _⟩ =>
      show win0_2.index ⟨_, hN⟩ (0 : Fin 2) * 512 ≤ (i 0).val ∧ (i 0).val < win0_2.index ⟨_, hN⟩ (0 : Fin 2) * 512 + 512
      rw [e0]
      dsimp only
      omega
    | ⟨1, _⟩ =>
      show win0_2.index ⟨_, hN⟩ (1 : Fin 2) * 1024 ≤ (i 1).val ∧ (i 1).val < win0_2.index ⟨_, hN⟩ (1 : Fin 2) * 1024 + 1024
      rw [e1]
      omega

theorem final_gate : (dats m 0 c).arrAt 2 cfg0.N = dwArr m c := by
  funext i
  rw [(dats m 0 c).arrAt_eq_piecewise 2 (dwArr m c) (fun t hf => written m c t hf) i]
  by_cases hge : 6656 ≤ (i 0).val
  · exact if_pos ((covered i).mpr hge)
  · refine (if_neg fun h => hge ((covered i).mp h)).trans ?_
    rw [A_eq]
    refine (congrFun (entry_eq m c) i).trans ?_
    exact (if_neg hge).symm

end Cert.Kernel4Ideal.Gen

end
-- ==== Proof.Dw4Ref.lean ====
/-
  What the reference for the gates' part of the weight's gradient computes, element by element.
-/
module

public import proofs.«01_k».proof.Proof.Gen.Reference4Ideal.Read
public import Idealize.ShloMosaic.Lib.ValueIdx
public import Idealize.ShloMosaic.Lib.Pointwise
public import Idealize.ShloMosaic.Lib.Pipeline.Value
public import proofs.«01_k».proof.Proof.DwSpec

@[expose] public section

set_option maxRecDepth 16384
set_option maxHeartbeats 400000

noncomputable section

namespace Cert.Reference4Ideal.Read

open Idealize.ShloMosaic Idealize.ShloMosaic.TcCoe Idealize.ShloMosaic.Tactic
open Cert.Reference4Ideal Cert.Reference4Ideal.Gen
open Cert.DwIn

variable (h : FVec Ideal S4096x1024 .f32) (d : FVec Ideal S4096x10752 .f32) (a : FVec Ideal S10752x1024 .bf16)

theorem ref_2 (n : Fin 10752) (j : Fin 1024) : val_main_v2 (F := Ideal) h d (ix2 n j) = dw (fun R j => h (ix2 R j)) (fun R n => d (ix2 R n)) n j := by
  unfold val_main_v2
  pointwise
  rfl

theorem ref_3 (j : Fin 1024) (n : Fin 10752) : val_main_v3 (F := Ideal) h d (ix2 j n) = dw (fun R j => h (ix2 R j)) (fun R n => d (ix2 R n)) n j := by
  unfold val_main_v3
  pointwise
  simp only [ref_2 h d n j]

theorem ref_4 (n : Fin 6656) (j : Fin 1024) : val_main_v4 (F := Ideal) a (ix2 n j) = a (ix2 ⟨n.val, by omega⟩ j) := by
  rw [val_main_v4_apply]
  refine congrArg a ?_
  funext b; apply Fin.ext
  match b with
  | ⟨0, _⟩ => show n.val = n.val; rfl
  | ⟨1, _⟩ => show j.val = j.val; rfl

theorem ref_5 (j : Fin 1024) (n : Fin 4096) : val_main_v5 (F := Ideal) h d (ix2 j n) = dw (fun R j => h (ix2 R j)) (fun R n => d (ix2 R n)) ⟨6656 + n.val, by omega⟩ j := by
  rw [val_main_v5_apply]
  refine Eq.trans (congrArg (val_main_v3 (F := Ideal) h d) ?_) (ref_3 h d j ⟨6656 + n.val, by omega⟩)
  funext b; apply Fin.ext
  match b with
  | ⟨0, _⟩ => show j.val = j.val; rfl
  | ⟨1, _⟩ => show 6656 + n.val = 6656 + n.val; rfl

theorem ref_6 (n : Fin 4096) (j : Fin 1024) : val_main_v6 (F := Ideal) h d (ix2 n j) = dw (fun R j => h (ix2 R j)) (fun R n => d (ix2 R n)) ⟨6656 + n.val, by omega⟩ j := by
  unfold val_main_v6
  pointwise
  simp only [ref_5 h d j n]

theorem ref_7 (n : Fin 4096) (j : Fin 1024) : val_main_v7 (F := Ideal) h d (ix2 n j) = dw (fun R j => h (ix2 R j)) (fun R n => d (ix2 R n)) ⟨6656 + n.val, by omega⟩ j := by
  unfold val_main_v7
  pointwise
  simp only [ref_6 h d n j]

theorem res_dw (n : Fin 10752) (j : Fin 1024) :
    val_main_v8 (F := Ideal) h d a (ix2 n j) = if 6656 ≤ n.val then dw (fun R j => h (ix2 R j)) (fun R n => d (ix2 R n)) n j else a (ix2 n j) := by
  unfold val_main_v8
  by_cases hge : 6656 ≤ n.val
  · rw [if_pos hge]
    refine (concatenate_pair_apply_right (t := S10752x1024) (s₁ := S6656x1024) (s₂ := S4096x1024) 0 _ _ _ _ rfl rfl
      (ix2 ⟨n.val - 6656, by omega⟩ j : S4096x1024.Idx) (Fin.forall_fin_two.2 ⟨fun hb => absurd rfl hb, fun _ => rfl⟩) ?_).trans ?_
    · show n.val - 6656 + 6656 = n.val
      omega
    · refine (ref_7 h d ⟨n.val - 6656, by omega⟩ j).trans ?_
      refine congrArg (fun n' => dw (fun R j => h (ix2 R j)) (fun R n => d (ix2 R n)) n' j) (Fin.ext ?_)
      show 6656 + (n.val - 6656) = n.val
      omega
  · rw [if_neg hge]
    refine (concatenate_pair_apply_left (t := S10752x1024) (s₁ := S6656x1024) (s₂ := S4096x1024) 0 _ _ _ _ rfl
      (ix2 ⟨n.val, by omega⟩ j : S6656x1024.Idx) (Fin.forall_fin_two.2 ⟨rfl, rfl⟩)).trans ?_
    exact ref_4 a ⟨n.val, by omega⟩ j

end Cert.Reference4Ideal.Read

end
-- ==== Proof.Dw4Agree.lean ====
/-
  The kernel and the reference for the gates' part of the weight's gradient leave equal results.
-/
module

public import proofs.«01_k».proof.Defs
public import proofs.«01_k».proof.Proof.Gen.Reference4Ideal.Run
public import Idealize.ShloMosaic.Lib.Quiescent
public import Idealize.ShloMosaic.Lib.Pointwise
public import proofs.«01_k».proof.Proof.Dw4Run
public import proofs.«01_k».proof.Proof.Dw4Ref

@[expose] public section

noncomputable section

namespace Cert.DwIn4

open Idealize.ShloMosaic Idealize.ShloMosaic.TcCoe Idealize.ShloMosaic.Tactic Idealize.SL.Sem
open Cert.Kernel4Ideal Cert.Kernel4Ideal.Gen Cert.Reference4Ideal.Read

variable (m : (ℓ : Loc nD τ sig) → Buf (Elt Ideal) ℓ) (c : Dev nD)

theorem agree (i : S10752x1024.Idx) : val_main_v8 (F := Ideal) (argH m c) (argD m c) (argDst m c) i = dwArr m c i := by
  obtain ⟨n, j, rfl⟩ : ∃ (n : Fin 10752) (j : Fin 1024), i = ix2 n j := ⟨i 0, i 1, eq_ix2 i⟩
  exact res_dw _ _ _ n j

/-- Kernel and reference leave the same array. -/
theorem algebraic : Cert.algebraic_Kernel4Ideal_Reference4Ideal := by
  intro m g m' g' _ hin
  refine ⟨fun c => dwArr m c, ?_, ?_⟩
  · refine (θ_run _ _ _).mono (fun r h c => ?_) (Cert.Kernel4Ideal.Value.run_blocks m g)
    obtain ⟨h0, hargs⟩ := h c
    exact ⟨h0.trans (final_gate m c), hargs⟩
  · refine (θ_run _ _ _).mono (fun r h c => ?_) (Cert.Reference4Ideal.Value.run m' g')
    obtain ⟨h0, hargs⟩ := h c
    obtain ⟨e0, e1, e2⟩ := hin c
    rw [val_main_v8_eq, e0, e1, e2] at h0
    exact ⟨h0.trans (funext fun i => agree m c i), hargs⟩

/-- The reference runs and leaves its arguments as they were. -/
theorem reference_frame : Cert.quiescent_Reference4Ideal := by
  intro m g _
  refine (θ_run _ _ _).mono (fun r h => ⟨fun c => ?_, sem_eq_zero_of_no_sems rfl _⟩) (Cert.Reference4Ideal.Value.run m g)
  obtain ⟨_, hargs⟩ := h c
  exact hargs

end Cert.DwIn4

end
-- ==== Proof.InRun.lean ====
/-
  The body of the forward projection at its three kinds of grid points: what it leaves in its three output blocks and in
  the scratch that holds the normalised rows.
-/
module

public import proofs.«01_k».proof.Proof.Gen.Kernel5Ideal.Frame
public import proofs.«01_k».proof.Proof.Gen.Kernel5Ideal.Skeleton
public import Idealize.ShloMosaic.Lib.Claim
public import Idealize.ShloMosaic.Lib.Pipeline.Value
public import Idealize.ShloMosaic.Lib.Pipeline.ValueKit
public import Idealize.ShloMosaic.Lib.Pointwise

@[expose] public section

set_option maxRecDepth 16384
set_option maxHeartbeats 1000000

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- The two halves of a block of the gates' columns. -/
def gatesBlk (h : Vec F S1024x1024 .bf16) (u v : Vec F S512x1024 .bf16) : Vec F S1024x1024 .bf16 :=
  View.canon [⟨Rect.unit (s := S1024x1024) ![0, 512] S1024x512.size inb_S1024x1024_S1024x512_0_512, k0_pay5 h v⟩,
    ⟨Rect.unit (s := S1024x1024) ![0, 0] S1024x512.size inb_S1024x1024_S1024x512_0_0, k0_pay4 h u⟩]

/-- A store of the whole buffer leaves what it stores. -/
theorem stored_whole {s : Shape} {e : EltTy} (v : View sig .tc .vmem s e) (f : v.ty.Contents (Elt F)) {off : Fin s.rank → ℕ}
    (h : off = fun _ => 0) (inb : ∀ a, off a + s.size a ≤ s.size a) (x : s.Idx → Elt F e) :
    v.read (Elt F) (v.writes (Elt F) f [⟨Rect.unit off s.size inb, x⟩]) = x := by
  rw [View.read_writes_eq_canon _ _ _ (fun y => ⟨_, List.mem_singleton.mpr rfl, ?_⟩), View.canon_cons_unit_zero h]
  subst h
  rw [Rect.mem_set_unit]
  intro a
  exact ⟨Nat.zero_le _, by rw [Nat.zero_add]; exact (y a).isLt⟩

section

variable (c : Dev nD) (i : grid0.Coords)
  (arg2 : Memref sig .tc .vmem S1024x1024 .f32) (harg2 : arg2.IsWhole) (arg3 : Memref sig .tc .vmem S1x1024 .f32) (harg3 : arg3.IsWhole)
  (arg4 : Memref sig .tc .vmem S1664x1024 .bf16) (harg4 : arg4.IsWhole) (arg5 : Memref sig .tc .vmem S512x1024 .bf16) (harg5 : arg5.IsWhole)
  (arg6 : Memref sig .tc .vmem S512x1024 .bf16) (harg6 : arg6.IsWhole) (arg7 : Memref sig .tc .vmem S1024x1664 .bf16) (harg7 : arg7.IsWhole)
  (arg8 : Memref sig .tc .vmem S1024x1024 .bf16) (harg8 : arg8.IsWhole) (arg9 : Memref sig .tc .vmem S1024x1024 .bf16) (harg9 : arg9.IsWhole)
  (arg10 : Memref sig .tc .vmem S1024x1024 .bf16) (harg10 : arg10.IsWhole)
  (x : Vec F S1024x1024 .f32) (g : Vec F S1x1024 .f32) (w : Vec F S1664x1024 .bf16) (u v : Vec F S512x1024 .bf16) (h : Vec F S1024x1024 .bf16)

include harg7 harg9 harg10 in
/-- The first point of a block of rows: the rows are normalised, kept and put out, and multiplied by the first columns. -/
theorem body_norm (h1 : k0_cond1 i = 1#1) (h2 : k0_cond2 i = 1#1) (h3 : ¬k0_cond3 i = 1#1) (E : Set ℕ) (K : PUnit → sProp 𝕄) :
    iprop(owns (c : Thread nD τ) arg2 fullShare x ∗ owns (c : Thread nD τ) arg3 fullShare g ∗ owns (c : Thread nD τ) arg4 fullShare w
        ∗ (∃ d, owns (c : Thread nD τ) arg7 fullShare d) ∗ (∃ d, owns (c : Thread nD τ) arg9 fullShare d) ∗ (∃ d, owns (c : Thread nD τ) arg10 fullShare d)
        ∗ (iprop(owns (c : Thread nD τ) arg2 fullShare x ∗ owns (c : Thread nD τ) arg3 fullShare g ∗ owns (c : Thread nD τ) arg4 fullShare w
            ∗ owns (c : Thread nD τ) arg7 fullShare (k0_pay3 (k0_pay2 x g) w) ∗ owns (c : Thread nD τ) arg9 fullShare (k0_pay1 x g)
            ∗ owns (c : Thread nD τ) arg10 fullShare (k0_pay2 x g)) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f2, %e2, H2⟩, ⟨%f3, %e3, H3⟩, ⟨%f4, %e4, H4⟩, ⟨%d7, %f7, -, H7⟩, ⟨%d9, %f9, -, H9⟩, ⟨%d10, %f10, -, H10⟩, Hk⟩
  obtain rfl := harg2.eq_unread e2; obtain rfl := harg3.eq_unread e3; obtain rfl := harg4.eq_unread e4
  sl_exec (disch := first | sl_exact h1 | sl_exact h2 | sl_exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H7]
  · iexists _; isplitr; swap; · iexact H7
    ipureintro
    sl_unfold_words
    refine (stored_whole _ _ (by decide) _ _).trans ?_
    rw [View.readCov_unit_lit _ _ _ (by decide)]
    simp only [View.readAt_eq_ld, harg2.read_unread, harg3.read_unread, harg4.read_unread]
    rw [View.ld_unit_lit _ _ (by decide), View.ld_unit_lit _ _ (by decide), View.ld_unit_lit _ _ (by decide)]
  isplitl [H9]
  · iexists _; isplitr; swap; · iexact H9
    ipureintro
    sl_unfold_words
    refine (stored_whole _ _ (by decide) _ _).trans ?_
    simp only [View.readAt_eq_ld, harg2.read_unread, harg3.read_unread, harg4.read_unread]
    rw [View.ld_unit_lit _ _ (by decide), View.ld_unit_lit _ _ (by decide)]
  · iexists _; isplitr; swap; · iexact H10
    ipureintro
    sl_unfold_words
    refine (stored_whole _ _ (by decide) _ _).trans ?_
    simp only [View.readAt_eq_ld, harg2.read_unread, harg3.read_unread, harg4.read_unread]
    rw [View.ld_unit_lit _ _ (by decide), View.ld_unit_lit _ _ (by decide)]

include harg7 harg10 in
/-- The other points of the branches' columns: the kept rows are multiplied by the next columns. -/
theorem body_branches (h1 : ¬k0_cond1 i = 1#1) (h2 : k0_cond2 i = 1#1) (h3 : ¬k0_cond3 i = 1#1) (E : Set ℕ) (K : PUnit → sProp 𝕄) :
    iprop(owns (c : Thread nD τ) arg4 fullShare w ∗ (∃ d, owns (c : Thread nD τ) arg7 fullShare d) ∗ owns (c : Thread nD τ) arg10 fullShare h
        ∗ (iprop(owns (c : Thread nD τ) arg4 fullShare w ∗ owns (c : Thread nD τ) arg7 fullShare (k0_pay3 h w)
            ∗ owns (c : Thread nD τ) arg10 fullShare h) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f4, %e4, H4⟩, ⟨%d7, %f7, -, H7⟩, ⟨%f10, %e10, H10⟩, Hk⟩
  obtain rfl := harg4.eq_unread e4; obtain rfl := harg10.eq_unread e10
  sl_exec (disch := first | sl_exact h1 | sl_exact h2 | sl_exact h3)
  sl_step
  iapply Hk
  isplitl [H4]
  · iexists _; isplitr; · ipureintro; exact harg4.read_unread _
    iexact H4
  isplitl [H7]
  · iexists _; isplitr; swap; · iexact H7
    ipureintro
    sl_unfold_words
    refine (stored_whole _ _ (by decide) _ _).trans ?_
    simp only [View.readAt_eq_ld, harg4.read_unread, harg10.read_unread]
    rw [View.ld_unit_lit _ _ (by decide), View.ld_unit_lit _ _ (by decide)]
  · iexists _; isplitr; · ipureintro; exact harg10.read_unread _
    iexact H10

include harg8 harg10 in
/-- The points of the gates' columns: the kept rows are multiplied by two halves of the next columns. -/
theorem body_gates (h1 : ¬k0_cond1 i = 1#1) (h2 : ¬k0_cond2 i = 1#1) (h3 : k0_cond3 i = 1#1) (E : Set ℕ) (K : PUnit → sProp 𝕄) :
    iprop(owns (c : Thread nD τ) arg5 fullShare u ∗ owns (c : Thread nD τ) arg6 fullShare v ∗ (∃ d, owns (c : Thread nD τ) arg8 fullShare d)
        ∗ owns (c : Thread nD τ) arg10 fullShare h
        ∗ (iprop(owns (c : Thread nD τ) arg5 fullShare u ∗ owns (c : Thread nD τ) arg6 fullShare v
            ∗ owns (c : Thread nD τ) arg8 fullShare (gatesBlk h u v) ∗ owns (c : Thread nD τ) arg10 fullShare h) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f5, %e5, H5⟩, ⟨%f6, %e6, H6⟩, ⟨%d8, %f8, -, H8⟩, ⟨%f10, %e10, H10⟩, Hk⟩
  obtain rfl := harg5.eq_unread e5; obtain rfl := harg6.eq_unread e6; obtain rfl := harg10.eq_unread e10
  sl_exec (disch := first | sl_exact h1 | sl_exact h2 | sl_exact h3)
  sl_step
  iapply Hk
  isplitl [H5]
  · iexists _; isplitr; · ipureintro; exact harg5.read_unread _
    iexact H5
  isplitl [H6]
  · iexists _; isplitr; · ipureintro; exact harg6.read_unread _
    iexact H6
  isplitl [H8]
  · iexists _; isplitr; swap; · iexact H8
    ipureintro
    sl_unfold_words
    simp only [View.readAt_eq_ld, harg5.read_unread, harg6.read_unread, harg10.read_unread]
    rw [View.ld_unit_lit _ _ (by decide), View.ld_unit_lit _ _ (by decide), View.ld_unit_lit _ _ (by decide)]
    refine (View.read_writes_eq_canon _ _ _ ?_).trans rfl
    exact View.cover_of_tiledL _ S1024x512.size (by sl_kernel_rfl)
  · iexists _; isplitr; · ipureintro; exact harg10.read_unread _
    iexact H10

end

end Cert.Kernel5Ideal.Gen

end
-- ==== Proof.InFrame.lean ====
/-
  The forward projection as a whole: at each point of its grid the body leaves in its output blocks and in the kept rows
  what the contents below state, so the launch runs to an end with every array at what they give. The run is stated over
  any float values, so it serves the kernel with its machine operations and its ideal form alike.
-/
module

public import proofs.«01_k».proof.Proof.InRun
public import proofs.«01_k».proof.Proof.Gen.Kernel5Ideal.Launch
public import proofs.«01_k».proof.Proof.Gen.Kernel5Ideal.Points
public import Idealize.ShloMosaic.Lib.Pipeline.FrameBody
public import Idealize.ShloMosaic.Lib.Pipeline.TableIdle

@[expose] public section

set_option maxRecDepth 16384
set_option maxHeartbeats 1000000

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points do what -/

theorem when_norm : ∀ t : Fin cfg0.N, k0_cond1 (grid0.coords t) = 1#1 ↔ t.val % 8 = 0 := by decide +kernel
theorem when_branches : ∀ t : Fin cfg0.N, k0_cond2 (grid0.coords t) = 1#1 ↔ t.val % 8 < 4 := by decide +kernel
theorem when_gates : ∀ t : Fin cfg0.N, k0_cond3 (grid0.coords t) = 1#1 ↔ 4 ≤ t.val % 8 := by decide +kernel

theorem rests_proj : ∀ t : Fin cfg0.N, cfg0.idle 5 (grid0.coords t) = decide (4 ≤ t.val % 8) := by decide +kernel
theorem rests_gates : ∀ t : Fin cfg0.N, cfg0.idle 6 (grid0.coords t) = decide (t.val % 8 < 4) := by decide +kernel
theorem rests_norm : ∀ t : Fin cfg0.N, cfg0.idle 7 (grid0.coords t) = decide (t.val % 8 ≠ 0) := by decide +kernel

theorem flush_proj : ∀ t : Fin cfg0.N, (cfg0.win 5).flush t = decide (t.val % 8 < 3 ∨ t.val % 8 = 7) := by decide +kernel
theorem flush_gates : ∀ t : Fin cfg0.N, (cfg0.win 6).flush t = decide (4 ≤ t.val % 8) := by decide +kernel
theorem flush_norm : ∀ t : Fin cfg0.N, (cfg0.win 7).flush t = decide (t.val % 8 = 7) := by decide +kernel

theorem kept_proj : ∀ t : Fin cfg0.N, 4 ≤ t.val % 8 → cfg0.fresh 5 t.val = false := by decide +kernel
theorem kept_norm : ∀ t : Fin cfg0.N, t.val % 8 ≠ 0 → cfg0.fresh 7 t.val = false := by decide +kernel

/-! ## The contents at each point -/

/-- The first point of the point's block of rows. -/
def rowStart (t : Fin cfg0.N) : Fin cfg0.N := ⟨8 * (t.val / 8), by have := t.isLt; omega⟩

/-- The point that last wrote the columns of the branches. -/
def colLast (t : Fin cfg0.N) : Fin cfg0.N :=
  ⟨8 * (t.val / 8) + min (t.val % 8) 3, by have := t.isLt; have hN : cfg0.N = 32 := N_0; omega⟩

/-- The normalised rows kept through the points of a block of rows. -/
def rowsAt (c : Dev nD) (t : Fin cfg0.N) : Vec F S1024x1024 .bf16 := k0_pay2 (iblk m c 0 (rowStart t)) (iblk m c 1 (rowStart t))

/-- The same rows as they are put out. -/
def normAt (c : Dev nD) (t : Fin cfg0.N) : Vec F S1024x1024 .bf16 := k0_pay1 (iblk m c 0 (rowStart t)) (iblk m c 1 (rowStart t))

/-- The block of the branches' columns. -/
def projAt (c : Dev nD) (t : Fin cfg0.N) : Vec F S1024x1664 .bf16 := k0_pay3 (rowsAt m c t) (X0_2 m c (colLast t))

/-- The block of the gates' columns. -/
def gatesAt (c : Dev nD) (t : Fin cfg0.N) : Vec F S1024x1024 .bf16 := gatesBlk (rowsAt m c t) (iblk m c 3 t) (iblk m c 4 t)

theorem rowStart_prev (t : Fin cfg0.N) (h : t.val % 8 ≠ 0) : rowStart ⟨t.val - 1, by omega⟩ = rowStart t := by
  apply Fin.ext; simp only [rowStart]; omega

theorem colLast_prev (t : Fin cfg0.N) (h : 4 ≤ t.val % 8) : colLast ⟨t.val - 1, by omega⟩ = colLast t := by
  apply Fin.ext; simp only [colLast]; omega

theorem rowStart_self (t : Fin cfg0.N) (h : t.val % 8 = 0) : rowStart t = t := by
  apply Fin.ext; simp only [rowStart]; omega

theorem colLast_self (t : Fin cfg0.N) (h : t.val % 8 < 4) : colLast t = t := by
  apply Fin.ext; simp only [colLast]; omega

theorem rowsAt_prev (c : Dev nD) (t : Fin cfg0.N) (h : t.val % 8 ≠ 0) : rowsAt m c ⟨t.val - 1, by omega⟩ = rowsAt m c t := by
  unfold rowsAt; rw [rowStart_prev t h]

/-! ## What passes from point to point -/

/-- The kept rows' buffer. -/
abbrev rowsBuf : Memref sig .tc .vmem S1024x1024 .bf16 := Memref.whole cc0_scratch0

/-- Between points the kept rows are those of the point before; before the first point they are anything. -/
def carry (c : Dev nD) : (n : ℕ) → n ≤ cfg0.N → sProp 𝕄
  | 0, _ => Pipeline.ΦA spec0 c
  | n + 1, h => iprop(owns (c : Thread nD τ) rowsBuf fullShare (rowsAt m c ⟨n, h⟩) ∗ (∃ r, prngReg c r))

theorem carry_any (c : Dev nD) : (Pipeline.ΦA spec0 c : sProp 𝕄)
    = iprop((∃ d, owns (c : Thread nD τ) rowsBuf fullShare d) ∗ (∃ r, prngReg c r)) := by
  unfold Pipeline.ΦA; rw [scopedRest0_eq]; simp only [rowsBuf, owns_whole]; try rfl

theorem carry_forget (c : Dev nD) (n : ℕ) (h : n ≤ cfg0.N) : carry m c n h
    ⊢ iprop((∃ d, owns (c : Thread nD τ) rowsBuf fullShare d) ∗ (∃ r, prngReg c r)) := by
  cases n with
  | zero => exact (carry_any (F := F) c) ▸ Idealize.SL.BI.Entails.refl _
  | succ n =>
    unfold carry
    iintro ⟨H, Hg⟩
    isplitl [H]
    · iexists _; iexact H
    iexact Hg

theorem carry_inside (c : Dev nD) (t : Fin cfg0.N) (h : t.val % 8 ≠ 0) : carry m c t.val (Nat.le_of_lt t.isLt)
    = iprop(owns (c : Thread nD τ) rowsBuf fullShare (rowsAt m c t) ∗ (∃ r, prngReg c r)) := by
  rw [← rowsAt_prev m c t h]
  obtain ⟨n, hn⟩ := t
  cases n with
  | zero => exact absurd rfl h
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => projAt m c t
    | ⟨6, _⟩ => gatesAt m c t
    | ⟨7, _⟩ => normAt m c t
  Φ t := carry m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem left_x (c : Dev nD) (t : Fin cfg0.N) : (dats m 0 c).after 0 t = iblk m c 0 t := by dsimp only [dats]
theorem left_g (c : Dev nD) (t : Fin cfg0.N) : (dats m 0 c).after 1 t = iblk m c 1 t := by dsimp only [dats]
theorem left_w (c : Dev nD) (t : Fin cfg0.N) : (dats m 0 c).after 2 t = X0_2 m c t := by dsimp only [dats]
theorem left_u (c : Dev nD) (t : Fin cfg0.N) : (dats m 0 c).after 3 t = iblk m c 3 t := by dsimp only [dats]
theorem left_v (c : Dev nD) (t : Fin cfg0.N) : (dats m 0 c).after 4 t = iblk m c 4 t := by dsimp only [dats]
theorem left_proj (c : Dev nD) (t : Fin cfg0.N) : (dats m 0 c).after 5 t = projAt m c t := by dsimp only [dats]
theorem left_gates (c : Dev nD) (t : Fin cfg0.N) : (dats m 0 c).after 6 t = gatesAt m c t := by dsimp only [dats]
theorem left_norm (c : Dev nD) (t : Fin cfg0.N) : (dats m 0 c).after 7 t = normAt m c t := by dsimp only [dats]

theorem finds_x (c : Dev nD) (t : Fin cfg0.N) (d) : (dats m 0 c).before 0 t d = iblk m c 0 t :=
  before0_0_of m (dats m 0 c) (A_eq m c 0) (left_x m c) t d
theorem finds_g (c : Dev nD) (t : Fin cfg0.N) (d) : (dats m 0 c).before 1 t d = iblk m c 1 t :=
  before0_1_of m (dats m 0 c) (A_eq m c 1) (left_g m c) t d
theorem finds_w (c : Dev nD) (t : Fin cfg0.N) (d) : (dats m 0 c).before 2 t d = X0_2 m c t :=
  before0_2_of m (dats m 0 c) (A_eq m c 2) (left_w m c) t d
theorem finds_u (c : Dev nD) (t : Fin cfg0.N) (d) : (dats m 0 c).before 3 t d = iblk m c 3 t :=
  before0_3_of m (dats m 0 c) (A_eq m c 3) (left_u m c) t d
theorem finds_v (c : Dev nD) (t : Fin cfg0.N) (d) : (dats m 0 c).before 4 t d = iblk m c 4 t :=
  before0_4_of m (dats m 0 c) (A_eq m c 4) (left_v m c) t d

/-- Through the points of the gates the branches' block stays as last written. -/
theorem proj_stays (c : Dev nD) (t : Fin cfg0.N) (h : 4 ≤ t.val % 8) :
    (dats m 0 c).after 5 t = (dats m 0 c).after 5 ⟨t.val - 1, by omega⟩ := by
  rw [left_proj, left_proj]; unfold projAt
  rw [rowsAt_prev m c t (by omega), colLast_prev t h]

/-- Through a block of rows the normalised rows stay as written at its first point. -/
theorem norm_stays (c : Dev nD) (t : Fin cfg0.N) (h : t.val % 8 ≠ 0) :
    (dats m 0 c).after 7 t = (dats m 0 c).after 7 ⟨t.val - 1, by omega⟩ := by
  rw [left_norm, left_norm]; unfold normAt
  rw [rowStart_prev t h]

theorem finds_proj (c : Dev nD) (t : Fin cfg0.N) (h : 4 ≤ t.val % 8) (d) : (dats m 0 c).before 5 t d = (dats m 0 c).after 5 t := by
  rw [Dat.before_out_traj _ 5 rfl (fun _ _ => rfl) (fun t _ hi _ => proj_stays m c t (of_decide_eq_true ((rests_proj t).symm.trans hi)))
    t.val t rfl d, if_neg (by rw [kept_proj t h]; exact Bool.false_ne_true), ← proj_stays m c t h]

theorem finds_norm (c : Dev nD) (t : Fin cfg0.N) (h : t.val % 8 ≠ 0) (d) : (dats m 0 c).before 7 t d = (dats m 0 c).after 7 t := by
  rw [Dat.before_out_traj _ 7 rfl (fun _ _ => rfl) (fun t _ hi _ => norm_stays m c t (of_decide_eq_true ((rests_norm t).symm.trans hi)))
    t.val t rfl d, if_neg (by rw [kept_norm t h]; exact Bool.false_ne_true), ← norm_stays m c t h]

/-! ## What each point must leave in the windows it does not write -/

theorem leaves_written (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem leaves_proj (c : Dev nD) (t : Fin cfg0.N) (h : 4 ≤ t.val % 8) :
    iprop(∃ d, owns (c : Thread nD τ) (st0_5 t) fullShare ((dats m 0 c).before 5 t d)) ⊢ (dats m 0 c).leavesExact 5 t := by
  have hi : cfg0.idle 5 (grid0.coords t) = true := (rests_proj t).trans (decide_eq_true h)
  unfold Dat.leavesExact; rw [hi]
  cases hf : (cfg0.win 5).flush t with
  | false => exact Idealize.SL.BI.Entails.refl _
  | true =>
    iintro ⟨%d, H⟩
    rw [finds_proj m c t h d]
    iexact H

theorem leaves_norm (c : Dev nD) (t : Fin cfg0.N) (h : t.val % 8 ≠ 0) :
    iprop(∃ d, owns (c : Thread nD τ) (st0_7 t) fullShare ((dats m 0 c).before 7 t d)) ⊢ (dats m 0 c).leavesExact 7 t := by
  have hi : cfg0.idle 7 (grid0.coords t) = true := (rests_norm t).trans (decide_eq_true h)
  unfold Dat.leavesExact; rw [hi]
  cases hf : (cfg0.win 7).flush t with
  | false => exact Idealize.SL.BI.Entails.refl _
  | true =>
    iintro ⟨%d, H⟩
    rw [finds_norm m c t h d]
    iexact H

theorem leaves_gates (c : Dev nD) (t : Fin cfg0.N) (h : t.val % 8 < 4) :
    iprop(∃ d, owns (c : Thread nD τ) (st0_6 t) fullShare ((dats m 0 c).before 6 t d)) ⊢ (dats m 0 c).leavesExact 6 t := by
  have hi : cfg0.idle 6 (grid0.coords t) = true := (rests_gates t).trans (decide_eq_true h)
  have hf : (cfg0.win 6).flush t = false := (flush_gates t).trans (decide_eq_false (by omega))
  rw [Dat.leavesExact_idle _ 6 t hi hf]

/-! ## The body at every point -/

/-- What the body is handed at a point, -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it gives back. -/
def returned (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

theorem carry_before (c : Dev nD) (t : Fin cfg0.N) : (dats m 0 c).Φ t.castSucc = carry m c t.val (Nat.le_of_lt t.isLt) := by
  dsimp only [dats]; exact Dat.Φ_castSucc (carry m c) t

theorem carry_after (c : Dev nD) (t : Fin cfg0.N) : (dats m 0 c).Φ t.succ
    = iprop(owns (c : Thread nD τ) rowsBuf fullShare (rowsAt m c t) ∗ (∃ r, prngReg c r)) := rfl

theorem body_at (c : Dev nD) (t : Fin cfg0.N) :
    given m c t ⊢ wp frame (wpE (defs₀ (F := F)) Variants.none c none) Set.univ (bodyAt0 t) (fun _ => returned m c t) := by
  unfold given returned bodyAt0
  simp only [finds_x, finds_g, finds_w, finds_u, finds_v]
  rw [show (dats m 0 c).owesAt () t.succ = (dats m 0 c).owesAt () t.castSucc from rfl, carry_before, carry_after,
    leaves_written m c 0 t rfl, leaves_written m c 1 t rfl, leaves_written m c 2 t rfl, leaves_written m c 3 t rfl,
    leaves_written m c 4 t rfl, left_x, left_g, left_w, left_u, left_v]
  by_cases h0 : t.val % 8 = 0
  · rw [leaves_written m c 5 t ((rests_proj t).trans (decide_eq_false (by omega))),
      leaves_written m c 7 t ((rests_norm t).trans (decide_eq_false (by omega))), left_proj, left_norm]
    unfold projAt normAt rowsAt
    rw [rowStart_self t h0, colLast_self t (by omega)]
    iintro ⟨HC, Ho, ⟨%d0, H0⟩, ⟨%d1, H1⟩, ⟨%d2, H2⟩, ⟨%d3, H3⟩, ⟨%d4, H4⟩, ⟨%d5, H5⟩, H6, ⟨%d7, H7⟩⟩
    ihave HC' := (carry_forget m c t.val (Nat.le_of_lt t.isLt)) $$ HC
    icases HC' with ⟨HS, Hg⟩
    iapply (body_norm c (grid0.coords t) _ _ _ _ _ _ _ _ _ _ _ _ _ _ _ _ _ _ (iblk m c 0 t) (iblk m c 1 t) (X0_2 m c t)
      ((when_norm t).mpr h0) ((when_branches t).mpr (by omega)) (fun h => absurd ((when_gates t).mp h) (by omega)) _ _)
    isplitl [H0]; · iexact H0
    isplitl [H1]; · iexact H1
    isplitl [H2]; · iexact H2
    isplitl [H5]; · iexists _; iexact H5
    isplitl [H7]; · iexists _; iexact H7
    isplitl [HS]; · iexact HS
    iintro ⟨H0, H1, H2, H5, H7, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves_gates m c t (by omega)); iexact H6
    iexact H7
  · rw [carry_inside m c t h0]
    by_cases h4 : t.val % 8 < 4
    · rw [leaves_written m c 5 t ((rests_proj t).trans (decide_eq_false (by omega))), left_proj]
      unfold projAt
      rw [colLast_self t h4]
      iintro ⟨⟨HS, Hg⟩, Ho, ⟨%d0, H0⟩, ⟨%d1, H1⟩, ⟨%d2, H2⟩, ⟨%d3, H3⟩, ⟨%d4, H4⟩, ⟨%d5, H5⟩, H6, H7⟩
      iapply (body_branches c (grid0.coords t) _ _ _ _ _ _ _ _ _ _ _ _ _ _ _ _ _ _ (X0_2 m c t) (rowsAt m c t)
        (fun h => h0 ((when_norm t).mp h)) ((when_branches t).mpr h4) (fun h => absurd ((when_gates t).mp h) (by omega)) _ _)
      isplitl [H2]; · iexact H2
      isplitl [H5]; · iexists _; iexact H5
      isplitl [HS]; · iexact HS
      iintro ⟨H2, H5, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iapply (leaves_gates m c t h4); iexact H6
      iapply (leaves_norm m c t h0); iexact H7
    · rw [leaves_written m c 6 t ((rests_gates t).trans (decide_eq_false (by omega))), left_gates]
      unfold gatesAt
      iintro ⟨⟨HS, Hg⟩, Ho, ⟨%d0, H0⟩, ⟨%d1, H1⟩, ⟨%d2, H2⟩, ⟨%d3, H3⟩, ⟨%d4, H4⟩, H5, ⟨%d6, H6⟩, H7⟩
      iapply (body_gates c (grid0.coords t) _ _ _ _ _ _ _ _ _ _ _ _ _ _ _ _ _ _ (iblk m c 3 t) (iblk m c 4 t) (rowsAt m c t)
        (fun h => h0 ((when_norm t).mp h)) (fun h => h4 ((when_branches t).mp h)) ((when_gates t).mpr (by omega)) _ _)
      isplitl [H3]; · iexact H3
      isplitl [H4]; · iexact H4
      isplitl [H6]; · iexists _; iexact H6
      isplitl [HS]; · iexact HS
      iintro ⟨H3, H4, H6, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iapply (leaves_proj m c t (by omega)); iexact H5
      isplitl [H6]; · iexact H6
      iapply (leaves_norm m c t h0); iexact H7

theorem body_row (t : Fin cfg0.N) : defs₀ (F := F) .tc cfg0.body (cfg0.bodyArgs t (cfg0.slots t)) = bodyAt0 t := by
  unfold defs₀; rw [Defs.onTc_tc]

theorem body_everywhere (c : Dev nD) : BodyObligation (dats (F := F) m 0 c) (defs₀ (F := F)) Variants.none () Set.univ := fun t => by
  rw [bigSep_W0, bigSep_W0, body_row]
  exact triple_restated (body_at m c t) rfl .rfl fun _ => .rfl

/-! ## The run and the frame -/

theorem enters (c : Dev nD) : Pipeline.ΦA spec0 c ⊢ (dats m 0 c).Φ 0 := by
  rw [show (dats m 0 c).Φ 0 = (Pipeline.ΦA spec0 c : sProp 𝕄) from rfl]

theorem leaves (c : Dev nD) : (dats m 0 c).Φ (Fin.last cfg0.N) ⊢ Pipeline.ΦA spec0 c := by
  rw [carry_any, show (dats m 0 c).Φ (Fin.last cfg0.N) = carry m c cfg0.N (Nat.le_refl _) from rfl]
  exact carry_forget m c _ _

set_option backward.isDefEq.respectTransparency.types false in
/-- The launch ends with every array at what the contents above give, and every counter at zero. -/
theorem launch_ends : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_everywhere m c).loose) (hq := fun _ _ _ => rfl)
    (howed := fun _ _ => rfl) (V := V m) (hmain := hmain m Variants.none) (hA := A_eq m) (hin := enters m) (hout := leaves m)

theorem run_main : θ_run defs (onTc (τ := τ) (main (F := F))) (s₀ m ρ) (Pipeline.FramePost cfgs (dats m) 0 (V m)) :=
  (θ_run defs _ _).mono (fun _ h => h.1) (launch_ends m ρ)

/-- The launch ends with its arguments unchanged and every counter at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (launch_ends m ρ))

end Cert.Kernel5Ideal.Gen

end
-- ==== Proof.InSpec.lean ====
/-
  The start of a layer, forwards, as plain sums over the extended reals: what the kernel's three results and the reference's
  three results are both shown to hold.
-/
module

public import proofs.«01_k».proof.Proof.DhSpec

@[expose] public section

noncomputable section

namespace Cert.InProj

open Idealize.ShloMosaic
open scoped BigOperators

/-- The normalised rows: each entry times its row's reciprocal root mean square and the gain. -/
def norm (x : Fin 4096 → Fin 1024 → EReal) (g : Fin 1024 → EReal) (R : Fin 4096) (k : Fin 1024) : EReal :=
  x R k * Cert.DhBwd.rinv (x R) * g k

/-- The combined projection of the normalised rows. -/
def proj (x : Fin 4096 → Fin 1024 → EReal) (g : Fin 1024 → EReal) (w : Fin 1024 → Fin 10752 → EReal) (R : Fin 4096)
    (n : Fin 10752) : EReal :=
  ∑ k, norm x g R k * w k n

end Cert.InProj

end
-- ==== Proof.InHost.lean ====
/-
  The forward projection's arithmetic read at one place, the arrays that the host code prepares for it, and the blocks that
  its grid points read of them.
-/
module

public import proofs.«01_k».proof.Proof.Gen.Kernel5Ideal.Frame
public import proofs.«01_k».proof.Proof.Gen.Kernel5Ideal.Skeleton
public import Idealize.ShloMosaic.Lib.ValueIdx
public import Idealize.ShloMosaic.Lib.Pointwise
public import Idealize.ShloMosaic.Lib.Pipeline.Value
public import Idealize.ShloMosaic.Lib.Pipeline.ValueKit
public import Idealize.ShloMosaic.Lib.Claim
public import Idealize.ShloMosaic.Lib.StableHlo.ReadAt
public import Idealize.ShloMosaic.Lib.Pipeline.ValueKit.Point
public import proofs.«01_k».proof.Proof.InSpec

@[expose] public section

set_option maxRecDepth 16384
set_option maxHeartbeats 400000

noncomputable section

namespace Cert.Kernel5Ideal.Gen

open Idealize.ShloMosaic Idealize.ShloMosaic.TcCoe Idealize.ShloMosaic.Tactic
open Cert.Kernel5Ideal
open Cert.InProj
open Cert.DhBwd (rinv ms)

/-! ## The body's arithmetic -/

/-- A row, normalised. -/
theorem norm_apply {x : Vec Ideal S1024x1024 .f32} {g : Vec Ideal S1x1024 .f32} {r : Fin 1024} {f γ : Fin 1024 → EReal}
    (hx : ∀ k, x (ix2 r k) = f k) (hg : ∀ k, g (ix2 0 k) = γ k) (k : Fin 1024) : k0_pay1 x g (ix2 r k) = f k * rinv f * γ k := by
  unfold k0_pay1
  simp only [pointwise, shapeCast_self, zero_add, hx]
  show f k * Ideal.rsqrt (Ideal.div (∑ j, x (ix2 r j) * x (ix2 r j)) (Ideal.ofBits .f32 0x44800000#32)
    + Ideal.ofBits .f32 0x358637BD#32) * g (ix2 0 k) = _
  simp only [hx, hg]
  rfl

/-- The same as it is kept. -/
theorem kept_apply {x : Vec Ideal S1024x1024 .f32} {g : Vec Ideal S1x1024 .f32} {r : Fin 1024} {f γ : Fin 1024 → EReal}
    (hx : ∀ k, x (ix2 r k) = f k) (hg : ∀ k, g (ix2 0 k) = γ k) (k : Fin 1024) : k0_pay2 x g (ix2 r k) = f k * rinv f * γ k := by
  unfold k0_pay2
  simp only [shapeCast_self]
  exact norm_apply hx hg k

/-- A row times a column of the branches. -/
theorem branch_apply {h : Vec Ideal S1024x1024 .bf16} {w : Vec Ideal S1664x1024 .bf16} {r : Fin 1024} {q : Fin 1664}
    {H W : Fin 1024 → EReal} (hh : ∀ k, h (ix2 r k) = H k) (hw : ∀ k, w (ix2 q k) = W k) :
    k0_pay3 h w (ix2 r q) = ∑ k, H k * W k := by
  unfold k0_pay3
  simp only [pointwise, shapeCast_self, zero_add, hh, hw]

/-- A row times a column of the gates, in the left half of a block -/
theorem gate_left_apply {h : Vec Ideal S1024x1024 .bf16} {w : Vec Ideal S512x1024 .bf16} {r : Fin 1024} {q : Fin 512}
    {H W : Fin 1024 → EReal} (hh : ∀ k, h (ix2 r k) = H k) (hw : ∀ k, w (ix2 q k) = W k) :
    k0_pay4 h w (ix2 r q) = ∑ k, H k * W k := by
  unfold k0_pay4
  simp only [pointwise, shapeCast_self, zero_add, hh, hw]

/-- and in the right half. -/
theorem gate_right_apply {h : Vec Ideal S1024x1024 .bf16} {w : Vec Ideal S512x1024 .bf16} {r : Fin 1024} {q : Fin 512}
    {H W : Fin 1024 → EReal} (hh : ∀ k, h (ix2 r k) = H k) (hw : ∀ k, w (ix2 q k) = W k) :
    k0_pay5 h w (ix2 r q) = ∑ k, H k * W k := by
  unfold k0_pay5
  simp only [pointwise, shapeCast_self, zero_add, hh, hw]

/-! ## The data, as the program's arguments hold it -/

variable (m : (ℓ : Loc nD τ sig) → Buf (Elt Ideal) ℓ) (c : Dev nD)

abbrev argX : S4096x1024.Idx → EReal := m ((c : Thread nD τ).loc main_arg0)
abbrev argG : S1024.Idx → EReal := m ((c : Thread nD τ).loc main_arg1)
abbrev argW : S1024x10752.Idx → EReal := m ((c : Thread nD τ).loc main_arg2)

/-- The residual stream, -/
def strm (R : Fin 4096) (k : Fin 1024) : EReal := argX m c (ix2 R k)

/-- the gain, -/
def gn (k : Fin 1024) : EReal := argG m c (ix1 k)

/-- and the projection's weight. -/
def wgt (k : Fin 1024) (n : Fin 10752) : EReal := argW m c (ix2 k n)

/-! ## What the host hands the kernel -/

theorem host_x : V m c main_arg0 = argX m c := by
  unfold V
  after_reads_at

theorem host_gain (k : Fin 1024) : V m c main_v0 (ix2 0 k : S1x1024.Idx) = gn m c k := by
  unfold V
  after_reads_at
  refine congrArg (argG m c) ?_
  funext a; apply Fin.ext
  match a with
  | ⟨0, _⟩ => show k.val = k.val; rfl

theorem host_weight (n : Fin 10752) (k : Fin 1024) : V m c main_v2 (ix2 n k : S10752x1024.Idx) = wgt m c k n := by
  unfold V
  after_reads_at
  refine congrArg (argW m c) ?_
  funext a; apply Fin.ext
  match a with
  | ⟨0, _⟩ => rfl
  | ⟨1, _⟩ => rfl

/-! ## The blocks that grid point `t` reads -/

theorem idx_x : ∀ t : Fin cfg0.N, win0_0.index t (0 : Fin 2) = t.val / 8 ∧ win0_0.index t (1 : Fin 2) = 0 := by
  decide +kernel

theorem idx_g : ∀ t : Fin cfg0.N, win0_1.index t (0 : Fin 2) = 0 ∧ win0_1.index t (1 : Fin 2) = 0 := by
  decide +kernel

theorem idx_w : ∀ t : Fin cfg0.N, win0_2.index t (0 : Fin 2) = min (t.val % 8) 3 ∧ win0_2.index t (1 : Fin 2) = 0 := by
  decide +kernel

theorem idx_u : ∀ t : Fin cfg0.N, win0_3.index t (0 : Fin 2) = 13 + 2 * (t.val % 8 - 4) ∧ win0_3.index t (1 : Fin 2) = 0 := by
  decide +kernel

theorem idx_v : ∀ t : Fin cfg0.N, win0_4.index t (0 : Fin 2) = 14 + 2 * (t.val % 8 - 4) ∧ win0_4.index t (1 : Fin 2) = 0 := by
  decide +kernel

theorem block_x (t : Fin cfg0.N) (r : Fin 1024) (k : Fin 1024) (R : Fin 4096) (hR : R.val = 1024 * (t.val / 8) + r.val) :
    iblk m c 0 t (ix2 r k : S1024x1024.Idx) = strm m c R k := by
  obtain ⟨e0, e1⟩ := idx_x t
  unfold iblk
  rw [View.read_apply]
  show V m c main_arg0 (((cfg0.win 0).blk t).view.emb (ix2 r k : S1024x1024.Idx)) = _
  rw [host_x]
  refine congrArg (argX m c) ?_
  funext a; apply Fin.ext
  match a with
  | ⟨0, _⟩ => show win0_0.index t (0 : Fin 2) * 1024 + 1 * r.val = R.val; omega
  | ⟨1, _⟩ => show win0_0.index t (1 : Fin 2) * 1024 + 1 * k.val = k.val; omega

theorem block_g (t : Fin cfg0.N) (k : Fin 1024) : iblk m c 1 t (ix2 0 k : S1x1024.Idx) = gn m c k := by
  obtain ⟨e0, e1⟩ := idx_g t
  unfold iblk
  rw [View.read_apply]
  show V m c main_v0 (((cfg0.win 1).blk t).view.emb (ix2 0 k : S1x1024.Idx)) = _
  refine Eq.trans ?_ (host_gain m c k)
  refine congrArg (V m c main_v0) ?_
  funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem block_w (t : Fin cfg0.N) (q : Fin 1664) (k : Fin 1024) (n : Fin 10752) (hn : n.val = 1664 * min (t.val % 8) 3 + q.val) :
    X0_2 m c t (ix2 q k : S1664x1024.Idx) = wgt m c k n := by
  obtain ⟨e0, e1⟩ := idx_w t
  unfold X0_2 Pipeline.Window.fill
  rw [dif_pos (moved0_2 t _)]
  unfold iblk
  rw [View.read_apply]
  refine Eq.trans ?_ (host_weight m c n k)
  refine congrArg (V m c main_v2) ?_
  funext a; apply Fin.ext
  match a with
  | ⟨0, _⟩ => show win0_2.index t (0 : Fin 2) * 1664 + 1 * q.val = n.val; omega
  | ⟨1, _⟩ => show win0_2.index t (1 : Fin 2) * 1024 + 1 * k.val = k.val; omega

theorem block_u (t : Fin cfg0.N) (q : Fin 512) (k : Fin 1024) (n : Fin 10752) (hn : n.val = 6656 + 1024 * (t.val % 8 - 4) + q.val) :
    iblk m c 3 t (ix2 q k : S512x1024.Idx) = wgt m c k n := by
  obtain ⟨e0, e1⟩ := idx_u t
  unfold iblk
  rw [View.read_apply]
  show V m c main_v2 (((cfg0.win 3).blk t).view.emb (ix2 q k : S512x1024.Idx)) = _
  refine Eq.trans ?_ (host_weight m c n k)
  refine congrArg (V m c main_v2) ?_
  funext a; apply Fin.ext
  match a with
  | ⟨0, _⟩ => show win0_3.index t (0 : Fin 2) * 512 + 1 * q.val = n.val; omega
  | ⟨1, _⟩ => show win0_3.index t (1 : Fin 2) * 1024 + 1 * k.val = k.val; omega

theorem block_v (t : Fin cfg0.N) (q : Fin 512) (k : Fin 1024) (n : Fin 10752)
    (hn : n.val = 6656 + 1024 * (t.val % 8 - 4) + 512 + q.val) : iblk m c 4 t (ix2 q k : S512x1024.Idx) = wgt m c k n := by
  obtain ⟨e0, e1⟩ := idx_v t
  unfold iblk
  rw [View.read_apply]
  show V m c main_v2 (((cfg0.win 4).blk t).view.emb (ix2 q k : S512x1024.Idx)) = _
  refine Eq.trans ?_ (host_weight m c n k)
  refine congrArg (V m c main_v2) ?_
  funext a; apply Fin.ext
  match a with
  | ⟨0, _⟩ => show win0_4.index t (0 : Fin 2) * 512 + 1 * q.val = n.val; omega
  | ⟨1, _⟩ => show win0_4.index t (1 : Fin 2) * 1024 + 1 * k.val = k.val; omega

end Cert.Kernel5Ideal.Gen

end
-- ==== Proof.InOut.lean ====
/-
  The three results of the forward projection: at each grid point the blocks hold the normalised rows and their products with
  the projection's columns, and together the blocks that are written make up the whole arrays.
-/
module

public import proofs.«01_k».proof.Proof.InFrame
public import proofs.«01_k».proof.Proof.InHost
public import proofs.«01_k».proof.Proof.Block

@[expose] public section

set_option maxRecDepth 16384
set_option maxHeartbeats 400000

noncomputable section

namespace Cert.Kernel5Ideal.Gen

open Idealize.ShloMosaic Idealize.ShloMosaic.TcCoe Idealize.ShloMosaic.Tactic Idealize.SL.Sem
open Cert.Kernel5Ideal
open Cert.InProj

variable (m : (ℓ : Loc nD τ sig) → Buf (Elt Ideal) ℓ) (c : Dev nD)

/-! ## The contents at a point, as sums -/

theorem start_div (t : Fin cfg0.N) : (rowStart t).val / 8 = t.val / 8 := by
  show 8 * (t.val / 8) / 8 = t.val / 8
  omega

theorem last_mod (t : Fin cfg0.N) : min ((colLast t).val % 8) 3 = min (t.val % 8) 3 := by
  show min ((8 * (t.val / 8) + min (t.val % 8) 3) % 8) 3 = min (t.val % 8) 3
  omega

theorem rowsAt_apply (t : Fin cfg0.N) (r : Fin 1024) (R : Fin 4096) (hR : R.val = 1024 * (t.val / 8) + r.val) (k : Fin 1024) :
    rowsAt m c t (ix2 r k) = norm (strm m c) (gn m c) R k :=
  kept_apply (fun k => block_x m c (rowStart t) r k R (by rw [start_div]; exact hR)) (fun k => block_g m c (rowStart t) k) k

theorem normAt_apply (t : Fin cfg0.N) (r : Fin 1024) (R : Fin 4096) (hR : R.val = 1024 * (t.val / 8) + r.val) (k : Fin 1024) :
    normAt m c t (ix2 r k) = norm (strm m c) (gn m c) R k :=
  norm_apply (fun k => block_x m c (rowStart t) r k R (by rw [start_div]; exact hR)) (fun k => block_g m c (rowStart t) k) k

theorem projAt_apply (t : Fin cfg0.N) (r : Fin 1024) (R : Fin 4096) (hR : R.val = 1024 * (t.val / 8) + r.val) (q : Fin 1664)
    (n : Fin 10752) (hn : n.val = 1664 * min (t.val % 8) 3 + q.val) :
    projAt m c t (ix2 r q) = proj (strm m c) (gn m c) (wgt m c) R n :=
  branch_apply (fun k => rowsAt_apply m c t r R hR k) (fun k => block_w m c (colLast t) q k n (by rw [last_mod]; exact hn))

theorem gatesAt_apply (t : Fin cfg0.N) (r : Fin 1024) (R : Fin 4096) (hR : R.val = 1024 * (t.val / 8) + r.val) (q : Fin 1024)
    (n : Fin 10752) (hn : n.val = 6656 + 1024 * (t.val % 8 - 4) + q.val) :
    gatesAt m c t (ix2 r q) = proj (strm m c) (gn m c) (wgt m c) R n := by
  unfold gatesAt gatesBlk
  by_cases hq : q.val < 512
  · refine (Cert.KernelIdeal.Gen.cols_miss (A := 1024) (B := 1024) (C := 512) (n := 512) _ _ _ r q hq).trans ?_
    refine (Cert.KernelIdeal.Gen.cols_hit (A := 1024) (B := 1024) (C := 512) (n := 0) _ _ _ r q ⟨q.val, hq⟩ (Nat.zero_add _).symm).trans ?_
    exact gate_left_apply (fun k => rowsAt_apply m c t r R hR k) (fun k => block_u m c t ⟨q.val, hq⟩ k n hn)
  · have hlt := q.isLt
    refine (Cert.KernelIdeal.Gen.cols_hit (A := 1024) (B := 1024) (C := 512) (n := 512) _ _ _ r q ⟨q.val - 512, by omega⟩
      (by show q.val = 512 + (q.val - 512); omega)).trans ?_
    exact gate_right_apply (fun k => rowsAt_apply m c t r R hR k) (fun k => block_v m c t ⟨q.val - 512, by omega⟩ k n
      (by show n.val = 6656 + 1024 * (t.val % 8 - 4) + 512 + (q.val - 512); omega))

/-! ## The branches' columns -/

/-- The branches' columns of the projection as an array. -/
def projArr : Buf (Elt Ideal) ((c : Thread nD τ).loc main_v3_0) := fun i =>
  proj (strm m c) (gn m c) (wgt m c) (i 0) ⟨(i 1).val, Nat.lt_of_lt_of_le (i 1).isLt (by decide : 6656 ≤ 10752)⟩

theorem idx_proj : ∀ t : Fin cfg0.N, win0_5.index t (0 : Fin 2) = t.val / 8 ∧ win0_5.index t (1 : Fin 2) = min (t.val % 8) 3 := by
  decide +kernel

theorem proj_written (t : Fin cfg0.N) (hf : (cfg0.win 5).flush t = true) :
    (dats m 0 c).flushed 5 t = ((cfg0.win 5).blk t).view.read (Elt Ideal) (projArr m c) := by
  show (cfg0.win 5).cut (grid0.coords t) ((dats m 0 c).after 5 t) = _
  have ht : t.val < 32 := lt_of_lt_of_eq t.isLt (show cfg0.N = 32 from N_0)
  obtain ⟨e0, e1⟩ := idx_proj t
  rw [left_proj]
  funext y
  have hy0 : (y 0).val < 1024 := (y 0).isLt
  have hy1 : (y 1).val < 1664 := (y 1).isLt
  have hx : (cfg0.win 5).xinj (grid0.coords t) y = (ix2 ⟨(y 0).val, hy0⟩ ⟨(y 1).val, hy1⟩ : S1024x1664.Idx) := by
    funext a; apply Fin.ext
    match a with
    | ⟨0, _⟩ => rfl
    | ⟨1, _⟩ => rfl
  show projAt m c t ((cfg0.win 5).xinj (grid0.coords t) y) = projArr m c (((cfg0.win 5).blk t).view.emb y)
  rw [hx]
  refine projAt_apply m c t _ _ ?_ _ _ ?_
  · show win0_5.index t (0 : Fin 2) * 1024 + 1 * (y 0).val = 1024 * (t.val / 8) + (y 0).val
    omega
  · show win0_5.index t (1 : Fin 2) * 1664 + 1 * (y 1).val = 1664 * min (t.val % 8) 3 + (y 1).val
    omega

theorem proj_cover (i : S4096x6656.Idx) : ∃ t : Fin cfg0.N, (cfg0.win 5).flush t = true ∧ i ∈ ((cfg0.win 5).blk t).view.set := by
  have h0 : (i 0).val < 4096 := (i 0).isLt
  have h1 : (i 1).val < 6656 := (i 1).isLt
  obtain ⟨j, hj, hm⟩ : ∃ j : ℕ, (j < 3 ∨ j = 7) ∧ min j 3 = (i 1).val / 1664 := by
    by_cases h : (i 1).val / 1664 < 3
    · exact ⟨(i 1).val / 1664, Or.inl h, by omega⟩
    · exact ⟨7, Or.inr rfl, by omega⟩
  have hN : 8 * ((i 0).val / 1024) + j < cfg0.N := by
    rw [show cfg0.N = 32 from N_0]
    omega
  obtain ⟨e0, e1⟩ := idx_proj ⟨_, hN⟩
  refine ⟨⟨_, hN⟩, (flush_proj _).trans (decide_eq_true (by dsimp only; omega)), ?_⟩
  show i ∈ ((View.whole main_v3_0).slice (win0_5.rect ⟨_, hN⟩)).set
  rw [View.set_slice_whole, Rect.mem_set_unit]
  intro a
  match a with
  | ⟨0, _⟩ =>
    show win0_5.index ⟨_, hN⟩ (0 : Fin 2) * 1024 ≤ (i 0).val ∧ (i 0).val < win0_5.index ⟨_, hN⟩ (0 : Fin 2) * 1024 + 1024
    rw [e0]
    dsimp only
    omega
  | ⟨1, _⟩ =>
    show win0_5.index ⟨_, hN⟩ (1 : Fin 2) * 1664 ≤ (i 1).val ∧ (i 1).val < win0_5.index ⟨_, hN⟩ (1 : Fin 2) * 1664 + 1664
    rw [e1, show min ((8 * ((i 0).val / 1024) + j) % 8) 3 = (i 1).val / 1664 by omega]
    omega

theorem proj_final : (dats m 0 c).arrAt 5 cfg0.N = projArr m c :=
  (dats m 0 c).arrAt_eq_of_cover 5 _ (fun t hf => proj_written m c t hf) proj_cover

/-! ## The gates' columns -/

/-- The gates' columns of the projection as an array. -/
def gatesArr : Buf (Elt Ideal) ((c : Thread nD τ).loc main_v3_1) := fun i =>
  proj (strm m c) (gn m c) (wgt m c) (i 0) ⟨6656 + (i 1).val, Nat.add_lt_add_left (i 1).isLt 6656⟩

theorem idx_gates : ∀ t : Fin cfg0.N, win0_6.index t (0 : Fin 2) = t.val / 8 ∧ win0_6.index t (1 : Fin 2) = t.val % 8 - 4 := by
  decide +kernel

theorem gates_written (t : Fin cfg0.N) (hf : (cfg0.win 6).flush t = true) :
    (dats m 0 c).flushed 6 t = ((cfg0.win 6).blk t).view.read (Elt Ideal) (gatesArr m c) := by
  show (cfg0.win 6).cut (grid0.coords t) ((dats m 0 c).after 6 t) = _
  have ht : t.val < 32 := lt_of_lt_of_eq t.isLt (show cfg0.N = 32 from N_0)
  obtain ⟨e0, e1⟩ := idx_gates t
  rw [left_gates]
  funext y
  have hy0 : (y 0).val < 1024 := (y 0).isLt
  have hy1 : (y 1).val < 1024 := (y 1).isLt
  have hx : (cfg0.win 6).xinj (grid0.coords t) y = (ix2 ⟨(y 0).val, hy0⟩ ⟨(y 1).val, hy1⟩ : S1024x1024.Idx) := by
    funext a; apply Fin.ext
    match a with
    | ⟨0, _⟩ => rfl
    | ⟨1, _⟩ => rfl
  show gatesAt m c t ((cfg0.win 6).xinj (grid0.coords t) y) = gatesArr m c (((cfg0.win 6).blk t).view.emb y)
  rw [hx]
  refine gatesAt_apply m c t _ _ ?_ _ _ ?_
  · show win0_6.index t (0 : Fin 2) * 1024 + 1 * (y 0).val = 1024 * (t.val / 8) + (y 0).val
    omega
  · show 6656 + (win0_6.index t (1 : Fin 2) * 1024 + 1 * (y 1).val) = 6656 + 1024 * (t.val % 8 - 4) + (y 1).val
    omega

theorem gates_cover (i : S4096x4096.Idx) : ∃ t : Fin cfg0.N, (cfg0.win 6).flush t = true ∧ i ∈ ((cfg0.win 6).blk t).view.set := by
  have h0 : (i 0).val < 4096 := (i 0).isLt
  have h1 : (i 1).val < 4096 := (i 1).isLt
  have hN : 8 * ((i 0).val / 1024) + 4 + (i 1).val / 1024 < cfg0.N := by
    rw [show cfg0.N = 32 from N_0]
    omega
  obtain ⟨e0, e1⟩ := idx_gates ⟨_, hN⟩
  refine ⟨⟨_, hN⟩, (flush_gates _).trans (decide_eq_true (by dsimp only; omega)), ?_⟩
  show i ∈ ((View.whole main_v3_1).slice (win0_6.rect ⟨_, hN⟩)).set
  rw [View.set_slice_whole, Rect.mem_set_unit]
  intro a
  match a with
  | ⟨0, _⟩ =>
    show win0_6.index ⟨_, hN⟩ (0 : Fin 2) * 1024 ≤ (i 0).val ∧ (i 0).val < win0_6.index ⟨_, hN⟩ (0 : Fin 2) * 1024 + 1024
    rw [e0]
    dsimp only
    omega
  | ⟨1, _⟩ =>
    show win0_6.index ⟨_, hN⟩ (1 : Fin 2) * 1024 ≤ (i 1).val ∧ (i 1).val < win0_6.index ⟨_, hN⟩ (1 : Fin 2) * 1024 + 1024
    rw [e1]
    dsimp only
    omega

theorem gates_final : (dats m 0 c).arrAt 6 cfg0.N = gatesArr m c :=
  (dats m 0 c).arrAt_eq_of_cover 6 _ (fun t hf => gates_written m c t hf) gates_cover

/-! ## The normalised rows -/

/-- The normalised rows as an array. -/
def normArr : Buf (Elt Ideal) ((c : Thread nD τ).loc main_v3_2) := fun i => norm (strm m c) (gn m c) (i 0) (i 1)

theorem idx_norm : ∀ t : Fin cfg0.N, win0_7.index t (0 : Fin 2) = t.val / 8 ∧ win0_7.index t (1 : Fin 2) = 0 := by
  decide +kernel

theorem norm_written (t : Fin cfg0.N) (hf : (cfg0.win 7).flush t = true) :
    (dats m 0 c).flushed 7 t = ((cfg0.win 7).blk t).view.read (Elt Ideal) (normArr m c) := by
  show (cfg0.win 7).cut (grid0.coords t) ((dats m 0 c).after 7 t) = _
  have ht : t.val < 32 := lt_of_lt_of_eq t.isLt (show cfg0.N = 32 from N_0)
  obtain ⟨e0, e1⟩ := idx_norm t
  rw [left_norm]
  funext y
  have hy0 : (y 0).val < 1024 := (y 0).isLt
  have hy1 : (y 1).val < 1024 := (y 1).isLt
  have hx : (cfg0.win 7).xinj (grid0.coords t) y = (ix2 ⟨(y 0).val, hy0⟩ ⟨(y 1).val, hy1⟩ : S1024x1024.Idx) := by
    funext a; apply Fin.ext
    match a with
    | ⟨0, _⟩ => rfl
    | ⟨1, _⟩ => rfl
  show normAt m c t ((cfg0.win 7).xinj (grid0.coords t) y)
    = norm (strm m c) (gn m c) (((cfg0.win 7).blk t).view.emb y 0) (((cfg0.win 7).blk t).view.emb y 1)
  have r1 : (⟨(y 1).val, hy1⟩ : Fin 1024) = ((cfg0.win 7).blk t).view.emb y 1 := by
    refine Fin.ext ?_
    show (y 1).val = win0_7.index t (1 : Fin 2) * 1024 + 1 * (y 1).val
    omega
  rw [hx, ← r1]
  refine normAt_apply m c t _ _ ?_ _
  show win0_7.index t (0 : Fin 2) * 1024 + 1 * (y 0).val = 1024 * (t.val / 8) + (y 0).val
  omega

theorem norm_cover (i : S4096x1024.Idx) : ∃ t : Fin cfg0.N, (cfg0.win 7).flush t = true ∧ i ∈ ((cfg0.win 7).blk t).view.set := by
  have h0 : (i 0).val < 4096 := (i 0).isLt
  have h1 : (i 1).val < 1024 := (i 1).isLt
  have hN : 8 * ((i 0).val / 1024) + 7 < cfg0.N := by
    rw [show cfg0.N = 32 from N_0]
    omega
  obtain ⟨e0, e1⟩ := idx_norm ⟨_, hN⟩
  refine ⟨⟨_, hN⟩, (flush_norm _).trans (decide_eq_true (by dsimp only; omega)), ?_⟩
  show i ∈ ((View.whole main_v3_2).slice (win0_7.rect ⟨_, hN⟩)).set
  rw [View.set_slice_whole, Rect.mem_set_unit]
  intro a
  match a with
  | ⟨0, _⟩ =>
    show win0_7.index ⟨_, hN⟩ (0 : Fin 2) * 1024 ≤ (i 0).val ∧ (i 0).val < win0_7.index ⟨_, hN⟩ (0 : Fin 2) * 1024 + 1024
    rw [e0]
    dsimp only
    omega
  | ⟨1, _⟩ =>
    show win0_7.index ⟨_, hN⟩ (1 : Fin 2) * 1024 ≤ (i 1).val ∧ (i 1).val < win0_7.index ⟨_, hN⟩ (1 : Fin 2) * 1024 + 1024
    rw [e1]
    omega

theorem norm_final : (dats m 0 c).arrAt 7 cfg0.N = normArr m c :=
  (dats m 0 c).arrAt_eq_of_cover 7 _ (fun t hf => norm_written m c t hf) norm_cover

/-! ## The run -/

/-- The kernel runs, leaves its arguments as they were, and leaves the three arrays in its results. -/
theorem in_run (ρ : Dev nD → PrngReg) :
    θ_run defs (onTc (τ := τ) (main (F := Ideal))) ⟨m, fun _ => 0, ρ⟩ fun r => ∀ c : Dev nD,
      r.2.mem ((c : Thread nD τ).loc main_v3_0) = projArr m c
      ∧ r.2.mem ((c : Thread nD τ).loc main_v3_1) = gatesArr m c
      ∧ r.2.mem ((c : Thread nD τ).loc main_v3_2) = normArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (θ_run_and (run_main m ρ) (frame_of m ρ (dats m) (A_eq m) (run_main m ρ)))
  obtain ⟨hw, hargs⟩ := h
  exact ⟨((hw c).1 5).trans (proj_final m c), ((hw c).1 6).trans (gates_final m c), ((hw c).1 7).trans (norm_final m c), hargs c⟩

end Cert.Kernel5Ideal.Gen

end
-- ==== Proof.InRef.lean ====
/-
  What the reference for the forward projection computes, element by element.
-/
module

public import proofs.«01_k».proof.Proof.Gen.Reference5Ideal.Read
public import Idealize.ShloMosaic.Lib.ValueIdx
public import Idealize.ShloMosaic.Lib.Pointwise
public import proofs.«01_k».proof.Proof.InSpec

@[expose] public section

set_option maxRecDepth 16384
set_option maxHeartbeats 400000

noncomputable section

namespace Cert.Reference5Ideal.Read

open Idealize.ShloMosaic Idealize.ShloMosaic.TcCoe Idealize.ShloMosaic.Tactic
open Cert.Reference5Ideal
open Cert.InProj

variable (x0 : (⟨S4096x1024, .f32⟩ : BufTy).Contents (Elt Ideal)) (x1 : (⟨S1024, .f32⟩ : BufTy).Contents (Elt Ideal))
  (x2 : (⟨S1024x10752, .f32⟩ : BufTy).Contents (Elt Ideal))

/-- The residual stream, -/
def stream (R : Fin 4096) (k : Fin 1024) : EReal := x0 (ix2 R k)

/-- the gain, -/
def gain (k : Fin 1024) : EReal := x1 (ix1 k)

/-- and the projection's weight. -/
def weight (k : Fin 1024) (n : Fin 10752) : EReal := x2 (ix2 k n)

theorem sum_squares (R : Fin 4096) :
    val_main_v1 (F := Ideal) x0 (ix1 R : S4096.Idx) = ∑ k, stream x0 R k * stream x0 R k := by
  unfold val_main_v1 val_main_v0 val_main_cst
  pointwise
  rfl

theorem mean_square (R : Fin 4096) :
    val_main_v6 (F := Ideal) x0 (ix2 R 0 : S4096x1.Idx) = Cert.DhBwd.ms (stream x0 R) := by
  unfold val_main_v6 val_main_v5 val_main_v4 val_main_v3 val_main_v2 val_main_cst_0 val_main_cst_1
  pointwise
  simp only [sum_squares]
  rfl

theorem reciprocal (R : Fin 4096) :
    val_main_v7 (F := Ideal) x0 (ix2 R 0 : S4096x1.Idx) = Cert.DhBwd.rinv (stream x0 R) := by
  unfold val_main_v7
  pointwise
  simp only [mean_square]
  rfl

theorem normalised (R : Fin 4096) (k : Fin 1024) :
    val_main_v12 (F := Ideal) x0 x1 (ix2 R k : S4096x1024.Idx) = norm (stream x0) (gain x1) R k := by
  unfold val_main_v12 val_main_v11 val_main_v10 val_main_v9 val_main_v8
  pointwise
  simp only [reciprocal]
  rfl

theorem projected (R : Fin 4096) (n : Fin 10752) :
    val_main_v13 (F := Ideal) x0 x1 x2 (ix2 R n : S4096x10752.Idx) = proj (stream x0) (gain x1) (weight x2) R n := by
  unfold val_main_v13
  pointwise
  simp only [normalised]
  rfl

theorem branch_cols (R : Fin 4096) (k : Fin 6656) :
    val_main_v15 (F := Ideal) x0 x1 x2 (ix2 R k : S4096x6656.Idx)
      = proj (stream x0) (gain x1) (weight x2) R ⟨k.val, by omega⟩ := by
  refine Eq.trans ?_ (projected x0 x1 x2 R ⟨k.val, by omega⟩)
  refine (val_main_v14_apply x0 x1 x2 _).trans (congrArg (val_main_v13 (F := Ideal) x0 x1 x2) ?_)
  funext b; apply Fin.ext
  match b with
  | ⟨0, _⟩ => rfl
  | ⟨1, _⟩ => rfl

theorem gate_cols (R : Fin 4096) (k : Fin 4096) :
    val_main_v17 (F := Ideal) x0 x1 x2 (ix2 R k : S4096x4096.Idx)
      = proj (stream x0) (gain x1) (weight x2) R ⟨6656 + k.val, by omega⟩ := by
  refine Eq.trans ?_ (projected x0 x1 x2 R ⟨6656 + k.val, by omega⟩)
  refine (val_main_v16_apply x0 x1 x2 _).trans (congrArg (val_main_v13 (F := Ideal) x0 x1 x2) ?_)
  funext b; apply Fin.ext
  match b with
  | ⟨0, _⟩ => rfl
  | ⟨1, _⟩ => rfl

theorem rows_out (R : Fin 4096) (k : Fin 1024) :
    val_main_v18 (F := Ideal) x0 x1 (ix2 R k : S4096x1024.Idx) = norm (stream x0) (gain x1) R k :=
  normalised x0 x1 R k

end Cert.Reference5Ideal.Read

end
-- ==== Proof.InAgree.lean ====
/-
  The kernel and the reference for the forward projection leave equal results, and the frames of the three programs.
-/
module

public import proofs.«01_k».proof.Defs
public import proofs.«01_k».proof.Proof.Gen.Kernel5
public import proofs.«01_k».proof.Proof.Gen.Reference5Ideal.Run
public import Idealize.ShloMosaic.Lib.Quiescent
public import proofs.«01_k».proof.Proof.InOut
public import proofs.«01_k».proof.Proof.InRef

@[expose] public section

noncomputable section

namespace Cert.InProj

open Idealize.ShloMosaic Idealize.ShloMosaic.TcCoe Idealize.SL.Sem Cert.Kernel5Ideal Cert.Kernel5Ideal.Gen Cert.Reference5Ideal.Read

variable (m : (ℓ : Loc nD τ sig) → Buf (Elt Ideal) ℓ) (c : Dev nD)

theorem agree_proj (i : S4096x6656.Idx) : val_main_v15 (F := Ideal) (argX m c) (argG m c) (argW m c) i = projArr m c i := by
  obtain ⟨R, k, rfl⟩ : ∃ (R : Fin 4096) (k : Fin 6656), i = ix2 R k := ⟨i 0, i 1, eq_ix2 i⟩
  exact branch_cols _ _ _ R k

theorem agree_gates (i : S4096x4096.Idx) : val_main_v17 (F := Ideal) (argX m c) (argG m c) (argW m c) i = gatesArr m c i := by
  obtain ⟨R, k, rfl⟩ : ∃ (R : Fin 4096) (k : Fin 4096), i = ix2 R k := ⟨i 0, i 1, eq_ix2 i⟩
  exact gate_cols _ _ _ R k

theorem agree_norm (i : S4096x1024.Idx) : val_main_v18 (F := Ideal) (argX m c) (argG m c) i = normArr m c i := by
  obtain ⟨R, k, rfl⟩ : ∃ (R : Fin 4096) (k : Fin 1024), i = ix2 R k := ⟨i 0, i 1, eq_ix2 i⟩
  exact rows_out _ _ R k

/-- Kernel and reference compute the same three results. -/
theorem algebraic : Cert.algebraic_Kernel5Ideal_Reference5Ideal := by
  intro m g m' g' _ hin
  refine ⟨fun c => projArr m c, fun c => gatesArr m c, fun c => normArr m c, in_run m g, ?_⟩
  refine (θ_run _ _ _).mono (fun r h c => ?_) (Cert.Reference5Ideal.Value.run m' g')
  obtain ⟨h0, h1, h2, hargs⟩ := h c
  obtain ⟨e0, e1, e2⟩ := hin c
  rw [val_main_v15_eq, e0, e1, e2] at h0
  rw [val_main_v17_eq, e0, e1, e2] at h1
  rw [val_main_v18_eq, e0, e1] at h2
  exact ⟨h0.trans (funext fun i => agree_proj m c i), h1.trans (funext fun i => agree_gates m c i),
    h2.trans (funext fun i => agree_norm m c i), hargs⟩

/-- The reference runs and leaves its arguments as they were. -/
theorem reference_frame : Cert.quiescent_Reference5Ideal := by
  intro m g _
  refine (θ_run _ _ _).mono (fun r h => ⟨fun c => ?_, sem_eq_zero_of_no_sems rfl _⟩) (Cert.Reference5Ideal.Value.run m g)
  obtain ⟨_, _, _, hargs⟩ := h c
  exact hargs

/-- The ideal kernel runs and leaves its arguments as they were. -/
theorem ideal_frame : Cert.quiescent_Kernel5Ideal := fun m ρ _ => frame_holds m ρ

/-! ## The kernel's own program: the same text, over the machine's float values -/

/-- The two bodies are the same function. -/
theorem bodies_same : Cert.Kernel5.defs₀ (F := Bits) = Cert.Kernel5Ideal.defs₀ := by
  unfold Cert.Kernel5.defs₀ Cert.Kernel5Ideal.defs₀
  refine congrArg Defs.onTc ?_
  funext l a
  match l, a with
  | 0, (t, s) => rfl

theorem defs_same : Cert.Kernel5.defs (F := Bits) = Cert.Kernel5Ideal.defs :=
  congrArg (Pipeline.defs Cert.Kernel5Ideal.pcfgs) bodies_same

theorem main_same : Cert.Kernel5.main (F := Bits) = Cert.Kernel5Ideal.main := rfl

/-- The kernel's own program runs and leaves its arguments as they were: its run is the one above. -/
theorem kernel_frame : Cert.quiescent_Kernel5 := by
  intro m ρ _
  rw [defs_same, main_same]
  exact frame_holds (F := Bits) m ρ

end Cert.InProj

end
-- ==== Proof.FwdSpec.lean ====
/-
  The mathematics of the end of a layer, forwards: what the sixth kernel's five results hold, row by row, and the two ways of
  writing the weights of a softmax over three groups of keys.
-/
module

public import Idealize.ShloMosaic.PureOps.Ideal
public import Idealize.ShloMosaic.PureOps.Ideal.Laws
public import proofs.«01_k».proof.Proof.Spec

@[expose] public section

noncomputable section

namespace Cert.MergeFwd

open Idealize.ShloMosaic
open Cert.MergeBwd
open scoped BigOperators

/-- The logarithm of the sum of three exponentials, the largest exponent taken out of the sum. -/
def lse (a b c : EReal) : EReal :=
  max (max a b) c + Ideal.log (Ideal.exp (a - max (max a b) c) + Ideal.exp (b - max (max a b) c) + Ideal.exp (c - max (max a b) c))

/-- Three numbers weighted by their groups' shares. -/
def mix3 (a b c p q s : EReal) : EReal :=
  Ideal.exp (a - lse a b c) * p + Ideal.exp (b - lse a b c) * q + Ideal.exp (c - lse a b c) * s

/-- The head of one of the 512 columns. -/
def headOf (i : Fin 512) : Fin 4 := ⟨i.val / 128, by have := i.isLt; omega⟩

/-- The lane of a head. -/
def lane (h : Fin 4) : Fin 128 := ⟨h.val, by have := h.isLt; omega⟩

/-- The data of the rows `R`: the residual stream `x`, the three finished branch outputs `y`, the three groups' attention outputs
    `o1`, `o4`, `o16` and logarithms `l1`, `l4`, `l16`, the attention gate's input `cg`, the merge gates' inputs `g`, the weights. -/
structure In (R : Type) where
  x : R → Fin 1024 → EReal
  y : R → Fin 3 → Fin 512 → EReal
  o1 : R → Fin 512 → EReal
  o4 : R → Fin 512 → EReal
  o16 : R → Fin 512 → EReal
  l1 : R → Fin 128 → EReal
  l4 : R → Fin 128 → EReal
  l16 : R → Fin 128 → EReal
  cg : R → Fin 512 → EReal
  g : R → Fin 4 → Fin 1024 → EReal
  w : Fin 4 → Fin 512 → Fin 1024 → EReal
  wo : Fin 1024 → Fin 1024 → EReal

namespace In

variable {R R' : Type} (I : In R)

/-- The data of some of the rows. -/
def rows (f : R' → R) : In R' where
  x r := I.x (f r)
  y r := I.y (f r)
  o1 r := I.o1 (f r)
  o4 r := I.o4 (f r)
  o16 r := I.o16 (f r)
  l1 r := I.l1 (f r)
  l4 r := I.l4 (f r)
  l16 r := I.l16 (f r)
  cg r := I.cg (f r)
  g r := I.g (f r)
  w := I.w
  wo := I.wo

/-- The logarithm of a head's softmax denominator. -/
def head (r : R) (h : Fin 4) : EReal := lse (I.l1 r (lane h)) (I.l4 r (lane h)) (I.l16 r (lane h))

/-- The heads' logarithms in the first four of 128 lanes. -/
def lanes (r : R) (l : Fin 128) : EReal := if h : l.val < 4 then I.head r ⟨l.val, h⟩ else 0

/-- The attention output. -/
def oc (r : R) (i : Fin 512) : EReal :=
  mix3 (I.l1 r (lane (headOf i))) (I.l4 r (lane (headOf i))) (I.l16 r (lane (headOf i))) (I.o1 r i) (I.o4 r i) (I.o16 r i)

/-- The attention output through its gate. -/
def yc (r : R) (i : Fin 512) : EReal := I.oc r i * (I.cg r i * Ideal.logistic (I.cg r i))

/-- The merged activation. -/
def z (r : R) (k : Fin 1024) : EReal :=
  Ideal.logistic (I.g r 0 k) * (∑ i, I.y r 0 i * I.w 0 i k) + Ideal.logistic (I.g r 1 k) * (∑ i, I.y r 1 i * I.w 1 i k)
  + Ideal.logistic (I.g r 2 k) * (∑ i, I.yc r i * I.w 2 i k) + Ideal.logistic (I.g r 3 k) * (∑ i, I.y r 2 i * I.w 3 i k)

/-- The new residual stream. -/
def xnew (r : R) (k : Fin 1024) : EReal := I.x r k + ∑ j, I.z r j * I.wo j k

end In

/-! ## The softmax over three groups -/

theorem lse_eq {a b c : EReal} (ha : IsReal a) (hb : IsReal b) (hc : IsReal c) :
    lse a b c = Ideal.log (Ideal.exp a + Ideal.exp b + Ideal.exp c) := by
  obtain ⟨a, rfl⟩ := ha
  obtain ⟨b, rfl⟩ := hb
  obtain ⟨c, rfl⟩ := hc
  unfold lse
  generalize hm : max (max a b) c = m
  have em : max (max (a : EReal) b) c = (m : EReal) := by
    rw [← hm]
    exact ((EReal.coe_strictMono.monotone.map_max).trans (congrArg (max · (c : EReal)) EReal.coe_strictMono.monotone.map_max)).symm
  rw [em]
  have p (x : ℝ) := Real.exp_pos x
  simp only [← EReal.coe_sub, Ideal.exp_coe, ← EReal.coe_add]
  rw [Ideal.log_coe, Ideal.log_coe, if_neg (by have := p (a - m); have := p (b - m); have := p (c - m); linarith),
    if_neg (by have := p a; have := p b; have := p c; linarith), ← EReal.coe_add]
  congr 1
  rw [Real.exp_sub, Real.exp_sub, Real.exp_sub, ← add_div, ← add_div,
    Real.log_div (by have := p a; have := p b; have := p c; positivity) (p m).ne', Real.log_exp]
  ring

theorem share_eq {a b c x : EReal} (ha : IsReal a) (hb : IsReal b) (hc : IsReal c) (hx : IsReal x) :
    Ideal.exp (x - lse a b c) = Ideal.div (Ideal.exp x) (Ideal.exp a + Ideal.exp b + Ideal.exp c) := by
  rw [lse_eq ha hb hc]
  obtain ⟨a, rfl⟩ := ha
  obtain ⟨b, rfl⟩ := hb
  obtain ⟨c, rfl⟩ := hc
  obtain ⟨x, rfl⟩ := hx
  have p (x : ℝ) := Real.exp_pos x
  have hs : 0 < Real.exp a + Real.exp b + Real.exp c := by have := p a; have := p b; have := p c; positivity
  simp only [Ideal.exp_coe, ← EReal.coe_add]
  rw [Ideal.log_coe, if_neg (by linarith), ← EReal.coe_sub, Ideal.exp_coe, Ideal.div_coe hs.ne', Real.exp_sub, Real.exp_log hs,
    ← EReal.coe_mul]
  congr 1
  ring

theorem mix3_eq {a b c : EReal} (ha : IsReal a) (hb : IsReal b) (hc : IsReal c) (p q s : EReal) :
    mix3 a b c p q s
      = Ideal.div (Ideal.exp a) (Ideal.exp a + Ideal.exp b + Ideal.exp c) * p
        + Ideal.div (Ideal.exp b) (Ideal.exp a + Ideal.exp b + Ideal.exp c) * q
        + Ideal.div (Ideal.exp c) (Ideal.exp a + Ideal.exp b + Ideal.exp c) * s := by
  unfold mix3
  rw [share_eq ha hb hc ha, share_eq ha hb hc hb, share_eq ha hb hc hc]

end Cert.MergeFwd

end
-- ==== Proof.FwdMasks.lean ====
/-
  What the sixth kernel's precondition and mask say, element by element: the heads' logarithms are real numbers, and the mask keeps
  the attention's slot of the branch outputs.
-/
module

public import proofs.«01_k».proof.Defs
public import proofs.«01_k».proof.Proof.Gen.On_filled
public import proofs.«01_k».proof.Proof.Gen.Pre_finite6
public import Idealize.ShloMosaic.Lib.ValueIdx
public import Idealize.ShloMosaic.Lib.Pointwise
public import proofs.«01_k».proof.Proof.Spec
public import proofs.«01_k».proof.Proof.Masks
public import proofs.«01_k».proof.Proof.FwdSpec

@[expose] public section

noncomputable section

namespace Cert.MergeFwd

open Idealize.ShloMosaic Idealize.ShloMosaic.TcCoe Idealize.ShloMosaic.Tactic
open Cert.Kernel6Ideal
open Cert.MergeBwd (IsReal isReal_of_test toInt_small)

variable (x0 : FVec Ideal S4096x1024 .f32) (x1 : FVec Ideal S4x4096x512 .bf16) (x2 x3 x4 : FVec Ideal S4096x512 .f32)
  (x5 x6 x7 : FVec Ideal S4096x128 .f32) (x8 : FVec Ideal S4096x6656 .f32) (x9 : FVec Ideal S4096x4096 .f32)
  (x10 : FVec Ideal S4x512x1024 .f32) (x11 : FVec Ideal S1024x1024 .f32)

theorem real_l1 (h : (Cert.Pre_finite6.fn (F := Ideal) x0 x1 x2 x3 x4 x5 x6 x7 x8 x9 x10 x11).1 = fun _ => 1#1) (R : Fin 4096) (h4 : Fin 4) :
    IsReal (x5 (ix2 R (Cert.MergeFwd.lane h4))) := by
  have h := congrFun h (ix2 R h4)
  unfold Cert.Pre_finite6.fn at h
  dsimp only at h
  pointwise at h
  exact isReal_of_test h

theorem real_l4 (h : (Cert.Pre_finite6.fn (F := Ideal) x0 x1 x2 x3 x4 x5 x6 x7 x8 x9 x10 x11).2.1 = fun _ => 1#1) (R : Fin 4096) (h4 : Fin 4) :
    IsReal (x6 (ix2 R (Cert.MergeFwd.lane h4))) := by
  have h := congrFun h (ix2 R h4)
  unfold Cert.Pre_finite6.fn at h
  dsimp only at h
  pointwise at h
  exact isReal_of_test h

theorem real_l16 (h : (Cert.Pre_finite6.fn (F := Ideal) x0 x1 x2 x3 x4 x5 x6 x7 x8 x9 x10 x11).2.2 = fun _ => 1#1) (R : Fin 4096) (h4 : Fin 4) :
    IsReal (x7 (ix2 R (Cert.MergeFwd.lane h4))) := by
  have h := congrFun h (ix2 R h4)
  unfold Cert.Pre_finite6.fn at h
  dsimp only at h
  pointwise at h
  exact isReal_of_test h

/-- Where the mask of the second result is set, the slot is the attention's. -/
theorem mask_slot (s : Fin 4) (R : Fin 4096) (i : Fin 512)
    (h : (Cert.On_filled.fn (F := Ideal) x0 x1 x2 x3 x4 x5 x6 x7 x8 x9 x10 x11).2.1 (ix3 s R i) = 1#1) : s.val = 3 := by
  unfold Cert.On_filled.fn at h
  dsimp only at h
  pointwise at h
  match s with
  | ⟨0, _⟩ => exact absurd (show IntOp.cmpi .eq (BitVec.ofNat 32 0) 3#32 = 1#1 from h) (by decide)
  | ⟨1, _⟩ => exact absurd (show IntOp.cmpi .eq (BitVec.ofNat 32 1) 3#32 = 1#1 from h) (by decide)
  | ⟨2, _⟩ => exact absurd (show IntOp.cmpi .eq (BitVec.ofNat 32 2) 3#32 = 1#1 from h) (by decide)
  | ⟨3, _⟩ => rfl

end Cert.MergeFwd

end
-- ==== Proof.FwdPay.lean ====
/-
  The stored vectors of the sixth kernel's body, read one element at a time.
-/
module

public import proofs.«01_k».proof.Proof.Gen.Kernel6Ideal.Skeleton
public import Idealize.ShloMosaic.Lib.ValueIdx
public import Idealize.ShloMosaic.Lib.Pointwise
public import Idealize.ShloMosaic.Lib.Pipeline.Value
public import Idealize.ShloMosaic.Lib.Pipeline.ValueKit
public import proofs.«01_k».proof.Proof.FwdSpec

@[expose] public section

set_option maxRecDepth 16384
set_option maxHeartbeats 400000

noncomputable section

namespace Cert.Kernel6Ideal.Gen

open Idealize.ShloMosaic Idealize.ShloMosaic.TcCoe Idealize.ShloMosaic.Tactic
open Cert.Kernel6Ideal
open Cert.MergeBwd (sigmoid_eq IsReal)
open Cert.MergeFwd

/-! ## One lane of 128, picked by a masked sum -/

theorem cmp_lane (j : Fin 128) (k : ℕ) (hk : k < 128) :
    IntOp.cmpi CmpIPredicate.eq (BitVec.ofNat 32 j.val) (BitVec.ofNat 32 k) = if j.val = k then 1#1 else 0#1 := by
  have := j.isLt
  have e : (BitVec.ofNat 32 j.val = BitVec.ofNat 32 k) ↔ j.val = k := by
    constructor
    · intro h
      have := congrArg BitVec.toNat h
      simp only [BitVec.toNat_ofNat] at this
      omega
    · intro h; rw [h]
  by_cases h : j.val = k
  · simp [IntOp.cmpi, h]
  · have e2 : (BitVec.ofNat 32 j.val == BitVec.ofNat 32 k) = false := by simpa using fun q => h (e.1 q)
    simp [IntOp.cmpi, h, e2]

theorem lane_idx (r : Fin 512) (j : Fin 128) :
    List.foldl (fun n a => n * (![512, 128] : Fin 2 → ℕ) a + (ix2 r j a).val) 0 [1] = j.val := by
  simp [List.foldl, ix2]

/-- A vector masked to one lane and summed over the lanes is that lane. -/
theorem pick (v : FVec Ideal S512x128 .f32) (k : Fin 128) (r : Fin 512) (u : Fin 1) :
    shapeCast S512x1 (multiReduction .add [1] S512 (select (cmpi .eq (iota .tc S512x128 32 [1] iota_S512x128_d1_w32)
      (broadcast S512x128 (BitVec.ofNat 32 k.val))) v (broadcast S512x128 (Scalar.ofBits (F := Ideal) .f32 0x00000000#32)))
      0x00000000#32 reduces_S512x128_S512 (.inl rfl) rfl) shapeCasts_S512_S512x1 (ix2 r u) = v (ix2 r k) := by
  rw [show u = 0 from Subsingleton.elim _ _]
  simp only [pointwise, zero_add]
  refine (Finset.sum_eq_single k (fun j _ hj => ?_) (fun h => absurd (Finset.mem_univ k) h)).trans ?_
  · have hjk : j.val ≠ k.val := fun h => hj (Fin.ext h)
    first
      | rw [lane_idx, cmp_lane j k.val k.isLt, if_neg hjk]; rfl
      | (have e := lane_idx r j; have e' := cmp_lane j k.val k.isLt; simp_all [Scalar.select])
  · first
      | rw [lane_idx, cmp_lane k k.val k.isLt, if_pos rfl]; rfl
      | (have e := lane_idx r k; have e' := cmp_lane k k.val k.isLt; simp_all [Scalar.select])

section

variable (v a b c : Vec Ideal S512x128 .f32) (r : Fin 512) (u : Fin 1)

theorem pay35_apply : k0_pay35 (F := Ideal) v (ix2 r u) = v (ix2 r 0) := pick v 0 r u
theorem pay36_apply : k0_pay36 (F := Ideal) v (ix2 r u) = v (ix2 r 0) := pick v 0 r u
theorem pay37_apply : k0_pay37 (F := Ideal) v (ix2 r u) = v (ix2 r 0) := pick v 0 r u
theorem pay41_apply : k0_pay41 (F := Ideal) v (ix2 r u) = v (ix2 r 1) := pick v 1 r u
theorem pay43_apply : k0_pay43 (F := Ideal) (k0_pay42 v) (ix2 r u) = v (ix2 r 1) := pick v 1 r u
theorem pay44_apply : k0_pay44 (F := Ideal) v (ix2 r u) = v (ix2 r 1) := pick v 1 r u
theorem pay48_apply : k0_pay48 (F := Ideal) v (ix2 r u) = v (ix2 r 2) := pick v 2 r u
theorem pay49_apply : k0_pay49 (F := Ideal) v (ix2 r u) = v (ix2 r 2) := pick v 2 r u
theorem pay50_apply : k0_pay50 (F := Ideal) v (ix2 r u) = v (ix2 r 2) := pick v 2 r u
theorem pay54_apply : k0_pay54 (F := Ideal) v (ix2 r u) = v (ix2 r 3) := pick v 3 r u
theorem pay55_apply : k0_pay55 (F := Ideal) v (ix2 r u) = v (ix2 r 3) := pick v 3 r u
theorem pay56_apply : k0_pay56 (F := Ideal) v (ix2 r u) = v (ix2 r 3) := pick v 3 r u

/-! ## The heads' logarithms -/

theorem pay38_apply : k0_pay38 (F := Ideal) a b c (ix2 r u) = lse (a (ix2 r 0)) (b (ix2 r 0)) (c (ix2 r 0)) := by
  unfold k0_pay38
  simp only [pointwise, pay35_apply, pay36_apply, pay37_apply, lse]

theorem pay45_apply : k0_pay45 (F := Ideal) (k0_pay41 a) (k0_pay42 b) c (ix2 r u) = lse (a (ix2 r 1)) (b (ix2 r 1)) (c (ix2 r 1)) := by
  unfold k0_pay45
  simp only [pointwise, pay41_apply, pay43_apply, pay44_apply, lse]

theorem pay51_apply : k0_pay51 (F := Ideal) a b c (ix2 r u) = lse (a (ix2 r 2)) (b (ix2 r 2)) (c (ix2 r 2)) := by
  unfold k0_pay51
  simp only [pointwise, pay48_apply, pay49_apply, pay50_apply, lse]

theorem pay57_apply : k0_pay57 (F := Ideal) (k0_pay54 a) (k0_pay55 b) c (ix2 r u) = lse (a (ix2 r 3)) (b (ix2 r 3)) (c (ix2 r 3)) := by
  unfold k0_pay57
  simp only [pointwise, pay54_apply, pay55_apply, pay56_apply, lse]

/-! ## The heads' attention outputs -/

variable (p q s : Vec Ideal S512x128 .bf16) (d : Fin 128)

theorem pay40_apply : k0_pay40 (F := Ideal) (k0_pay36 b) (k0_pay37 c) (k0_pay38 a b c) (k0_pay39 a b c) p q s (ix2 r d)
    = mix3 (a (ix2 r 0)) (b (ix2 r 0)) (c (ix2 r 0)) (p (ix2 r d)) (q (ix2 r d)) (s (ix2 r d)) := by
  unfold k0_pay40 k0_pay39
  simp only [pointwise, shapeCast_self, zero_add, mix3]
  exact congrArg₂ (· + ·) (congrArg₂ (· + ·) (congrArg₂ (· * ·) (congrArg Ideal.exp (congrArg₂ (· - ·) (pay35_apply a r _) (pay38_apply a b c r _))) rfl)
    (congrArg₂ (· * ·) (congrArg Ideal.exp (congrArg₂ (· - ·) (pay36_apply b r _) (pay38_apply a b c r _))) rfl))
    (congrArg₂ (· * ·) (congrArg Ideal.exp (congrArg₂ (· - ·) (pay37_apply c r _) (pay38_apply a b c r _))) rfl)

theorem pay46_apply : k0_pay47 (F := Ideal) (k0_pay46 (k0_pay41 a) (k0_pay42 b) c p q s) (ix2 r d)
    = mix3 (a (ix2 r 1)) (b (ix2 r 1)) (c (ix2 r 1)) (p (ix2 r d)) (q (ix2 r d)) (s (ix2 r d)) := by
  unfold k0_pay47 k0_pay46
  simp only [pointwise, shapeCast_self, zero_add, mix3]
  exact congrArg₂ (· + ·) (congrArg₂ (· + ·) (congrArg₂ (· * ·) (congrArg Ideal.exp (congrArg₂ (· - ·) (pay41_apply a r _) (pay45_apply a b c r _))) rfl)
    (congrArg₂ (· * ·) (congrArg Ideal.exp (congrArg₂ (· - ·) (pay43_apply b r _) (pay45_apply a b c r _))) rfl))
    (congrArg₂ (· * ·) (congrArg Ideal.exp (congrArg₂ (· - ·) (pay44_apply c r _) (pay45_apply a b c r _))) rfl)

theorem pay53_apply : k0_pay53 (F := Ideal) (k0_pay49 b) (k0_pay50 c) (k0_pay51 a b c) (k0_pay52 a b c) p q s (ix2 r d)
    = mix3 (a (ix2 r 2)) (b (ix2 r 2)) (c (ix2 r 2)) (p (ix2 r d)) (q (ix2 r d)) (s (ix2 r d)) := by
  unfold k0_pay53 k0_pay52
  simp only [pointwise, shapeCast_self, zero_add, mix3]
  exact congrArg₂ (· + ·) (congrArg₂ (· + ·) (congrArg₂ (· * ·) (congrArg Ideal.exp (congrArg₂ (· - ·) (pay48_apply a r _) (pay51_apply a b c r _))) rfl)
    (congrArg₂ (· * ·) (congrArg Ideal.exp (congrArg₂ (· - ·) (pay49_apply b r _) (pay51_apply a b c r _))) rfl))
    (congrArg₂ (· * ·) (congrArg Ideal.exp (congrArg₂ (· - ·) (pay50_apply c r _) (pay51_apply a b c r _))) rfl)

theorem pay58_apply : k0_pay59 (F := Ideal) (k0_pay58 (k0_pay54 a) (k0_pay55 b) c p q s) (ix2 r d)
    = mix3 (a (ix2 r 3)) (b (ix2 r 3)) (c (ix2 r 3)) (p (ix2 r d)) (q (ix2 r d)) (s (ix2 r d)) := by
  unfold k0_pay59 k0_pay58
  simp only [pointwise, shapeCast_self, zero_add, mix3]
  exact congrArg₂ (· + ·) (congrArg₂ (· + ·) (congrArg₂ (· * ·) (congrArg Ideal.exp (congrArg₂ (· - ·) (pay54_apply a r _) (pay57_apply a b c r _))) rfl)
    (congrArg₂ (· * ·) (congrArg Ideal.exp (congrArg₂ (· - ·) (pay55_apply b r _) (pay57_apply a b c r _))) rfl))
    (congrArg₂ (· * ·) (congrArg Ideal.exp (congrArg₂ (· - ·) (pay56_apply c r _) (pay57_apply a b c r _))) rfl)

end

/-- The heads' logarithms, each in its lane. -/
theorem pay60_apply {v0 v1 v2 v3 : FVec Ideal S512x1 .f32} (r : Fin 512) (l : Fin 128) {s : Fin 4 → EReal}
    (h0 : ∀ j, v0 (ix2 r j) = s 0) (h1 : ∀ j, v1 (ix2 r j) = s 1) (h2 : ∀ j, v2 (ix2 r j) = s 2)
    (h3 : ∀ j, v3 (ix2 r j) = s 3) : k0_pay60 v0 v1 v2 v3 (ix2 r l) = if h : l.val < 4 then s ⟨l.val, h⟩ else 0 := by
  unfold k0_pay60
  simp only [pointwise, shapeCast_self, h0, h1, h2, h3]
  rw [lane_idx]
  erw [cmp_lane l 3 (by omega), cmp_lane l 2 (by omega), cmp_lane l 1 (by omega), cmp_lane l 0 (by omega)]
  have hl := l.isLt
  by_cases q : l.val < 4
  · have : l.val = 0 ∨ l.val = 1 ∨ l.val = 2 ∨ l.val = 3 := by omega
    rw [dif_pos q]
    rcases this with h | h | h | h
    · simp [h, Scalar.select, h0]
    · simp [h, Scalar.select, h1]
    · simp [h, Scalar.select, h2]
    · simp [h, Scalar.select, h3]
  · rw [dif_neg q]
    have e0 : l.val ≠ 0 := by omega
    have e1 : l.val ≠ 1 := by omega
    have e2 : l.val ≠ 2 := by omega
    have e3 : l.val ≠ 3 := by omega
    simp [e0, e1, e2, e3, Scalar.select]

/-! ## The gated attention, the merge and the projection -/

section

variable (I : In (Fin 512))

theorem pay62_apply {o : FVec Ideal S512x512 .f32} {v : Vec Ideal S512x512 .bf16} (ho : ∀ r i, o (ix2 r i) = I.oc r i)
    (hv : ∀ r i, v (ix2 r i) = I.cg r i) (r i : Fin 512) : k0_pay62 (F := Ideal) o v (ix2 r i) = I.yc r i := by
  unfold k0_pay62
  simp only [pointwise, shapeCast_self, sigmoid_eq, ho, hv, In.yc]

theorem pay63_apply {y : FVec Ideal S512x512 .bf16} {f : Fin 512 → Fin 512 → EReal} (hy : ∀ r i, y (ix2 r i) = f r i)
    (r i : Fin 512) : k0_pay63 (F := Ideal) y (ix3 0 r i) = f r i := by
  unfold k0_pay63
  simp only [pointwise, hy]

theorem pay61_apply {o : FVec Ideal S512x512 .f32} {f : Fin 512 → Fin 512 → EReal} (ho : ∀ r i, o (ix2 r i) = f r i)
    (r i : Fin 512) : k0_pay61 (F := Ideal) o (ix2 r i) = f r i := by
  unfold k0_pay61
  simp only [pointwise, ho]

theorem z_apply {y0 y1 y2 : Vec Ideal S1x512x512 .bf16} {yc : FVec Ideal S512x512 .bf16}
    {g0 g1 g2 g3 : Vec Ideal S512x1024 .bf16} {w0 w1 w2 w3 : Vec Ideal S1x512x1024 .bf16}
    (h0 : ∀ r i, y0 (ix3 0 r i) = I.y r 0 i) (h1 : ∀ r i, y1 (ix3 0 r i) = I.y r 1 i)
    (h2 : ∀ r i, y2 (ix3 0 r i) = I.y r 2 i) (hc : ∀ r i, yc (ix2 r i) = I.yc r i)
    (e0 : ∀ r k, g0 (ix2 r k) = I.g r 0 k) (e1 : ∀ r k, g1 (ix2 r k) = I.g r 1 k)
    (e2 : ∀ r k, g2 (ix2 r k) = I.g r 2 k) (e3 : ∀ r k, g3 (ix2 r k) = I.g r 3 k)
    (u0 : ∀ i k, w0 (ix3 0 i k) = I.w 0 i k) (u1 : ∀ i k, w1 (ix3 0 i k) = I.w 1 i k)
    (u2 : ∀ i k, w2 (ix3 0 i k) = I.w 2 i k) (u3 : ∀ i k, w3 (ix3 0 i k) = I.w 3 i k) (r : Fin 512) (k : Fin 1024) :
    k0_pay68 (F := Ideal) yc (k0_pay64 y1) (k0_pay65 y2) (k0_pay66 y0 g0 w0) (k0_pay67 g1) w1 g2 w2 g3 w3 (ix2 r k) = I.z r k := by
  unfold k0_pay68 k0_pay67 k0_pay66 k0_pay65 k0_pay64
  simp only [pointwise, shapeCast_self, zero_add, sigmoid_eq, h0, h1, h2, hc, e0, e1, e2, e3, u0, u1, u2, u3, In.z]

theorem pay1_apply {v : FVec Ideal S512x1024 .f32} (hv : ∀ r k, v (ix2 r k) = I.z r k) (r : Fin 512) (k : Fin 1024) :
    k0_pay1 (F := Ideal) v (ix2 r k) = I.z r k := by
  unfold k0_pay1
  simp only [pointwise, hv]

theorem pay2_apply {v : FVec Ideal S512x1024 .f32} {x : Vec Ideal S512x1024 .f32} {w : Vec Ideal S1024x1024 .bf16} (hv : ∀ r k, v (ix2 r k) = I.z r k)
    (hx : ∀ r k, x (ix2 r k) = I.x r k) (hw : ∀ j k, w (ix2 j k) = I.wo j k) (r : Fin 512) (k : Fin 1024) :
    k0_pay2 (F := Ideal) v x w (ix2 r k) = I.xnew r k := by
  unfold k0_pay2
  simp only [pointwise, shapeCast_self, zero_add, pay1_apply I hv, hx, hw, In.xnew]

end

end Cert.Kernel6Ideal.Gen

end
-- ==== Proof.FwdBlock.lean ====
/-
  The data of one grid point of the forward merge, the reads of its scratch, and the attention output the scratch holds.
-/
module

public import proofs.«01_k».proof.Proof.Block
public import proofs.«01_k».proof.Proof.FwdPay

@[expose] public section

set_option maxRecDepth 16384
set_option maxHeartbeats 400000

noncomputable section

namespace Cert.Kernel6Ideal.Gen

open Idealize.ShloMosaic Idealize.ShloMosaic.TcCoe Idealize.ShloMosaic.Tactic
open Cert.Kernel6Ideal
open Cert.MergeFwd
open Cert.KernelIdeal.Gen (cols_hit cols_miss)

/-- The data of one grid point. -/
def fblk (x0 : Vec Ideal S512x1024 .f32) (x1 : Vec Ideal S3x512x512 .bf16) (x2 x3 x4 : Vec Ideal S512x512 .bf16)
    (x5 x6 x7 : Vec Ideal S512x128 .f32) (x8 : Vec Ideal S512x512 .bf16) (x9 x10 x11 x12 : Vec Ideal S512x1024 .bf16)
    (x14 : Vec Ideal S1024x1024 .bf16) (w : Fin 4 → Fin 512 → Fin 1024 → EReal) : In (Fin 512) where
  x r k := x0 (ix2 r k)
  y r s i := x1 (ix3 s r i)
  o1 r i := x2 (ix2 r i)
  o4 r i := x3 (ix2 r i)
  o16 r i := x4 (ix2 r i)
  l1 r l := x5 (ix2 r l)
  l4 r l := x6 (ix2 r l)
  l16 r l := x7 (ix2 r l)
  cg r i := x8 (ix2 r i)
  g r b j := (![x9, x10, x11, x12] b : Vec Ideal S512x1024 .bf16) (ix2 r j)
  w := w
  wo j k := x14 (ix2 j k)

/-- A load of some of the columns. -/
theorem ld_cols {e : EltTy} {A B C n : ℕ} (x : Vec Ideal ⟨2, ![A, B]⟩ e) (inb) (r : Fin A) (q : Fin C) (j : Fin B)
    (hj : j.val = n + q.val) :
    View.ld x (Rect.unit (s := ⟨2, ![A, B]⟩) ![0, n] ![A, C] inb) (ix2 r q) = x (ix2 r j) := by
  refine View.ld_unit_apply_of _ _ _ _ _ _ (Fin.forall_fin_two.2 ⟨?_, ?_⟩)
  · show r.val = 0 + r.val; omega
  · show j.val = n + q.val; omega

/-- A load of the whole of what the stores left. -/
theorem readCov_whole {e : EltTy} {A B : ℕ} {sig : RefSig} {κ : Kind} {sp : Space} (v : View sig κ sp ⟨2, ![A, B]⟩ e)
    (L : List (View.Piece (Elt Ideal) ⟨2, ![A, B]⟩ e)) (inb) (r : Fin A) (k : Fin B) :
    v.readCov L (Rect.unit (s := ⟨2, ![A, B]⟩) ![0, 0] ![A, B] inb).toLoadRect (ix2 r k) = View.canon L (ix2 r k) := by
  rw [View.readCov_eq_canon']
  refine congrArg (View.canon L) ?_
  funext a
  apply Fin.ext
  refine (Rect.idx_unit_val _ _ _ _ _).trans ?_
  fin_cases a
  · show 0 + r.val = r.val; omega
  · show 0 + k.val = k.val; omega

section

variable (I : In (Fin 512)) {a b c : Vec Ideal S512x128 .f32} (ha : ∀ r l, a (ix2 r l) = I.l1 r l)
  (hb : ∀ r l, b (ix2 r l) = I.l4 r l) (hc : ∀ r l, c (ix2 r l) = I.l16 r l)

include ha hb hc

theorem lanes_apply (r : Fin 512) (l : Fin 128) :
    k0_pay60 (F := Ideal) (k0_pay38 a b c) (k0_pay45 (k0_pay41 a) (k0_pay42 b) c) (k0_pay51 a b c)
      (k0_pay57 (k0_pay54 a) (k0_pay55 b) c) (ix2 r l) = I.lanes r l := by
  refine pay60_apply r l (s := I.head r) (fun j => ?_) (fun j => ?_) (fun j => ?_) (fun j => ?_)
  · rw [pay38_apply, ha, hb, hc]; rfl
  · rw [pay45_apply, ha, hb, hc]; rfl
  · rw [pay51_apply, ha, hb, hc]; rfl
  · rw [pay57_apply, ha, hb, hc]; rfl

variable {p0 p1 p2 p3 q0 q1 q2 q3 s0 s1 s2 s3 : Vec Ideal S512x128 .bf16}
  (hp0 : ∀ r (d : Fin 128) (j : Fin 512), j.val = 0 + d.val → p0 (ix2 r d) = I.o1 r j)
  (hp1 : ∀ r (d : Fin 128) (j : Fin 512), j.val = 128 + d.val → p1 (ix2 r d) = I.o1 r j)
  (hp2 : ∀ r (d : Fin 128) (j : Fin 512), j.val = 256 + d.val → p2 (ix2 r d) = I.o1 r j)
  (hp3 : ∀ r (d : Fin 128) (j : Fin 512), j.val = 384 + d.val → p3 (ix2 r d) = I.o1 r j)
  (hq0 : ∀ r (d : Fin 128) (j : Fin 512), j.val = 0 + d.val → q0 (ix2 r d) = I.o4 r j)
  (hq1 : ∀ r (d : Fin 128) (j : Fin 512), j.val = 128 + d.val → q1 (ix2 r d) = I.o4 r j)
  (hq2 : ∀ r (d : Fin 128) (j : Fin 512), j.val = 256 + d.val → q2 (ix2 r d) = I.o4 r j)
  (hq3 : ∀ r (d : Fin 128) (j : Fin 512), j.val = 384 + d.val → q3 (ix2 r d) = I.o4 r j)
  (hs0 : ∀ r (d : Fin 128) (j : Fin 512), j.val = 0 + d.val → s0 (ix2 r d) = I.o16 r j)
  (hs1 : ∀ r (d : Fin 128) (j : Fin 512), j.val = 128 + d.val → s1 (ix2 r d) = I.o16 r j)
  (hs2 : ∀ r (d : Fin 128) (j : Fin 512), j.val = 256 + d.val → s2 (ix2 r d) = I.o16 r j)
  (hs3 : ∀ r (d : Fin 128) (j : Fin 512), j.val = 384 + d.val → s3 (ix2 r d) = I.o16 r j)

include hp0 hp1 hp2 hp3 hq0 hq1 hq2 hq3 hs0 hs1 hs2 hs3

/-- The attention output, put together in scratch one head after another. -/
theorem oc_read {κ : Kind} {sp : Space} (v : View sig κ sp S512x512 .f32) (i0 i1 i2 i3 inb) (r i : Fin 512) :
    v.readCov
      [(⟨Rect.unit (s := S512x512) ![0, 384] S512x128.size i3,
          k0_pay59 (k0_pay58 (k0_pay54 a) (k0_pay55 b) c p3 q3 s3)⟩ : View.Piece (Elt Ideal) S512x512 .f32),
        ⟨Rect.unit (s := S512x512) ![0, 256] S512x128.size i2,
          k0_pay53 (k0_pay49 b) (k0_pay50 c) (k0_pay51 a b c) (k0_pay52 a b c) p2 q2 s2⟩,
        ⟨Rect.unit (s := S512x512) ![0, 128] S512x128.size i1,
          k0_pay47 (k0_pay46 (k0_pay41 a) (k0_pay42 b) c p1 q1 s1)⟩,
        ⟨Rect.unit (s := S512x512) ![0, 0] S512x128.size i0,
          k0_pay40 (k0_pay36 b) (k0_pay37 c) (k0_pay38 a b c) (k0_pay39 a b c) p0 q0 s0⟩]
      (Rect.unit (s := S512x512) ![0, 0] S512x512.size inb).toLoadRect (ix2 r i) = I.oc r i := by
  refine (readCov_whole v _ inb r i).trans ?_
  have hi := i.isLt
  unfold In.oc
  have hh : i.val < 128 ∨ (128 ≤ i.val ∧ i.val < 256) ∨ (256 ≤ i.val ∧ i.val < 384) ∨ 384 ≤ i.val := by omega
  rcases hh with h | h | h | h
  · rw [show headOf i = 0 from Fin.ext (by show i.val / 128 = 0; omega)]
    refine (cols_miss _ _ _ r i (by omega)).trans ((cols_miss _ _ _ r i (by omega)).trans ((cols_miss _ _ _ r i (by omega)).trans
      ((cols_hit _ _ _ r i (⟨i.val, h⟩ : Fin 128) (by dsimp only; omega)).trans ?_)))
    rw [pay40_apply, ha, hb, hc, hp0 r _ i (by dsimp only; omega), hq0 r _ i (by dsimp only; omega), hs0 r _ i (by dsimp only; omega)]
    rfl
  · rw [show headOf i = 1 from Fin.ext (by show i.val / 128 = 1; omega)]
    refine (cols_miss _ _ _ r i (by omega)).trans ((cols_miss _ _ _ r i (by omega)).trans
      ((cols_hit _ _ _ r i (⟨i.val - 128, by omega⟩ : Fin 128) (by dsimp only; omega)).trans ?_))
    rw [pay46_apply, ha, hb, hc, hp1 r _ i (by dsimp only; omega), hq1 r _ i (by dsimp only; omega), hs1 r _ i (by dsimp only; omega)]
    rfl
  · rw [show headOf i = 2 from Fin.ext (by show i.val / 128 = 2; omega)]
    refine (cols_miss _ _ _ r i (by omega)).trans
      ((cols_hit _ _ _ r i (⟨i.val - 256, by omega⟩ : Fin 128) (by dsimp only; omega)).trans ?_)
    rw [pay53_apply, ha, hb, hc, hp2 r _ i (by dsimp only; omega), hq2 r _ i (by dsimp only; omega), hs2 r _ i (by dsimp only; omega)]
    rfl
  · rw [show headOf i = 3 from Fin.ext (by show i.val / 128 = 3; omega)]
    refine (cols_hit _ _ _ r i (⟨i.val - 384, by omega⟩ : Fin 128) (by dsimp only; omega)).trans ?_
    rw [pay58_apply, ha, hb, hc, hp3 r _ i (by dsimp only; omega), hq3 r _ i (by dsimp only; omega), hs3 r _ i (by dsimp only; omega)]
    rfl

end

end Cert.Kernel6Ideal.Gen

end
-- ==== Proof.FwdCaseA.lean ====
/-
  The first grid step of the forward merge: what it leaves in its five output blocks.
-/
module

public import proofs.«01_k».proof.Proof.Gen.Kernel6Ideal.Frame
public import Idealize.ShloMosaic.Lib.ValueIdx
public import Idealize.ShloMosaic.Lib.Pointwise
public import Idealize.ShloMosaic.Lib.Pipeline.Value
public import Idealize.ShloMosaic.Lib.Pipeline.ValueKit
public import proofs.«01_k».proof.Proof.FwdBlock

@[expose] public section

set_option maxRecDepth 16384
set_option maxHeartbeats 400000

noncomputable section

namespace Cert.Kernel6Ideal.Gen

open Idealize.ShloMosaic Idealize.ShloMosaic.TcCoe Idealize.ShloMosaic.Tactic
open Cert.Kernel6Ideal
open Cert.MergeFwd
open Cert.KernelIdeal.Gen (ld_whole ld_slot readCov_slot wOf wPieces wPieces_apply)

variable (c : Dev nD) (i : grid0.Coords) (arg1 : Memref sig .tc .vmem S512x1024 .f32) (harg1 : arg1.IsWhole) (arg2 : Memref sig .tc .vmem S3x512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S8x2048x128 .bf16) (harg14 : arg14.IsWhole) (arg15 : Memref sig .tc .vmem S1024x1024 .bf16) (harg15 : arg15.IsWhole) (arg16 : Memref sig .tc .vmem S512x1024 .f32) (harg16 : arg16.IsWhole) (arg17 : Memref sig .tc .vmem S1x512x512 .bf16) (harg17 : arg17.IsWhole) (arg18 : Memref sig .tc .vmem S512x512 .bf16) (harg18 : arg18.IsWhole) (arg19 : Memref sig .tc .vmem S512x128 .f32) (harg19 : arg19.IsWhole) (arg20 : Memref sig .tc .vmem S512x1024 .bf16) (harg20 : arg20.IsWhole) (arg21 : Memref sig .tc .vmem S512x512 .f32) (harg21 : arg21.IsWhole) (arg22 : Memref sig .tc .vmem S4x512x1024 .bf16) (harg22 : arg22.IsWhole) (hc0 : cond0_0 i)
    (x0 : Vec Ideal S512x1024 .f32) (x1 : Vec Ideal S3x512x512 .bf16) (x2 : Vec Ideal S512x512 .bf16) (x3 : Vec Ideal S512x512 .bf16) (x4 : Vec Ideal S512x512 .bf16) (x5 : Vec Ideal S512x128 .f32) (x6 : Vec Ideal S512x128 .f32) (x7 : Vec Ideal S512x128 .f32) (x8 : Vec Ideal S512x512 .bf16) (x9 : Vec Ideal S512x1024 .bf16) (x10 : Vec Ideal S512x1024 .bf16) (x11 : Vec Ideal S512x1024 .bf16) (x12 : Vec Ideal S512x1024 .bf16) (x13 : Vec Ideal S8x2048x128 .bf16) (x14 : Vec Ideal S1024x1024 .bf16)

/-- The attention output. -/
theorem fout17_A (r i' : Fin 512) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 (ix2 r i') = In.oc (fblk x0 x1 x2 x3 x4 x5 x6 x7 x8 x9 x10 x11 x12 x14 (wOf x13)) r i' := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread]
  rw [View.canon_cons_unit_lit _ _ _ (by decide)]
  exact pay61_apply (fun r i => oc_read (fblk x0 x1 x2 x3 x4 x5 x6 x7 x8 x9 x10 x11 x12 x14 (wOf x13)) (fun r l => ld_whole x5 _ r l) (fun r l => ld_whole x6 _ r l) (fun r l => ld_whole x7 _ r l) (fun r d j hj => ld_cols x2 _ r d j hj) (fun r d j hj => ld_cols x2 _ r d j hj) (fun r d j hj => ld_cols x2 _ r d j hj) (fun r d j hj => ld_cols x2 _ r d j hj) (fun r d j hj => ld_cols x3 _ r d j hj) (fun r d j hj => ld_cols x3 _ r d j hj) (fun r d j hj => ld_cols x3 _ r d j hj) (fun r d j hj => ld_cols x3 _ r d j hj) (fun r d j hj => ld_cols x4 _ r d j hj) (fun r d j hj => ld_cols x4 _ r d j hj) (fun r d j hj => ld_cols x4 _ r d j hj) (fun r d j hj => ld_cols x4 _ r d j hj) _ _ _ _ _ _ r i) r i'

/-- The heads' logarithms. -/
theorem fout18_A (r : Fin 512) (l : Fin 128) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 (ix2 r l) = In.lanes (fblk x0 x1 x2 x3 x4 x5 x6 x7 x8 x9 x10 x11 x12 x14 (wOf x13)) r l := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread]
  rw [View.canon_cons_unit_lit _ _ _ (by decide)]
  exact lanes_apply (fblk x0 x1 x2 x3 x4 x5 x6 x7 x8 x9 x10 x11 x12 x14 (wOf x13)) (fun r l => ld_whole x5 _ r l) (fun r l => ld_whole x6 _ r l) (fun r l => ld_whole x7 _ r l) r l

/-- The gated attention output. -/
theorem fout16_A (r i' : Fin 512) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 (ix3 0 r i') = In.yc (fblk x0 x1 x2 x3 x4 x5 x6 x7 x8 x9 x10 x11 x12 x14 (wOf x13)) r i' := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread]
  rw [View.canon_cons_unit_lit _ _ _ (by decide)]
  exact pay63_apply (f := In.yc (fblk x0 x1 x2 x3 x4 x5 x6 x7 x8 x9 x10 x11 x12 x14 (wOf x13))) (fun r i => pay62_apply (fblk x0 x1 x2 x3 x4 x5 x6 x7 x8 x9 x10 x11 x12 x14 (wOf x13)) (fun r i => oc_read (fblk x0 x1 x2 x3 x4 x5 x6 x7 x8 x9 x10 x11 x12 x14 (wOf x13)) (fun r l => ld_whole x5 _ r l) (fun r l => ld_whole x6 _ r l) (fun r l => ld_whole x7 _ r l) (fun r d j hj => ld_cols x2 _ r d j hj) (fun r d j hj => ld_cols x2 _ r d j hj) (fun r d j hj => ld_cols x2 _ r d j hj) (fun r d j hj => ld_cols x2 _ r d j hj) (fun r d j hj => ld_cols x3 _ r d j hj) (fun r d j hj => ld_cols x3 _ r d j hj) (fun r d j hj => ld_cols x3 _ r d j hj) (fun r d j hj => ld_cols x3 _ r d j hj) (fun r d j hj => ld_cols x4 _ r d j hj) (fun r d j hj => ld_cols x4 _ r d j hj) (fun r d j hj => ld_cols x4 _ r d j hj) (fun r d j hj => ld_cols x4 _ r d j hj) _ _ _ _ _ _ r i) (fun r i => ld_whole x8 _ r i) r i) r i'

/-- The merged activation. -/
theorem fout19_A (r : Fin 512) (k : Fin 1024) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 (ix2 r k) = In.z (fblk x0 x1 x2 x3 x4 x5 x6 x7 x8 x9 x10 x11 x12 x14 (wOf x13)) r k := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread]
  rw [View.canon_cons_unit_lit _ _ _ (by decide)]
  exact pay1_apply (fblk x0 x1 x2 x3 x4 x5 x6 x7 x8 x9 x10 x11 x12 x14 (wOf x13)) (fun r k => z_apply (fblk x0 x1 x2 x3 x4 x5 x6 x7 x8 x9 x10 x11 x12 x14 (wOf x13)) (fun r i => ld_slot x1 _ 0 rfl r i) (fun r i => ld_slot x1 _ 1 rfl r i) (fun r i => ld_slot x1 _ 2 rfl r i) (fun r i => pay62_apply (fblk x0 x1 x2 x3 x4 x5 x6 x7 x8 x9 x10 x11 x12 x14 (wOf x13)) (fun r i => oc_read (fblk x0 x1 x2 x3 x4 x5 x6 x7 x8 x9 x10 x11 x12 x14 (wOf x13)) (fun r l => ld_whole x5 _ r l) (fun r l => ld_whole x6 _ r l) (fun r l => ld_whole x7 _ r l) (fun r d j hj => ld_cols x2 _ r d j hj) (fun r d j hj => ld_cols x2 _ r d j hj) (fun r d j hj => ld_cols x2 _ r d j hj) (fun r d j hj => ld_cols x2 _ r d j hj) (fun r d j hj => ld_cols x3 _ r d j hj) (fun r d j hj => ld_cols x3 _ r d j hj) (fun r d j hj => ld_cols x3 _ r d j hj) (fun r d j hj => ld_cols x3 _ r d j hj) (fun r d j hj => ld_cols x4 _ r d j hj) (fun r d j hj => ld_cols x4 _ r d j hj) (fun r d j hj => ld_cols x4 _ r d j hj) (fun r d j hj => ld_cols x4 _ r d j hj) _ _ _ _ _ _ r i) (fun r i => ld_whole x8 _ r i) r i) (fun r k => ld_whole x9 _ r k) (fun r k => ld_whole x10 _ r k) (fun r k => ld_whole x11 _ r k) (fun r k => ld_whole x12 _ r k) (fun i j => (readCov_slot (A := 4) (B := 512) (C := 1024) (n := 0) _ (wPieces x13) _ 0 (by decide) i j).trans (wPieces_apply x13 0 i j)) (fun i j => (readCov_slot (A := 4) (B := 512) (C := 1024) (n := 1) _ (wPieces x13) _ 1 (by decide) i j).trans (wPieces_apply x13 1 i j)) (fun i j => (readCov_slot (A := 4) (B := 512) (C := 1024) (n := 2) _ (wPieces x13) _ 2 (by decide) i j).trans (wPieces_apply x13 2 i j)) (fun i j => (readCov_slot (A := 4) (B := 512) (C := 1024) (n := 3) _ (wPieces x13) _ 3 (by decide) i j).trans (wPieces_apply x13 3 i j)) r k) r k

/-- The new residual stream. -/
theorem fout15_A (r : Fin 512) (k : Fin 1024) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 (ix2 r k) = In.xnew (fblk x0 x1 x2 x3 x4 x5 x6 x7 x8 x9 x10 x11 x12 x14 (wOf x13)) r k := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread]
  rw [View.canon_cons_unit_lit _ _ _ (by decide)]
  exact pay2_apply (fblk x0 x1 x2 x3 x4 x5 x6 x7 x8 x9 x10 x11 x12 x14 (wOf x13)) (fun r k => z_apply (fblk x0 x1 x2 x3 x4 x5 x6 x7 x8 x9 x10 x11 x12 x14 (wOf x13)) (fun r i => ld_slot x1 _ 0 rfl r i) (fun r i => ld_slot x1 _ 1 rfl r i) (fun r i => ld_slot x1 _ 2 rfl r i) (fun r i => pay62_apply (fblk x0 x1 x2 x3 x4 x5 x6 x7 x8 x9 x10 x11 x12 x14 (wOf x13)) (fun r i => oc_read (fblk x0 x1 x2 x3 x4 x5 x6 x7 x8 x9 x10 x11 x12 x14 (wOf x13)) (fun r l => ld_whole x5 _ r l) (fun r l => ld_whole x6 _ r l) (fun r l => ld_whole x7 _ r l) (fun r d j hj => ld_cols x2 _ r d j hj) (fun r d j hj => ld_cols x2 _ r d j hj) (fun r d j hj => ld_cols x2 _ r d j hj) (fun r d j hj => ld_cols x2 _ r d j hj) (fun r d j hj => ld_cols x3 _ r d j hj) (fun r d j hj => ld_cols x3 _ r d j hj) (fun r d j hj => ld_cols x3 _ r d j hj) (fun r d j hj => ld_cols x3 _ r d j hj) (fun r d j hj => ld_cols x4 _ r d j hj) (fun r d j hj => ld_cols x4 _ r d j hj) (fun r d j hj => ld_cols x4 _ r d j hj) (fun r d j hj => ld_cols x4 _ r d j hj) _ _ _ _ _ _ r i) (fun r i => ld_whole x8 _ r i) r i) (fun r k => ld_whole x9 _ r k) (fun r k => ld_whole x10 _ r k) (fun r k => ld_whole x11 _ r k) (fun r k => ld_whole x12 _ r k) (fun i j => (readCov_slot (A := 4) (B := 512) (C := 1024) (n := 0) _ (wPieces x13) _ 0 (by decide) i j).trans (wPieces_apply x13 0 i j)) (fun i j => (readCov_slot (A := 4) (B := 512) (C := 1024) (n := 1) _ (wPieces x13) _ 1 (by decide) i j).trans (wPieces_apply x13 1 i j)) (fun i j => (readCov_slot (A := 4) (B := 512) (C := 1024) (n := 2) _ (wPieces x13) _ 2 (by decide) i j).trans (wPieces_apply x13 2 i j)) (fun i j => (readCov_slot (A := 4) (B := 512) (C := 1024) (n := 3) _ (wPieces x13) _ 3 (by decide) i j).trans (wPieces_apply x13 3 i j)) r k) (fun r k => ld_whole x0 _ r k) (fun j k => ld_whole x14 _ j k) r k

/-- The copy of the branch weights. -/
theorem fwbs_A (b : Fin 4) (k : Fin 512) (j : Fin 1024) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 (ix3 b k j) = wOf x13 b k j := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread]
  exact wPieces_apply x13 b k j

end Cert.Kernel6Ideal.Gen

end
-- ==== Proof.FwdCaseB.lean ====
/-
  A later grid step of the forward merge: what it leaves in its five output blocks.
-/
module

public import proofs.«01_k».proof.Proof.Gen.Kernel6Ideal.Frame
public import Idealize.ShloMosaic.Lib.ValueIdx
public import Idealize.ShloMosaic.Lib.Pointwise
public import Idealize.ShloMosaic.Lib.Pipeline.Value
public import Idealize.ShloMosaic.Lib.Pipeline.ValueKit
public import proofs.«01_k».proof.Proof.FwdBlock

@[expose] public section

set_option maxRecDepth 16384
set_option maxHeartbeats 400000

noncomputable section

namespace Cert.Kernel6Ideal.Gen

open Idealize.ShloMosaic Idealize.ShloMosaic.TcCoe Idealize.ShloMosaic.Tactic
open Cert.Kernel6Ideal
open Cert.MergeFwd
open Cert.KernelIdeal.Gen (ld_whole ld_slot readCov_slot wOf wPieces wPieces_apply)

variable (c : Dev nD) (i : grid0.Coords) (arg1 : Memref sig .tc .vmem S512x1024 .f32) (harg1 : arg1.IsWhole) (arg2 : Memref sig .tc .vmem S3x512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S8x2048x128 .bf16) (harg14 : arg14.IsWhole) (arg15 : Memref sig .tc .vmem S1024x1024 .bf16) (harg15 : arg15.IsWhole) (arg16 : Memref sig .tc .vmem S512x1024 .f32) (harg16 : arg16.IsWhole) (arg17 : Memref sig .tc .vmem S1x512x512 .bf16) (harg17 : arg17.IsWhole) (arg18 : Memref sig .tc .vmem S512x512 .bf16) (harg18 : arg18.IsWhole) (arg19 : Memref sig .tc .vmem S512x128 .f32) (harg19 : arg19.IsWhole) (arg20 : Memref sig .tc .vmem S512x1024 .bf16) (harg20 : arg20.IsWhole) (arg21 : Memref sig .tc .vmem S512x512 .f32) (harg21 : arg21.IsWhole) (arg22 : Memref sig .tc .vmem S4x512x1024 .bf16) (harg22 : arg22.IsWhole) (hc0 : ¬cond0_0 i)
    (x0 : Vec Ideal S512x1024 .f32) (x1 : Vec Ideal S3x512x512 .bf16) (x2 : Vec Ideal S512x512 .bf16) (x3 : Vec Ideal S512x512 .bf16) (x4 : Vec Ideal S512x512 .bf16) (x5 : Vec Ideal S512x128 .f32) (x6 : Vec Ideal S512x128 .f32) (x7 : Vec Ideal S512x128 .f32) (x8 : Vec Ideal S512x512 .bf16) (x9 : Vec Ideal S512x1024 .bf16) (x10 : Vec Ideal S512x1024 .bf16) (x11 : Vec Ideal S512x1024 .bf16) (x12 : Vec Ideal S512x1024 .bf16) (x13 : Vec Ideal S8x2048x128 .bf16) (x14 : Vec Ideal S1024x1024 .bf16) (xs1 : Vec Ideal S4x512x1024 .bf16)

/-- The attention output. -/
theorem fout17_B (r i' : Fin 512) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs1 (ix2 r i') = In.oc (fblk x0 x1 x2 x3 x4 x5 x6 x7 x8 x9 x10 x11 x12 x14 (fun b k j => xs1 (ix3 b k j))) r i' := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread]
  rw [View.canon_cons_unit_lit _ _ _ (by decide)]
  exact pay61_apply (fun r i => oc_read (fblk x0 x1 x2 x3 x4 x5 x6 x7 x8 x9 x10 x11 x12 x14 (fun b k j => xs1 (ix3 b k j))) (fun r l => ld_whole x5 _ r l) (fun r l => ld_whole x6 _ r l) (fun r l => ld_whole x7 _ r l) (fun r d j hj => ld_cols x2 _ r d j hj) (fun r d j hj => ld_cols x2 _ r d j hj) (fun r d j hj => ld_cols x2 _ r d j hj) (fun r d j hj => ld_cols x2 _ r d j hj) (fun r d j hj => ld_cols x3 _ r d j hj) (fun r d j hj => ld_cols x3 _ r d j hj) (fun r d j hj => ld_cols x3 _ r d j hj) (fun r d j hj => ld_cols x3 _ r d j hj) (fun r d j hj => ld_cols x4 _ r d j hj) (fun r d j hj => ld_cols x4 _ r d j hj) (fun r d j hj => ld_cols x4 _ r d j hj) (fun r d j hj => ld_cols x4 _ r d j hj) _ _ _ _ _ _ r i) r i'

/-- The heads' logarithms. -/
theorem fout18_B (r : Fin 512) (l : Fin 128) :
    out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs1 (ix2 r l) = In.lanes (fblk x0 x1 x2 x3 x4 x5 x6 x7 x8 x9 x10 x11 x12 x14 (fun b k j => xs1 (ix3 b k j))) r l := by
  unfold out0_B_18
  rw [View.read_writes_eq_canon _ _ _ (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread]
  rw [View.canon_cons_unit_lit _ _ _ (by decide)]
  exact lanes_apply (fblk x0 x1 x2 x3 x4 x5 x6 x7 x8 x9 x10 x11 x12 x14 (fun b k j => xs1 (ix3 b k j))) (fun r l => ld_whole x5 _ r l) (fun r l => ld_whole x6 _ r l) (fun r l => ld_whole x7 _ r l) r l

/-- The gated attention output. -/
theorem fout16_B (r i' : Fin 512) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs1 (ix3 0 r i') = In.yc (fblk x0 x1 x2 x3 x4 x5 x6 x7 x8 x9 x10 x11 x12 x14 (fun b k j => xs1 (ix3 b k j))) r i' := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread]
  rw [View.canon_cons_unit_lit _ _ _ (by decide)]
  exact pay63_apply (f := In.yc (fblk x0 x1 x2 x3 x4 x5 x6 x7 x8 x9 x10 x11 x12 x14 (fun b k j => xs1 (ix3 b k j)))) (fun r i => pay62_apply (fblk x0 x1 x2 x3 x4 x5 x6 x7 x8 x9 x10 x11 x12 x14 (fun b k j => xs1 (ix3 b k j))) (fun r i => oc_read (fblk x0 x1 x2 x3 x4 x5 x6 x7 x8 x9 x10 x11 x12 x14 (fun b k j => xs1 (ix3 b k j))) (fun r l => ld_whole x5 _ r l) (fun r l => ld_whole x6 _ r l) (fun r l => ld_whole x7 _ r l) (fun r d j hj => ld_cols x2 _ r d j hj) (fun r d j hj => ld_cols x2 _ r d j hj) (fun r d j hj => ld_cols x2 _ r d j hj) (fun r d j hj => ld_cols x2 _ r d j hj) (fun r d j hj => ld_cols x3 _ r d j hj) (fun r d j hj => ld_cols x3 _ r d j hj) (fun r d j hj => ld_cols x3 _ r d j hj) (fun r d j hj => ld_cols x3 _ r d j hj) (fun r d j hj => ld_cols x4 _ r d j hj) (fun r d j hj => ld_cols x4 _ r d j hj) (fun r d j hj => ld_cols x4 _ r d j hj) (fun r d j hj => ld_cols x4 _ r d j hj) _ _ _ _ _ _ r i) (fun r i => ld_whole x8 _ r i) r i) r i'

/-- The merged activation. -/
theorem fout19_B (r : Fin 512) (k : Fin 1024) :
    out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs1 (ix2 r k) = In.z (fblk x0 x1 x2 x3 x4 x5 x6 x7 x8 x9 x10 x11 x12 x14 (fun b k j => xs1 (ix3 b k j))) r k := by
  unfold out0_B_19
  rw [View.read_writes_eq_canon _ _ _ (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread]
  rw [View.canon_cons_unit_lit _ _ _ (by decide)]
  exact pay1_apply (fblk x0 x1 x2 x3 x4 x5 x6 x7 x8 x9 x10 x11 x12 x14 (fun b k j => xs1 (ix3 b k j))) (fun r k => z_apply (fblk x0 x1 x2 x3 x4 x5 x6 x7 x8 x9 x10 x11 x12 x14 (fun b k j => xs1 (ix3 b k j))) (fun r i => ld_slot x1 _ 0 rfl r i) (fun r i => ld_slot x1 _ 1 rfl r i) (fun r i => ld_slot x1 _ 2 rfl r i) (fun r i => pay62_apply (fblk x0 x1 x2 x3 x4 x5 x6 x7 x8 x9 x10 x11 x12 x14 (fun b k j => xs1 (ix3 b k j))) (fun r i => oc_read (fblk x0 x1 x2 x3 x4 x5 x6 x7 x8 x9 x10 x11 x12 x14 (fun b k j => xs1 (ix3 b k j))) (fun r l => ld_whole x5 _ r l) (fun r l => ld_whole x6 _ r l) (fun r l => ld_whole x7 _ r l) (fun r d j hj => ld_cols x2 _ r d j hj) (fun r d j hj => ld_cols x2 _ r d j hj) (fun r d j hj => ld_cols x2 _ r d j hj) (fun r d j hj => ld_cols x2 _ r d j hj) (fun r d j hj => ld_cols x3 _ r d j hj) (fun r d j hj => ld_cols x3 _ r d j hj) (fun r d j hj => ld_cols x3 _ r d j hj) (fun r d j hj => ld_cols x3 _ r d j hj) (fun r d j hj => ld_cols x4 _ r d j hj) (fun r d j hj => ld_cols x4 _ r d j hj) (fun r d j hj => ld_cols x4 _ r d j hj) (fun r d j hj => ld_cols x4 _ r d j hj) _ _ _ _ _ _ r i) (fun r i => ld_whole x8 _ r i) r i) (fun r k => ld_whole x9 _ r k) (fun r k => ld_whole x10 _ r k) (fun r k => ld_whole x11 _ r k) (fun r k => ld_whole x12 _ r k) (fun i j => ld_slot xs1 _ 0 rfl i j) (fun i j => ld_slot xs1 _ 1 rfl i j) (fun i j => ld_slot xs1 _ 2 rfl i j) (fun i j => ld_slot xs1 _ 3 rfl i j) r k) r k

/-- The new residual stream. -/
theorem fout15_B (r : Fin 512) (k : Fin 1024) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs1 (ix2 r k) = In.xnew (fblk x0 x1 x2 x3 x4 x5 x6 x7 x8 x9 x10 x11 x12 x14 (fun b k j => xs1 (ix3 b k j))) r k := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 xs1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread]
  rw [View.canon_cons_unit_lit _ _ _ (by decide)]
  exact pay2_apply (fblk x0 x1 x2 x3 x4 x5 x6 x7 x8 x9 x10 x11 x12 x14 (fun b k j => xs1 (ix3 b k j))) (fun r k => z_apply (fblk x0 x1 x2 x3 x4 x5 x6 x7 x8 x9 x10 x11 x12 x14 (fun b k j => xs1 (ix3 b k j))) (fun r i => ld_slot x1 _ 0 rfl r i) (fun r i => ld_slot x1 _ 1 rfl r i) (fun r i => ld_slot x1 _ 2 rfl r i) (fun r i => pay62_apply (fblk x0 x1 x2 x3 x4 x5 x6 x7 x8 x9 x10 x11 x12 x14 (fun b k j => xs1 (ix3 b k j))) (fun r i => oc_read (fblk x0 x1 x2 x3 x4 x5 x6 x7 x8 x9 x10 x11 x12 x14 (fun b k j => xs1 (ix3 b k j))) (fun r l => ld_whole x5 _ r l) (fun r l => ld_whole x6 _ r l) (fun r l => ld_whole x7 _ r l) (fun r d j hj => ld_cols x2 _ r d j hj) (fun r d j hj => ld_cols x2 _ r d j hj) (fun r d j hj => ld_cols x2 _ r d j hj) (fun r d j hj => ld_cols x2 _ r d j hj) (fun r d j hj => ld_cols x3 _ r d j hj) (fun r d j hj => ld_cols x3 _ r d j hj) (fun r d j hj => ld_cols x3 _ r d j hj) (fun r d j hj => ld_cols x3 _ r d j hj) (fun r d j hj => ld_cols x4 _ r d j hj) (fun r d j hj => ld_cols x4 _ r d j hj) (fun r d j hj => ld_cols x4 _ r d j hj) (fun r d j hj => ld_cols x4 _ r d j hj) _ _ _ _ _ _ r i) (fun r i => ld_whole x8 _ r i) r i) (fun r k => ld_whole x9 _ r k) (fun r k => ld_whole x10 _ r k) (fun r k => ld_whole x11 _ r k) (fun r k => ld_whole x12 _ r k) (fun i j => ld_slot xs1 _ 0 rfl i j) (fun i j => ld_slot xs1 _ 1 rfl i j) (fun i j => ld_slot xs1 _ 2 rfl i j) (fun i j => ld_slot xs1 _ 3 rfl i j) r k) (fun r k => ld_whole x0 _ r k) (fun j k => ld_whole x14 _ j k) r k

end Cert.Kernel6Ideal.Gen

end
-- ==== Proof.FwdHost.lean ====
/-
  The arrays that the host code prepares for the forward merge, read one element at a time.
-/
module

public import proofs.«01_k».proof.Proof.Gen.Kernel6Ideal.Frame
public import Idealize.ShloMosaic.Lib.ValueIdx
public import Idealize.ShloMosaic.Lib.Claim
public import Idealize.ShloMosaic.Lib.StableHlo.ReadAt
public import Idealize.ShloMosaic.Lib.Pipeline.ValueKit.Point
public import Idealize.ShloMosaic.Lib.Pointwise
public import Idealize.ShloMosaic.Lib.Pipeline.Value
public import Idealize.ShloMosaic.Lib.Pipeline.ValueKit
public import proofs.«01_k».proof.Proof.FwdBlock

@[expose] public section

set_option maxRecDepth 16384
set_option maxHeartbeats 400000

noncomputable section

namespace Cert.Kernel6Ideal.Gen

open Idealize.ShloMosaic Idealize.ShloMosaic.TcCoe Idealize.ShloMosaic.Tactic
open Cert.Kernel6Ideal
open Cert.MergeFwd
open Cert.KernelIdeal.Gen (wOf colBlock colIn)

variable (m : (ℓ : Loc nD τ sig) → Buf (Elt Ideal) ℓ) (c : Dev nD)

/-! ## The data of the whole call, from the arguments -/

def argX (i : S4096x1024.Idx) : EReal := m (c, Proc.tc.devRef main_arg0) i
def argY (i : S4x4096x512.Idx) : EReal := m (c, Proc.tc.devRef main_arg1) i
def argO1 (i : S4096x512.Idx) : EReal := m (c, Proc.tc.devRef main_arg2) i
def argO4 (i : S4096x512.Idx) : EReal := m (c, Proc.tc.devRef main_arg3) i
def argO16 (i : S4096x512.Idx) : EReal := m (c, Proc.tc.devRef main_arg4) i
def argL1 (i : S4096x128.Idx) : EReal := m (c, Proc.tc.devRef main_arg5) i
def argL4 (i : S4096x128.Idx) : EReal := m (c, Proc.tc.devRef main_arg6) i
def argL16 (i : S4096x128.Idx) : EReal := m (c, Proc.tc.devRef main_arg7) i
def argProj (i : S4096x6656.Idx) : EReal := m (c, Proc.tc.devRef main_arg8) i
def argG (i : S4096x4096.Idx) : EReal := m (c, Proc.tc.devRef main_arg9) i
def argW (i : S4x512x1024.Idx) : EReal := m (c, Proc.tc.devRef main_arg10) i
def argWo (i : S1024x1024.Idx) : EReal := m (c, Proc.tc.devRef main_arg11) i

/-- The data of the call: every row's, and the weights. -/
def stepIn : In (Fin 4096) where
  x R k := argX m c (ix2 R k)
  y R s i := argY m c (ix3 ⟨s.val, by have := s.isLt; omega⟩ R i)
  o1 R i := argO1 m c (ix2 R i)
  o4 R i := argO4 m c (ix2 R i)
  o16 R i := argO16 m c (ix2 R i)
  l1 R l := argL1 m c (ix2 R l)
  l4 R l := argL4 m c (ix2 R l)
  l16 R l := argL16 m c (ix2 R l)
  cg R i := argProj m c (ix2 R ⟨5120 + i.val, by have := i.isLt; omega⟩)
  g R b j := argG m c (ix2 R ⟨1024 * b.val + j.val, by have := b.isLt; have := j.isLt; omega⟩)
  w b i j := argW m c (ix3 b i j)
  wo j k := argWo m c (ix2 j k)

theorem host_w (b : Fin 4) (i : Fin 512) (j : Fin 1024) :
    V m c main_v2 (ix3 (colBlock j) ⟨512 * b.val + i.val, by have := b.isLt; have := i.isLt; omega⟩ (colIn j) : S8x2048x128.Idx)
      = argW m c (ix3 b i j) := by
  unfold V
  after_reads_at
  refine congrArg (argW m c) ?_
  have hi := i.isLt
  funext a; apply Fin.ext
  match a with
  | ⟨0, _⟩ => show (512 * b.val + i.val) / 512 = b.val; omega
  | ⟨1, _⟩ => show (512 * b.val + i.val) % 512 = i.val; omega
  | ⟨2, _⟩ => show j.val / 128 * 128 + j.val % 128 = j.val; omega

/-! ## What each window's block holds -/

theorem idx_in0 : ∀ t : Fin cfg0.N, win0_0.index t (0 : Fin 2) = t.val ∧ win0_0.index t (1 : Fin 2) = 0 := by decide +kernel

theorem iblk_0 (t : Fin cfg0.N) (r : Fin 512) (R : Fin 4096) (hR : R.val = 512 * t.val + r.val) (k : Fin 1024) :
    iblk m c 0 t (ix2 r k : S512x1024.Idx) = argX m c (ix2 R k) := by
  obtain ⟨e0, e1⟩ := idx_in0 t
  unfold iblk
  rw [View.read_apply]
  show V m c main_arg0 (((cfg0.win 0).blk t).view.emb (ix2 r k : S512x1024.Idx)) = _
  have e : (((cfg0.win 0).blk t).view.emb (ix2 r k : S512x1024.Idx)) = (ix2 R k : S4096x1024.Idx) := by
    funext a; apply Fin.ext
    match a with
    | ⟨0, _⟩ => show win0_0.index t (0 : Fin 2) * 512 + 1 * r.val = R.val; omega
    | ⟨1, _⟩ => show win0_0.index t (1 : Fin 2) * 1024 + 1 * k.val = k.val; omega
  rw [e]
  unfold V
  after_reads_at
  try rfl

theorem idx_in1 : ∀ t : Fin cfg0.N, win0_1.index t (0 : Fin 3) = 0 ∧ win0_1.index t (1 : Fin 3) = t.val ∧ win0_1.index t (2 : Fin 3) = 0 := by
  decide +kernel

theorem iblk_1 (t : Fin cfg0.N) (r : Fin 512) (R : Fin 4096) (hR : R.val = 512 * t.val + r.val) (s : Fin 3) (k : Fin 512) :
    X0_1 m c t (ix3 s r k : S3x512x512.Idx) = argY m c (ix3 ⟨s.val, by have := s.isLt; omega⟩ R k) := by
  obtain ⟨e0, e1, e2⟩ := idx_in1 t
  unfold X0_1 Pipeline.Window.fill
  rw [dif_pos (moved0_1 t _)]
  unfold iblk
  rw [View.read_apply]
  show V m c main_arg1 _ = _
  refine (congrArg (V m c main_arg1) (?_ : _ = (ix3 ⟨s.val, by have := s.isLt; omega⟩ R k : S4x4096x512.Idx))).trans ?_
  · funext a; apply Fin.ext
    match a with
    | ⟨0, _⟩ => show win0_1.index t (0 : Fin 3) * 3 + 1 * s.val = s.val; omega
    | ⟨1, _⟩ => show win0_1.index t (1 : Fin 3) * 512 + 1 * r.val = R.val; omega
    | ⟨2, _⟩ => show win0_1.index t (2 : Fin 3) * 512 + 1 * k.val = k.val; omega
  unfold V
  after_reads_at
  try rfl

theorem idx_in2 : ∀ t : Fin cfg0.N, win0_2.index t (0 : Fin 2) = t.val ∧ win0_2.index t (1 : Fin 2) = 0 := by decide +kernel

theorem iblk_2 (t : Fin cfg0.N) (r : Fin 512) (R : Fin 4096) (hR : R.val = 512 * t.val + r.val) (k : Fin 512) :
    iblk m c 2 t (ix2 r k : S512x512.Idx) = argO1 m c (ix2 R k) := by
  obtain ⟨e0, e1⟩ := idx_in2 t
  unfold iblk
  rw [View.read_apply]
  show V m c main_v3 (((cfg0.win 2).blk t).view.emb (ix2 r k : S512x512.Idx)) = _
  have e : (((cfg0.win 2).blk t).view.emb (ix2 r k : S512x512.Idx)) = (ix2 R k : S4096x512.Idx) := by
    funext a; apply Fin.ext
    match a with
    | ⟨0, _⟩ => show win0_2.index t (0 : Fin 2) * 512 + 1 * r.val = R.val; omega
    | ⟨1, _⟩ => show win0_2.index t (1 : Fin 2) * 512 + 1 * k.val = k.val; omega
  rw [e]
  unfold V
  after_reads_at
  rfl

theorem idx_in3 : ∀ t : Fin cfg0.N, win0_3.index t (0 : Fin 2) = t.val ∧ win0_3.index t (1 : Fin 2) = 0 := by decide +kernel

theorem iblk_3 (t : Fin cfg0.N) (r : Fin 512) (R : Fin 4096) (hR : R.val = 512 * t.val + r.val) (k : Fin 512) :
    iblk m c 3 t (ix2 r k : S512x512.Idx) = argO4 m c (ix2 R k) := by
  obtain ⟨e0, e1⟩ := idx_in3 t
  unfold iblk
  rw [View.read_apply]
  show V m c main_v4 (((cfg0.win 3).blk t).view.emb (ix2 r k : S512x512.Idx)) = _
  have e : (((cfg0.win 3).blk t).view.emb (ix2 r k : S512x512.Idx)) = (ix2 R k : S4096x512.Idx) := by
    funext a; apply Fin.ext
    match a with
    | ⟨0, _⟩ => show win0_3.index t (0 : Fin 2) * 512 + 1 * r.val = R.val; omega
    | ⟨1, _⟩ => show win0_3.index t (1 : Fin 2) * 512 + 1 * k.val = k.val; omega
  rw [e]
  unfold V
  after_reads_at
  rfl

theorem idx_in4 : ∀ t : Fin cfg0.N, win0_4.index t (0 : Fin 2) = t.val ∧ win0_4.index t (1 : Fin 2) = 0 := by decide +kernel

theorem iblk_4 (t : Fin cfg0.N) (r : Fin 512) (R : Fin 4096) (hR : R.val = 512 * t.val + r.val) (k : Fin 512) :
    iblk m c 4 t (ix2 r k : S512x512.Idx) = argO16 m c (ix2 R k) := by
  obtain ⟨e0, e1⟩ := idx_in4 t
  unfold iblk
  rw [View.read_apply]
  show V m c main_v5 (((cfg0.win 4).blk t).view.emb (ix2 r k : S512x512.Idx)) = _
  have e : (((cfg0.win 4).blk t).view.emb (ix2 r k : S512x512.Idx)) = (ix2 R k : S4096x512.Idx) := by
    funext a; apply Fin.ext
    match a with
    | ⟨0, _⟩ => show win0_4.index t (0 : Fin 2) * 512 + 1 * r.val = R.val; omega
    | ⟨1, _⟩ => show win0_4.index t (1 : Fin 2) * 512 + 1 * k.val = k.val; omega
  rw [e]
  unfold V
  after_reads_at
  rfl

theorem idx_in5 : ∀ t : Fin cfg0.N, win0_5.index t (0 : Fin 2) = t.val ∧ win0_5.index t (1 : Fin 2) = 0 := by decide +kernel

theorem iblk_5 (t : Fin cfg0.N) (r : Fin 512) (R : Fin 4096) (hR : R.val = 512 * t.val + r.val) (k : Fin 128) :
    iblk m c 5 t (ix2 r k : S512x128.Idx) = argL1 m c (ix2 R k) := by
  obtain ⟨e0, e1⟩ := idx_in5 t
  unfold iblk
  rw [View.read_apply]
  show V m c main_arg5 (((cfg0.win 5).blk t).view.emb (ix2 r k : S512x128.Idx)) = _
  have e : (((cfg0.win 5).blk t).view.emb (ix2 r k : S512x128.Idx)) = (ix2 R k : S4096x128.Idx) := by
    funext a; apply Fin.ext
    match a with
    | ⟨0, _⟩ => show win0_5.index t (0 : Fin 2) * 512 + 1 * r.val = R.val; omega
    | ⟨1, _⟩ => show win0_5.index t (1 : Fin 2) * 128 + 1 * k.val = k.val; omega
  rw [e]
  unfold V
  after_reads_at
  try rfl

theorem idx_in6 : ∀ t : Fin cfg0.N, win0_6.index t (0 : Fin 2) = t.val ∧ win0_6.index t (1 : Fin 2) = 0 := by decide +kernel

theorem iblk_6 (t : Fin cfg0.N) (r : Fin 512) (R : Fin 4096) (hR : R.val = 512 * t.val + r.val) (k : Fin 128) :
    iblk m c 6 t (ix2 r k : S512x128.Idx) = argL4 m c (ix2 R k) := by
  obtain ⟨e0, e1⟩ := idx_in6 t
  unfold iblk
  rw [View.read_apply]
  show V m c main_arg6 (((cfg0.win 6).blk t).view.emb (ix2 r k : S512x128.Idx)) = _
  have e : (((cfg0.win 6).blk t).view.emb (ix2 r k : S512x128.Idx)) = (ix2 R k : S4096x128.Idx) := by
    funext a; apply Fin.ext
    match a with
    | ⟨0, _⟩ => show win0_6.index t (0 : Fin 2) * 512 + 1 * r.val = R.val; omega
    | ⟨1, _⟩ => show win0_6.index t (1 : Fin 2) * 128 + 1 * k.val = k.val; omega
  rw [e]
  unfold V
  after_reads_at
  try rfl

theorem idx_in7 : ∀ t : Fin cfg0.N, win0_7.index t (0 : Fin 2) = t.val ∧ win0_7.index t (1 : Fin 2) = 0 := by decide +kernel

theorem iblk_7 (t : Fin cfg0.N) (r : Fin 512) (R : Fin 4096) (hR : R.val = 512 * t.val + r.val) (k : Fin 128) :
    iblk m c 7 t (ix2 r k : S512x128.Idx) = argL16 m c (ix2 R k) := by
  obtain ⟨e0, e1⟩ := idx_in7 t
  unfold iblk
  rw [View.read_apply]
  show V m c main_arg7 (((cfg0.win 7).blk t).view.emb (ix2 r k : S512x128.Idx)) = _
  have e : (((cfg0.win 7).blk t).view.emb (ix2 r k : S512x128.Idx)) = (ix2 R k : S4096x128.Idx) := by
    funext a; apply Fin.ext
    match a with
    | ⟨0, _⟩ => show win0_7.index t (0 : Fin 2) * 512 + 1 * r.val = R.val; omega
    | ⟨1, _⟩ => show win0_7.index t (1 : Fin 2) * 128 + 1 * k.val = k.val; omega
  rw [e]
  unfold V
  after_reads_at
  try rfl

theorem idx_in8 : ∀ t : Fin cfg0.N, win0_8.index t (0 : Fin 2) = t.val ∧ win0_8.index t (1 : Fin 2) = 10 := by decide +kernel

theorem iblk_8 (t : Fin cfg0.N) (r : Fin 512) (R : Fin 4096) (hR : R.val = 512 * t.val + r.val) (k : Fin 512) :
    iblk m c 8 t (ix2 r k : S512x512.Idx) = (stepIn m c).cg R k := by
  obtain ⟨e0, e1⟩ := idx_in8 t
  unfold iblk
  rw [View.read_apply]
  show V m c main_v6 (((cfg0.win 8).blk t).view.emb (ix2 r k : S512x512.Idx)) = _
  have e : (((cfg0.win 8).blk t).view.emb (ix2 r k : S512x512.Idx)) = (ix2 R ⟨5120 + k.val, by have := k.isLt; omega⟩ : S4096x6656.Idx) := by
    funext a; apply Fin.ext
    match a with
    | ⟨0, _⟩ => show win0_8.index t (0 : Fin 2) * 512 + 1 * r.val = R.val; omega
    | ⟨1, _⟩ => show win0_8.index t (1 : Fin 2) * 512 + 1 * k.val = 5120 + k.val; omega
  rw [e]
  unfold V
  after_reads_at
  rfl

theorem idx_in9 : ∀ t : Fin cfg0.N, win0_9.index t (0 : Fin 2) = t.val ∧ win0_9.index t (1 : Fin 2) = 0 := by decide +kernel

theorem iblk_9 (t : Fin cfg0.N) (r : Fin 512) (R : Fin 4096) (hR : R.val = 512 * t.val + r.val) (k : Fin 1024) :
    iblk m c 9 t (ix2 r k : S512x1024.Idx) = (stepIn m c).g R 0 k := by
  obtain ⟨e0, e1⟩ := idx_in9 t
  unfold iblk
  rw [View.read_apply]
  show V m c main_v7 (((cfg0.win 9).blk t).view.emb (ix2 r k : S512x1024.Idx)) = _
  have e : (((cfg0.win 9).blk t).view.emb (ix2 r k : S512x1024.Idx)) = (ix2 R ⟨1024 * (0 : Fin 4).val + k.val, by have := k.isLt; simp; omega⟩ : S4096x4096.Idx) := by
    funext a; apply Fin.ext
    match a with
    | ⟨0, _⟩ => show win0_9.index t (0 : Fin 2) * 512 + 1 * r.val = R.val; omega
    | ⟨1, _⟩ => show win0_9.index t (1 : Fin 2) * 1024 + 1 * k.val = 1024 * (0 : Fin 4).val + k.val; simp; omega
  rw [e]
  unfold V
  after_reads_at
  exact congrArg (fun q => argG m c (ix2 R q)) (Fin.ext (by show k.val = 1024 * 0 + k.val; omega))

theorem idx_in10 : ∀ t : Fin cfg0.N, win0_10.index t (0 : Fin 2) = t.val ∧ win0_10.index t (1 : Fin 2) = 1 := by decide +kernel

theorem iblk_10 (t : Fin cfg0.N) (r : Fin 512) (R : Fin 4096) (hR : R.val = 512 * t.val + r.val) (k : Fin 1024) :
    iblk m c 10 t (ix2 r k : S512x1024.Idx) = (stepIn m c).g R 1 k := by
  obtain ⟨e0, e1⟩ := idx_in10 t
  unfold iblk
  rw [View.read_apply]
  show V m c main_v7 (((cfg0.win 10).blk t).view.emb (ix2 r k : S512x1024.Idx)) = _
  have e : (((cfg0.win 10).blk t).view.emb (ix2 r k : S512x1024.Idx)) = (ix2 R ⟨1024 * (1 : Fin 4).val + k.val, by have := k.isLt; simp; omega⟩ : S4096x4096.Idx) := by
    funext a; apply Fin.ext
    match a with
    | ⟨0, _⟩ => show win0_10.index t (0 : Fin 2) * 512 + 1 * r.val = R.val; omega
    | ⟨1, _⟩ => show win0_10.index t (1 : Fin 2) * 1024 + 1 * k.val = 1024 * (1 : Fin 4).val + k.val; simp; omega
  rw [e]
  unfold V
  after_reads_at
  rfl

theorem idx_in11 : ∀ t : Fin cfg0.N, win0_11.index t (0 : Fin 2) = t.val ∧ win0_11.index t (1 : Fin 2) = 2 := by decide +kernel

theorem iblk_11 (t : Fin cfg0.N) (r : Fin 512) (R : Fin 4096) (hR : R.val = 512 * t.val + r.val) (k : Fin 1024) :
    iblk m c 11 t (ix2 r k : S512x1024.Idx) = (stepIn m c).g R 2 k := by
  obtain ⟨e0, e1⟩ := idx_in11 t
  unfold iblk
  rw [View.read_apply]
  show V m c main_v7 (((cfg0.win 11).blk t).view.emb (ix2 r k : S512x1024.Idx)) = _
  have e : (((cfg0.win 11).blk t).view.emb (ix2 r k : S512x1024.Idx)) = (ix2 R ⟨1024 * (2 : Fin 4).val + k.val, by have := k.isLt; simp; omega⟩ : S4096x4096.Idx) := by
    funext a; apply Fin.ext
    match a with
    | ⟨0, _⟩ => show win0_11.index t (0 : Fin 2) * 512 + 1 * r.val = R.val; omega
    | ⟨1, _⟩ => show win0_11.index t (1 : Fin 2) * 1024 + 1 * k.val = 1024 * (2 : Fin 4).val + k.val; simp; omega
  rw [e]
  unfold V
  after_reads_at
  rfl

theorem idx_in12 : ∀ t : Fin cfg0.N, win0_12.index t (0 : Fin 2) = t.val ∧ win0_12.index t (1 : Fin 2) = 3 := by decide +kernel

theorem iblk_12 (t : Fin cfg0.N) (r : Fin 512) (R : Fin 4096) (hR : R.val = 512 * t.val + r.val) (k : Fin 1024) :
    iblk m c 12 t (ix2 r k : S512x1024.Idx) = (stepIn m c).g R 3 k := by
  obtain ⟨e0, e1⟩ := idx_in12 t
  unfold iblk
  rw [View.read_apply]
  show V m c main_v7 (((cfg0.win 12).blk t).view.emb (ix2 r k : S512x1024.Idx)) = _
  have e : (((cfg0.win 12).blk t).view.emb (ix2 r k : S512x1024.Idx)) = (ix2 R ⟨1024 * (3 : Fin 4).val + k.val, by have := k.isLt; simp; omega⟩ : S4096x4096.Idx) := by
    funext a; apply Fin.ext
    match a with
    | ⟨0, _⟩ => show win0_12.index t (0 : Fin 2) * 512 + 1 * r.val = R.val; omega
    | ⟨1, _⟩ => show win0_12.index t (1 : Fin 2) * 1024 + 1 * k.val = 1024 * (3 : Fin 4).val + k.val; simp; omega
  rw [e]
  unfold V
  after_reads_at
  rfl

theorem idx_in13 : ∀ t : Fin cfg0.N, win0_13.index t (0 : Fin 3) = 0 ∧ win0_13.index t (1 : Fin 3) = 0 ∧ win0_13.index t (2 : Fin 3) = 0 := by
  decide +kernel

theorem iblk_13 (t : Fin cfg0.N) (b : Fin 8) (r : Fin 2048) (k : Fin 128) :
    iblk m c 13 t (ix3 b r k : S8x2048x128.Idx) = V m c main_v2 (ix3 b r k : S8x2048x128.Idx) := by
  obtain ⟨e0, e1, e2⟩ := idx_in13 t
  unfold iblk
  rw [View.read_apply]
  show V m c main_v2 (((cfg0.win 13).blk t).view.emb (ix3 b r k : S8x2048x128.Idx)) = _
  refine congrArg (V m c main_v2) ?_
  funext a; apply Fin.ext
  match a with
  | ⟨0, _⟩ => show win0_13.index t (0 : Fin 3) * 8 + 1 * b.val = b.val; omega
  | ⟨1, _⟩ => show win0_13.index t (1 : Fin 3) * 2048 + 1 * r.val = r.val; omega
  | ⟨2, _⟩ => show win0_13.index t (2 : Fin 3) * 128 + 1 * k.val = k.val; omega

theorem idx_in14 : ∀ t : Fin cfg0.N, win0_14.index t (0 : Fin 2) = 0 ∧ win0_14.index t (1 : Fin 2) = 0 := by decide +kernel

theorem iblk_14 (t : Fin cfg0.N) (j k : Fin 1024) :
    iblk m c 14 t (ix2 j k : S1024x1024.Idx) = argWo m c (ix2 j k) := by
  obtain ⟨e0, e1⟩ := idx_in14 t
  unfold iblk
  rw [View.read_apply]
  show V m c main_v8 (((cfg0.win 14).blk t).view.emb (ix2 j k : S1024x1024.Idx)) = _
  have e : (((cfg0.win 14).blk t).view.emb (ix2 j k : S1024x1024.Idx)) = (ix2 j k : S1024x1024.Idx) := by
    funext a; apply Fin.ext
    match a with
    | ⟨0, _⟩ => show win0_14.index t (0 : Fin 2) * 1024 + 1 * j.val = j.val; omega
    | ⟨1, _⟩ => show win0_14.index t (1 : Fin 2) * 1024 + 1 * k.val = k.val; omega
  rw [e]
  unfold V
  after_reads_at
  rfl

end Cert.Kernel6Ideal.Gen

end
-- ==== Proof.FwdOut.lean ====
/-
  The grid points of the forward merge, one after another, and its five results, element by element.
-/
module

public import proofs.«01_k».proof.Proof.Gen.Kernel6Ideal.Value
public import Idealize.ShloMosaic.Lib.ValueIdx
public import Idealize.ShloMosaic.Lib.Pointwise
public import Idealize.ShloMosaic.Lib.Pipeline.Value
public import Idealize.ShloMosaic.Lib.Pipeline.ValueKit
public import proofs.«01_k».proof.Proof.FwdCaseA
public import proofs.«01_k».proof.Proof.FwdCaseB
public import proofs.«01_k».proof.Proof.FwdHost

@[expose] public section

set_option maxRecDepth 16384
set_option maxHeartbeats 400000

noncomputable section

namespace Cert.Kernel6Ideal.Gen

open Idealize.ShloMosaic Idealize.ShloMosaic.TcCoe Idealize.ShloMosaic.Tactic
open Cert.Kernel6Ideal
open Cert.MergeFwd
open Cert.KernelIdeal.Gen (wOf)
open Cert.Kernel6Ideal.Value

/-- Row `r` of block `t`. -/
def frow (t : Fin 8) (r : Fin 512) : Fin 4096 := ⟨512 * t.val + r.val, by have := t.isLt; have := r.isLt; omega⟩

/-- The data of grid point `t`, as its windows hold it. -/
def pointIn (m : (ℓ : Loc nD τ sig) → Buf (Elt Ideal) ℓ) (c : Dev nD) (t : Fin cfg0.N)
    (w : Fin 4 → Fin 512 → Fin 1024 → EReal) : In (Fin 512) :=
  fblk (iblk m c 0 t) (X0_1 m c t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 14 t) w

variable (m : (ℓ : Loc nD τ sig) → Buf (Elt Ideal) ℓ) (c : Dev nD)

/-- The grid point of number `n`. -/
def pt (n : ℕ) (hn : n < 8) : Fin cfg0.N := ⟨n, lt_of_lt_of_eq hn N_0.symm⟩

/-- The rows of one block. -/
def part (I : In (Fin 4096)) (n : ℕ) : In (Fin 512) := I.rows fun r => frow ⟨n % 8, Nat.mod_lt _ (by decide)⟩ r

/-- Two ways to hold a block's data are equal when they agree with the windows entry by entry. -/
theorem fblk_eq {x0 : Vec Ideal S512x1024 .f32} {x1 : Vec Ideal S3x512x512 .bf16} {x2 x3 x4 : Vec Ideal S512x512 .bf16}
    {x5 x6 x7 : Vec Ideal S512x128 .f32} {x8 : Vec Ideal S512x512 .bf16} {x9 x10 x11 x12 : Vec Ideal S512x1024 .bf16}
    {x14 : Vec Ideal S1024x1024 .bf16} {w : Fin 4 → Fin 512 → Fin 1024 → EReal}
    (J : In (Fin 512)) (h0 : ∀ r k, x0 (ix2 r k) = J.x r k) (h1 : ∀ r s i, x1 (ix3 s r i) = J.y r s i)
    (h2 : ∀ r i, x2 (ix2 r i) = J.o1 r i) (h3 : ∀ r i, x3 (ix2 r i) = J.o4 r i) (h4 : ∀ r i, x4 (ix2 r i) = J.o16 r i)
    (h5 : ∀ r l, x5 (ix2 r l) = J.l1 r l) (h6 : ∀ r l, x6 (ix2 r l) = J.l4 r l) (h7 : ∀ r l, x7 (ix2 r l) = J.l16 r l)
    (h8 : ∀ r i, x8 (ix2 r i) = J.cg r i) (h9 : ∀ r j, x9 (ix2 r j) = J.g r 0 j) (h10 : ∀ r j, x10 (ix2 r j) = J.g r 1 j)
    (h11 : ∀ r j, x11 (ix2 r j) = J.g r 2 j) (h12 : ∀ r j, x12 (ix2 r j) = J.g r 3 j)
    (h14 : ∀ j k, x14 (ix2 j k) = J.wo j k) (hw : ∀ b i j, w b i j = J.w b i j) :
    fblk x0 x1 x2 x3 x4 x5 x6 x7 x8 x9 x10 x11 x12 x14 w = J := by
  cases J with
  | mk x y o1 o4 o16 l1 l4 l16 cg g w' wo =>
    dsimp only at h0 h1 h2 h3 h4 h5 h6 h7 h8 h9 h10 h11 h12 h14 hw
    unfold fblk
    congr 1
    · funext r k; exact h0 r k
    · funext r s i; exact h1 r s i
    · funext r i; exact h2 r i
    · funext r i; exact h3 r i
    · funext r i; exact h4 r i
    · funext r l; exact h5 r l
    · funext r l; exact h6 r l
    · funext r l; exact h7 r l
    · funext r i; exact h8 r i
    · funext r b j
      match b with
      | ⟨0, _⟩ => exact h9 r j
      | ⟨1, _⟩ => exact h10 r j
      | ⟨2, _⟩ => exact h11 r j
      | ⟨3, _⟩ => exact h12 r j
    · funext b i j; exact hw b i j
    · funext j k; exact h14 j k

theorem frow_val (n : ℕ) (hn : n < 8) (r : Fin 512) :
    (frow ⟨n % 8, Nat.mod_lt _ (by decide)⟩ r).val = 512 * (pt n hn).val + r.val := by
  show 512 * (n % 8) + r.val = 512 * n + r.val
  rw [Nat.mod_eq_of_lt hn]

/-- The windows of grid point `n` hold the call's data of the rows of block `n`. -/
theorem point_part (n : ℕ) (hn : n < 8) : pointIn m c (pt n hn) (wOf (iblk m c 13 (pt n hn))) = part (stepIn m c) n := by
  unfold pointIn
  refine fblk_eq _ ?_ ?_ ?_ ?_ ?_ ?_ ?_ ?_ ?_ ?_ ?_ ?_ ?_ ?_ ?_
  · intro r k; exact iblk_0 m c _ r _ (frow_val n hn r) k
  · intro r s i; exact iblk_1 m c _ r _ (frow_val n hn r) s i
  · intro r i; exact iblk_2 m c _ r _ (frow_val n hn r) i
  · intro r i; exact iblk_3 m c _ r _ (frow_val n hn r) i
  · intro r i; exact iblk_4 m c _ r _ (frow_val n hn r) i
  · intro r l; exact iblk_5 m c _ r _ (frow_val n hn r) l
  · intro r l; exact iblk_6 m c _ r _ (frow_val n hn r) l
  · intro r l; exact iblk_7 m c _ r _ (frow_val n hn r) l
  · intro r i; exact iblk_8 m c _ r _ (frow_val n hn r) i
  · intro r j; exact iblk_9 m c _ r _ (frow_val n hn r) j
  · intro r j; exact iblk_10 m c _ r _ (frow_val n hn r) j
  · intro r j; exact iblk_11 m c _ r _ (frow_val n hn r) j
  · intro r j; exact iblk_12 m c _ r _ (frow_val n hn r) j
  · intro j k; exact iblk_14 m c _ j k
  · intro b i j; exact (iblk_13 m c _ _ _ _).trans (host_w m c b i j)

/-- What the grid has left after point `n`. -/
structure Done (I : In (Fin 4096)) (n : ℕ) (a : Vec Ideal S512x1024 .f32 × Vec Ideal S1x512x512 .bf16 × Vec Ideal S512x512 .bf16
    × Vec Ideal S512x128 .f32 × Vec Ideal S512x1024 .bf16 × Vec Ideal S4x512x1024 .bf16) : Prop where
  xn : ∀ r k, a.1 (ix2 r k) = (part I n).xnew r k
  yc : ∀ r i, a.2.1 (ix3 0 r i) = (part I n).yc r i
  oc : ∀ r i, a.2.2.1 (ix2 r i) = (part I n).oc r i
  lanes : ∀ r l, a.2.2.2.1 (ix2 r l) = (part I n).lanes r l
  z : ∀ r k, a.2.2.2.2.1 (ix2 r k) = (part I n).z r k
  wbs : ∀ b k j, a.2.2.2.2.2 (ix3 b k j) = I.w b k j

theorem pointIn_eq (n : ℕ) (hn : n < 8) (w : Fin 4 → Fin 512 → Fin 1024 → EReal) (hw : ∀ b k j, w b k j = (stepIn m c).w b k j) :
    pointIn m c (pt n hn) w = part (stepIn m c) n := by
  rw [← point_part m c n hn]
  have e : wOf (iblk m c 13 (pt n hn)) = (stepIn m c).w := congrArg In.w (point_part m c n hn)
  have e' : w = (stepIn m c).w := funext fun b => funext fun k => funext fun j => hw b k j
  rw [e, e']

theorem done_zero (hn : 0 < cfg0.N) : Done (stepIn m c) 0 (outsAt0 m c 0 hn) := by
  have hb := point_part m c 0 (by decide)
  rw [outsAt0_zero, stAt0_A m c ⟨0, hn⟩ _ (Nat.zero_mod _)]
  refine ⟨?_, ?_, ?_, ?_, ?_, ?_⟩
  · intro r k; dsimp only; rw [← hb]; apply fout15_A
  · intro r i; dsimp only; rw [← hb]; apply fout16_A
  · intro r i; dsimp only; rw [← hb]; apply fout17_A
  · intro r l; dsimp only; rw [← hb]; apply fout18_A
  · intro r k; dsimp only; rw [← hb]; apply fout19_A
  · intro b k j
    have e : wOf (iblk m c 13 (pt 0 (by decide))) = (stepIn m c).w := congrArg In.w hb
    dsimp only; rw [← e]; apply fwbs_A

theorem done_succ (n : ℕ) (hn : n + 1 < cfg0.N) (a) (ha : Done (stepIn m c) n a) :
    Done (stepIn m c) (n + 1) (stAt0 m c (n + 1) hn a) := by
  have hN : n + 1 < 8 := lt_of_lt_of_eq hn N_0
  have hb := pointIn_eq m c (n + 1) hN (fun b k j => a.2.2.2.2.2 (ix3 b k j)) ha.wbs
  rw [stAt0_B m c ⟨n + 1, hn⟩ a (by dsimp only; omega)]
  refine ⟨?_, ?_, ?_, ?_, ?_, ?_⟩
  · intro r k; dsimp only; rw [← hb]; apply fout15_B
  · intro r i; dsimp only; rw [← hb]; apply fout16_B
  · intro r i; dsimp only; rw [← hb]; apply fout17_B
  · intro r l; dsimp only; rw [← hb]; apply fout18_B
  · intro r k; dsimp only; rw [← hb]; apply fout19_B
  · intro b k j; exact ha.wbs b k j

theorem done (n : ℕ) (hn : n < cfg0.N) : Done (stepIn m c) n (outsAt0 m c n hn) := by
  induction n with
  | zero => exact done_zero m c hn
  | succ n ih => rw [outsAt0_succ]; exact done_succ m c n hn _ (ih _)

/-- The same of the fold the results are stated over. -/
theorem done_at (n : ℕ) (hn : 0 + n < cfg0.N) :
    Done (stepIn m c) n (Pipeline.accAt (fun n h => stAt0 m c n h junk0) (stAt0 m c) 0 n hn) := by
  rw [← outsAt0_sweep m c n (by omega)]
  exact done m c n _

/-! ## The results -/

/-- Row `R` of the array is row `R % 512` of block `R / 512`. -/
theorem row_split (R : Fin 4096) (h) : frow ⟨R.val / 512 % 8, h⟩ ⟨R.val % 512, Nat.mod_lt _ (by decide)⟩ = R := by
  have := R.isLt
  refine Fin.ext ?_
  show 512 * (R.val / 512 % 8) + R.val % 512 = R.val
  omega

theorem block_lt (R : Fin 4096) : R.val / 512 < cfg0.N := by
  have := R.isLt
  rw [show cfg0.N = 8 from N_0]
  omega

theorem fout_xn (R : Fin 4096) (k : Fin 1024) : G15 m c (ix2 R k : S4096x1024.Idx) = (stepIn m c).xnew R k := by
  have hR := R.isLt
  have hk := k.isLt
  have hp : pt15Of (ix2 R k : S4096x1024.Idx) = R.val / 512 := by
    show 1 * (R.val / 512 - 0) + 1 * (k.val / 1024 - 0) = R.val / 512
    omega
  have hl : loc15Of (ix2 R k : S4096x1024.Idx) = (ix2 ⟨R.val % 512, Nat.mod_lt _ (by decide)⟩ k : S512x1024.Idx) := by
    funext a; apply Fin.ext
    match a with
    | ⟨0, _⟩ => rfl
    | ⟨1, _⟩ => show k.val % 1024 = k.val; omega
  have hN := block_lt R
  unfold G15
  rw [dif_pos (by rw [hp]; exact hN), hl, fold0_congr m c _ _ (R.val / 512) (by omega) hp, (done_at m c _ _).xn]
  show (stepIn m c).xnew (frow _ _) _ = _
  rw [row_split]

theorem fout_oc (R : Fin 4096) (k : Fin 512) : G17 m c (ix2 R k : S4096x512.Idx) = (stepIn m c).oc R k := by
  have hR := R.isLt
  have hk := k.isLt
  have hp : pt17Of (ix2 R k : S4096x512.Idx) = R.val / 512 := by
    show 1 * (R.val / 512 - 0) + 1 * (k.val / 512 - 0) = R.val / 512
    omega
  have hl : loc17Of (ix2 R k : S4096x512.Idx) = (ix2 ⟨R.val % 512, Nat.mod_lt _ (by decide)⟩ k : S512x512.Idx) := by
    funext a; apply Fin.ext
    match a with
    | ⟨0, _⟩ => rfl
    | ⟨1, _⟩ => show k.val % 512 = k.val; omega
  have hN := block_lt R
  unfold G17
  rw [dif_pos (by rw [hp]; exact hN), hl, fold0_congr m c _ _ (R.val / 512) (by omega) hp, (done_at m c _ _).oc]
  show (stepIn m c).oc (frow _ _) _ = _
  rw [row_split]

theorem fout_lanes (R : Fin 4096) (k : Fin 128) : G18 m c (ix2 R k : S4096x128.Idx) = (stepIn m c).lanes R k := by
  have hR := R.isLt
  have hk := k.isLt
  have hp : pt18Of (ix2 R k : S4096x128.Idx) = R.val / 512 := by
    show 1 * (R.val / 512 - 0) + 1 * (k.val / 128 - 0) = R.val / 512
    omega
  have hl : loc18Of (ix2 R k : S4096x128.Idx) = (ix2 ⟨R.val % 512, Nat.mod_lt _ (by decide)⟩ k : S512x128.Idx) := by
    funext a; apply Fin.ext
    match a with
    | ⟨0, _⟩ => rfl
    | ⟨1, _⟩ => show k.val % 128 = k.val; omega
  have hN := block_lt R
  unfold G18
  rw [dif_pos (by rw [hp]; exact hN), hl, fold0_congr m c _ _ (R.val / 512) (by omega) hp, (done_at m c _ _).lanes]
  show (stepIn m c).lanes (frow _ _) _ = _
  rw [row_split]

theorem fout_z (R : Fin 4096) (k : Fin 1024) : G19 m c (ix2 R k : S4096x1024.Idx) = (stepIn m c).z R k := by
  have hR := R.isLt
  have hk := k.isLt
  have hp : pt19Of (ix2 R k : S4096x1024.Idx) = R.val / 512 := by
    show 1 * (R.val / 512 - 0) + 1 * (k.val / 1024 - 0) = R.val / 512
    omega
  have hl : loc19Of (ix2 R k : S4096x1024.Idx) = (ix2 ⟨R.val % 512, Nat.mod_lt _ (by decide)⟩ k : S512x1024.Idx) := by
    funext a; apply Fin.ext
    match a with
    | ⟨0, _⟩ => rfl
    | ⟨1, _⟩ => show k.val % 1024 = k.val; omega
  have hN := block_lt R
  unfold G19
  rw [dif_pos (by rw [hp]; exact hN), hl, fold0_congr m c _ _ (R.val / 512) (by omega) hp, (done_at m c _ _).z]
  show (stepIn m c).z (frow _ _) _ = _
  rw [row_split]

theorem fout_yc (s : Fin 4) (hs : s.val = 3) (R : Fin 4096) (k : Fin 512) : G16 m c (ix3 s R k : S4x4096x512.Idx) = (stepIn m c).yc R k := by
  have hR := R.isLt
  have hk := k.isLt
  have hp : pt16Of (ix3 s R k : S4x4096x512.Idx) = R.val / 512 := by
    show 8 * (s.val / 1 - 3) + 1 * (R.val / 512 - 0) + 1 * (k.val / 512 - 0) = R.val / 512
    omega
  have hl : loc16Of (ix3 s R k : S4x4096x512.Idx) = (ix3 0 ⟨R.val % 512, Nat.mod_lt _ (by decide)⟩ k : S1x512x512.Idx) := by
    funext a; apply Fin.ext
    match a with
    | ⟨0, _⟩ => show s.val % 1 = 0; omega
    | ⟨1, _⟩ => rfl
    | ⟨2, _⟩ => show k.val % 512 = k.val; omega
  have hN := block_lt R
  unfold G16
  rw [dif_pos (by rw [hp]; exact hN), hl, fold0_congr m c _ _ (R.val / 512) (by omega) hp, (done_at m c _ _).yc]
  show (stepIn m c).yc (frow _ _) _ = _
  rw [row_split]

end Cert.Kernel6Ideal.Gen

end
-- ==== Proof.FwdRef.lean ====
/-
  The forward merge's reference, element by element, as the sums of `FwdSpec`.
-/
module

public import proofs.«01_k».proof.Proof.Gen.Reference6Ideal.Read
public import Idealize.ShloMosaic.Lib.ValueIdx
public import Idealize.ShloMosaic.Lib.Pointwise
public import proofs.«01_k».proof.Proof.FwdSpec

@[expose] public section

set_option maxRecDepth 16384
set_option maxHeartbeats 400000

noncomputable section

namespace Cert.Reference6Ideal.Read

open Idealize.ShloMosaic Idealize.ShloMosaic.TcCoe Idealize.ShloMosaic.Tactic
open Cert.Reference6Ideal
open Cert.MergeFwd
open Cert.MergeBwd (IsReal)

variable (x0 : (⟨S4096x1024, .f32⟩ : BufTy).Contents (Elt Ideal)) (x1 : (⟨S4x4096x512, .bf16⟩ : BufTy).Contents (Elt Ideal))
  (x2 x3 x4 : (⟨S4096x512, .f32⟩ : BufTy).Contents (Elt Ideal)) (x5 x6 x7 : (⟨S4096x128, .f32⟩ : BufTy).Contents (Elt Ideal))
  (x8 : (⟨S4096x6656, .f32⟩ : BufTy).Contents (Elt Ideal)) (x9 : (⟨S4096x4096, .f32⟩ : BufTy).Contents (Elt Ideal))
  (x10 : (⟨S4x512x1024, .f32⟩ : BufTy).Contents (Elt Ideal)) (x11 : (⟨S1024x1024, .f32⟩ : BufTy).Contents (Elt Ideal))

/-- The data of the call, from the reference's arguments. -/
def refIn : In (Fin 4096) where
  x R k := x0 (ix2 R k)
  y R s i := x1 (ix3 ⟨s.val, by have := s.isLt; omega⟩ R i)
  o1 R i := x2 (ix2 R i)
  o4 R i := x3 (ix2 R i)
  o16 R i := x4 (ix2 R i)
  l1 R l := x5 (ix2 R l)
  l4 R l := x6 (ix2 R l)
  l16 R l := x7 (ix2 R l)
  cg R i := x8 (ix2 R ⟨5120 + i.val, by have := i.isLt; omega⟩)
  g R b j := x9 (ix2 R ⟨1024 * b.val + j.val, by have := b.isLt; have := j.isLt; omega⟩)
  w b i j := x10 (ix3 b i j)
  wo j k := x11 (ix2 j k)

/-- The sum of a head's three exponentials. -/
def den (R : Fin 4096) (h : Fin 4) : EReal :=
  Ideal.exp (x5 (ix2 R (lane h))) + Ideal.exp (x6 (ix2 R (lane h))) + Ideal.exp (x7 (ix2 R (lane h)))

theorem r_den (R : Fin 4096) (h : Fin 4) : val_main_v7 (F := Ideal) x5 x6 x7 (ix2 R h : S4096x4.Idx) = den x5 x6 x7 R h := by
  unfold val_main_v7 val_main_v6 val_main_v5 val_main_v4 val_main_v3 val_main_v2 val_main_v1 val_main_v0
  pointwise
  rfl

theorem r_w1 (R : Fin 4096) (h : Fin 4) :
    val_main_v8 (F := Ideal) x5 x6 x7 (ix2 R h : S4096x4.Idx) = Ideal.div (Ideal.exp (x5 (ix2 R (lane h)))) (den x5 x6 x7 R h) := by
  unfold val_main_v8 val_main_v1 val_main_v0
  pointwise
  simp only [r_den]
  rfl

theorem r_w4 (R : Fin 4096) (h : Fin 4) :
    val_main_v13 (F := Ideal) x5 x6 x7 (ix2 R h : S4096x4.Idx) = Ideal.div (Ideal.exp (x6 (ix2 R (lane h)))) (den x5 x6 x7 R h) := by
  unfold val_main_v13 val_main_v3 val_main_v2
  pointwise
  simp only [r_den]
  rfl

theorem r_w16 (R : Fin 4096) (h : Fin 4) :
    val_main_v19 (F := Ideal) x5 x6 x7 (ix2 R h : S4096x4.Idx) = Ideal.div (Ideal.exp (x7 (ix2 R (lane h)))) (den x5 x6 x7 R h) := by
  unfold val_main_v19 val_main_v5 val_main_v4
  pointwise
  simp only [r_den]
  rfl

variable (hl1 : ∀ R h, IsReal (x5 (ix2 R (lane h)))) (hl4 : ∀ R h, IsReal (x6 (ix2 R (lane h)))) (hl16 : ∀ R h, IsReal (x7 (ix2 R (lane h))))

include hl1 hl4 hl16 in
theorem r_oc (R : Fin 4096) (i : Fin 512) :
    val_main_v25 (F := Ideal) x2 x3 x4 x5 x6 x7 (ix2 R i : S4096x512.Idx) = (refIn x0 x1 x2 x3 x4 x5 x6 x7 x8 x9 x10 x11).oc R i := by
  have hi := i.isLt
  refine Eq.trans ?_ (mix3_eq (hl1 R (headOf i)) (hl4 R (headOf i)) (hl16 R (headOf i))
    (x2 (ix2 R i)) (x3 (ix2 R i)) (x4 (ix2 R i))).symm
  unfold val_main_v25 val_main_v24 val_main_v23 val_main_v22 val_main_v21 val_main_v20 val_main_v18 val_main_v17 val_main_v16
    val_main_v15 val_main_v14 val_main_v12 val_main_v11 val_main_v10 val_main_v9
  pointwise
  simp only [r_w1, r_w4, r_w16]
  have e : (⟨i.val / 128 * 128 + i.val % 128, by omega⟩ : Fin 512) = i := Fin.ext (by show i.val / 128 * 128 + i.val % 128 = i.val; omega)
  first
    | rfl
    | (simp only [e]; rfl)

theorem r_silu (R : Fin 4096) (i : Fin 512) :
    val_main_v27 (F := Ideal) x8 (ix2 R i : S4096x512.Idx)
      = (refIn x0 x1 x2 x3 x4 x5 x6 x7 x8 x9 x10 x11).cg R i * Ideal.logistic ((refIn x0 x1 x2 x3 x4 x5 x6 x7 x8 x9 x10 x11).cg R i) := by
  unfold val_main_v27 val_main_call0_v5 val_main_call0_v4 val_main_call0_v3 val_main_call0_v2 val_main_call0_v1 val_main_call0_v0
    val_main_call0_cst val_main_call0_cst_0 val_main_v26
  pointwise
  rfl

include hl1 hl4 hl16 in
theorem r_yc (R : Fin 4096) (i : Fin 512) :
    val_main_v28 (F := Ideal) x2 x3 x4 x5 x6 x7 x8 (ix2 R i : S4096x512.Idx) = (refIn x0 x1 x2 x3 x4 x5 x6 x7 x8 x9 x10 x11).yc R i := by
  unfold val_main_v28
  pointwise
  rw [r_oc x0 x1 x2 x3 x4 x5 x6 x7 x8 x9 x10 x11 hl1 hl4 hl16, r_silu x0 x1 x2 x3 x4 x5 x6 x7 x8 x9 x10 x11]
  rfl

theorem r_gates (R : Fin 4096) (b : Fin 4) (j : Fin 1024) :
    val_main_v35 (F := Ideal) x9 (ix3 R b j : S4096x4x1024.Idx) = Ideal.logistic ((refIn x0 x1 x2 x3 x4 x5 x6 x7 x8 x9 x10 x11).g R b j) := by
  unfold val_main_v35 val_main_v34 val_main_v33 val_main_v32 val_main_v31 val_main_v30 val_main_v29 val_main_cst val_main_cst_0
  pointwise
  have e : (⟨b.val * 1024 + j.val, by have := b.isLt; have := j.isLt; omega⟩ : Fin 4096)
      = ⟨1024 * b.val + j.val, by have := b.isLt; have := j.isLt; omega⟩ := Fin.ext (by show b.val * 1024 + j.val = 1024 * b.val + j.val; omega)
  rw [e]
  rfl

theorem r_gate0 (R : Fin 4096) (j : Fin 1024) :
    val_main_v37 (F := Ideal) x9 (ix2 R j : S4096x1024.Idx) = Ideal.logistic ((refIn x0 x1 x2 x3 x4 x5 x6 x7 x8 x9 x10 x11).g R 0 j) := by
  unfold val_main_v37 val_main_v36
  pointwise
  simp only [r_gates x0 x1 x2 x3 x4 x5 x6 x7 x8 x9 x10 x11]
  try rfl

theorem r_gate1 (R : Fin 4096) (j : Fin 1024) :
    val_main_v46 (F := Ideal) x9 (ix2 R j : S4096x1024.Idx) = Ideal.logistic ((refIn x0 x1 x2 x3 x4 x5 x6 x7 x8 x9 x10 x11).g R 1 j) := by
  unfold val_main_v46 val_main_v45
  pointwise
  simp only [r_gates x0 x1 x2 x3 x4 x5 x6 x7 x8 x9 x10 x11]
  try rfl

theorem r_gate2 (R : Fin 4096) (j : Fin 1024) :
    val_main_v56 (F := Ideal) x9 (ix2 R j : S4096x1024.Idx) = Ideal.logistic ((refIn x0 x1 x2 x3 x4 x5 x6 x7 x8 x9 x10 x11).g R 2 j) := by
  unfold val_main_v56 val_main_v55
  pointwise
  simp only [r_gates x0 x1 x2 x3 x4 x5 x6 x7 x8 x9 x10 x11]
  try rfl

theorem r_gate3 (R : Fin 4096) (j : Fin 1024) :
    val_main_v63 (F := Ideal) x9 (ix2 R j : S4096x1024.Idx) = Ideal.logistic ((refIn x0 x1 x2 x3 x4 x5 x6 x7 x8 x9 x10 x11).g R 3 j) := by
  unfold val_main_v63 val_main_v62
  pointwise
  simp only [r_gates x0 x1 x2 x3 x4 x5 x6 x7 x8 x9 x10 x11]
  try rfl

theorem r_mix0 (R : Fin 4096) (k : Fin 1024) :
    val_main_v43 (F := Ideal) x1 x10 (ix2 R k : S4096x1024.Idx) = ∑ i, (refIn x0 x1 x2 x3 x4 x5 x6 x7 x8 x9 x10 x11).y R 0 i * (refIn x0 x1 x2 x3 x4 x5 x6 x7 x8 x9 x10 x11).w 0 i k := by
  unfold val_main_v43 val_main_v42 val_main_v41 val_main_v40 val_main_v39 val_main_v38
  pointwise
  rfl

theorem r_mix1 (R : Fin 4096) (k : Fin 1024) :
    val_main_v52 (F := Ideal) x1 x10 (ix2 R k : S4096x1024.Idx) = ∑ i, (refIn x0 x1 x2 x3 x4 x5 x6 x7 x8 x9 x10 x11).y R 1 i * (refIn x0 x1 x2 x3 x4 x5 x6 x7 x8 x9 x10 x11).w 1 i k := by
  unfold val_main_v52 val_main_v51 val_main_v50 val_main_v49 val_main_v48 val_main_v47
  pointwise
  rfl

theorem r_mix3 (R : Fin 4096) (k : Fin 1024) :
    val_main_v69 (F := Ideal) x1 x10 (ix2 R k : S4096x1024.Idx) = ∑ i, (refIn x0 x1 x2 x3 x4 x5 x6 x7 x8 x9 x10 x11).y R 2 i * (refIn x0 x1 x2 x3 x4 x5 x6 x7 x8 x9 x10 x11).w 3 i k := by
  unfold val_main_v69 val_main_v68 val_main_v67 val_main_v66 val_main_v65 val_main_v64
  pointwise
  rfl

include hl1 hl4 hl16 in
theorem r_mix2 (R : Fin 4096) (k : Fin 1024) :
    val_main_v59 (F := Ideal) x2 x3 x4 x5 x6 x7 x8 x10 (ix2 R k : S4096x1024.Idx) = ∑ i, (refIn x0 x1 x2 x3 x4 x5 x6 x7 x8 x9 x10 x11).yc R i * (refIn x0 x1 x2 x3 x4 x5 x6 x7 x8 x9 x10 x11).w 2 i k := by
  unfold val_main_v59 val_main_v58 val_main_v57
  pointwise
  refine Finset.sum_congr rfl fun i _ => ?_
  rw [r_yc x0 x1 x2 x3 x4 x5 x6 x7 x8 x9 x10 x11 hl1 hl4 hl16]
  rfl

include hl1 hl4 hl16 in
theorem r_z (R : Fin 4096) (k : Fin 1024) :
    val_main_v71 (F := Ideal) x1 x2 x3 x4 x5 x6 x7 x8 x9 x10 (ix2 R k : S4096x1024.Idx) = (refIn x0 x1 x2 x3 x4 x5 x6 x7 x8 x9 x10 x11).z R k := by
  unfold val_main_v71 val_main_v70 val_main_v61 val_main_v60 val_main_v54 val_main_v53 val_main_v44
  pointwise
  rw [r_gate0 x0 x1 x2 x3 x4 x5 x6 x7 x8 x9 x10 x11, r_gate1 x0 x1 x2 x3 x4 x5 x6 x7 x8 x9 x10 x11, r_gate2 x0 x1 x2 x3 x4 x5 x6 x7 x8 x9 x10 x11, r_gate3 x0 x1 x2 x3 x4 x5 x6 x7 x8 x9 x10 x11, r_mix0 x0 x1 x2 x3 x4 x5 x6 x7 x8 x9 x10 x11, r_mix1 x0 x1 x2 x3 x4 x5 x6 x7 x8 x9 x10 x11, r_mix2 x0 x1 x2 x3 x4 x5 x6 x7 x8 x9 x10 x11 hl1 hl4 hl16, r_mix3 x0 x1 x2 x3 x4 x5 x6 x7 x8 x9 x10 x11]
  rfl

include hl1 hl4 hl16 in
theorem res_z (R : Fin 4096) (k : Fin 1024) :
    val_main_v81 (F := Ideal) x1 x2 x3 x4 x5 x6 x7 x8 x9 x10 (ix2 R k : S4096x1024.Idx) = (refIn x0 x1 x2 x3 x4 x5 x6 x7 x8 x9 x10 x11).z R k :=
  r_z x0 x1 x2 x3 x4 x5 x6 x7 x8 x9 x10 x11 hl1 hl4 hl16 R k

include hl1 hl4 hl16 in
theorem res_x (R : Fin 4096) (k : Fin 1024) :
    val_main_v73 (F := Ideal) x0 x1 x2 x3 x4 x5 x6 x7 x8 x9 x10 x11 (ix2 R k : S4096x1024.Idx) = (refIn x0 x1 x2 x3 x4 x5 x6 x7 x8 x9 x10 x11).xnew R k := by
  unfold val_main_v73 val_main_v72
  pointwise
  refine congrArg₂ (· + ·) rfl (Finset.sum_congr rfl fun j _ => ?_)
  rw [r_z x0 x1 x2 x3 x4 x5 x6 x7 x8 x9 x10 x11 hl1 hl4 hl16]
  rfl

include hl1 hl4 hl16 in
theorem res_oc (R : Fin 4096) (i : Fin 512) :
    val_main_v78 (F := Ideal) x2 x3 x4 x5 x6 x7 (ix2 R i : S4096x512.Idx) = (refIn x0 x1 x2 x3 x4 x5 x6 x7 x8 x9 x10 x11).oc R i :=
  r_oc x0 x1 x2 x3 x4 x5 x6 x7 x8 x9 x10 x11 hl1 hl4 hl16 R i

include hl1 hl4 hl16 in
theorem res_yc (s : Fin 4) (hs : s.val = 3) (R : Fin 4096) (i : Fin 512) :
    val_main_v77 (F := Ideal) x1 x2 x3 x4 x5 x6 x7 x8 (ix3 s R i : S4x4096x512.Idx) = (refIn x0 x1 x2 x3 x4 x5 x6 x7 x8 x9 x10 x11).yc R i := by
  unfold val_main_v77
  refine (concatenate_pair_apply_right (t := S4x4096x512) (s₁ := S3x4096x512) (s₂ := S1x4096x512) 0 _ _ _ _ rfl rfl
    (ix3 0 R i : S1x4096x512.Idx) ?_ ?_).trans ?_
  · intro b hb
    match b, hb with
    | ⟨0, _⟩, hb => exact absurd rfl hb
    | ⟨1, _⟩, _ => rfl
    | ⟨2, _⟩, _ => rfl
  · show 0 + 3 = s.val
    omega
  · unfold val_main_v76 val_main_v75
    pointwise
    exact r_yc x0 x1 x2 x3 x4 x5 x6 x7 x8 x9 x10 x11 hl1 hl4 hl16 R i

include hl1 hl4 hl16 in
theorem res_lanes (R : Fin 4096) (l : Fin 128) :
    val_main_v80 (F := Ideal) x5 x6 x7 (ix2 R l : S4096x128.Idx) = (refIn x0 x1 x2 x3 x4 x5 x6 x7 x8 x9 x10 x11).lanes R l := by
  unfold val_main_v80 val_main_v79 val_main_call1_v0 val_main_c
  pointwise
  simp only [r_den]
  unfold In.lanes
  by_cases h : l.val < 4
  · rw [dif_pos h, dif_pos h]
    exact (lse_eq (hl1 R ⟨l.val, h⟩) (hl4 R ⟨l.val, h⟩) (hl16 R ⟨l.val, h⟩)).symm
  · rw [dif_neg h, dif_neg h]
    show ((((0#32 : BitVec 32).toInt : ℤ) : ℝ) : EReal) = 0
    simp

end Cert.Reference6Ideal.Read

end
-- ==== Proof.FwdAgree.lean ====
/-
  The forward merge and its reference agree: the five results, under the precondition and where the mask is set.
-/
module

public import proofs.«01_k».proof.Proof.Gen.Kernel6Ideal.Value
public import proofs.«01_k».proof.Proof.Gen.Reference6Ideal.Run
public import proofs.«01_k».proof.Proof.Gen.Reference6Ideal.Read
public import Idealize.ShloMosaic.Lib.ValueIdx
public import Idealize.ShloMosaic.Lib.Quiescent
public import Idealize.ShloMosaic.Lib.Pointwise
public import Idealize.ShloMosaic.Lib.Pipeline.Value
public import Idealize.ShloMosaic.Lib.Pipeline.ValueKit
public import proofs.«01_k».proof.Proof.FwdMasks
public import proofs.«01_k».proof.Proof.FwdOut
public import proofs.«01_k».proof.Proof.FwdRef

@[expose] public section

set_option maxRecDepth 16384
set_option maxHeartbeats 400000

noncomputable section

namespace Cert.MergeFwd

open Idealize.ShloMosaic Idealize.SL.Sem Idealize.ShloMosaic.TcCoe Idealize.ShloMosaic.Tactic
open Cert.Kernel6Ideal Cert.Kernel6Ideal.Gen Cert.Kernel6Ideal.Value
open Cert.Reference6Ideal.Read
open Cert.MergeBwd (IsReal)

variable (m : (ℓ : Loc nD τ sig) → Buf (Elt Ideal) ℓ) (c : Dev nD)

def a0 : (⟨Cert.Reference6Ideal.S4096x1024, .f32⟩ : BufTy).Contents (Elt Ideal) := m ((c.tc : Thread nD τ).loc main_arg0)
def a1 : (⟨Cert.Reference6Ideal.S4x4096x512, .bf16⟩ : BufTy).Contents (Elt Ideal) := m ((c.tc : Thread nD τ).loc main_arg1)
def a2 : (⟨Cert.Reference6Ideal.S4096x512, .f32⟩ : BufTy).Contents (Elt Ideal) := m ((c.tc : Thread nD τ).loc main_arg2)
def a3 : (⟨Cert.Reference6Ideal.S4096x512, .f32⟩ : BufTy).Contents (Elt Ideal) := m ((c.tc : Thread nD τ).loc main_arg3)
def a4 : (⟨Cert.Reference6Ideal.S4096x512, .f32⟩ : BufTy).Contents (Elt Ideal) := m ((c.tc : Thread nD τ).loc main_arg4)
def a5 : (⟨Cert.Reference6Ideal.S4096x128, .f32⟩ : BufTy).Contents (Elt Ideal) := m ((c.tc : Thread nD τ).loc main_arg5)
def a6 : (⟨Cert.Reference6Ideal.S4096x128, .f32⟩ : BufTy).Contents (Elt Ideal) := m ((c.tc : Thread nD τ).loc main_arg6)
def a7 : (⟨Cert.Reference6Ideal.S4096x128, .f32⟩ : BufTy).Contents (Elt Ideal) := m ((c.tc : Thread nD τ).loc main_arg7)
def a8 : (⟨Cert.Reference6Ideal.S4096x6656, .f32⟩ : BufTy).Contents (Elt Ideal) := m ((c.tc : Thread nD τ).loc main_arg8)
def a9 : (⟨Cert.Reference6Ideal.S4096x4096, .f32⟩ : BufTy).Contents (Elt Ideal) := m ((c.tc : Thread nD τ).loc main_arg9)
def a10 : (⟨Cert.Reference6Ideal.S4x512x1024, .f32⟩ : BufTy).Contents (Elt Ideal) := m ((c.tc : Thread nD τ).loc main_arg10)
def a11 : (⟨Cert.Reference6Ideal.S1024x1024, .f32⟩ : BufTy).Contents (Elt Ideal) := m ((c.tc : Thread nD τ).loc main_arg11)

/-- The reference's data at the kernel's arguments. -/
def theIn : In (Fin 4096) := refIn (a0 m c) (a1 m c) (a2 m c) (a3 m c) (a4 m c) (a5 m c) (a6 m c) (a7 m c) (a8 m c) (a9 m c) (a10 m c) (a11 m c)

theorem data_eq : theIn m c = stepIn m c := rfl

variable (hl1 : ∀ R h, IsReal (a5 m c (ix2 R (lane h)))) (hl4 : ∀ R h, IsReal (a6 m c (ix2 R (lane h)))) (hl16 : ∀ R h, IsReal (a7 m c (ix2 R (lane h))))

include hl1 hl4 hl16 in
theorem agree_x (i : S4096x1024.Idx) : val_main_v73 (F := Ideal) (a0 m c) (a1 m c) (a2 m c) (a3 m c) (a4 m c) (a5 m c) (a6 m c) (a7 m c) (a8 m c) (a9 m c) (a10 m c) (a11 m c) i = G15 m c i := by
  obtain ⟨R, k, rfl⟩ : ∃ (R : Fin 4096) (k : Fin 1024), i = ix2 R k := ⟨i 0, i 1, eq_ix2 i⟩
  refine Eq.trans ?_ (fout_xn m c R k).symm
  rw [← data_eq]
  exact res_x (a0 m c) (a1 m c) (a2 m c) (a3 m c) (a4 m c) (a5 m c) (a6 m c) (a7 m c) (a8 m c) (a9 m c) (a10 m c) (a11 m c) hl1 hl4 hl16 R k

include hl1 hl4 hl16 in
theorem agree_oc (i : S4096x512.Idx) : val_main_v78 (F := Ideal) (a2 m c) (a3 m c) (a4 m c) (a5 m c) (a6 m c) (a7 m c) i = G17 m c i := by
  obtain ⟨R, k, rfl⟩ : ∃ (R : Fin 4096) (k : Fin 512), i = ix2 R k := ⟨i 0, i 1, eq_ix2 i⟩
  refine Eq.trans ?_ (fout_oc m c R k).symm
  rw [← data_eq]
  exact res_oc (a0 m c) (a1 m c) (a2 m c) (a3 m c) (a4 m c) (a5 m c) (a6 m c) (a7 m c) (a8 m c) (a9 m c) (a10 m c) (a11 m c) hl1 hl4 hl16 R k

include hl1 hl4 hl16 in
theorem agree_lanes (i : S4096x128.Idx) : val_main_v80 (F := Ideal) (a5 m c) (a6 m c) (a7 m c) i = G18 m c i := by
  obtain ⟨R, k, rfl⟩ : ∃ (R : Fin 4096) (k : Fin 128), i = ix2 R k := ⟨i 0, i 1, eq_ix2 i⟩
  refine Eq.trans ?_ (fout_lanes m c R k).symm
  rw [← data_eq]
  exact res_lanes (a0 m c) (a1 m c) (a2 m c) (a3 m c) (a4 m c) (a5 m c) (a6 m c) (a7 m c) (a8 m c) (a9 m c) (a10 m c) (a11 m c) hl1 hl4 hl16 R k

include hl1 hl4 hl16 in
theorem agree_z (i : S4096x1024.Idx) : val_main_v81 (F := Ideal) (a1 m c) (a2 m c) (a3 m c) (a4 m c) (a5 m c) (a6 m c) (a7 m c) (a8 m c) (a9 m c) (a10 m c) i = G19 m c i := by
  obtain ⟨R, k, rfl⟩ : ∃ (R : Fin 4096) (k : Fin 1024), i = ix2 R k := ⟨i 0, i 1, eq_ix2 i⟩
  refine Eq.trans ?_ (fout_z m c R k).symm
  rw [← data_eq]
  exact res_z (a0 m c) (a1 m c) (a2 m c) (a3 m c) (a4 m c) (a5 m c) (a6 m c) (a7 m c) (a8 m c) (a9 m c) (a10 m c) (a11 m c) hl1 hl4 hl16 R k

include hl1 hl4 hl16 in
theorem agree_yc (i : S4x4096x512.Idx) (hs : (i 0).val = 3) : val_main_v77 (F := Ideal) (a1 m c) (a2 m c) (a3 m c) (a4 m c) (a5 m c) (a6 m c) (a7 m c) (a8 m c) i = G16 m c i := by
  obtain ⟨s, R, k, rfl⟩ : ∃ (s : Fin 4) (R : Fin 4096) (k : Fin 512), i = ix3 s R k := ⟨i 0, i 1, i 2, eq_ix3 i⟩
  refine Eq.trans ?_ (fout_yc m c s hs R k).symm
  rw [← data_eq]
  exact res_yc (a0 m c) (a1 m c) (a2 m c) (a3 m c) (a4 m c) (a5 m c) (a6 m c) (a7 m c) (a8 m c) (a9 m c) (a10 m c) (a11 m c) hl1 hl4 hl16 s hs R k

/-- Kernel and reference compute the same five results. -/
theorem algebraic : Cert.algebraic_Kernel6Ideal_Reference6Ideal_on_filled_pre_finite6 := by
  intro m g m' g' hpre hin
  refine ⟨fun c => G15 m c,
    fun c i => if 3 ≤ (i 0).val ∧ (i 0).val < 4 ∧ 0 ≤ (i 1).val ∧ (i 1).val < 4096 ∧ 0 ≤ (i 2).val ∧ (i 2).val < 512 then G16 m c i
      else V m c (Pipeline.arrRef spec0 16) i,
    fun c => G17 m c, fun c => G18 m c, fun c => G19 m c, ?_, ?_⟩
  · refine (θ_run _ _ _).mono (fun r h c => ?_) (Cert.Kernel6Ideal.Value.run m g)
    obtain ⟨h0, h1, h2, h3, h4, hargs⟩ := h c
    exact ⟨fun i _ => congrFun h0 i, fun i _ => congrFun h1 i, fun i _ => congrFun h2 i, fun i _ => congrFun h3 i,
      fun i _ => congrFun h4 i, hargs⟩
  · refine (θ_run _ _ _).mono (fun r h c => ?_) (Cert.Reference6Ideal.Value.run m' g')
    obtain ⟨h0, h1, h2, h3, h4, hargs⟩ := h c
    obtain ⟨e0, e1, e2, e3, e4, e5, e6, e7, e8, e9, e10, e11⟩ := hin c
    obtain ⟨p1, p4, p16⟩ := hpre c
    have hl1 : ∀ R h, IsReal (a5 m c (ix2 R (lane h))) := real_l1 _ _ _ _ _ _ _ _ _ _ _ _ p1
    have hl4 : ∀ R h, IsReal (a6 m c (ix2 R (lane h))) := real_l4 _ _ _ _ _ _ _ _ _ _ _ _ p4
    have hl16 : ∀ R h, IsReal (a7 m c (ix2 R (lane h))) := real_l16 _ _ _ _ _ _ _ _ _ _ _ _ p16
    rw [val_main_v73_eq, e0, e1, e2, e3, e4, e5, e6, e7, e8, e9, e10, e11] at h0
    rw [val_main_v77_eq, e1, e2, e3, e4, e5, e6, e7, e8] at h1
    rw [val_main_v78_eq, e2, e3, e4, e5, e6, e7] at h2
    rw [val_main_v80_eq, e5, e6, e7] at h3
    rw [val_main_v81_eq, e1, e2, e3, e4, e5, e6, e7, e8, e9, e10] at h4
    refine ⟨fun i _ => (congrFun h0 i).trans (agree_x m c hl1 hl4 hl16 i), fun i hi => ?_,
      fun i _ => (congrFun h2 i).trans (agree_oc m c hl1 hl4 hl16 i),
      fun i _ => (congrFun h3 i).trans (agree_lanes m c hl1 hl4 hl16 i),
      fun i _ => (congrFun h4 i).trans (agree_z m c hl1 hl4 hl16 i), hargs⟩
    have hs : (i 0).val = 3 := by
      rw [ValueIdx.eq_ix3 i] at hi
      exact mask_slot _ _ _ _ _ _ _ _ _ _ _ _ (i 0) (i 1) (i 2) hi
    refine ((congrFun h1 i).trans (agree_yc m c hl1 hl4 hl16 i hs)).trans ?_
    exact (if_pos ⟨by omega, by omega, Nat.zero_le _, (i 1).isLt, Nat.zero_le _, (i 2).isLt⟩).symm

/-- The reference runs and leaves its arguments as they were. -/
theorem reference_frame : Cert.quiescent_Reference6Ideal := by
  intro m g _
  refine (θ_run _ _ _).mono (fun r h => ⟨fun c => ?_, sem_eq_zero_of_no_sems rfl _⟩) (Cert.Reference6Ideal.Value.run m g)
  obtain ⟨_, _, _, _, _, hargs⟩ := h c
  exact hargs

end Cert.MergeFwd

end
-- ==== Proof.lean ====
/-
  The certificate: the frames of the programs; the seven results of the first kernel and of its reference agree wherever the
  mask is set, the two results of the second kernel and of its reference agree everywhere, the result of the third kernel and
  of its reference agree on the branches' rows, and the result of the fourth kernel and the three results of the fifth agree
  with their references' everywhere. The five results of the sixth kernel and of its reference agree wherever the mask is set.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.On_written
public import Idealize.ShloMosaic.Adequacy
public import Idealize.ShloMosaic.Init
public import Idealize.ShloMosaic.Lib.Quiescent
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.On_branch_rows
public import proofs.«01_k».proof.Proof.Masks
public import proofs.«01_k».proof.Proof.Agree
public import proofs.«01_k».proof.Proof.DhAgree
public import proofs.«01_k».proof.Proof.Dw3Agree
public import proofs.«01_k».proof.Proof.Dw4Agree
public import proofs.«01_k».proof.Proof.Gen.Kernel5
public import proofs.«01_k».proof.Proof.InAgree
public import proofs.«01_k».proof.Proof.Gen.Kernel5Ideal
public import proofs.«01_k».proof.Proof.Gen.Kernel5Ideal.Frame
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Kernel6Ideal.Skeleton
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite6
public import proofs.«01_k».proof.Proof.Gen.On_filled
public import proofs.«01_k».proof.Proof.FwdAgree

@[expose] public section

noncomputable section

namespace Cert.Proof

open Idealize.ShloMosaic Idealize.SL.Sem Cert.KernelIdeal Cert.KernelIdeal.Gen Cert.MergeBwd

/-- The factor the attention gate's gradient is a product and a sum of is real, under the precondition. -/
theorem ct_real (m : (ℓ : Loc nD τ sig) → Buf (Elt Ideal) ℓ) (h : Cert.Pre_KernelIdeal_finite m) (c : Dev nD) (R : Fin 4096)
    (i : Fin 512) : IsReal ((theIn m c).dyb R 2 i * (theIn m c).oc R i) := by
  obtain ⟨h0, h1, h2, h3⟩ := h c
  exact In.isReal_ct _ (real_dx _ _ _ _ _ _ _ _ _ h0) (real_wo _ _ _ _ _ _ _ _ _ h1) (real_w _ _ _ _ _ _ _ _ _ h2)
    (real_oc _ _ _ _ _ _ _ _ _ h3) R i

/-- Kernel and reference compute the same seven results. -/
theorem algebraic : Cert.algebraic_KernelIdeal_ReferenceIdeal_on_written_pre_finite := by
  intro m g m' g' hpre hin
  refine ⟨fun c => Cert.KernelIdeal.Value.G11 m c, fun c => Cert.KernelIdeal.Value.G12 m c, fun c => Cert.KernelIdeal.Value.G13 m c,
    fun c i => if 0 ≤ (i 0).val ∧ (i 0).val < 4096 ∧ 5120 ≤ (i 1).val ∧ (i 1).val < 5632 then Cert.KernelIdeal.Value.G14 m c i
      else V m c (Pipeline.arrRef spec0 14) i,
    fun c => Cert.KernelIdeal.Value.G15 m c, fun c => Cert.KernelIdeal.Value.G16 m c, fun c => Cert.KernelIdeal.Value.G17 m c, ?_, ?_⟩
  · refine (θ_run _ _ _).mono (fun r h c => ?_) (Cert.KernelIdeal.Value.run m g)
    obtain ⟨h0, h1, h2, h3, h4, h5, h6, hargs⟩ := h c
    exact ⟨fun i _ => congrFun h0 i, fun i _ => congrFun h1 i, fun i _ => congrFun h2 i, fun i _ => congrFun h3 i,
      fun i _ => congrFun h4 i, fun i _ => congrFun h5 i, fun i _ => congrFun h6 i, hargs⟩
  · refine (θ_run _ _ _).mono (fun r h c => ?_) (Cert.ReferenceIdeal.Value.run m' g')
    obtain ⟨h0, h1, h2, h3, h4, h5, h6, hargs⟩ := h c
    obtain ⟨e0, e1, e2, e3, e4, e5, e6, e7, e8⟩ := hin c
    rw [Cert.ReferenceIdeal.Read.val_main_v99_eq, e0, e6, e7, e8] at h0
    rw [Cert.ReferenceIdeal.Read.val_main_v100_eq, e0, e5, e6, e7, e8] at h1
    rw [Cert.ReferenceIdeal.Read.val_main_v101_eq, e0, e4, e5, e6, e7, e8] at h2
    rw [Cert.ReferenceIdeal.Read.val_main_v102_eq, e0, e4, e5, e6, e7, e8] at h3
    rw [Cert.ReferenceIdeal.Read.val_main_v103_eq, e0, e1, e2, e3, e4, e5, e6, e7, e8] at h4
    rw [Cert.ReferenceIdeal.Read.val_main_v106_eq, e0, e1, e2, e3, e4, e5, e6, e8] at h5
    rw [Cert.ReferenceIdeal.Read.val_main_v107_eq, e0, e1, e2, e3, e4, e5, e6, e7] at h6
    refine ⟨fun i _ => (congrFun h0 i).trans (agree_dy m c i), fun i _ => (congrFun h1 i).trans (agree_doc m c i),
      fun i _ => (congrFun h2 i).trans (agree_delta m c i), fun i hi => ?_,
      fun i _ => (congrFun h4 i).trans (agree_dgm m c i), fun i _ => (congrFun h5 i).trans (agree_dwb m c i),
      fun i _ => (congrFun h6 i).trans (agree_dwo m c i), hargs⟩
    have hc : 5120 ≤ (i 1).val ∧ (i 1).val < 5632 := by
      rw [ValueIdx.eq_ix2 i] at hi
      exact mask_cols _ _ _ _ _ _ _ _ _ (i 0) (i 1) hi
    refine ((congrFun h3 i).trans (agree_dcg m c (ct_real m hpre c) i hc)).trans ?_
    exact (if_pos ⟨Nat.zero_le _, (i 0).isLt, hc⟩).symm

/-- The reference runs and leaves its arguments as they were. -/
theorem reference_frame : Cert.quiescent_ReferenceIdeal := by
  intro m g _
  refine (θ_run _ _ _).mono (fun r h => ⟨fun c => ?_, sem_eq_zero_of_no_sems rfl _⟩) (Cert.ReferenceIdeal.Value.run m g)
  obtain ⟨_, _, _, _, _, _, _, hargs⟩ := h c
  exact hargs

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts, Cert.Pre_finite6.Gen.facts, Cert.On_written.Gen.facts, Cert.On_branch_rows.Gen.facts,
  Cert.On_filled.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, Cert.DhBwd.reference_frame,
  fun m ρ _ => Cert.Kernel3.Gen.frame m ρ, fun m ρ _ => Cert.Kernel3Ideal.Gen.frame m ρ, Cert.DwIn3.reference_frame,
  fun m ρ _ => Cert.Kernel4.Gen.frame m ρ, fun m ρ _ => Cert.Kernel4Ideal.Gen.frame m ρ, Cert.DwIn4.reference_frame,
  Cert.InProj.kernel_frame, Cert.InProj.ideal_frame, Cert.InProj.reference_frame,
  fun m ρ _ => Cert.Kernel6.Gen.frame m ρ, fun m ρ _ => Cert.Kernel6Ideal.Gen.frame m ρ, fun m ρ _ => Cert.Kernel6Ideal.Gen.frame m ρ,
  Cert.MergeFwd.reference_frame, fun m ρ _ => Cert.MergeFwd.reference_frame m ρ trivial,
  trivial, algebraic, trivial, Cert.DhBwd.algebraic, trivial, Cert.DwIn3.algebraic, trivial, Cert.DwIn4.algebraic,
  trivial, Cert.InProj.algebraic, trivial, Cert.MergeFwd.algebraic⟩

end Cert.Proof

end
